-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Memkv (m : (ℓ : Loc Cert.Memkv.nD Cert.Memkv.τ Cert.Memkv.sig) → Buf (Elt Bits) ℓ) : Prop :=
  True

def Pre_MemkvIdeal (m : (ℓ : Loc Cert.MemkvIdeal.nD Cert.MemkvIdeal.τ Cert.MemkvIdeal.sig) → Buf (Elt Ideal) ℓ) : Prop :=
  True

def Pre_MemkvReferenceIdeal (m : (ℓ : Loc Cert.MemkvReferenceIdeal.nD Cert.MemkvReferenceIdeal.τ Cert.MemkvReferenceIdeal.sig) → Buf (Elt Ideal) ℓ) : Prop :=
  True

def Pre_Cmp (m : (ℓ : Loc Cert.Cmp.nD Cert.Cmp.τ Cert.Cmp.sig) → Buf (Elt Bits) ℓ) : Prop :=
  True

def Pre_CmpIdeal (m : (ℓ : Loc Cert.CmpIdeal.nD Cert.CmpIdeal.τ Cert.CmpIdeal.sig) → Buf (Elt Ideal) ℓ) : Prop :=
  True

def Pre_CmpReferenceIdeal (m : (ℓ : Loc Cert.CmpReferenceIdeal.nD Cert.CmpReferenceIdeal.τ Cert.CmpReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def quiescent_Memkv [hMemkv : Cert.Memkv.Facts] : Prop :=
  ∀ (m : (ℓ : Loc Cert.Memkv.nD Cert.Memkv.τ Cert.Memkv.sig) → Buf (Elt Bits) ℓ) (g : Dev Cert.Memkv.nD → PrngReg), Pre_Memkv m →
    θ_run (Cert.Memkv.defs (F := Bits)) (onTc (τ := Cert.Memkv.τ) (Cert.Memkv.main (F := Bits))) ⟨m, fun _ => 0, g⟩ (fun r => (∀ c : Dev Cert.Memkv.nD,
      r.2.mem ((c.tc : Thread Cert.Memkv.nD Cert.Memkv.τ).loc Cert.Memkv.main_arg0) = m ((c.tc : Thread Cert.Memkv.nD Cert.Memkv.τ).loc Cert.Memkv.main_arg0)
      ∧ r.2.mem ((c.tc : Thread Cert.Memkv.nD Cert.Memkv.τ).loc Cert.Memkv.main_arg1) = m ((c.tc : Thread Cert.Memkv.nD Cert.Memkv.τ).loc Cert.Memkv.main_arg1)
      ∧ r.2.mem ((c.tc : Thread Cert.Memkv.nD Cert.Memkv.τ).loc Cert.Memkv.main_arg2) = m ((c.tc : Thread Cert.Memkv.nD Cert.Memkv.τ).loc Cert.Memkv.main_arg2))
      ∧ r.2.sem = fun _ => 0)

def quiescent_MemkvIdeal [hMemkvIdeal : Cert.MemkvIdeal.Facts] : Prop :=
  ∀ (m : (ℓ : Loc Cert.MemkvIdeal.nD Cert.MemkvIdeal.τ Cert.MemkvIdeal.sig) → Buf (Elt Ideal) ℓ) (g : Dev Cert.MemkvIdeal.nD → PrngReg), Pre_MemkvIdeal m →
    θ_run (Cert.MemkvIdeal.defs (F := Ideal)) (onTc (τ := Cert.MemkvIdeal.τ) (Cert.MemkvIdeal.main (F := Ideal))) ⟨m, fun _ => 0, g⟩ (fun r => (∀ c : Dev Cert.MemkvIdeal.nD,
      r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
      ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
      ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2))
      ∧ r.2.sem = fun _ => 0)

def quiescent_MemkvReferenceIdeal [hMemkvReferenceIdeal : Cert.MemkvReferenceIdeal.Facts] : Prop :=
  ∀ (m : (ℓ : Loc Cert.MemkvReferenceIdeal.nD Cert.MemkvReferenceIdeal.τ Cert.MemkvReferenceIdeal.sig) → Buf (Elt Ideal) ℓ) (g : Dev Cert.MemkvReferenceIdeal.nD → PrngReg), Pre_MemkvReferenceIdeal m →
    θ_run (Cert.MemkvReferenceIdeal.defs (F := Ideal)) (onTc (τ := Cert.MemkvReferenceIdeal.τ) (Cert.MemkvReferenceIdeal.main (F := Ideal))) ⟨m, fun _ => 0, g⟩ (fun r => (∀ c : Dev Cert.MemkvReferenceIdeal.nD,
      r.2.mem ((c.tc : Thread Cert.MemkvReferenceIdeal.nD Cert.MemkvReferenceIdeal.τ).loc Cert.MemkvReferenceIdeal.main_arg0) = m ((c.tc : Thread Cert.MemkvReferenceIdeal.nD Cert.MemkvReferenceIdeal.τ).loc Cert.MemkvReferenceIdeal.main_arg0)
      ∧ r.2.mem ((c.tc : Thread Cert.MemkvReferenceIdeal.nD Cert.MemkvReferenceIdeal.τ).loc Cert.MemkvReferenceIdeal.main_arg1) = m ((c.tc : Thread Cert.MemkvReferenceIdeal.nD Cert.MemkvReferenceIdeal.τ).loc Cert.MemkvReferenceIdeal.main_arg1)
      ∧ r.2.mem ((c.tc : Thread Cert.MemkvReferenceIdeal.nD Cert.MemkvReferenceIdeal.τ).loc Cert.MemkvReferenceIdeal.main_arg2) = m ((c.tc : Thread Cert.MemkvReferenceIdeal.nD Cert.MemkvReferenceIdeal.τ).loc Cert.MemkvReferenceIdeal.main_arg2))
      ∧ r.2.sem = fun _ => 0)

def quiescent_Cmp [hCmp : Cert.Cmp.Facts] : Prop :=
  ∀ (m : (ℓ : Loc Cert.Cmp.nD Cert.Cmp.τ Cert.Cmp.sig) → Buf (Elt Bits) ℓ) (g : Dev Cert.Cmp.nD → PrngReg), Pre_Cmp m →
    θ_run (Cert.Cmp.defs (F := Bits)) (onTc (τ := Cert.Cmp.τ) (Cert.Cmp.main (F := Bits))) ⟨m, fun _ => 0, g⟩ (fun r => (∀ c : Dev Cert.Cmp.nD,
      r.2.mem ((c.tc : Thread Cert.Cmp.nD Cert.Cmp.τ).loc Cert.Cmp.main_arg0) = m ((c.tc : Thread Cert.Cmp.nD Cert.Cmp.τ).loc Cert.Cmp.main_arg0)
      ∧ r.2.mem ((c.tc : Thread Cert.Cmp.nD Cert.Cmp.τ).loc Cert.Cmp.main_arg1) = m ((c.tc : Thread Cert.Cmp.nD Cert.Cmp.τ).loc Cert.Cmp.main_arg1)
      ∧ r.2.mem ((c.tc : Thread Cert.Cmp.nD Cert.Cmp.τ).loc Cert.Cmp.main_arg2) = m ((c.tc : Thread Cert.Cmp.nD Cert.Cmp.τ).loc Cert.Cmp.main_arg2)
      ∧ r.2.mem ((c.tc : Thread Cert.Cmp.nD Cert.Cmp.τ).loc Cert.Cmp.main_arg3) = m ((c.tc : Thread Cert.Cmp.nD Cert.Cmp.τ).loc Cert.Cmp.main_arg3)
      ∧ r.2.mem ((c.tc : Thread Cert.Cmp.nD Cert.Cmp.τ).loc Cert.Cmp.main_arg4) = m ((c.tc : Thread Cert.Cmp.nD Cert.Cmp.τ).loc Cert.Cmp.main_arg4)
      ∧ r.2.mem ((c.tc : Thread Cert.Cmp.nD Cert.Cmp.τ).loc Cert.Cmp.main_arg5) = m ((c.tc : Thread Cert.Cmp.nD Cert.Cmp.τ).loc Cert.Cmp.main_arg5)
      ∧ r.2.mem ((c.tc : Thread Cert.Cmp.nD Cert.Cmp.τ).loc Cert.Cmp.main_arg6) = m ((c.tc : Thread Cert.Cmp.nD Cert.Cmp.τ).loc Cert.Cmp.main_arg6)
      ∧ r.2.mem ((c.tc : Thread Cert.Cmp.nD Cert.Cmp.τ).loc Cert.Cmp.main_arg7) = m ((c.tc : Thread Cert.Cmp.nD Cert.Cmp.τ).loc Cert.Cmp.main_arg7))
      ∧ r.2.sem = fun _ => 0)

def quiescent_CmpIdeal [hCmpIdeal : Cert.CmpIdeal.Facts] : Prop :=
  ∀ (m : (ℓ : Loc Cert.CmpIdeal.nD Cert.CmpIdeal.τ Cert.CmpIdeal.sig) → Buf (Elt Ideal) ℓ) (g : Dev Cert.CmpIdeal.nD → PrngReg), Pre_CmpIdeal m →
    θ_run (Cert.CmpIdeal.defs (F := Ideal)) (onTc (τ := Cert.CmpIdeal.τ) (Cert.CmpIdeal.main (F := Ideal))) ⟨m, fun _ => 0, g⟩ (fun r => (∀ c : Dev Cert.CmpIdeal.nD,
      r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
      ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
      ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
      ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3)
      ∧ r.2.mem ((c.tc : Thread Cert.CmpIdeal.nD Cert.CmpIdeal.τ).loc Cert.CmpIdeal.main_arg4) = m ((c.tc : Thread Cert.CmpIdeal.nD Cert.CmpIdeal.τ).loc Cert.CmpIdeal.main_arg4)
      ∧ r.2.mem ((c.tc : Thread Cert.CmpIdeal.nD Cert.CmpIdeal.τ).loc Cert.CmpIdeal.main_arg5) = m ((c.tc : Thread Cert.CmpIdeal.nD Cert.CmpIdeal.τ).loc Cert.CmpIdeal.main_arg5)
      ∧ r.2.mem ((c.tc : Thread Cert.CmpIdeal.nD Cert.CmpIdeal.τ).loc Cert.CmpIdeal.main_arg6) = m ((c.tc : Thread Cert.CmpIdeal.nD Cert.CmpIdeal.τ).loc Cert.CmpIdeal.main_arg6)
      ∧ r.2.mem ((c.tc : Thread Cert.CmpIdeal.nD Cert.CmpIdeal.τ).loc Cert.CmpIdeal.main_arg7) = m ((c.tc : Thread Cert.CmpIdeal.nD Cert.CmpIdeal.τ).loc Cert.CmpIdeal.main_arg7))
      ∧ r.2.sem = fun _ => 0)

def quiescent_CmpReferenceIdeal [hCmpReferenceIdeal : Cert.CmpReferenceIdeal.Facts] : Prop :=
  ∀ (m : (ℓ : Loc Cert.CmpReferenceIdeal.nD Cert.CmpReferenceIdeal.τ Cert.CmpReferenceIdeal.sig) → Buf (Elt Ideal) ℓ) (g : Dev Cert.CmpReferenceIdeal.nD → PrngReg), Pre_CmpReferenceIdeal m →
    θ_run (Cert.CmpReferenceIdeal.defs (F := Ideal)) (onTc (τ := Cert.CmpReferenceIdeal.τ) (Cert.CmpReferenceIdeal.main (F := Ideal))) ⟨m, fun _ => 0, g⟩ (fun r => (∀ c : Dev Cert.CmpReferenceIdeal.nD,
      r.2.mem ((c.tc : Thread Cert.CmpReferenceIdeal.nD Cert.CmpReferenceIdeal.τ).loc Cert.CmpReferenceIdeal.main_arg0) = m ((c.tc : Thread Cert.CmpReferenceIdeal.nD Cert.CmpReferenceIdeal.τ).loc Cert.CmpReferenceIdeal.main_arg0)
      ∧ r.2.mem ((c.tc : Thread Cert.CmpReferenceIdeal.nD Cert.CmpReferenceIdeal.τ).loc Cert.CmpReferenceIdeal.main_arg1) = m ((c.tc : Thread Cert.CmpReferenceIdeal.nD Cert.CmpReferenceIdeal.τ).loc Cert.CmpReferenceIdeal.main_arg1)
      ∧ r.2.mem ((c.tc : Thread Cert.CmpReferenceIdeal.nD Cert.CmpReferenceIdeal.τ).loc Cert.CmpReferenceIdeal.main_arg2) = m ((c.tc : Thread Cert.CmpReferenceIdeal.nD Cert.CmpReferenceIdeal.τ).loc Cert.CmpReferenceIdeal.main_arg2)
      ∧ r.2.mem ((c.tc : Thread Cert.CmpReferenceIdeal.nD Cert.CmpReferenceIdeal.τ).loc Cert.CmpReferenceIdeal.main_arg3) = m ((c.tc : Thread Cert.CmpReferenceIdeal.nD Cert.CmpReferenceIdeal.τ).loc Cert.CmpReferenceIdeal.main_arg3)
      ∧ r.2.mem ((c.tc : Thread Cert.CmpReferenceIdeal.nD Cert.CmpReferenceIdeal.τ).loc Cert.CmpReferenceIdeal.main_arg4) = m ((c.tc : Thread Cert.CmpReferenceIdeal.nD Cert.CmpReferenceIdeal.τ).loc Cert.CmpReferenceIdeal.main_arg4)
      ∧ r.2.mem ((c.tc : Thread Cert.CmpReferenceIdeal.nD Cert.CmpReferenceIdeal.τ).loc Cert.CmpReferenceIdeal.main_arg5) = m ((c.tc : Thread Cert.CmpReferenceIdeal.nD Cert.CmpReferenceIdeal.τ).loc Cert.CmpReferenceIdeal.main_arg5)
      ∧ r.2.mem ((c.tc : Thread Cert.CmpReferenceIdeal.nD Cert.CmpReferenceIdeal.τ).loc Cert.CmpReferenceIdeal.main_arg6) = m ((c.tc : Thread Cert.CmpReferenceIdeal.nD Cert.CmpReferenceIdeal.τ).loc Cert.CmpReferenceIdeal.main_arg6)
      ∧ r.2.mem ((c.tc : Thread Cert.CmpReferenceIdeal.nD Cert.CmpReferenceIdeal.τ).loc Cert.CmpReferenceIdeal.main_arg7) = m ((c.tc : Thread Cert.CmpReferenceIdeal.nD Cert.CmpReferenceIdeal.τ).loc Cert.CmpReferenceIdeal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v39) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)
      ∧ m' ((c.tc : Thread Cert.MergeReferenceIdeal.nD Cert.MergeReferenceIdeal.τ).loc Cert.MergeReferenceIdeal.main_arg12) = m ((c.tc : Thread Cert.MergeIdeal.nD Cert.MergeIdeal.τ).loc Cert.MergeIdeal.main_arg12)) →
    ∃ (v0 : (c : Dev Cert.MergeIdeal.nD) → Buf (Elt Ideal) ((c.tc : Thread Cert.MergeIdeal.nD Cert.MergeIdeal.τ).loc Cert.MergeIdeal.main_v7)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v7) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v70) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11)
          ∧ r.2.mem ((c.tc : Thread Cert.MergeReferenceIdeal.nD Cert.MergeReferenceIdeal.τ).loc Cert.MergeReferenceIdeal.main_arg12) = m' ((c.tc : Thread Cert.MergeReferenceIdeal.nD Cert.MergeReferenceIdeal.τ).loc Cert.MergeReferenceIdeal.main_arg12))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v22_0)) (v1 : (c : Dev Cert.ProjIdeal.nD) → Buf (Elt Ideal) ((c.tc : Thread Cert.ProjIdeal.nD Cert.ProjIdeal.τ).loc Cert.ProjIdeal.main_v22_1)) (v2 : (c : Dev Cert.ProjIdeal.nD) → Buf (Elt Ideal) ((c.tc : Thread Cert.ProjIdeal.nD Cert.ProjIdeal.τ).loc Cert.ProjIdeal.main_v22_2)) (v3 : (c : Dev Cert.ProjIdeal.nD) → Buf (Elt Ideal) ((c.tc : Thread Cert.ProjIdeal.nD Cert.ProjIdeal.τ).loc Cert.ProjIdeal.main_v22_3)) (v4 : (c : Dev Cert.ProjIdeal.nD) → Buf (Elt Ideal) ((c.tc : Thread Cert.ProjIdeal.nD Cert.ProjIdeal.τ).loc Cert.ProjIdeal.main_v22_4)) (v5 : (c : Dev Cert.ProjIdeal.nD) → Buf (Elt Ideal) ((c.tc : Thread Cert.ProjIdeal.nD Cert.ProjIdeal.τ).loc Cert.ProjIdeal.main_v22_5)) (v6 : (c : Dev Cert.ProjIdeal.nD) → Buf (Elt Ideal) ((c.tc : Thread Cert.ProjIdeal.nD Cert.ProjIdeal.τ).loc Cert.ProjIdeal.main_v22_6)) (v7 : (c : Dev Cert.ProjIdeal.nD) → Buf (Elt Ideal) ((c.tc : Thread Cert.ProjIdeal.nD Cert.ProjIdeal.τ).loc Cert.ProjIdeal.main_v22_7)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v22_0) = v0 c
          ∧ r.2.mem ((c.tc : Thread Cert.ProjIdeal.nD Cert.ProjIdeal.τ).loc Cert.ProjIdeal.main_v22_1) = v1 c
          ∧ r.2.mem ((c.tc : Thread Cert.ProjIdeal.nD Cert.ProjIdeal.τ).loc Cert.ProjIdeal.main_v22_2) = v2 c
          ∧ r.2.mem ((c.tc : Thread Cert.ProjIdeal.nD Cert.ProjIdeal.τ).loc Cert.ProjIdeal.main_v22_3) = v3 c
          ∧ r.2.mem ((c.tc : Thread Cert.ProjIdeal.nD Cert.ProjIdeal.τ).loc Cert.ProjIdeal.main_v22_4) = v4 c
          ∧ r.2.mem ((c.tc : Thread Cert.ProjIdeal.nD Cert.ProjIdeal.τ).loc Cert.ProjIdeal.main_v22_5) = v5 c
          ∧ r.2.mem ((c.tc : Thread Cert.ProjIdeal.nD Cert.ProjIdeal.τ).loc Cert.ProjIdeal.main_v22_6) = v6 c
          ∧ r.2.mem ((c.tc : Thread Cert.ProjIdeal.nD Cert.ProjIdeal.τ).loc Cert.ProjIdeal.main_v22_7) = v7 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v30) = v0 c
          ∧ r.2.mem ((c.tc : Thread Cert.ProjReferenceIdeal.nD Cert.ProjReferenceIdeal.τ).loc Cert.ProjReferenceIdeal.main_v34) = v1 c
          ∧ r.2.mem ((c.tc : Thread Cert.ProjReferenceIdeal.nD Cert.ProjReferenceIdeal.τ).loc Cert.ProjReferenceIdeal.main_v38) = v2 c
          ∧ r.2.mem ((c.tc : Thread Cert.ProjReferenceIdeal.nD Cert.ProjReferenceIdeal.τ).loc Cert.ProjReferenceIdeal.main_v39) = v3 c
          ∧ r.2.mem ((c.tc : Thread Cert.ProjReferenceIdeal.nD Cert.ProjReferenceIdeal.τ).loc Cert.ProjReferenceIdeal.main_v40) = v4 c
          ∧ r.2.mem ((c.tc : Thread Cert.ProjReferenceIdeal.nD Cert.ProjReferenceIdeal.τ).loc Cert.ProjReferenceIdeal.main_v41) = v5 c
          ∧ r.2.mem ((c.tc : Thread Cert.ProjReferenceIdeal.nD Cert.ProjReferenceIdeal.τ).loc Cert.ProjReferenceIdeal.main_v44) = v6 c
          ∧ r.2.mem ((c.tc : Thread Cert.ProjReferenceIdeal.nD Cert.ProjReferenceIdeal.τ).loc Cert.ProjReferenceIdeal.main_v27) = v7 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def preserves_Memkv_MemkvIdeal : Prop :=
  True

def algebraic_MemkvIdeal_MemkvReferenceIdeal [hMemkvIdeal : Cert.MemkvIdeal.Facts] [hMemkvReferenceIdeal : Cert.MemkvReferenceIdeal.Facts] : Prop :=
  ∀ (m : (ℓ : Loc Cert.MemkvIdeal.nD Cert.MemkvIdeal.τ Cert.MemkvIdeal.sig) → Buf (Elt Ideal) ℓ) (g : Dev Cert.MemkvIdeal.nD → PrngReg)
    (m' : (ℓ : Loc Cert.MemkvReferenceIdeal.nD Cert.MemkvReferenceIdeal.τ Cert.MemkvReferenceIdeal.sig) → Buf (Elt Ideal) ℓ) (g' : Dev Cert.MemkvReferenceIdeal.nD → PrngReg), Pre_MemkvIdeal m →
    (∀ c : Dev Cert.MemkvIdeal.nD,
      m' ((c.tc : Thread Cert.MemkvReferenceIdeal.nD Cert.MemkvReferenceIdeal.τ).loc Cert.MemkvReferenceIdeal.main_arg0) = m ((c.tc : Thread Cert.MemkvIdeal.nD Cert.MemkvIdeal.τ).loc Cert.MemkvIdeal.main_arg0)
      ∧ m' ((c.tc : Thread Cert.MemkvReferenceIdeal.nD Cert.MemkvReferenceIdeal.τ).loc Cert.MemkvReferenceIdeal.main_arg1) = m ((c.tc : Thread Cert.MemkvIdeal.nD Cert.MemkvIdeal.τ).loc Cert.MemkvIdeal.main_arg1)
      ∧ m' ((c.tc : Thread Cert.MemkvReferenceIdeal.nD Cert.MemkvReferenceIdeal.τ).loc Cert.MemkvReferenceIdeal.main_arg2) = m ((c.tc : Thread Cert.MemkvIdeal.nD Cert.MemkvIdeal.τ).loc Cert.MemkvIdeal.main_arg2)) →
    ∃ (v0 : (c : Dev Cert.MemkvIdeal.nD) → Buf (Elt Ideal) ((c.tc : Thread Cert.MemkvIdeal.nD Cert.MemkvIdeal.τ).loc Cert.MemkvIdeal.main_v2_0)) (v1 : (c : Dev Cert.MemkvIdeal.nD) → Buf (Elt Ideal) ((c.tc : Thread Cert.MemkvIdeal.nD Cert.MemkvIdeal.τ).loc Cert.MemkvIdeal.main_v2_1)),
      θ_run (Cert.MemkvIdeal.defs (F := Ideal)) (onTc (τ := Cert.MemkvIdeal.τ) (Cert.MemkvIdeal.main (F := Ideal))) ⟨m, fun _ => 0, g⟩ (fun r => ∀ c : Dev Cert.MemkvIdeal.nD,
          r.2.mem ((c.tc : Thread Cert.MemkvIdeal.nD Cert.MemkvIdeal.τ).loc Cert.MemkvIdeal.main_v2_0) = v0 c
          ∧ r.2.mem ((c.tc : Thread Cert.MemkvIdeal.nD Cert.MemkvIdeal.τ).loc Cert.MemkvIdeal.main_v2_1) = v1 c
          ∧ r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
          ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
          ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2))
      ∧ θ_run (Cert.MemkvReferenceIdeal.defs (F := Ideal)) (onTc (τ := Cert.MemkvReferenceIdeal.τ) (Cert.MemkvReferenceIdeal.main (F := Ideal))) ⟨m', fun _ => 0, g'⟩ (fun r => ∀ c : Dev Cert.MemkvReferenceIdeal.nD,
          r.2.mem ((c.tc : Thread Cert.MemkvReferenceIdeal.nD Cert.MemkvReferenceIdeal.τ).loc Cert.MemkvReferenceIdeal.main_v15) = v0 c
          ∧ r.2.mem ((c.tc : Thread Cert.MemkvReferenceIdeal.nD Cert.MemkvReferenceIdeal.τ).loc Cert.MemkvReferenceIdeal.main_v17) = v1 c
          ∧ r.2.mem ((c.tc : Thread Cert.MemkvReferenceIdeal.nD Cert.MemkvReferenceIdeal.τ).loc Cert.MemkvReferenceIdeal.main_arg0) = m' ((c.tc : Thread Cert.MemkvReferenceIdeal.nD Cert.MemkvReferenceIdeal.τ).loc Cert.MemkvReferenceIdeal.main_arg0)
          ∧ r.2.mem ((c.tc : Thread Cert.MemkvReferenceIdeal.nD Cert.MemkvReferenceIdeal.τ).loc Cert.MemkvReferenceIdeal.main_arg1) = m' ((c.tc : Thread Cert.MemkvReferenceIdeal.nD Cert.MemkvReferenceIdeal.τ).loc Cert.MemkvReferenceIdeal.main_arg1)
          ∧ r.2.mem ((c.tc : Thread Cert.MemkvReferenceIdeal.nD Cert.MemkvReferenceIdeal.τ).loc Cert.MemkvReferenceIdeal.main_arg2) = m' ((c.tc : Thread Cert.MemkvReferenceIdeal.nD Cert.MemkvReferenceIdeal.τ).loc Cert.MemkvReferenceIdeal.main_arg2))

def preserves_Cmp_CmpIdeal : Prop :=
  True

def algebraic_CmpIdeal_CmpReferenceIdeal [hCmpIdeal : Cert.CmpIdeal.Facts] [hCmpReferenceIdeal : Cert.CmpReferenceIdeal.Facts] : Prop :=
  ∀ (m : (ℓ : Loc Cert.CmpIdeal.nD Cert.CmpIdeal.τ Cert.CmpIdeal.sig) → Buf (Elt Ideal) ℓ) (g : Dev Cert.CmpIdeal.nD → PrngReg)
    (m' : (ℓ : Loc Cert.CmpReferenceIdeal.nD Cert.CmpReferenceIdeal.τ Cert.CmpReferenceIdeal.sig) → Buf (Elt Ideal) ℓ) (g' : Dev Cert.CmpReferenceIdeal.nD → PrngReg), Pre_CmpIdeal m →
    (∀ c : Dev Cert.CmpIdeal.nD,
      m' ((c.tc : Thread Cert.CmpReferenceIdeal.nD Cert.CmpReferenceIdeal.τ).loc Cert.CmpReferenceIdeal.main_arg0) = m ((c.tc : Thread Cert.CmpIdeal.nD Cert.CmpIdeal.τ).loc Cert.CmpIdeal.main_arg0)
      ∧ m' ((c.tc : Thread Cert.CmpReferenceIdeal.nD Cert.CmpReferenceIdeal.τ).loc Cert.CmpReferenceIdeal.main_arg1) = m ((c.tc : Thread Cert.CmpIdeal.nD Cert.CmpIdeal.τ).loc Cert.CmpIdeal.main_arg1)
      ∧ m' ((c.tc : Thread Cert.CmpReferenceIdeal.nD Cert.CmpReferenceIdeal.τ).loc Cert.CmpReferenceIdeal.main_arg2) = m ((c.tc : Thread Cert.CmpIdeal.nD Cert.CmpIdeal.τ).loc Cert.CmpIdeal.main_arg2)
      ∧ m' ((c.tc : Thread Cert.CmpReferenceIdeal.nD Cert.CmpReferenceIdeal.τ).loc Cert.CmpReferenceIdeal.main_arg3) = m ((c.tc : Thread Cert.CmpIdeal.nD Cert.CmpIdeal.τ).loc Cert.CmpIdeal.main_arg3)
      ∧ m' ((c.tc : Thread Cert.CmpReferenceIdeal.nD Cert.CmpReferenceIdeal.τ).loc Cert.CmpReferenceIdeal.main_arg4) = m ((c.tc : Thread Cert.CmpIdeal.nD Cert.CmpIdeal.τ).loc Cert.CmpIdeal.main_arg4)
      ∧ m' ((c.tc : Thread Cert.CmpReferenceIdeal.nD Cert.CmpReferenceIdeal.τ).loc Cert.CmpReferenceIdeal.main_arg5) = m ((c.tc : Thread Cert.CmpIdeal.nD Cert.CmpIdeal.τ).loc Cert.CmpIdeal.main_arg5)
      ∧ m' ((c.tc : Thread Cert.CmpReferenceIdeal.nD Cert.CmpReferenceIdeal.τ).loc Cert.CmpReferenceIdeal.main_arg6) = m ((c.tc : Thread Cert.CmpIdeal.nD Cert.CmpIdeal.τ).loc Cert.CmpIdeal.main_arg6)
      ∧ m' ((c.tc : Thread Cert.CmpReferenceIdeal.nD Cert.CmpReferenceIdeal.τ).loc Cert.CmpReferenceIdeal.main_arg7) = m ((c.tc : Thread Cert.CmpIdeal.nD Cert.CmpIdeal.τ).loc Cert.CmpIdeal.main_arg7)) →
    ∃ (v0 : (c : Dev Cert.CmpIdeal.nD) → Buf (Elt Ideal) ((c.tc : Thread Cert.CmpIdeal.nD Cert.CmpIdeal.τ).loc Cert.CmpIdeal.main_v50_0)) (v1 : (c : Dev Cert.CmpIdeal.nD) → Buf (Elt Ideal) ((c.tc : Thread Cert.CmpIdeal.nD Cert.CmpIdeal.τ).loc Cert.CmpIdeal.main_v50_1)),
      θ_run (Cert.CmpIdeal.defs (F := Ideal)) (onTc (τ := Cert.CmpIdeal.τ) (Cert.CmpIdeal.main (F := Ideal))) ⟨m, fun _ => 0, g⟩ (fun r => ∀ c : Dev Cert.CmpIdeal.nD,
          r.2.mem ((c.tc : Thread Cert.CmpIdeal.nD Cert.CmpIdeal.τ).loc Cert.CmpIdeal.main_v50_0) = v0 c
          ∧ r.2.mem ((c.tc : Thread Cert.CmpIdeal.nD Cert.CmpIdeal.τ).loc Cert.CmpIdeal.main_v50_1) = v1 c
          ∧ r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
          ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
          ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
          ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3)
          ∧ r.2.mem ((c.tc : Thread Cert.CmpIdeal.nD Cert.CmpIdeal.τ).loc Cert.CmpIdeal.main_arg4) = m ((c.tc : Thread Cert.CmpIdeal.nD Cert.CmpIdeal.τ).loc Cert.CmpIdeal.main_arg4)
          ∧ r.2.mem ((c.tc : Thread Cert.CmpIdeal.nD Cert.CmpIdeal.τ).loc Cert.CmpIdeal.main_arg5) = m ((c.tc : Thread Cert.CmpIdeal.nD Cert.CmpIdeal.τ).loc Cert.CmpIdeal.main_arg5)
          ∧ r.2.mem ((c.tc : Thread Cert.CmpIdeal.nD Cert.CmpIdeal.τ).loc Cert.CmpIdeal.main_arg6) = m ((c.tc : Thread Cert.CmpIdeal.nD Cert.CmpIdeal.τ).loc Cert.CmpIdeal.main_arg6)
          ∧ r.2.mem ((c.tc : Thread Cert.CmpIdeal.nD Cert.CmpIdeal.τ).loc Cert.CmpIdeal.main_arg7) = m ((c.tc : Thread Cert.CmpIdeal.nD Cert.CmpIdeal.τ).loc Cert.CmpIdeal.main_arg7))
      ∧ θ_run (Cert.CmpReferenceIdeal.defs (F := Ideal)) (onTc (τ := Cert.CmpReferenceIdeal.τ) (Cert.CmpReferenceIdeal.main (F := Ideal))) ⟨m', fun _ => 0, g'⟩ (fun r => ∀ c : Dev Cert.CmpReferenceIdeal.nD,
          r.2.mem ((c.tc : Thread Cert.CmpReferenceIdeal.nD Cert.CmpReferenceIdeal.τ).loc Cert.CmpReferenceIdeal.main_v22) = v0 c
          ∧ r.2.mem ((c.tc : Thread Cert.CmpReferenceIdeal.nD Cert.CmpReferenceIdeal.τ).loc Cert.CmpReferenceIdeal.main_v45) = v1 c
          ∧ r.2.mem ((c.tc : Thread Cert.CmpReferenceIdeal.nD Cert.CmpReferenceIdeal.τ).loc Cert.CmpReferenceIdeal.main_arg0) = m' ((c.tc : Thread Cert.CmpReferenceIdeal.nD Cert.CmpReferenceIdeal.τ).loc Cert.CmpReferenceIdeal.main_arg0)
          ∧ r.2.mem ((c.tc : Thread Cert.CmpReferenceIdeal.nD Cert.CmpReferenceIdeal.τ).loc Cert.CmpReferenceIdeal.main_arg1) = m' ((c.tc : Thread Cert.CmpReferenceIdeal.nD Cert.CmpReferenceIdeal.τ).loc Cert.CmpReferenceIdeal.main_arg1)
          ∧ r.2.mem ((c.tc : Thread Cert.CmpReferenceIdeal.nD Cert.CmpReferenceIdeal.τ).loc Cert.CmpReferenceIdeal.main_arg2) = m' ((c.tc : Thread Cert.CmpReferenceIdeal.nD Cert.CmpReferenceIdeal.τ).loc Cert.CmpReferenceIdeal.main_arg2)
          ∧ r.2.mem ((c.tc : Thread Cert.CmpReferenceIdeal.nD Cert.CmpReferenceIdeal.τ).loc Cert.CmpReferenceIdeal.main_arg3) = m' ((c.tc : Thread Cert.CmpReferenceIdeal.nD Cert.CmpReferenceIdeal.τ).loc Cert.CmpReferenceIdeal.main_arg3)
          ∧ r.2.mem ((c.tc : Thread Cert.CmpReferenceIdeal.nD Cert.CmpReferenceIdeal.τ).loc Cert.CmpReferenceIdeal.main_arg4) = m' ((c.tc : Thread Cert.CmpReferenceIdeal.nD Cert.CmpReferenceIdeal.τ).loc Cert.CmpReferenceIdeal.main_arg4)
          ∧ r.2.mem ((c.tc : Thread Cert.CmpReferenceIdeal.nD Cert.CmpReferenceIdeal.τ).loc Cert.CmpReferenceIdeal.main_arg5) = m' ((c.tc : Thread Cert.CmpReferenceIdeal.nD Cert.CmpReferenceIdeal.τ).loc Cert.CmpReferenceIdeal.main_arg5)
          ∧ r.2.mem ((c.tc : Thread Cert.CmpReferenceIdeal.nD Cert.CmpReferenceIdeal.τ).loc Cert.CmpReferenceIdeal.main_arg6) = m' ((c.tc : Thread Cert.CmpReferenceIdeal.nD Cert.CmpReferenceIdeal.τ).loc Cert.CmpReferenceIdeal.main_arg6)
          ∧ r.2.mem ((c.tc : Thread Cert.CmpReferenceIdeal.nD Cert.CmpReferenceIdeal.τ).loc Cert.CmpReferenceIdeal.main_arg7) = m' ((c.tc : Thread Cert.CmpReferenceIdeal.nD Cert.CmpReferenceIdeal.τ).loc Cert.CmpReferenceIdeal.main_arg7))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMerge : Cert.Merge.Facts) (hMergeIdeal : Cert.MergeIdeal.Facts) (hMergeReferenceIdeal : Cert.MergeReferenceIdeal.Facts) (hProj : Cert.Proj.Facts) (hProjIdeal : Cert.ProjIdeal.Facts) (hProjReferenceIdeal : Cert.ProjReferenceIdeal.Facts) (hMemkv : Cert.Memkv.Facts) (hMemkvIdeal : Cert.MemkvIdeal.Facts) (hMemkvReferenceIdeal : Cert.MemkvReferenceIdeal.Facts) (hCmp : Cert.Cmp.Facts) (hCmpIdeal : Cert.CmpIdeal.Facts) (hCmpReferenceIdeal : Cert.CmpReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Memkv (hMemkv := hMemkv)
    ∧ quiescent_MemkvIdeal (hMemkvIdeal := hMemkvIdeal)
    ∧ quiescent_MemkvReferenceIdeal (hMemkvReferenceIdeal := hMemkvReferenceIdeal)
    ∧ quiescent_Cmp (hCmp := hCmp)
    ∧ quiescent_CmpIdeal (hCmpIdeal := hCmpIdeal)
    ∧ quiescent_CmpReferenceIdeal (hCmpReferenceIdeal := hCmpReferenceIdeal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Ffn_FfnIdeal
    ∧ algebraic_FfnIdeal_FfnReferenceIdeal (hFfnIdeal := hFfnIdeal) (hFfnReferenceIdeal := hFfnReferenceIdeal)
    ∧ preserves_Merge_MergeIdeal
    ∧ algebraic_MergeIdeal_MergeReferenceIdeal (hMergeIdeal := hMergeIdeal) (hMergeReferenceIdeal := hMergeReferenceIdeal)
    ∧ preserves_Proj_ProjIdeal
    ∧ algebraic_ProjIdeal_ProjReferenceIdeal (hProjIdeal := hProjIdeal) (hProjReferenceIdeal := hProjReferenceIdeal)
    ∧ preserves_Memkv_MemkvIdeal
    ∧ algebraic_MemkvIdeal_MemkvReferenceIdeal (hMemkvIdeal := hMemkvIdeal) (hMemkvReferenceIdeal := hMemkvReferenceIdeal)
    ∧ preserves_Cmp_CmpIdeal
    ∧ algebraic_CmpIdeal_CmpReferenceIdeal (hCmpIdeal := hCmpIdeal) (hCmpReferenceIdeal := hCmpReferenceIdeal)
-- ==== Pre_finite_inputs.lean ====
abbrev S65536x1536 : Shape := ⟨2, ![65536, 1536]⟩
abbrev S65536x512 : Shape := ⟨2, ![65536, 512]⟩
abbrev S65536x128 : Shape := ⟨2, ![65536, 128]⟩
abbrev S4x1536 : Shape := ⟨2, ![4, 1536]⟩
abbrev S1x128 : Shape := ⟨2, ![1, 128]⟩
abbrev S_ : Shape := ⟨0, ![]⟩

class Facts : Prop where
  bitsLt_bf16_f32 : FTy.bits .bf16 < FTy.bits .f32
  bcast_S_S65536x1536 : S_.BroadcastsInDim S65536x1536 (![] : Fin 0 → Fin S65536x1536.rank)
  reducesTo_S65536x1536_S_d0_1 : S65536x1536.ReducesTo [0, 1] S_
  h_S_ : 0 < S_.numel
  bcast_S_S65536x128 : S_.BroadcastsInDim S65536x128 (![] : Fin 0 → Fin S65536x128.rank)
  reducesTo_S65536x128_S_d0_1 : S65536x128.ReducesTo [0, 1] S_
  bcast_S_S4x1536 : S_.BroadcastsInDim S4x1536 (![] : Fin 0 → Fin S4x1536.rank)
  reducesTo_S4x1536_S_d0_1 : S4x1536.ReducesTo [0, 1] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_arg5 : FVec F S1x128 .f32) (main_v14 : IVec S_ 1) (main_v15 : FVec F S1x128 .f32) (main_v16 : FVec F S1x128 .f32) : IVec S_ 1 :=
  let main_v17 : IVec S1x128 1 := cmpf .olt main_v15 main_v16
  let main_c_5 : IVec S_ 1 := constantI S_ 1 1#1
  let main_v18 : IVec S_ 1 := (fun x v => Host.reduce IntOp.andi x v reducesTo_S1x128_S_d0_1 h_S_) main_v17 main_c_5
  let main_v19 : IVec S_ 1 := andi main_v14 main_v18
  let main_v20 : FVec F S1x128 .f32 := Host.absf main_arg5
  let main_cst_6 : FVec F S_ .f32 := constant S_ .f32 0x7F800000#32
  let main_v21 : FVec F S1x128 .f32 := broadcastInDim S1x128 ![] bcast_S_S1x128 main_cst_6
  let main_v22 : IVec S1x128 1 := cmpf .olt main_v20 main_v21
  let main_c_7 : IVec S_ 1 := constantI S_ 1 1#1
  let main_v23 : IVec S_ 1 := (fun x v => Host.reduce IntOp.andi x v reducesTo_S1x128_S_d0_1 h_S_) main_v22 main_c_7
  let main_v24 : IVec S_ 1 := andi main_v19 main_v23
  main_v24

def fn {F : FTy → Type} [FloatOps F] (main_arg0 : FVec F S65536x1536 .bf16) (main_arg1 : FVec F S65536x512 .bf16) (main_arg2 : FVec F S65536x128 .f32) (main_arg3 : FVec F S4x1536 .f32) (main_arg4 : FVec F S1x128 .f32) (main_arg5 : FVec F S1x128 .f32) (main_arg6 : FVec F S1x128 .f32) : IVec S_ 1 :=
  let main_v0 : FVec F S65536x1536 .f32 := (extf .f32 · bitsLt_bf16_f32) main_arg0
  let main_v1 : FVec F S65536x1536 .f32 := Host.absf main_v0
  let main_cst : FVec F S_ .f32 := constant S_ .f32 0x7F800000#32
  let main_v2 : FVec F S65536x1536 .f32 := broadcastInDim S65536x1536 ![] bcast_S_S65536x1536 main_cst
  let main_v3 : IVec S65536x1536 1 := cmpf .olt main_v1 main_v2
  let main_c : IVec S_ 1 := constantI S_ 1 1#1
  let main_v4 : IVec S_ 1 := (fun x v => Host.reduce IntOp.andi x v reducesTo_S65536x1536_S_d0_1 h_S_) main_v3 main_c
  let main_v5 : FVec F S65536x128 .f32 := Host.absf main_arg2
  let main_cst_0 : FVec F S_ .f32 := constant S_ .f32 0x7F800000#32
  let main_v6 : FVec F S65536x128 .f32 := broadcastInDim S65536x128 ![] bcast_S_S65536x128 main_cst_0
  let main_v7 : IVec S65536x128 1 := cmpf .olt main_v5 main_v6
  let main_c_1 : IVec S_ 1 := constantI S_ 1 1#1
  let main_v8 : IVec S_ 1 := (fun x v => Host.reduce IntOp.andi x v reducesTo_S65536x128_S_d0_1 h_S_) main_v7 main_c_1
  let main_v9 : IVec S_ 1 := andi main_v4 main_v8
  let main_v10 : FVec F S4x1536 .f32 := Host.absf main_arg3
  let main_cst_2 : FVec F S_ .f32 := constant S_ .f32 0x7F800000#32
  let main_v11 : FVec F S4x1536 .f32 := broadcastInDim S4x1536 ![] bcast_S_S4x1536 main_cst_2
  let main_v12 : IVec S4x1536 1 := cmpf .olt main_v10 main_v11
  let main_c_3 : IVec S_ 1 := constantI S_ 1 1#1
  let main_v13 : IVec S_ 1 := (fun x v => Host.reduce IntOp.andi x v reducesTo_S4x1536_S_d0_1 h_S_) main_v12 main_c_3
  let main_v14 : IVec S_ 1 := andi main_v9 main_v13
  let main_v15 : FVec F S1x128 .f32 := Host.absf main_arg4
  let main_cst_4 : FVec F S_ .f32 := constant S_ .f32 0x7F800000#32
  let main_v16 : FVec F S1x128 .f32 := broadcastInDim S1x128 ![] bcast_S_S1x128 main_cst_4
  fn_part1 (F := F) main_arg5 main_v14 main_v15 main_v16
-- ==== Kernel.lean ====
abbrev S65536x1536 : Shape := ⟨2, ![65536, 1536]⟩
abbrev S65536x512 : Shape := ⟨2, ![65536, 512]⟩
abbrev S65536x128 : Shape := ⟨2, ![65536, 128]⟩
abbrev S4x1536 : Shape := ⟨2, ![4, 1536]⟩
abbrev S1x128 : Shape := ⟨2, ![1, 128]⟩
abbrev S2048x1536 : Shape := ⟨2, ![2048, 1536]⟩
abbrev S2048x512 : Shape := ⟨2, ![2048, 512]⟩
abbrev S2048x128 : Shape := ⟨2, ![2048, 128]⟩
abbrev S4x128x128 : Shape := ⟨3, ![4, 128, 128]⟩
abbrev S128x128 : Shape := ⟨2, ![128, 128]⟩
abbrev S512x1536 : Shape := ⟨2, ![512, 1536]⟩
abbrev S16x1536 : Shape := ⟨2, ![16, 1536]⟩
abbrev S528x1536 : Shape := ⟨2, ![528, 1536]⟩
abbrev S1x1536 : Shape := ⟨2, ![1, 1536]⟩
abbrev S512x128 : Shape := ⟨2, ![512, 128]⟩
abbrev S128 : Shape := ⟨1, ![128]⟩
abbrev S128x1 : Shape := ⟨2, ![128, 1]⟩
abbrev S1x1 : Shape := ⟨2, ![1, 1]⟩
abbrev S1x128x128 : Shape := ⟨3, ![1, 128, 128]⟩
abbrev S16x128x128 : Shape := ⟨3, ![16, 128, 128]⟩
abbrev S1x128x1 : Shape := ⟨3, ![1, 128, 1]⟩
abbrev S16x128x1 : Shape := ⟨3, ![16, 128, 1]⟩
abbrev S1x1x128 : Shape := ⟨3, ![1, 1, 128]⟩
abbrev S16x1x128 : Shape := ⟨3, ![16, 1, 128]⟩
abbrev S1x1x1 : Shape := ⟨3, ![1, 1, 1]⟩
abbrev S16x1x1 : Shape := ⟨3, ![16, 1, 1]⟩
abbrev S16x128x256 : Shape := ⟨3, ![16, 128, 256]⟩
abbrev S4x1x1 : Shape := ⟨3, ![4, 1, 1]⟩

abbrev nBuf : Space → Nat
  | .hbm => 8
  | .vmem => 13
  | .smem => 0
  | _ => 0

abbrev bufTy : (tb : Table) → Fin (tcTables nBuf tb) → BufTy
  | .hbm, ⟨0, _⟩ => ⟨S65536x1536, .bf16⟩
  | .hbm, ⟨1, _⟩ => ⟨S65536x512, .bf16⟩
  | .hbm, ⟨2, _⟩ => ⟨S65536x128, .f32⟩
  | .hbm, ⟨3, _⟩ => ⟨S4x1536, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S65536x512, .bf16⟩
  | .local _ .vmem, ⟨0, _⟩ => ⟨S2048x1536, .bf16⟩
  | .local _ .vmem, ⟨1, _⟩ => ⟨S2048x1536, .bf16⟩
  | .local _ .vmem, ⟨2, _⟩ => ⟨S2048x512, .bf16⟩
  | .local _ .vmem, ⟨3, _⟩ => ⟨S2048x512, .bf16⟩
  | .local _ .vmem, ⟨4, _⟩ => ⟨S2048x128, .f32⟩
  | .local _ .vmem, ⟨5, _⟩ => ⟨S2048x128, .f32⟩
  | .local _ .vmem, ⟨6, _⟩ => ⟨S4x1536, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S2048x512, .bf16⟩
  | .local _ .vmem, ⟨11, _⟩ => ⟨S2048x512, .bf16⟩
  | .local _ .vmem, ⟨12, _⟩ => ⟨S4x128x128, .f32⟩
  | _, _ => ⟨S65536x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c4_i32 : BitVec 32 := 4#32
  let v17 : BitVec 32 := Scalar.addi c0_i32 c4_i32
  let c1_i32 : BitVec 32 := 1#32
  ⟨c0_i32, v17, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c512_i32 : BitVec 32 := 512#32
  let v18 : BitVec 32 := Scalar.muli arg10 c512_i32
  v18
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c512_i32 : BitVec 32 := 512#32
  let v18 : BitVec 32 := Scalar.muli arg10 c512_i32
  let v19 : BitVec 32 := v18
  let v20 : Index := Scalar.indexCast v19
  let c0_7 : Index := 0#32
  ![v20.toNat, 0]
def k0_mult2 (k0_t1 : Fin k0_t1_loop.trips) : BitVec 32 :=
  let c0_i32 : BitVec 32 := 0#32
  let c1_i32 : BitVec 32 := 1#32
  let arg10 : BitVec 32 := Scf.iv c0_i32 c1_i32 k0_t1
  let c512_i32 : BitVec 32 := 512#32
  let v18 : BitVec 32 := Scalar.muli arg10 c512_i32
  let v19 : BitVec 32 := v18
  let c16_i32 : BitVec 32 := 16#32
  let v23 : BitVec 32 := Scalar.subi v19 c16_i32
  let c0_i32_8 : BitVec 32 := 0#32
  let v24 : BitVec 32 := Scalar.maxsi v23 c0_i32_8
  v24
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c512_i32 : BitVec 32 := 512#32
  let v18 : BitVec 32 := Scalar.muli arg10 c512_i32
  let v19 : BitVec 32 := v18
  let c16_i32 : BitVec 32 := 16#32
  let v23 : BitVec 32 := Scalar.subi v19 c16_i32
  let c0_i32_8 : BitVec 32 := 0#32
  let v24 : BitVec 32 := Scalar.maxsi v23 c0_i32_8
  let v25 : BitVec 32 := v24
  let v26 : Index := Scalar.indexCast v25
  let c0_9 : Index := 0#32
  ![v26.toNat, 0]
def k0_off3 (k0_t1 : Fin k0_t1_loop.trips) : Fin 2 → Nat :=
  let c0_i32 : BitVec 32 := 0#32
  let c1_i32 : BitVec 32 := 1#32
  let arg10 : BitVec 32 := Scf.iv c0_i32 c1_i32 k0_t1
  let c512_i32 : BitVec 32 := 512#32
  let v18 : BitVec 32 := Scalar.muli arg10 c512_i32
  let v19 : BitVec 32 := v18
  let v57 : Index := Scalar.indexCast v19
  let c0_19 : Index := 0#32
  ![v57.toNat, 0]
def k0_off4 (k0_t1 : Fin k0_t1_loop.trips) (c0_i32_162 : BitVec 32) : Fin 2 → Nat :=
  let c0_i32 : BitVec 32 := 0#32
  let c1_i32 : BitVec 32 := 1#32
  let arg10 : BitVec 32 := Scf.iv c0_i32 c1_i32 k0_t1
  let c512_i32 : BitVec 32 := 512#32
  let v18 : BitVec 32 := Scalar.muli arg10 c512_i32
  let v19 : BitVec 32 := v18
  let v861 : BitVec 32 := Scalar.addi v19 c0_i32_162
  let v862 : Index := Scalar.indexCast v861
  let c0_163 : Index := 0#32
  ![v862.toNat, 0]
def k0_off5 (k0_t1 : Fin k0_t1_loop.trips) (c0_i32_162 : BitVec 32) : Fin 2 → Nat :=
  let c0_i32 : BitVec 32 := 0#32
  let c1_i32 : BitVec 32 := 1#32
  let arg10 : BitVec 32 := Scf.iv c0_i32 c1_i32 k0_t1
  let c512_i32 : BitVec 32 := 512#32
  let v18 : BitVec 32 := Scalar.muli arg10 c512_i32
  let v19 : BitVec 32 := v18
  let v861 : BitVec 32 := Scalar.addi v19 c0_i32_162
  let v886 : Index := Scalar.indexCast v861
  let c128 : Index := 128#32
  ![v886.toNat, 128]
def k0_off6 (k0_t1 : Fin k0_t1_loop.trips) (c0_i32_162 : BitVec 32) : Fin 2 → Nat :=
  let c0_i32 : BitVec 32 := 0#32
  let c1_i32 : BitVec 32 := 1#32
  let arg10 : BitVec 32 := Scf.iv c0_i32 c1_i32 k0_t1
  let c512_i32 : BitVec 32 := 512#32
  let v18 : BitVec 32 := Scalar.muli arg10 c512_i32
  let v19 : BitVec 32 := v18
  let v861 : BitVec 32 := Scalar.addi v19 c0_i32_162
  let v910 : Index := Scalar.indexCast v861
  let c256 : Index := 256#32
  ![v910.toNat, 256]
def k0_off7 (k0_t1 : Fin k0_t1_loop.trips) (c0_i32_162 : BitVec 32) : Fin 2 → Nat :=
  let c0_i32 : BitVec 32 := 0#32
  let c1_i32 : BitVec 32 := 1#32
  let arg10 : BitVec 32 := Scf.iv c0_i32 c1_i32 k0_t1
  let c512_i32 : BitVec 32 := 512#32
  let v18 : BitVec 32 := Scalar.muli arg10 c512_i32
  let v19 : BitVec 32 := v18
  let v861 : BitVec 32 := Scalar.addi v19 c0_i32_162
  let v934 : Index := Scalar.indexCast v861
  let c384 : Index := 384#32
  ![v934.toNat, 384]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S65536x1536 : Shape := ⟨2, ![65536, 1536]⟩
abbrev S65536x512 : Shape := ⟨2, ![65536, 512]⟩
abbrev S65536x128 : Shape := ⟨2, ![65536, 128]⟩
abbrev S4x1536 : Shape := ⟨2, ![4, 1536]⟩
abbrev S1x128 : Shape := ⟨2, ![1, 128]⟩
abbrev S32x2048x1536 : Shape := ⟨3, ![32, 2048, 1536]⟩
abbrev S_ : Shape := ⟨0, ![]⟩
abbrev S32x2051x1536 : Shape := ⟨3, ![32, 2051, 1536]⟩
abbrev S1x1536 : Shape := ⟨2, ![1, 1536]⟩
abbrev S1536 : Shape := ⟨1, ![1536]⟩
abbrev S1x1x1536 : Shape := ⟨3, ![1, 1, 1536]⟩
abbrev S32x2048x512 : Shape := ⟨3, ![32, 2048, 512]⟩
abbrev S32x2048x4x128 : Shape := ⟨4, ![32, 2048, 4, 128]⟩
abbrev S32x2048x4 : Shape := ⟨3, ![32, 2048, 4]⟩
abbrev S32x2048x4x1 : Shape := ⟨4, ![32, 2048, 4, 1]⟩
abbrev S32x2048x128 : Shape := ⟨3, ![32, 2048, 128]⟩
abbrev S1x4 : Shape := ⟨2, ![1, 4]⟩
abbrev S4 : Shape := ⟨1, ![4]⟩
abbrev S1x1x4 : Shape := ⟨3, ![1, 1, 4]⟩
abbrev S2048x32x4x128 : Shape := ⟨4, ![2048, 32, 4, 128]⟩
abbrev S2048x32x4 : Shape := ⟨3, ![2048, 32, 4]⟩
abbrev S32x4x128x128 : Shape := ⟨4, ![32, 4, 128, 128]⟩
abbrev S1x32x4x128 : Shape := ⟨4, ![1, 32, 4, 128]⟩
abbrev S32x4x128 : Shape := ⟨3, ![32, 4, 128]⟩
abbrev S1x32x4 : Shape := ⟨3, ![1, 32, 4]⟩
abbrev S32x4 : Shape := ⟨2, ![32, 4]⟩
abbrev S32x4x1x1 : Shape := ⟨4, ![32, 4, 1, 1]⟩
abbrev S32x4x1 : Shape := ⟨3, ![32, 4, 1]⟩
abbrev S32x4x128x1 : Shape := ⟨4, ![32, 4, 128, 1]⟩
abbrev S32x4x1x128 : Shape := ⟨4, ![32, 4, 1, 128]⟩
abbrev S128 : Shape := ⟨1, ![128]⟩
abbrev S1x1x1x128 : Shape := ⟨4, ![1, 1, 1, 128]⟩

abbrev nBuf : Space → Nat
  | .hbm => 212
  | .vmem => 0
  | .smem => 0
  | _ => 0

abbrev hbmTy0_0 (i : Nat) : BufTy := match i % 128 with
  | 0 => ⟨S65536x1536, .bf16⟩
  | 1 => ⟨S65536x512, .bf16⟩
  | 2 => ⟨S65536x128, .f32⟩
  | 3 => ⟨S4x1536, .f32⟩
  | 4 => ⟨S1x128, .f32⟩
  | 5 => ⟨S1x128, .f32⟩
  | 6 => ⟨S1x128, .f32⟩
  | 7 => ⟨S65536x1536, .f32⟩
  | 8 => ⟨S32x2048x1536, .f32⟩
  | 9 => ⟨S_, .i32⟩
  | 10 => ⟨S_, .f32⟩
  | 11 => ⟨S32x2051x1536, .f32⟩
  | 12 => ⟨S32x2048x1536, .f32⟩
  | 13 => ⟨S1x1536, .f32⟩
  | 14 => ⟨S1536, .f32⟩
  | 15 => ⟨S1x1x1536, .f32⟩
  | 16 => ⟨S32x2048x1536, .f32⟩
  | 17 => ⟨S32x2048x1536, .f32⟩
  | 18 => ⟨S_, .f32⟩
  | 19 => ⟨S32x2048x1536, .f32⟩
  | 20 => ⟨S32x2048x1536, .f32⟩
  | 21 => ⟨S32x2048x1536, .f32⟩
  | 22 => ⟨S1x1536, .f32⟩
  | 23 => ⟨S1536, .f32⟩
  | 24 => ⟨S1x1x1536, .f32⟩
  | 25 => ⟨S32x2048x1536, .f32⟩
  | 26 => ⟨S32x2048x1536, .f32⟩
  | 27 => ⟨S32x2048x1536, .f32⟩
  | 28 => ⟨S32x2048x1536, .f32⟩
  | 29 => ⟨S1x1536, .f32⟩
  | 30 => ⟨S1536, .f32⟩
  | 31 => ⟨S1x1x1536, .f32⟩
  | 32 => ⟨S32x2048x1536, .f32⟩
  | 33 => ⟨S32x2048x1536, .f32⟩
  | 34 => ⟨S32x2048x1536, .f32⟩
  | 35 => ⟨S32x2048x1536, .f32⟩
  | 36 => ⟨S1x1536, .f32⟩
  | 37 => ⟨S1536, .f32⟩
  | 38 => ⟨S1x1x1536, .f32⟩
  | 39 => ⟨S32x2048x1536, .f32⟩
  | 40 => ⟨S32x2048x1536, .f32⟩
  | 41 => ⟨S32x2048x1536, .f32⟩
  | 42 => ⟨S32x2048x1536, .f32⟩
  | 43 => ⟨S32x2048x1536, .f32⟩
  | 44 => ⟨S_, .f32⟩
  | 45 => ⟨S32x2048x1536, .f32⟩
  | 46 => ⟨S32x2048x1536, .f32⟩
  | 47 => ⟨S_, .f32⟩
  | 48 => ⟨S32x2048x1536, .f32⟩
  | 49 => ⟨S32x2048x1536, .f32⟩
  | 50 => ⟨S32x2048x1536, .f32⟩
  | 51 => ⟨S32x2048x512, .f32⟩
  | 52 => ⟨S32x2048x4x128, .f32⟩
  | 53 => ⟨S32x2048x4x128, .f32⟩
  | 54 => ⟨S_, .f32⟩
  | 55 => ⟨S32x2048x4, .f32⟩
  | 56 => ⟨S32x2048x4x1, .f32⟩
  | 57 => ⟨S_, .f32⟩
  | 58 => ⟨S32x2048x4x1, .f32⟩
  | 59 => ⟨S32x2048x4x1, .f32⟩
  | 60 => ⟨S32x2048x4x1, .f32⟩
  | 61 => ⟨S32x2048x4x128, .f32⟩
  | 62 => ⟨S32x2048x4x128, .f32⟩
  | 63 => ⟨S_, .f32⟩
  | 64 => ⟨S32x2048x4x128, .f32⟩
  | 65 => ⟨S32x2048x4x128, .f32⟩
  | 66 => ⟨S32x2048x512, .f32⟩
  | 67 => ⟨S32x2048x4x128, .f32⟩
  | 68 => ⟨S32x2048x4x128, .f32⟩
  | 69 => ⟨S_, .f32⟩
  | 70 => ⟨S32x2048x4, .f32⟩
  | 71 => ⟨S32x2048x4x1, .f32⟩
  | 72 => ⟨S_, .f32⟩
  | 73 => ⟨S32x2048x4x1, .f32⟩
  | 74 => ⟨S32x2048x4x1, .f32⟩
  | 75 => ⟨S32x2048x4x1, .f32⟩
  | 76 => ⟨S32x2048x4x128, .f32⟩
  | 77 => ⟨S32x2048x4x128, .f32⟩
  | 78 => ⟨S32x2048x512, .f32⟩
  | 79 => ⟨S32x2048x4x128, .f32⟩
  | 80 => ⟨S32x2048x128, .f32⟩
  | 81 => ⟨S32x2048x4, .f32⟩
  | 82 => ⟨S1x4, .f32⟩
  | 83 => ⟨S4, .f32⟩
  | 84 => ⟨S1x1x4, .f32⟩
  | 85 => ⟨S32x2048x4, .f32⟩
  | 86 => ⟨S32x2048x4, .f32⟩
  | 87 => ⟨S_, .f32⟩
  | 88 => ⟨S32x2048x4, .f32⟩
  | 89 => ⟨S32x2048x4, .f32⟩
  | 90 => ⟨S32x2048x4, .f32⟩
  | 91 => ⟨S32x2048x4, .f32⟩
  | 92 => ⟨S32x2048x4, .f32⟩
  | 93 => ⟨S_, .f32⟩
  | 94 => ⟨S32x2048x4, .f32⟩
  | 95 => ⟨S32x2048x4, .f32⟩
  | 96 => ⟨S32x2048x4, .f32⟩
  | 97 => ⟨S32x2048x4, .f32⟩
  | 98 => ⟨S1x4, .f32⟩
  | 99 => ⟨S4, .f32⟩
  | 100 => ⟨S4, .f32⟩
  | 101 => ⟨S4, .f32⟩
  | 102 => ⟨S1x1x4, .f32⟩
  | 103 => ⟨S32x2048x4, .f32⟩
  | 104 => ⟨S32x2048x4, .f32⟩
  | 105 => ⟨S32x2048x4, .f32⟩
  | 106 => ⟨S32x2048x4, .f32⟩
  | 107 => ⟨S32x2048x4, .f32⟩
  | 108 => ⟨S32x2048x4, .f32⟩
  | 109 => ⟨S_, .f32⟩
  | 110 => ⟨S32x2048x4, .f32⟩
  | 111 => ⟨S32x2048x4, .f32⟩
  | 112 => ⟨S_, .f32⟩
  | 113 => ⟨S32x2048x4, .f32⟩
  | 114 => ⟨S32x2048x4, .f32⟩
  | 115 => ⟨S2048x32x4x128, .f32⟩
  | 116 => ⟨S2048x32x4x128, .f32⟩
  | 117 => ⟨S2048x32x4x128, .f32⟩
  | 118 => ⟨S2048x32x4, .f32⟩
  | 119 => ⟨S2048x32x4, .f32⟩
  | 120 => ⟨S_, .f32⟩
  | 121 => ⟨S32x4x128x128, .f32⟩
  | 122 => ⟨S_, .f32⟩
  | 123 => ⟨S2048x32x4x128, .f32⟩
  | 124 => ⟨S_, .i32⟩
  | 125 => ⟨S2048x32x4x128, .f32⟩
  | 126 => ⟨S2048x32x4x128, .f32⟩
  | 127 => ⟨S2048x32x4x128, .f32⟩
  | _ => ⟨S65536x1536, .bf16⟩

abbrev hbmTy0_1 (i : Nat) : BufTy := match i % 128 with
  | 0 => ⟨S2048x32x4, .f32⟩
  | 1 => ⟨S2048x32x4, .f32⟩
  | 2 => ⟨S_, .i32⟩
  | 3 => ⟨S32x4x128x128, .f32⟩
  | 4 => ⟨S2048x32x4x128, .f32⟩
  | 5 => ⟨S_, .i32⟩
  | 6 => ⟨S_, .i1⟩
  | 7 => ⟨S_, .i32⟩
  | 8 => ⟨S_, .i32⟩
  | 9 => ⟨S_, .i32⟩
  | 10 => ⟨S1x32x4x128, .f32⟩
  | 11 => ⟨S32x4x128, .f32⟩
  | 12 => ⟨S_, .i32⟩
  | 13 => ⟨S_, .i32⟩
  | 14 => ⟨S_, .i32⟩
  | 15 => ⟨S1x32x4x128, .f32⟩
  | 16 => ⟨S32x4x128, .f32⟩
  | 17 => ⟨S_, .i32⟩
  | 18 => ⟨S_, .i32⟩
  | 19 => ⟨S_, .i32⟩
  | 20 => ⟨S1x32x4x128, .f32⟩
  | 21 => ⟨S32x4x128, .f32⟩
  | 22 => ⟨S_, .i32⟩
  | 23 => ⟨S_, .i32⟩
  | 24 => ⟨S1x32x4, .f32⟩
  | 25 => ⟨S32x4, .f32⟩
  | 26 => ⟨S_, .i32⟩
  | 27 => ⟨S_, .i32⟩
  | 28 => ⟨S1x32x4, .f32⟩
  | 29 => ⟨S32x4, .f32⟩
  | 30 => ⟨S32x4x1x1, .f32⟩
  | 31 => ⟨S32x4x128x128, .f32⟩
  | 32 => ⟨S32x4x128x128, .f32⟩
  | 33 => ⟨S32x4x1, .f32⟩
  | 34 => ⟨S32x4x128, .f32⟩
  | 35 => ⟨S32x4x128, .f32⟩
  | 36 => ⟨S32x4x128, .f32⟩
  | 37 => ⟨S32x4x128, .f32⟩
  | 38 => ⟨S32x4x128x1, .f32⟩
  | 39 => ⟨S32x4x1x128, .f32⟩
  | 40 => ⟨S32x4x128x128, .f32⟩
  | 41 => ⟨S32x4x128x128, .f32⟩
  | 42 => ⟨S32x4x128x128, .f32⟩
  | 43 => ⟨S32x4x128x128, .f32⟩
  | 44 => ⟨S32x4x128, .f32⟩
  | 45 => ⟨S1x32x4x128, .f32⟩
  | 46 => ⟨S_, .i32⟩
  | 47 => ⟨S_, .i32⟩
  | 48 => ⟨S_, .i32⟩
  | 49 => ⟨S2048x32x4x128, .f32⟩
  | 50 => ⟨S_, .i32⟩
  | 51 => ⟨S_, .i32⟩
  | 52 => ⟨S32x2048x4x128, .f32⟩
  | 53 => ⟨S32x2048x4x128, .f32⟩
  | 54 => ⟨S_, .f32⟩
  | 55 => ⟨S32x2048x4, .f32⟩
  | 56 => ⟨S32x2048x4x1, .f32⟩
  | 57 => ⟨S_, .f32⟩
  | 58 => ⟨S32x2048x4x1, .f32⟩
  | 59 => ⟨S32x2048x4x1, .f32⟩
  | 60 => ⟨S_, .f32⟩
  | 61 => ⟨S32x2048x4x1, .f32⟩
  | 62 => ⟨S32x2048x4x1, .f32⟩
  | 63 => ⟨S32x2048x4x1, .f32⟩
  | 64 => ⟨S32x2048x4x128, .f32⟩
  | 65 => ⟨S32x2048x4x128, .f32⟩
  | 66 => ⟨S128, .f32⟩
  | 67 => ⟨S1x1x1x128, .f32⟩
  | 68 => ⟨S32x2048x4x128, .f32⟩
  | 69 => ⟨S32x2048x4x128, .f32⟩
  | 70 => ⟨S65536x512, .f32⟩
  | 71 => ⟨S32x2048x4x128, .f32⟩
  | 72 => ⟨S32x2048x4x128, .f32⟩
  | 73 => ⟨S32x2048x4x128, .f32⟩
  | 74 => ⟨S_, .f32⟩
  | 75 => ⟨S32x2048x4x128, .f32⟩
  | 76 => ⟨S32x2048x4x128, .f32⟩
  | 77 => ⟨S_, .f32⟩
  | 78 => ⟨S32x2048x4x128, .f32⟩
  | 79 => ⟨S32x2048x4x128, .f32⟩
  | 80 => ⟨S32x2048x4x128, .f32⟩
  | 81 => ⟨S32x2048x4x128, .f32⟩
  | 82 => ⟨S65536x512, .f32⟩
  | 83 => ⟨S65536x512, .bf16⟩
  | _ => ⟨S65536x1536, .bf16⟩

abbrev hbmTy (i : Nat) : BufTy := match i / 128 with
  | 0 => hbmTy0_0 i
  | 1 => hbmTy0_1 i
  | _ => ⟨S65536x1536, .bf16⟩

abbrev bufTy : (tb : Table) → Fin (tcTables nBuf tb) → BufTy
  | .hbm, ⟨i, _⟩ => hbmTy i
  | _, _ => ⟨S65536x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_0 : Ref sig .tc := ⟨.hbm, 44, rfl⟩
abbrev main_v34 : Ref sig .tc := ⟨.hbm, 45, rfl⟩
abbrev main_v35 : Ref sig .tc := ⟨.hbm, 46, rfl⟩
abbrev main_cst_1 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_2 : Ref sig .tc := ⟨.hbm, 54, rfl⟩
abbrev main_v42 : Ref sig .tc := ⟨.hbm, 55, rfl⟩
abbrev main_v43 : Ref sig .tc := ⟨.hbm, 56, rfl⟩
abbrev main_cst_3 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_4 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_5 : Ref sig .tc := ⟨.hbm, 69, rfl⟩
abbrev main_v54 : Ref sig .tc := ⟨.hbm, 70, rfl⟩
abbrev main_v55 : Ref sig .tc := ⟨.hbm, 71, rfl⟩
abbrev main_cst_6 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_7 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_8 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_cst_9 : Ref sig .tc := ⟨.hbm, 109, rfl⟩
abbrev main_v90 : Ref sig .tc := ⟨.hbm, 110, rfl⟩
abbrev main_v91 : Ref sig .tc := ⟨.hbm, 111, rfl⟩
abbrev main_cst_10 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_cst_11 : Ref sig .tc := ⟨.hbm, 120, rfl⟩
abbrev main_v99 : Ref sig .tc := ⟨.hbm, 121, rfl⟩
abbrev main_cst_12 : Ref sig .tc := ⟨.hbm, 122, rfl⟩
abbrev main_v100 : Ref sig .tc := ⟨.hbm, 123, rfl⟩
abbrev main_c_13 : Ref sig .tc := ⟨.hbm, 124, rfl⟩
abbrev main_v101_0 : Ref sig .tc := ⟨.hbm, 125, rfl⟩
abbrev main_v101_1 : Ref sig .tc := ⟨.hbm, 126, rfl⟩
abbrev main_v101_2 : Ref sig .tc := ⟨.hbm, 127, rfl⟩
abbrev main_v101_3 : Ref sig .tc := ⟨.hbm, 128, rfl⟩
abbrev main_v101_4 : Ref sig .tc := ⟨.hbm, 129, rfl⟩
abbrev main_v101_5 : Ref sig .tc := ⟨.hbm, 130, rfl⟩
abbrev main_v101_6 : Ref sig .tc := ⟨.hbm, 131, rfl⟩
abbrev main_v101_7 : Ref sig .tc := ⟨.hbm, 132, rfl⟩
abbrev main_while0c_c_26 : Ref sig .tc := ⟨.hbm, 133, rfl⟩
abbrev main_while0c_v129 : Ref sig .tc := ⟨.hbm, 134, rfl⟩
abbrev main_while0b_call1_c : Ref sig .tc := ⟨.hbm, 135, rfl⟩
abbrev main_while0b_call1_c_0 : Ref sig .tc := ⟨.hbm, 136, rfl⟩
abbrev main_while0b_call1_c_1 : Ref sig .tc := ⟨.hbm, 137, rfl⟩
abbrev main_while0b_call1_v0 : Ref sig .tc := ⟨.hbm, 138, rfl⟩
abbrev main_while0b_v129 : Ref sig .tc := ⟨.hbm, 139, rfl⟩
abbrev main_while0b_call2_c : Ref sig .tc := ⟨.hbm, 140, rfl⟩
abbrev main_while0b_call2_c_0 : Ref sig .tc := ⟨.hbm, 141, rfl⟩
abbrev main_while0b_call2_c_1 : Ref sig .tc := ⟨.hbm, 142, rfl⟩
abbrev main_while0b_call2_v0 : Ref sig .tc := ⟨.hbm, 143, rfl⟩
abbrev main_while0b_v130 : Ref sig .tc := ⟨.hbm, 144, rfl⟩
abbrev main_while0b_call3_c : Ref sig .tc := ⟨.hbm, 145, rfl⟩
abbrev main_while0b_call3_c_0 : Ref sig .tc := ⟨.hbm, 146, rfl⟩
abbrev main_while0b_call3_c_1 : Ref sig .tc := ⟨.hbm, 147, rfl⟩
abbrev main_while0b_call3_v0 : Ref sig .tc := ⟨.hbm, 148, rfl⟩
abbrev main_while0b_v131 : Ref sig .tc := ⟨.hbm, 149, rfl⟩
abbrev main_while0b_call4_c : Ref sig .tc := ⟨.hbm, 150, rfl⟩
abbrev main_while0b_call4_c_0 : Ref sig .tc := ⟨.hbm, 151, rfl⟩
abbrev main_while0b_call4_v0 : Ref sig .tc := ⟨.hbm, 152, rfl⟩
abbrev main_while0b_v132 : Ref sig .tc := ⟨.hbm, 153, rfl⟩
abbrev main_while0b_call5_c : Ref sig .tc := ⟨.hbm, 154, rfl⟩
abbrev main_while0b_call5_c_0 : Ref sig .tc := ⟨.hbm, 155, rfl⟩
abbrev main_while0b_call5_v0 : Ref sig .tc := ⟨.hbm, 156, rfl⟩
abbrev main_while0b_v133 : Ref sig .tc := ⟨.hbm, 157, rfl⟩
abbrev main_while0b_v134 : Ref sig .tc := ⟨.hbm, 158, rfl⟩
abbrev main_while0b_v135 : Ref sig .tc := ⟨.hbm, 159, rfl⟩
abbrev main_while0b_v136 : Ref sig .tc := ⟨.hbm, 160, rfl⟩
abbrev main_while0b_v137 : Ref sig .tc := ⟨.hbm, 161, rfl⟩
abbrev main_while0b_v138 : Ref sig .tc := ⟨.hbm, 162, rfl⟩
abbrev main_while0b_v139 : Ref sig .tc := ⟨.hbm, 163, rfl⟩
abbrev main_while0b_v140 : Ref sig .tc := ⟨.hbm, 164, rfl⟩
abbrev main_while0b_v141 : Ref sig .tc := ⟨.hbm, 165, rfl⟩
abbrev main_while0b_v142 : Ref sig .tc := ⟨.hbm, 166, rfl⟩
abbrev main_while0b_v143 : Ref sig .tc := ⟨.hbm, 167, rfl⟩
abbrev main_while0b_v144 : Ref sig .tc := ⟨.hbm, 168, rfl⟩
abbrev main_while0b_v145 : Ref sig .tc := ⟨.hbm, 169, rfl⟩
abbrev main_while0b_v146 : Ref sig .tc := ⟨.hbm, 170, rfl⟩
abbrev main_while0b_v147 : Ref sig .tc := ⟨.hbm, 171, rfl⟩
abbrev main_while0b_v148 : Ref sig .tc := ⟨.hbm, 172, rfl⟩
abbrev main_while0b_call6_v0 : Ref sig .tc := ⟨.hbm, 173, rfl⟩
abbrev main_while0b_call6_c : Ref sig .tc := ⟨.hbm, 174, rfl⟩
abbrev main_while0b_call6_c_0 : Ref sig .tc := ⟨.hbm, 175, rfl⟩
abbrev main_while0b_call6_c_1 : Ref sig .tc := ⟨.hbm, 176, rfl⟩
abbrev main_while0b_v149 : Ref sig .tc := ⟨.hbm, 177, rfl⟩
abbrev main_while0b_c_26 : Ref sig .tc := ⟨.hbm, 178, rfl⟩
abbrev main_while0b_v150 : Ref sig .tc := ⟨.hbm, 179, rfl⟩
abbrev main_v102 : Ref sig .tc := ⟨.hbm, 180, rfl⟩
abbrev main_v103 : Ref sig .tc := ⟨.hbm, 181, rfl⟩
abbrev main_cst_14 : Ref sig .tc := ⟨.hbm, 182, rfl⟩
abbrev main_v104 : Ref sig .tc := ⟨.hbm, 183, rfl⟩
abbrev main_v105 : Ref sig .tc := ⟨.hbm, 184, rfl⟩
abbrev main_cst_15 : Ref sig .tc := ⟨.hbm, 185, rfl⟩
abbrev main_v106 : Ref sig .tc := ⟨.hbm, 186, rfl⟩
abbrev main_v107 : Ref sig .tc := ⟨.hbm, 187, rfl⟩
abbrev main_cst_16 : Ref sig .tc := ⟨.hbm, 188, rfl⟩
abbrev main_v108 : Ref sig .tc := ⟨.hbm, 189, rfl⟩
abbrev main_v109 : Ref sig .tc := ⟨.hbm, 190, rfl⟩
abbrev main_v110 : Ref sig .tc := ⟨.hbm, 191, rfl⟩
abbrev main_v111 : Ref sig .tc := ⟨.hbm, 192, rfl⟩
abbrev main_v112 : Ref sig .tc := ⟨.hbm, 193, rfl⟩
abbrev main_v113 : Ref sig .tc := ⟨.hbm, 194, rfl⟩
abbrev main_v114 : Ref sig .tc := ⟨.hbm, 195, rfl⟩
abbrev main_v115 : Ref sig .tc := ⟨.hbm, 196, rfl⟩
abbrev main_v116 : Ref sig .tc := ⟨.hbm, 197, rfl⟩
abbrev main_v117 : Ref sig .tc := ⟨.hbm, 198, rfl⟩
abbrev main_v118 : Ref sig .tc := ⟨.hbm, 199, rfl⟩
abbrev main_v119 : Ref sig .tc := ⟨.hbm, 200, rfl⟩
abbrev main_v120 : Ref sig .tc := ⟨.hbm, 201, rfl⟩
abbrev main_cst_17 : Ref sig .tc := ⟨.hbm, 202, rfl⟩
abbrev main_v121 : Ref sig .tc := ⟨.hbm, 203, rfl⟩
abbrev main_v122 : Ref sig .tc := ⟨.hbm, 204, rfl⟩
abbrev main_cst_18 : Ref sig .tc := ⟨.hbm, 205, rfl⟩
abbrev main_v123 : Ref sig .tc := ⟨.hbm, 206, rfl⟩
abbrev main_v124 : Ref sig .tc := ⟨.hbm, 207, rfl⟩
abbrev main_v125 : Ref sig .tc := ⟨.hbm, 208, rfl⟩
abbrev main_v126 : Ref sig .tc := ⟨.hbm, 209, rfl⟩
abbrev main_v127 : Ref sig .tc := ⟨.hbm, 210, rfl⟩
abbrev main_v128 : Ref sig .tc := ⟨.hbm, 211, rfl⟩

abbrev nD : Nat := 1
abbrev τ : Topo := Topo.v7x

variable {F : FTy → Type} [FloatOps F]

abbrev main_while0_count : Scf.Loop 32 := ⟨0#32, 2048#32, 1#32⟩
-- ==== Ffn.lean ====
abbrev S65536x1024 : Shape := ⟨2, ![65536, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1024x1024 : Shape := ⟨2, ![1024, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 12
  | .vmem => 9
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnReferenceIdeal.lean ====
abbrev S65536x1024 : Shape := ⟨2, ![65536, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x2816 : Shape := ⟨2, ![65536, 2816]⟩

abbrev nBuf : Space → Nat
  | .hbm => 55
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S65536x1024, .f32⟩
  | .hbm, ⟨7, _⟩ => ⟨S_, .f32⟩
  | .hbm, ⟨8, _⟩ => ⟨S65536, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S_, .f32⟩
  | .hbm, ⟨14, _⟩ => ⟨S65536x1, .f32⟩
  | .hbm, ⟨15, _⟩ => ⟨S65536x1, .f32⟩
  | .hbm, ⟨16, _⟩ => ⟨S65536x1, .f32⟩
  | .hbm, ⟨17, _⟩ => ⟨S65536x1024, .f32⟩
  | .hbm, ⟨18, _⟩ => ⟨S65536x1024, .f32⟩
  | .hbm, ⟨19, _⟩ => ⟨S1x1024, .f32⟩
  | .hbm, ⟨20, _⟩ => ⟨S65536x1024, .f32⟩
  | .hbm, ⟨21, _⟩ => ⟨S65536x1024, .f32⟩
  | .hbm, ⟨22, _⟩ => ⟨S65536x2816, .f32⟩
  | .hbm, ⟨23, _⟩ => ⟨S65536x2816, .f32⟩
  | .hbm, ⟨24, _⟩ => ⟨S65536x2816, .f32⟩
  | .hbm, ⟨25, _⟩ => ⟨S_, .f32⟩
  | .hbm, ⟨26, _⟩ => ⟨S65536x2816, .f32⟩
  | .hbm, ⟨27, _⟩ => ⟨S65536x2816, .f32⟩
  | .hbm, ⟨28, _⟩ => ⟨S_, .f32⟩
  | .hbm, ⟨29, _⟩ => ⟨S65536x2816, .f32⟩
  | .hbm, ⟨30, _⟩ => ⟨S65536x2816, .f32⟩
  | .hbm, ⟨31, _⟩ => ⟨S65536x2816, .f32⟩
  | .hbm, ⟨32, _⟩ => ⟨S65536x2816, .f32⟩
  | .hbm, ⟨33, _⟩ => ⟨S65536x2816, .f32⟩
  | .hbm, ⟨34, _⟩ => ⟨S65536x1024, .f32⟩
  | .hbm, ⟨35, _⟩ => ⟨S65536x1024, .f32⟩
  | .hbm, ⟨36, _⟩ => ⟨S_, .f32⟩
  | .hbm, ⟨37, _⟩ => ⟨S65536, .f32⟩
  | .hbm, ⟨38, _⟩ => ⟨S65536x1, .f32⟩
  | .hbm, ⟨39, _⟩ => ⟨S_, .f32⟩
  | .hbm, ⟨40, _⟩ => ⟨S65536x1, .f32⟩
  | .hbm, ⟨41, _⟩ => ⟨S65536x1, .f32⟩
  | .hbm, ⟨42, _⟩ => ⟨S_, .f32⟩
  | .hbm, ⟨43, _⟩ => ⟨S65536x1, .f32⟩
  | .hbm, ⟨44, _⟩ => ⟨S65536x1, .f32⟩
  | .hbm, ⟨45, _⟩ => ⟨S65536x1, .f32⟩
  | .hbm, ⟨46, _⟩ => ⟨S65536x1024, .f32⟩
  | .hbm, ⟨47, _⟩ => ⟨S65536x1024, .f32⟩
  | .hbm, ⟨48, _⟩ => ⟨S1x1024, .f32⟩
  | .hbm, ⟨49, _⟩ => ⟨S65536x1024, .f32⟩
  | .hbm, ⟨50, _⟩ => ⟨S65536x1024, .f32⟩
  | .hbm, ⟨51, _⟩ => ⟨S_, .f32⟩
  | .hbm, ⟨52, _⟩ => ⟨S65536x1024, .f32⟩
  | .hbm, ⟨53, _⟩ => ⟨S65536x1024, .f32⟩
  | .hbm, ⟨54, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== Merge.lean ====
abbrev S65536x1024 : Shape := ⟨2, ![65536, 1024]⟩
abbrev S65536x512 : Shape := ⟨2, ![65536, 512]⟩
abbrev S32x256x512 : Shape := ⟨3, ![32, 256, 512]⟩
abbrev S1024 : Shape := ⟨1, ![1024]⟩
abbrev S1024x3072 : Shape := ⟨2, ![1024, 3072]⟩
abbrev S512x1024 : Shape := ⟨2, ![512, 1024]⟩
abbrev S1024x1024 : Shape := ⟨2, ![1024, 1024]⟩
abbrev S1x1024 : Shape := ⟨2, ![1, 1024]⟩
abbrev S1024x512 : Shape := ⟨2, ![1024, 512]⟩
abbrev S1x256x512 : Shape := ⟨3, ![1, 256, 512]⟩
abbrev S1024x1 : Shape := ⟨2, ![1024, 1]⟩
abbrev S1024x128 : Shape := ⟨2, ![1024, 128]⟩
abbrev S1x256x128 : Shape := ⟨3, ![1, 256, 128]⟩
abbrev S256x128 : Shape := ⟨2, ![256, 128]⟩
abbrev S1024x256 : Shape := ⟨2, ![1024, 256]⟩

abbrev nBuf : Space → Nat
  | .hbm => 21
  | .vmem => 21
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S65536x512, .bf16⟩
  | .hbm, ⟨4, _⟩ => ⟨S32x256x512, .bf16⟩
  | .hbm, ⟨5, _⟩ => ⟨S32x256x512, .bf16⟩
  | .hbm, ⟨6, _⟩ => ⟨S1024, .f32⟩
  | .hbm, ⟨7, _⟩ => ⟨S1024x3072, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S1024x1024, .f32⟩
  | .hbm, ⟨12, _⟩ => ⟨S1024, .f32⟩
  | .hbm, ⟨13, _⟩ => ⟨S1x1024, .f32⟩
  | .hbm, ⟨14, _⟩ => ⟨S1024x3072, .bf16⟩
  | .hbm, ⟨15, _⟩ => ⟨S512x1024, .bf16⟩
  | .hbm, ⟨16, _⟩ => ⟨S512x1024, .bf16⟩
  | .hbm, ⟨17, _⟩ => ⟨S512x1024, .bf16⟩
  | .hbm, ⟨18, _⟩ => ⟨S1024x1024, .bf16⟩
  | .hbm, ⟨19, _⟩ => ⟨S1x1024, .f32⟩
  | .hbm, ⟨20, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x1024, .f32⟩
  | .local _ .vmem, ⟨13, _⟩ => ⟨S1024x3072, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S1x1024, .f32⟩
  | .local _ .vmem, ⟨19, _⟩ => ⟨S1024x1024, .f32⟩
  | .local _ .vmem, ⟨20, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x3072 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MergeReferenceIdeal.lean ====
abbrev S65536x1024 : Shape := ⟨2, ![65536, 1024]⟩
abbrev S65536x512 : Shape := ⟨2, ![65536, 512]⟩
abbrev S32x256x512 : Shape := ⟨3, ![32, 256, 512]⟩
abbrev S1024 : Shape := ⟨1, ![1024]⟩
abbrev S1024x3072 : Shape := ⟨2, ![1024, 3072]⟩
abbrev S512x1024 : Shape := ⟨2, ![512, 1024]⟩
abbrev S1024x1024 : Shape := ⟨2, ![1024, 1024]⟩
abbrev S32x2048x4x128 : Shape := ⟨4, ![32, 2048, 4, 128]⟩
abbrev S32x256x4x128 : Shape := ⟨4, ![32, 256, 4, 128]⟩
abbrev S32x4x2048x256 : Shape := ⟨4, ![32, 4, 2048, 256]⟩
abbrev S_ : Shape := ⟨0, ![]⟩
abbrev S32x4x2048 : Shape := ⟨3, ![32, 4, 2048]⟩
abbrev S32x4x2048x1 : Shape := ⟨4, ![32, 4, 2048, 1]⟩
abbrev S32x4x128x2048 : Shape := ⟨4, ![32, 4, 128, 2048]⟩
abbrev S65536 : Shape := ⟨1, ![65536]⟩
abbrev S65536x1 : Shape := ⟨2, ![65536, 1]⟩
abbrev S1x1024 : Shape := ⟨2, ![1, 1024]⟩
abbrev S65536x3072 : Shape := ⟨2, ![65536, 3072]⟩
abbrev S65536x3x1024 : Shape := ⟨3, ![65536, 3, 1024]⟩
abbrev S65536x1x1024 : Shape := ⟨3, ![65536, 1, 1024]⟩

abbrev nBuf : Space → Nat
  | .hbm => 94
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S65536x512, .bf16⟩
  | .hbm, ⟨4, _⟩ => ⟨S32x256x512, .bf16⟩
  | .hbm, ⟨5, _⟩ => ⟨S32x256x512, .bf16⟩
  | .hbm, ⟨6, _⟩ => ⟨S1024, .f32⟩
  | .hbm, ⟨7, _⟩ => ⟨S1024x3072, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S1024x1024, .f32⟩
  | .hbm, ⟨12, _⟩ => ⟨S1024, .f32⟩
  | .hbm, ⟨13, _⟩ => ⟨S65536x512, .f32⟩
  | .hbm, ⟨14, _⟩ => ⟨S32x2048x4x128, .f32⟩
  | .hbm, ⟨15, _⟩ => ⟨S32x256x512, .f32⟩
  | .hbm, ⟨16, _⟩ => ⟨S32x256x4x128, .f32⟩
  | .hbm, ⟨17, _⟩ => ⟨S32x256x512, .f32⟩
  | .hbm, ⟨18, _⟩ => ⟨S32x256x4x128, .f32⟩
  | .hbm, ⟨19, _⟩ => ⟨S32x4x2048x256, .f32⟩
  | .hbm, ⟨20, _⟩ => ⟨S_, .f32⟩
  | .hbm, ⟨21, _⟩ => ⟨S32x4x2048, .f32⟩
  | .hbm, ⟨22, _⟩ => ⟨S32x4x2048x1, .f32⟩
  | .hbm, ⟨23, _⟩ => ⟨S32x4x2048x256, .f32⟩
  | .hbm, ⟨24, _⟩ => ⟨S32x4x2048x256, .f32⟩
  | .hbm, ⟨25, _⟩ => ⟨S32x4x2048x256, .f32⟩
  | .hbm, ⟨26, _⟩ => ⟨S_, .f32⟩
  | .hbm, ⟨27, _⟩ => ⟨S32x4x2048, .f32⟩
  | .hbm, ⟨28, _⟩ => ⟨S32x4x2048x1, .f32⟩
  | .hbm, ⟨29, _⟩ => ⟨S32x4x2048x256, .f32⟩
  | .hbm, ⟨30, _⟩ => ⟨S32x4x2048x256, .f32⟩
  | .hbm, ⟨31, _⟩ => ⟨S32x4x128x2048, .f32⟩
  | .hbm, ⟨32, _⟩ => ⟨S32x2048x4x128, .f32⟩
  | .hbm, ⟨33, _⟩ => ⟨S65536x512, .f32⟩
  | .hbm, ⟨34, _⟩ => ⟨S65536x1024, .f32⟩
  | .hbm, ⟨35, _⟩ => ⟨S_, .f32⟩
  | .hbm, ⟨36, _⟩ => ⟨S65536, .f32⟩
  | .hbm, ⟨37, _⟩ => ⟨S65536x1, .f32⟩
  | .hbm, ⟨38, _⟩ => ⟨S_, .f32⟩
  | .hbm, ⟨39, _⟩ => ⟨S65536x1, .f32⟩
  | .hbm, ⟨40, _⟩ => ⟨S65536x1, .f32⟩
  | .hbm, ⟨41, _⟩ => ⟨S_, .f32⟩
  | .hbm, ⟨42, _⟩ => ⟨S65536x1, .f32⟩
  | .hbm, ⟨43, _⟩ => ⟨S65536x1, .f32⟩
  | .hbm, ⟨44, _⟩ => ⟨S65536x1, .f32⟩
  | .hbm, ⟨45, _⟩ => ⟨S65536x1024, .f32⟩
  | .hbm, ⟨46, _⟩ => ⟨S65536x1024, .f32⟩
  | .hbm, ⟨47, _⟩ => ⟨S1x1024, .f32⟩
  | .hbm, ⟨48, _⟩ => ⟨S65536x1024, .f32⟩
  | .hbm, ⟨49, _⟩ => ⟨S65536x1024, .f32⟩
  | .hbm, ⟨50, _⟩ => ⟨S65536x3072, .f32⟩
  | .hbm, ⟨51, _⟩ => ⟨S65536x3072, .f32⟩
  | .hbm, ⟨52, _⟩ => ⟨S65536x3072, .f32⟩
  | .hbm, ⟨53, _⟩ => ⟨S_, .f32⟩
  | .hbm, ⟨54, _⟩ => ⟨S65536x3072, .f32⟩
  | .hbm, ⟨55, _⟩ => ⟨S65536x3072, .f32⟩
  | .hbm, ⟨56, _⟩ => ⟨S_, .f32⟩
  | .hbm, ⟨57, _⟩ => ⟨S65536x3072, .f32⟩
  | .hbm, ⟨58, _⟩ => ⟨S65536x3072, .f32⟩
  | .hbm, ⟨59, _⟩ => ⟨S65536x3x1024, .f32⟩
  | .hbm, ⟨60, _⟩ => ⟨S65536x1x1024, .f32⟩
  | .hbm, ⟨61, _⟩ => ⟨S65536x1024, .f32⟩
  | .hbm, ⟨62, _⟩ => ⟨S65536x512, .f32⟩
  | .hbm, ⟨63, _⟩ => ⟨S65536x1024, .f32⟩
  | .hbm, ⟨64, _⟩ => ⟨S65536x1024, .f32⟩
  | .hbm, ⟨65, _⟩ => ⟨S65536x1x1024, .f32⟩
  | .hbm, ⟨66, _⟩ => ⟨S65536x1024, .f32⟩
  | .hbm, ⟨67, _⟩ => ⟨S65536x512, .f32⟩
  | .hbm, ⟨68, _⟩ => ⟨S65536x1024, .f32⟩
  | .hbm, ⟨69, _⟩ => ⟨S65536x1024, .f32⟩
  | .hbm, ⟨70, _⟩ => ⟨S65536x1024, .f32⟩
  | .hbm, ⟨71, _⟩ => ⟨S65536x1x1024, .f32⟩
  | .hbm, ⟨72, _⟩ => ⟨S65536x1024, .f32⟩
  | .hbm, ⟨73, _⟩ => ⟨S65536x1024, .f32⟩
  | .hbm, ⟨74, _⟩ => ⟨S65536x1024, .f32⟩
  | .hbm, ⟨75, _⟩ => ⟨S65536x1024, .f32⟩
  | .hbm, ⟨76, _⟩ => ⟨S65536x1024, .f32⟩
  | .hbm, ⟨77, _⟩ => ⟨S65536x1024, .f32⟩
  | .hbm, ⟨78, _⟩ => ⟨S_, .f32⟩
  | .hbm, ⟨79, _⟩ => ⟨S65536, .f32⟩
  | .hbm, ⟨80, _⟩ => ⟨S65536x1, .f32⟩
  | .hbm, ⟨81, _⟩ => ⟨S_, .f32⟩
  | .hbm, ⟨82, _⟩ => ⟨S65536x1, .f32⟩
  | .hbm, ⟨83, _⟩ => ⟨S65536x1, .f32⟩
  | .hbm, ⟨84, _⟩ => ⟨S_, .f32⟩
  | .hbm, ⟨85, _⟩ => ⟨S65536x1, .f32⟩
  | .hbm, ⟨86, _⟩ => ⟨S65536x1, .f32⟩
  | .hbm, ⟨87, _⟩ => ⟨S65536x1, .f32⟩
  | .hbm, ⟨88, _⟩ => ⟨S65536x1024, .f32⟩
  | .hbm, ⟨89, _⟩ => ⟨S65536x1024, .f32⟩
  | .hbm, ⟨90, _⟩ => ⟨S1x1024, .f32⟩
  | .hbm, ⟨91, _⟩ => ⟨S65536x1024, .f32⟩
  | .hbm, ⟨92, _⟩ => ⟨S65536x1024, .f32⟩
  | .hbm, ⟨93, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_4 : Ref sig .tc := ⟨.hbm, 53, rfl⟩
abbrev main_v35 : Ref sig .tc := ⟨.hbm, 54, rfl⟩
abbrev main_v36 : Ref sig .tc := ⟨.hbm, 55, rfl⟩
abbrev main_cst_5 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_6 : Ref sig .tc := ⟨.hbm, 78, rfl⟩
abbrev main_v58 : Ref sig .tc := ⟨.hbm, 79, rfl⟩
abbrev main_v59 : Ref sig .tc := ⟨.hbm, 80, rfl⟩
abbrev main_cst_7 : Ref sig .tc := ⟨.hbm, 81, rfl⟩
abbrev main_v60 : Ref sig .tc := ⟨.hbm, 82, rfl⟩
abbrev main_v61 : Ref sig .tc := ⟨.hbm, 83, rfl⟩
abbrev main_cst_8 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩

abbrev nD : Nat := 1
abbrev τ : Topo := Topo.v7x

variable {F : FTy → Type} [FloatOps F]
-- ==== Proj.lean ====
abbrev S65536x1024 : Shape := ⟨2, ![65536, 1024]⟩
abbrev S1024 : Shape := ⟨1, ![1024]⟩
abbrev S1024x3872 : Shape := ⟨2, ![1024, 3872]⟩
abbrev S1024x768 : Shape := ⟨2, ![1024, 768]⟩
abbrev S1024x6x2x64 : Shape := ⟨4, ![1024, 6, 2, 64]⟩
abbrev S1024x4x2x64 : Shape := ⟨4, ![1024, 4, 2, 64]⟩
abbrev S1024x2x4x64 : Shape := ⟨4, ![1024, 2, 4, 64]⟩
abbrev S1024x512 : Shape := ⟨2, ![1024, 512]⟩
abbrev S1024x24 : Shape := ⟨2, ![1024, 24]⟩
abbrev S1024x8 : Shape := ⟨2, ![1024, 8]⟩
abbrev S_ : Shape := ⟨0, ![]⟩
abbrev S1024x96 : Shape := ⟨2, ![1024, 96]⟩
abbrev S1024x128 : Shape := ⟨2, ![1024, 128]⟩
abbrev S1024x1x2x64 : Shape := ⟨4, ![1024, 1, 2, 64]⟩
abbrev S1024x2x64 : Shape := ⟨3, ![1024, 2, 64]⟩
abbrev S1024x1536 : Shape := ⟨2, ![1024, 1536]⟩
abbrev S1024x3968 : Shape := ⟨2, ![1024, 3968]⟩
abbrev S1x1024 : Shape := ⟨2, ![1, 1024]⟩
abbrev S65536x512 : Shape := ⟨2, ![65536, 512]⟩
abbrev S65536x128 : Shape := ⟨2, ![65536, 128]⟩
abbrev S65536x1536 : Shape := ⟨2, ![65536, 1536]⟩
abbrev S1024x1024 : Shape := ⟨2, ![1024, 1024]⟩
abbrev S1024x1 : Shape := ⟨2, ![1024, 1]⟩

abbrev nBuf : Space → Nat
  | .hbm => 34
  | .vmem => 20
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x3872, .f32⟩
  | .hbm, ⟨3, _⟩ => ⟨S1024x768, .f32⟩
  | .hbm, ⟨4, _⟩ => ⟨S1024x6x2x64, .f32⟩
  | .hbm, ⟨5, _⟩ => ⟨S1024x4x2x64, .f32⟩
  | .hbm, ⟨6, _⟩ => ⟨S1024x2x4x64, .f32⟩
  | .hbm, ⟨7, _⟩ => ⟨S1024x512, .f32⟩
  | .hbm, ⟨8, _⟩ => ⟨S1024x24, .f32⟩
  | .hbm, ⟨9, _⟩ => ⟨S1024x8, .f32⟩
  | .hbm, ⟨10, _⟩ => ⟨S_, .f32⟩
  | .hbm, ⟨11, _⟩ => ⟨S1024x96, .f32⟩
  | .hbm, ⟨12, _⟩ => ⟨S1024x128, .f32⟩
  | .hbm, ⟨13, _⟩ => ⟨S1024x512, .f32⟩
  | .hbm, ⟨14, _⟩ => ⟨S1024x1x2x64, .f32⟩
  | .hbm, ⟨15, _⟩ => ⟨S1024x2x64, .f32⟩
  | .hbm, ⟨16, _⟩ => ⟨S1024x128, .f32⟩
  | .hbm, ⟨17, _⟩ => ⟨S1024x1x2x64, .f32⟩
  | .hbm, ⟨18, _⟩ => ⟨S1024x2x64, .f32⟩
  | .hbm, ⟨19, _⟩ => ⟨S1024x128, .f32⟩
  | .hbm, ⟨20, _⟩ => ⟨S1024x1536, .f32⟩
  | .hbm, ⟨21, _⟩ => ⟨S1024x512, .f32⟩
  | .hbm, ⟨22, _⟩ => ⟨S1024x512, .f32⟩
  | .hbm, ⟨23, _⟩ => ⟨S1024x3968, .f32⟩
  | .hbm, ⟨24, _⟩ => ⟨S1024x3968, .bf16⟩
  | .hbm, ⟨25, _⟩ => ⟨S1x1024, .f32⟩
  | .hbm, ⟨26, _⟩ => ⟨S65536x512, .bf16⟩
  | .hbm, ⟨27, _⟩ => ⟨S65536x128, .bf16⟩
  | .hbm, ⟨28, _⟩ => ⟨S65536x128, .bf16⟩
  | .hbm, ⟨29, _⟩ => ⟨S65536x512, .bf16⟩
  | .hbm, ⟨30, _⟩ => ⟨S65536x1536, .bf16⟩
  | .hbm, ⟨31, _⟩ => ⟨S65536x512, .bf16⟩
  | .hbm, ⟨32, _⟩ => ⟨S65536x512, .bf16⟩
  | .hbm, ⟨33, _⟩ => ⟨S65536x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3968, .bf16⟩
  | .local _ .vmem, ⟨4, _⟩ => ⟨S1024x512, .bf16⟩
  | .local _ .vmem, ⟨5, _⟩ => ⟨S1024x512, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S1024x512, .bf16⟩
  | .local _ .vmem, ⟨11, _⟩ => ⟨S1024x512, .bf16⟩
  | .local _ .vmem, ⟨12, _⟩ => ⟨S1024x1536, .bf16⟩
  | .local _ .vmem, ⟨13, _⟩ => ⟨S1024x1536, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x128, .f32⟩
  | .local _ .vmem, ⟨19, _⟩ => ⟨S1024x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22_0 : Ref sig .tc := ⟨.hbm, 26, rfl⟩
abbrev main_v22_1 : Ref sig .tc := ⟨.hbm, 27, rfl⟩
abbrev main_v22_2 : Ref sig .tc := ⟨.hbm, 28, rfl⟩
abbrev main_v22_3 : Ref sig .tc := ⟨.hbm, 29, rfl⟩
abbrev main_v22_4 : Ref sig .tc := ⟨.hbm, 30, rfl⟩
abbrev main_v22_5 : Ref sig .tc := ⟨.hbm, 31, rfl⟩
abbrev main_v22_6 : Ref sig .tc := ⟨.hbm, 32, rfl⟩
abbrev main_v22_7 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3968 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ProjReferenceIdeal.lean ====
abbrev S65536x1024 : Shape := ⟨2, ![65536, 1024]⟩
abbrev S1024 : Shape := ⟨1, ![1024]⟩
abbrev S1024x3872 : Shape := ⟨2, ![1024, 3872]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x3872 : Shape := ⟨2, ![65536, 3872]⟩
abbrev S65536x512 : Shape := ⟨2, ![65536, 512]⟩
abbrev S65536x768 : Shape := ⟨2, ![65536, 768]⟩
abbrev S65536x24 : Shape := ⟨2, ![65536, 24]⟩
abbrev S65536x1536 : Shape := ⟨2, ![65536, 1536]⟩
abbrev S65536x4 : Shape := ⟨2, ![65536, 4]⟩
abbrev S65536x6x2x64 : Shape := ⟨4, ![65536, 6, 2, 64]⟩
abbrev S65536x4x2x64 : Shape := ⟨4, ![65536, 4, 2, 64]⟩
abbrev S65536x2x4x64 : Shape := ⟨4, ![65536, 2, 4, 64]⟩
abbrev S65536x96 : Shape := ⟨2, ![65536, 96]⟩
abbrev S65536x128 : Shape := ⟨2, ![65536, 128]⟩
abbrev S65536x1x2x64 : Shape := ⟨4, ![65536, 1, 2, 64]⟩
abbrev S65536x2x64 : Shape := ⟨3, ![65536, 2, 64]⟩

abbrev nBuf : Space → Nat
  | .hbm => 54
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x3872, .f32⟩
  | .hbm, ⟨3, _⟩ => ⟨S65536x1024, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S65536x1, .f32⟩
  | .hbm, ⟨14, _⟩ => ⟨S65536x1024, .f32⟩
  | .hbm, ⟨15, _⟩ => ⟨S65536x1024, .f32⟩
  | .hbm, ⟨16, _⟩ => ⟨S1x1024, .f32⟩
  | .hbm, ⟨17, _⟩ => ⟨S65536x1024, .f32⟩
  | .hbm, ⟨18, _⟩ => ⟨S65536x1024, .f32⟩
  | .hbm, ⟨19, _⟩ => ⟨S65536x3872, .f32⟩
  | .hbm, ⟨20, _⟩ => ⟨S65536x512, .f32⟩
  | .hbm, ⟨21, _⟩ => ⟨S65536x768, .f32⟩
  | .hbm, ⟨22, _⟩ => ⟨S65536x24, .f32⟩
  | .hbm, ⟨23, _⟩ => ⟨S65536x1536, .f32⟩
  | .hbm, ⟨24, _⟩ => ⟨S65536x4, .f32⟩
  | .hbm, ⟨25, _⟩ => ⟨S65536x4, .f32⟩
  | .hbm, ⟨26, _⟩ => ⟨S65536x512, .f32⟩
  | .hbm, ⟨27, _⟩ => ⟨S65536x512, .f32⟩
  | .hbm, ⟨28, _⟩ => ⟨S65536x6x2x64, .f32⟩
  | .hbm, ⟨29, _⟩ => ⟨S65536x4x2x64, .f32⟩
  | .hbm, ⟨30, _⟩ => ⟨S65536x2x4x64, .f32⟩
  | .hbm, ⟨31, _⟩ => ⟨S65536x512, .f32⟩
  | .hbm, ⟨32, _⟩ => ⟨S_, .f32⟩
  | .hbm, ⟨33, _⟩ => ⟨S65536x96, .f32⟩
  | .hbm, ⟨34, _⟩ => ⟨S65536x128, .f32⟩
  | .hbm, ⟨35, _⟩ => ⟨S_, .f32⟩
  | .hbm, ⟨36, _⟩ => ⟨S65536x512, .f32⟩
  | .hbm, ⟨37, _⟩ => ⟨S65536x512, .f32⟩
  | .hbm, ⟨38, _⟩ => ⟨S65536x512, .bf16⟩
  | .hbm, ⟨39, _⟩ => ⟨S65536x1x2x64, .f32⟩
  | .hbm, ⟨40, _⟩ => ⟨S65536x2x64, .f32⟩
  | .hbm, ⟨41, _⟩ => ⟨S65536x128, .f32⟩
  | .hbm, ⟨42, _⟩ => ⟨S65536x128, .bf16⟩
  | .hbm, ⟨43, _⟩ => ⟨S65536x1x2x64, .f32⟩
  | .hbm, ⟨44, _⟩ => ⟨S65536x2x64, .f32⟩
  | .hbm, ⟨45, _⟩ => ⟨S65536x128, .f32⟩
  | .hbm, ⟨46, _⟩ => ⟨S65536x128, .bf16⟩
  | .hbm, ⟨47, _⟩ => ⟨S65536x512, .bf16⟩
  | .hbm, ⟨48, _⟩ => ⟨S65536x1536, .bf16⟩
  | .hbm, ⟨49, _⟩ => ⟨S65536x512, .bf16⟩
  | .hbm, ⟨50, _⟩ => ⟨S_, .f32⟩
  | .hbm, ⟨51, _⟩ => ⟨S65536x512, .f32⟩
  | .hbm, ⟨52, _⟩ => ⟨S65536x512, .f32⟩
  | .hbm, ⟨53, _⟩ => ⟨S65536x512, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_4 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩

abbrev nD : Nat := 1
abbrev τ : Topo := Topo.v7x

variable {F : FTy → Type} [FloatOps F]
-- ==== Memkv.lean ====
abbrev S32x256x1024 : Shape := ⟨3, ![32, 256, 1024]⟩
abbrev S1024 : Shape := ⟨1, ![1024]⟩
abbrev S1024x1024 : Shape := ⟨2, ![1024, 1024]⟩
abbrev S1x1024 : Shape := ⟨2, ![1, 1024]⟩
abbrev S32x256x512 : Shape := ⟨3, ![32, 256, 512]⟩
abbrev S1x256x1024 : Shape := ⟨3, ![1, 256, 1024]⟩
abbrev S1x256x512 : Shape := ⟨3, ![1, 256, 512]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩

abbrev nBuf : Space → Nat
  | .hbm => 7
  | .vmem => 8
  | .smem => 0
  | _ => 0

abbrev bufTy : (tb : Table) → Fin (tcTables nBuf tb) → BufTy
  | .hbm, ⟨0, _⟩ => ⟨S32x256x1024, .f32⟩
  | .hbm, ⟨1, _⟩ => ⟨S1024, .f32⟩
  | .hbm, ⟨2, _⟩ => ⟨S1024x1024, .f32⟩
  | .hbm, ⟨3, _⟩ => ⟨S1x1024, .f32⟩
  | .hbm, ⟨4, _⟩ => ⟨S1024x1024, .bf16⟩
  | .hbm, ⟨5, _⟩ => ⟨S32x256x512, .bf16⟩
  | .hbm, ⟨6, _⟩ => ⟨S32x256x512, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x1024, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MemkvReferenceIdeal.lean ====
abbrev S32x256x1024 : Shape := ⟨3, ![32, 256, 1024]⟩
abbrev S1024 : Shape := ⟨1, ![1024]⟩
abbrev S1024x1024 : Shape := ⟨2, ![1024, 1024]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S32x256x512 : Shape := ⟨3, ![32, 256, 512]⟩

abbrev nBuf : Space → Nat
  | .hbm => 24
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S1024, .f32⟩
  | .hbm, ⟨2, _⟩ => ⟨S1024x1024, .f32⟩
  | .hbm, ⟨3, _⟩ => ⟨S32x256x1024, .f32⟩
  | .hbm, ⟨4, _⟩ => ⟨S_, .f32⟩
  | .hbm, ⟨5, _⟩ => ⟨S32x256, .f32⟩
  | .hbm, ⟨6, _⟩ => ⟨S32x256x1, .f32⟩
  | .hbm, ⟨7, _⟩ => ⟨S_, .f32⟩
  | .hbm, ⟨8, _⟩ => ⟨S32x256x1, .f32⟩
  | .hbm, ⟨9, _⟩ => ⟨S32x256x1, .f32⟩
  | .hbm, ⟨10, _⟩ => ⟨S_, .f32⟩
  | .hbm, ⟨11, _⟩ => ⟨S32x256x1, .f32⟩
  | .hbm, ⟨12, _⟩ => ⟨S32x256x1, .f32⟩
  | .hbm, ⟨13, _⟩ => ⟨S32x256x1, .f32⟩
  | .hbm, ⟨14, _⟩ => ⟨S32x256x1024, .f32⟩
  | .hbm, ⟨15, _⟩ => ⟨S32x256x1024, .f32⟩
  | .hbm, ⟨16, _⟩ => ⟨S1x1x1024, .f32⟩
  | .hbm, ⟨17, _⟩ => ⟨S32x256x1024, .f32⟩
  | .hbm, ⟨18, _⟩ => ⟨S32x256x1024, .f32⟩
  | .hbm, ⟨19, _⟩ => ⟨S32x256x1024, .f32⟩
  | .hbm, ⟨20, _⟩ => ⟨S32x256x512, .f32⟩
  | .hbm, ⟨21, _⟩ => ⟨S32x256x512, .bf16⟩
  | .hbm, ⟨22, _⟩ => ⟨S32x256x512, .f32⟩
  | .hbm, ⟨23, _⟩ => ⟨S32x256x512, .bf16⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Cmp.lean ====
abbrev S65536x128 : Shape := ⟨2, ![65536, 128]⟩
abbrev S32x64 : Shape := ⟨2, ![32, 64]⟩
abbrev S2048x256 : Shape := ⟨2, ![2048, 256]⟩
abbrev S256x64 : Shape := ⟨2, ![256, 64]⟩
abbrev S2x16x64x256 : Shape := ⟨4, ![2, 16, 64, 256]⟩
abbrev S2x2 : Shape := ⟨2, ![2, 2]⟩
abbrev S_ : Shape := ⟨0, ![]⟩
abbrev S2x16x1x64x1x256 : Shape := ⟨6, ![2, 16, 1, 64, 1, 256]⟩
abbrev S1x1x2x1x2x1 : Shape := ⟨6, ![1, 1, 2, 1, 2, 1]⟩
abbrev S2x16x2x64x2x256 : Shape := ⟨6, ![2, 16, 2, 64, 2, 256]⟩
abbrev S2x2048x512 : Shape := ⟨3, ![2, 2048, 512]⟩
abbrev S1x256x1x64 : Shape := ⟨4, ![1, 256, 1, 64]⟩
abbrev S2x1x2x1 : Shape := ⟨4, ![2, 1, 2, 1]⟩
abbrev S2x256x2x64 : Shape := ⟨4, ![2, 256, 2, 64]⟩
abbrev S512x128 : Shape := ⟨2, ![512, 128]⟩
abbrev S2x16x1x64 : Shape := ⟨4, ![2, 16, 1, 64]⟩
abbrev S2x16x2x64 : Shape := ⟨4, ![2, 16, 2, 64]⟩
abbrev S2x2048 : Shape := ⟨2, ![2, 2048]⟩
abbrev S32x128x2048 : Shape := ⟨3, ![32, 128, 2048]⟩
abbrev S32x2x128x64 : Shape := ⟨4, ![32, 2, 128, 64]⟩
abbrev S1x128x2048 : Shape := ⟨3, ![1, 128, 2048]⟩
abbrev S1x2x128x64 : Shape := ⟨4, ![1, 2, 128, 64]⟩
abbrev S128x2048 : Shape := ⟨2, ![128, 2048]⟩
abbrev S1x2048 : Shape := ⟨2, ![1, 2048]⟩
abbrev S1x2048x512 : Shape := ⟨3, ![1, 2048, 512]⟩
abbrev S2048x512 : Shape := ⟨2, ![2048, 512]⟩
abbrev S128x512 : Shape := ⟨2, ![128, 512]⟩
abbrev S128x128 : Shape := ⟨2, ![128, 128]⟩
abbrev S128x64 : Shape := ⟨2, ![128, 64]⟩
abbrev S1x1x128x64 : Shape := ⟨4, ![1, 1, 128, 64]⟩

abbrev nBuf : Space → Nat
  | .hbm => 62
  | .vmem => 14
  | .smem => 0
  | _ => 0

abbrev bufTy : (tb : Table) → Fin (tcTables nBuf tb) → BufTy
  | .hbm, ⟨0, _⟩ => ⟨S65536x128, .bf16⟩
  | .hbm, ⟨1, _⟩ => ⟨S65536x128, .bf16⟩
  | .hbm, ⟨2, _⟩ => ⟨S32x64, .f32⟩
  | .hbm, ⟨3, _⟩ => ⟨S32x64, .f32⟩
  | .hbm, ⟨4, _⟩ => ⟨S2048x256, .f32⟩
  | .hbm, ⟨5, _⟩ => ⟨S256x64, .f32⟩
  | .hbm, ⟨6, _⟩ => ⟨S2048x256, .f32⟩
  | .hbm, ⟨7, _⟩ => ⟨S256x64, .f32⟩
  | .hbm, ⟨8, _⟩ => ⟨S2x16x64x256, .f32⟩
  | .hbm, ⟨9, _⟩ => ⟨S2x2, .i32⟩
  | .hbm, ⟨10, _⟩ => ⟨S2x2, .i32⟩
  | .hbm, ⟨11, _⟩ => ⟨S_, .i32⟩
  | .hbm, ⟨12, _⟩ => ⟨S2x2, .i32⟩
  | .hbm, ⟨13, _⟩ => ⟨S2x2, .i32⟩
  | .hbm, ⟨14, _⟩ => ⟨S2x2, .i1⟩
  | .hbm, ⟨15, _⟩ => ⟨S2x2, .f32⟩
  | .hbm, ⟨16, _⟩ => ⟨S2x16x1x64x1x256, .f32⟩
  | .hbm, ⟨17, _⟩ => ⟨S1x1x2x1x2x1, .f32⟩
  | .hbm, ⟨18, _⟩ => ⟨S2x16x2x64x2x256, .f32⟩
  | .hbm, ⟨19, _⟩ => ⟨S2x16x2x64x2x256, .f32⟩
  | .hbm, ⟨20, _⟩ => ⟨S2x16x2x64x2x256, .f32⟩
  | .hbm, ⟨21, _⟩ => ⟨S2x2048x512, .f32⟩
  | .hbm, ⟨22, _⟩ => ⟨S2x2048x512, .bf16⟩
  | .hbm, ⟨23, _⟩ => ⟨S1x256x1x64, .f32⟩
  | .hbm, ⟨24, _⟩ => ⟨S2x1x2x1, .f32⟩
  | .hbm, ⟨25, _⟩ => ⟨S2x256x2x64, .f32⟩
  | .hbm, ⟨26, _⟩ => ⟨S2x256x2x64, .f32⟩
  | .hbm, ⟨27, _⟩ => ⟨S2x256x2x64, .f32⟩
  | .hbm, ⟨28, _⟩ => ⟨S512x128, .f32⟩
  | .hbm, ⟨29, _⟩ => ⟨S512x128, .bf16⟩
  | .hbm, ⟨30, _⟩ => ⟨S2x16x1x64, .f32⟩
  | .hbm, ⟨31, _⟩ => ⟨S2x16x2x64, .f32⟩
  | .hbm, ⟨32, _⟩ => ⟨S2x2048, .f32⟩
  | .hbm, ⟨33, _⟩ => ⟨S2x16x64x256, .f32⟩
  | .hbm, ⟨34, _⟩ => ⟨S2x2, .i32⟩
  | .hbm, ⟨35, _⟩ => ⟨S2x2, .i32⟩
  | .hbm, ⟨36, _⟩ => ⟨S_, .i32⟩
  | .hbm, ⟨37, _⟩ => ⟨S2x2, .i32⟩
  | .hbm, ⟨38, _⟩ => ⟨S2x2, .i32⟩
  | .hbm, ⟨39, _⟩ => ⟨S2x2, .i1⟩
  | .hbm, ⟨40, _⟩ => ⟨S2x2, .f32⟩
  | .hbm, ⟨41, _⟩ => ⟨S2x16x1x64x1x256, .f32⟩
  | .hbm, ⟨42, _⟩ => ⟨S1x1x2x1x2x1, .f32⟩
  | .hbm, ⟨43, _⟩ => ⟨S2x16x2x64x2x256, .f32⟩
  | .hbm, ⟨44, _⟩ => ⟨S2x16x2x64x2x256, .f32⟩
  | .hbm, ⟨45, _⟩ => ⟨S2x16x2x64x2x256, .f32⟩
  | .hbm, ⟨46, _⟩ => ⟨S2x2048x512, .f32⟩
  | .hbm, ⟨47, _⟩ => ⟨S2x2048x512, .bf16⟩
  | .hbm, ⟨48, _⟩ => ⟨S1x256x1x64, .f32⟩
  | .hbm, ⟨49, _⟩ => ⟨S2x1x2x1, .f32⟩
  | .hbm, ⟨50, _⟩ => ⟨S2x256x2x64, .f32⟩
  | .hbm, ⟨51, _⟩ => ⟨S2x256x2x64, .f32⟩
  | .hbm, ⟨52, _⟩ => ⟨S2x256x2x64, .f32⟩
  | .hbm, ⟨53, _⟩ => ⟨S512x128, .f32⟩
  | .hbm, ⟨54, _⟩ => ⟨S512x128, .bf16⟩
  | .hbm, ⟨55, _⟩ => ⟨S2x16x1x64, .f32⟩
  | .hbm, ⟨56, _⟩ => ⟨S2x16x2x64, .f32⟩
  | .hbm, ⟨57, _⟩ => ⟨S2x2048, .f32⟩
  | .hbm, ⟨58, _⟩ => ⟨S32x128x2048, .bf16⟩
  | .hbm, ⟨59, _⟩ => ⟨S32x128x2048, .bf16⟩
  | .hbm, ⟨60, _⟩ => ⟨S32x2x128x64, .bf16⟩
  | .hbm, ⟨61, _⟩ => ⟨S32x2x128x64, .bf16⟩
  | .local _ .vmem, ⟨0, _⟩ => ⟨S1x128x2048, .bf16⟩
  | .local _ .vmem, ⟨1, _⟩ => ⟨S1x128x2048, .bf16⟩
  | .local _ .vmem, ⟨2, _⟩ => ⟨S1x128x2048, .bf16⟩
  | .local _ .vmem, ⟨3, _⟩ => ⟨S1x128x2048, .bf16⟩
  | .local _ .vmem, ⟨4, _⟩ => ⟨S2x2048, .f32⟩
  | .local _ .vmem, ⟨5, _⟩ => ⟨S2x2048, .f32⟩
  | .local _ .vmem, ⟨6, _⟩ => ⟨S2x2048x512, .bf16⟩
  | .local _ .vmem, ⟨7, _⟩ => ⟨S2x2048x512, .bf16⟩
  | .local _ .vmem, ⟨8, _⟩ => ⟨S512x128, .bf16⟩
  | .local _ .vmem, ⟨9, _⟩ => ⟨S512x128, .bf16⟩
  | .local _ .vmem, ⟨10, _⟩ => ⟨S1x2x128x64, .bf16⟩
  | .local _ .vmem, ⟨11, _⟩ => ⟨S1x2x128x64, .bf16⟩
  | .local _ .vmem, ⟨12, _⟩ => ⟨S1x2x128x64, .bf16⟩
  | .local _ .vmem, ⟨13, _⟩ => ⟨S1x2x128x64, .bf16⟩
  | _, _ => ⟨S65536x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_0 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50_0 : Ref sig .tc := ⟨.hbm, 60, rfl⟩
abbrev main_v50_1 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x2x128x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2x128x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== CmpReferenceIdeal.lean ====
abbrev S65536x128 : Shape := ⟨2, ![65536, 128]⟩
abbrev S32x64 : Shape := ⟨2, ![32, 64]⟩
abbrev S2048x256 : Shape := ⟨2, ![2048, 256]⟩
abbrev S256x64 : Shape := ⟨2, ![256, 64]⟩
abbrev S32x128x16x2x64 : Shape := ⟨5, ![32, 128, 16, 2, 64]⟩
abbrev S32x127x16x2x64 : Shape := ⟨5, ![32, 127, 16, 2, 64]⟩
abbrev S32x1x16x2x64 : Shape := ⟨5, ![32, 1, 16, 2, 64]⟩
abbrev S32x128x32x2x64 : Shape := ⟨5, ![32, 128, 32, 2, 64]⟩
abbrev S32x1x64 : Shape := ⟨3, ![32, 1, 64]⟩
abbrev S1x1x32x1x64 : Shape := ⟨5, ![1, 1, 32, 1, 64]⟩
abbrev S32x128x2x32x64 : Shape := ⟨5, ![32, 128, 2, 32, 64]⟩
abbrev S32x128x2x2048 : Shape := ⟨4, ![32, 128, 2, 2048]⟩
abbrev S32x128x2x256 : Shape := ⟨4, ![32, 128, 2, 256]⟩
abbrev S_ : Shape := ⟨0, ![]⟩
abbrev S32x128x2x64 : Shape := ⟨4, ![32, 128, 2, 64]⟩
abbrev S32x2x128x64 : Shape := ⟨4, ![32, 2, 128, 64]⟩

abbrev nBuf : Space → Nat
  | .hbm => 58
  | .vmem => 0
  | .smem => 0
  | _ => 0

abbrev bufTy : (tb : Table) → Fin (tcTables nBuf tb) → BufTy
  | .hbm, ⟨0, _⟩ => ⟨S65536x128, .bf16⟩
  | .hbm, ⟨1, _⟩ => ⟨S65536x128, .bf16⟩
  | .hbm, ⟨2, _⟩ => ⟨S32x64, .f32⟩
  | .hbm, ⟨3, _⟩ => ⟨S32x64, .f32⟩
  | .hbm, ⟨4, _⟩ => ⟨S2048x256, .f32⟩
  | .hbm, ⟨5, _⟩ => ⟨S256x64, .f32⟩
  | .hbm, ⟨6, _⟩ => ⟨S2048x256, .f32⟩
  | .hbm, ⟨7, _⟩ => ⟨S256x64, .f32⟩
  | .hbm, ⟨8, _⟩ => ⟨S65536x128, .f32⟩
  | .hbm, ⟨9, _⟩ => ⟨S32x128x16x2x64, .f32⟩
  | .hbm, ⟨10, _⟩ => ⟨S32x127x16x2x64, .f32⟩
  | .hbm, ⟨11, _⟩ => ⟨S32x1x16x2x64, .f32⟩
  | .hbm, ⟨12, _⟩ => ⟨S32x128x16x2x64, .f32⟩
  | .hbm, ⟨13, _⟩ => ⟨S32x128x32x2x64, .f32⟩
  | .hbm, ⟨14, _⟩ => ⟨S32x1x64, .f32⟩
  | .hbm, ⟨15, _⟩ => ⟨S1x1x32x1x64, .f32⟩
  | .hbm, ⟨16, _⟩ => ⟨S32x128x32x2x64, .f32⟩
  | .hbm, ⟨17, _⟩ => ⟨S32x128x32x2x64, .f32⟩
  | .hbm, ⟨18, _⟩ => ⟨S32x128x2x32x64, .f32⟩
  | .hbm, ⟨19, _⟩ => ⟨S32x128x2x2048, .f32⟩
  | .hbm, ⟨20, _⟩ => ⟨S32x128x2x256, .f32⟩
  | .hbm, ⟨21, _⟩ => ⟨S32x128x2x256, .f32⟩
  | .hbm, ⟨22, _⟩ => ⟨S32x128x2x256, .f32⟩
  | .hbm, ⟨23, _⟩ => ⟨S_, .f32⟩
  | .hbm, ⟨24, _⟩ => ⟨S32x128x2x256, .f32⟩
  | .hbm, ⟨25, _⟩ => ⟨S32x128x2x256, .f32⟩
  | .hbm, ⟨26, _⟩ => ⟨S_, .f32⟩
  | .hbm, ⟨27, _⟩ => ⟨S32x128x2x256, .f32⟩
  | .hbm, ⟨28, _⟩ => ⟨S32x128x2x256, .f32⟩
  | .hbm, ⟨29, _⟩ => ⟨S32x128x2x256, .f32⟩
  | .hbm, ⟨30, _⟩ => ⟨S32x128x2x64, .f32⟩
  | .hbm, ⟨31, _⟩ => ⟨S32x2x128x64, .f32⟩
  | .hbm, ⟨32, _⟩ => ⟨S32x2x128x64, .bf16⟩
  | .hbm, ⟨33, _⟩ => ⟨S65536x128, .f32⟩
  | .hbm, ⟨34, _⟩ => ⟨S32x128x16x2x64, .f32⟩
  | .hbm, ⟨35, _⟩ => ⟨S32x127x16x2x64, .f32⟩
  | .hbm, ⟨36, _⟩ => ⟨S32x1x16x2x64, .f32⟩
  | .hbm, ⟨37, _⟩ => ⟨S32x128x16x2x64, .f32⟩
  | .hbm, ⟨38, _⟩ => ⟨S32x128x32x2x64, .f32⟩
  | .hbm, ⟨39, _⟩ => ⟨S32x1x64, .f32⟩
  | .hbm, ⟨40, _⟩ => ⟨S1x1x32x1x64, .f32⟩
  | .hbm, ⟨41, _⟩ => ⟨S32x128x32x2x64, .f32⟩
  | .hbm, ⟨42, _⟩ => ⟨S32x128x32x2x64, .f32⟩
  | .hbm, ⟨43, _⟩ => ⟨S32x128x2x32x64, .f32⟩
  | .hbm, ⟨44, _⟩ => ⟨S32x128x2x2048, .f32⟩
  | .hbm, ⟨45, _⟩ => ⟨S32x128x2x256, .f32⟩
  | .hbm, ⟨46, _⟩ => ⟨S32x128x2x256, .f32⟩
  | .hbm, ⟨47, _⟩ => ⟨S32x128x2x256, .f32⟩
  | .hbm, ⟨48, _⟩ => ⟨S_, .f32⟩
  | .hbm, ⟨49, _⟩ => ⟨S32x128x2x256, .f32⟩
  | .hbm, ⟨50, _⟩ => ⟨S32x128x2x256, .f32⟩
  | .hbm, ⟨51, _⟩ => ⟨S_, .f32⟩
  | .hbm, ⟨52, _⟩ => ⟨S32x128x2x256, .f32⟩
  | .hbm, ⟨53, _⟩ => ⟨S32x128x2x256, .f32⟩
  | .hbm, ⟨54, _⟩ => ⟨S32x128x2x256, .f32⟩
  | .hbm, ⟨55, _⟩ => ⟨S32x128x2x64, .f32⟩
  | .hbm, ⟨56, _⟩ => ⟨S32x2x128x64, .f32⟩
  | .hbm, ⟨57, _⟩ => ⟨S32x2x128x64, .bf16⟩
  | _, _ => ⟨S65536x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_1 : Ref sig .tc := ⟨.hbm, 48, rfl⟩
abbrev main_v38 : Ref sig .tc := ⟨.hbm, 49, rfl⟩
abbrev main_v39 : Ref sig .tc := ⟨.hbm, 50, rfl⟩
abbrev main_cst_2 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩

abbrev nD : Nat := 1
abbrev τ : Topo := Topo.v7x

variable {F : FTy → Type} [FloatOps F]
-- ==== Proof.BitsRuns.lean ====
/- The staging memrefs and blocks of the kernel as compiled. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Own
open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) := m ((c : Thread nD τ).loc b)

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c))⟩) h

abbrev ms0_0 (t : Fin cfg0.N) : Memref sig .tc .vmem S2048x1536 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x1536 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x512 .bf16 := win0_7.stage (cfg0.slots t 7)
abbrev hs0_7 (t : Fin cfg0.N) : (ms0_7 t).IsWhole := hstage0_7 ((cfg0.slots t 7).cast nbuf0_7)
abbrev scM0_0 : Memref sig .tc .vmem S4x128x128 .f32 := Memref.whole cc0_scratch0

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Own

end
-- ==== Proof.BitsBody.lean ====
/- The body of the kernel as compiled runs and gives its inputs back unchanged. -/
module

public import proofs.«01_k».proof.Proof.BitsRuns

@[expose] public section

set_option maxRecDepth 16384

noncomputable section

namespace Cert.Kernel.Own
open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
theorem kernelRun0_A (c : Dev nD) (i : grid0.Coords) (arg1 : Memref sig .tc .vmem S2048x1536 .bf16) (harg1 : arg1.IsWhole) (arg2 : Memref sig .tc .vmem S2048x512 .bf16) (harg2 : arg2.IsWhole) (arg3 : Memref sig .tc .vmem S2048x128 .f32) (harg3 : arg3.IsWhole) (arg4 : Memref sig .tc .vmem S4x1536 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2048x512 .bf16) (harg8 : arg8.IsWhole) (arg9 : Memref sig .tc .vmem S4x128x128 .f32) (harg9 : arg9.IsWhole)
    (x0 : Vec F S2048x1536 .bf16) (x1 : Vec F S2048x512 .bf16) (x2 : Vec F S2048x128 .f32) (x3 : Vec F S4x1536 .f32) (x4 : Vec F S1x128 .f32) (x5 : Vec F S1x128 .f32) (x6 : Vec F S1x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)) -∗ K ⟨⟩))
          ⊢ wp frame (wpE (defs₀ (F := F)) Variants.none c none) E (cc0_dn i arg1 harg1 arg2 harg2 arg3 harg3 arg4 harg4 arg5 harg5 arg6 harg6 arg7 harg7 arg8 harg8 arg9 harg9) K := by
    intro E K
    simp only [cc0_dn_eq_skeleton]; unfold cc0_dn_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    iexists _, _; isplitr; swap; · iexact HS0
    ipureintro; rfl

end Cert.Kernel.Own

end
-- ==== Proof.BitsFrame.lean ====
/- The frame of the kernel as compiled: it terminates, its arguments unchanged and the counters at zero. -/
module

public import proofs.«01_k».proof.Proof.BitsBody
public import Idealize.ShloMosaic.Lib.Claim

@[expose] public section

set_option maxRecDepth 16384

noncomputable section

namespace Cert.Kernel.Own
open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def forgets0 : Fin 8 → Bool := fun w => w.val == 7

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ (iblk m c 0 t) (iblk m c 1 t) (iblk m c 2 t) (iblk m c 3 t) (iblk m c 4 t) (iblk m c 5 t) (iblk m c 6 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  iintro ⟨H0, H1, H2, H3, H4, H5, H6, H7, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (fun c => (dats m 0 c).toRForget forgets0) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel.Own

end
-- ==== Proof.Vocab.lean ====
/- The kernel's arithmetic for one trip of its loop, in words: the convolved inputs, the log-decays, the sixteen blocks
   of 128 tokens of one head, the solve within each block, and the step over a block. -/
module

public import proofs.«01_k».proof.Proof.Gen.KernelIdeal.Frame.Runs

@[expose] public section

set_option maxRecDepth 16384

noncomputable section

namespace Cert.KernelIdeal.Own

open Cert.KernelIdeal Cert.KernelIdeal.Gen
open Idealize.ShloMosaic Idealize.ShloMosaic.TcCoe

variable {F : FTy → Type} [FloatOps F] [Named F]

/-- What one trip loads: 512 rows of inputs, the 16 rows before them, the convolution's four rows of weights, 512 rows
    of gates, the two rows of gate parameters, the output gains and the factor that switches the earlier rows off in the
    first trip. -/
structure Ld (F : FTy → Type) where
  x : Vec F S512x1536 .bf16
  h : Vec F S16x1536 .bf16
  w3 : Vec F S1x1536 .f32
  w2 : Vec F S1x1536 .f32
  w1 : Vec F S1x1536 .f32
  w0 : Vec F S1x1536 .f32
  sm : Vec F S512x128 .f32
  al : Vec F S1x128 .f32
  dt : Vec F S1x128 .f32
  fl : F .f32

/-- Zero and one. -/
abbrev zf : F .f32 := Scalar.ofBits .f32 0x00000000#32
abbrev of : F .f32 := Scalar.ofBits .f32 0x3F800000#32
abbrev epsf : F .f32 := Scalar.ofBits .f32 0x358637BD#32

variable (A : Ld F)

def ctx : FVec F S528x1536 .f32 :=
  concatenate S528x1536 0 [⟨S16x1536, mulf (extf .f32 A.h bitsLt_bf16_f32) (broadcast S16x1536 A.fl)⟩, ⟨S512x1536, extf .f32 A.x bitsLt_bf16_f32⟩] concatenates_S16x1536_S512x1536_S528x1536_d0

def shifted (n : BitVec 32) : FVec F S512x1536 .f32 :=
  extractStridedSlice S512x1536 ![16, 0] (dynamicRotate 0 n none (ctx A) rotates_S528x1536_d0) slices_S528x1536_o16_0_S512x1536

def wrow (w : Vec F S1x1536 .f32) : FVec F S512x1536 .f32 := broadcastTo S512x1536 w broadcasts_S1x1536_S512x1536

def pre : FVec F S512x1536 .f32 :=
  addf (addf (addf (mulf (extf .f32 A.x bitsLt_bf16_f32) (wrow A.w3)) (mulf (shifted A 1#32) (wrow A.w2))) (mulf (shifted A 2#32) (wrow A.w1))) (mulf (shifted A 3#32) (wrow A.w0))

/-- The convolved inputs. -/
def act : FVec F S512x1536 .f32 := mulf (pre A) (logistic (pre A))

def gin : FVec F S512x128 .f32 := addf A.sm (broadcastTo S512x128 A.dt broadcasts_S1x128_S512x128)

/-- The log-decays. -/
def ldv : FVec F S512x128 .f32 :=
  mulf (broadcastTo S512x128 (subf (broadcast S1x128 zf) (exp A.al)) broadcasts_S1x128_S512x128)
    (addf (maximumf (gin A) (broadcast S512x128 zf)) (log (addf (broadcast S512x128 of) (exp (subf (broadcast S512x128 zf) (absf (gin A)))))))

def betav : FVec F S512x128 .f32 := logistic A.sm

def ld1 : FVec F S512x128 .bf16 := truncf .bf16 (ldv A) bitsLt_bf16_f32
def ldr : FVec F S512x128 .f32 := subf (ldv A) (extf .f32 (ld1 A) bitsLt_bf16_f32)
def ld2 : FVec F S512x128 .bf16 := truncf .bf16 (ldr A) bitsLt_bf16_f32
def ld3 : FVec F S512x128 .bf16 := truncf .bf16 (subf (ldr A) (extf .f32 (ld2 A) bitsLt_bf16_f32)) bitsLt_bf16_f32

theorem slC (c : Fin 4) : S512x128.Slices ![128 * c.val, 0] S128x128 := by revert c; decide
theorem slB (c h : Fin 4) : S512x128.Slices ![128 * c.val, 28 + h.val] S128x1 := by revert c h; decide
theorem slG (h : Fin 4) : S128x128.Slices ![0, 24 + h.val] S128x1 := by revert h; decide
theorem slT (h : Fin 4) : S128x128.Slices ![24 + h.val, 0] S1x128 := by revert h; decide
theorem slE (h : Fin 4) : S128x128.Slices ![127, 24 + h.val] S1x1 := by revert h; decide
theorem slX (p : Fin 3) (c h : Fin 4) : S512x1536.Slices ![128 * c.val, 512 * p.val + 128 * h.val] S128x128 := by revert p c h; decide
theorem sl4 (c : Fin 4) : S16x128x128.Slices ![4 * c.val, 0, 0] S4x128x128 := by revert c; decide
theorem sl41 (c : Fin 4) : S16x1x1.Slices ![4 * c.val, 0, 0] S4x1x1 := by revert c; decide
theorem slH (h : Fin 4) : S4x128x128.Slices ![h.val, 0, 0] S1x128x128 := by revert h; decide
theorem slN (c h : Fin 4) : S16x128x128.Slices ![4 * c.val + h.val, 0, 0] S1x128x128 := by revert c h; decide

def tri (l : FVec F S512x128 .bf16) (c : Fin 4) : FVec F S128x128 .f32 :=
  matmul dot_S128x128_S128x128_S128x128_1_0_0_1_n_n none k0_pay4 (extractStridedSlice S128x128 ![128 * c.val, 0] l (slC c)) (constant S128x128 .f32 0x00000000#32)

/-- The running sums of the log-decays over stretch `c`. -/
def gcv (c : Fin 4) : FVec F S128x128 .f32 := addf (addf (tri (ld1 A) c) (tri (ld2 A) c)) (tri (ld3 A) c)

/-- Stretch `c` of head `h` of the queries, keys or values. -/
def blk (p : Fin 3) (c h : Fin 4) : FVec F S128x128 .f32 :=
  extractStridedSlice S128x128 ![128 * c.val, 512 * p.val + 128 * h.val] (act A) (slX p c h)

/-- Rows scaled to unit length. -/
def unitv (y : FVec F S128x128 .f32) : FVec F S128x128 .f32 :=
  mulf y (broadcastTo S128x128 (rsqrt (addf (shapeCast S128x1 (multiReduction .add [1] S128 (mulf y y) 0x00000000#32 reduces_S128x128_S128 (.inl rfl) rfl) shapeCasts_S128_S128x1) (broadcast S128x1 epsf))) broadcasts_S128x1_S128x128)

def qb (c h : Fin 4) : FVec F S128x128 .f32 := mulf (unitv (blk A 0 c h)) (broadcast S128x128 (Scalar.ofBits .f32 0x3DB504F3#32))
def kb (c h : Fin 4) : FVec F S128x128 .f32 := unitv (blk A 1 c h)
def vb (c h : Fin 4) : FVec F S128x128 .f32 := blk A 2 c h
def gcol (c h : Fin 4) : FVec F S128x1 .f32 := extractStridedSlice S128x1 ![0, 24 + h.val] (gcv A c) (slG h)
def grow (c h : Fin 4) : FVec F S1x128 .f32 := extractStridedSlice S1x128 ![24 + h.val, 0] (transpose S128x128 [1, 0] (gcv A c) transposes_S128x128_p1_0_S128x128) (slT h)
def gend (c h : Fin 4) : FVec F S1x1 .f32 := extractStridedSlice S1x1 ![127, 24 + h.val] (gcv A c) (slE h)
def bcol (c h : Fin 4) : FVec F S128x1 .f32 := extractStridedSlice S128x1 ![128 * c.val, 28 + h.val] (betav A) (slB c h)

/-- The sixteen blocks — four stretches of 128 tokens by four heads — one behind the other. -/
def stk (f : Fin 4 → Fin 4 → FVec F S128x128 .f32) : FVec F S16x128x128 .f32 :=
  concatenate S16x128x128 0 [⟨S1x128x128, shapeCast S1x128x128 (f 0 0) shapeCasts_S128x128_S1x128x128⟩, ⟨S1x128x128, shapeCast S1x128x128 (f 0 1) shapeCasts_S128x128_S1x128x128⟩, ⟨S1x128x128, shapeCast S1x128x128 (f 0 2) shapeCasts_S128x128_S1x128x128⟩, ⟨S1x128x128, shapeCast S1x128x128 (f 0 3) shapeCasts_S128x128_S1x128x128⟩, ⟨S1x128x128, shapeCast S1x128x128 (f 1 0) shapeCasts_S128x128_S1x128x128⟩, ⟨S1x128x128, shapeCast S1x128x128 (f 1 1) shapeCasts_S128x128_S1x128x128⟩, ⟨S1x128x128, shapeCast S1x128x128 (f 1 2) shapeCasts_S128x128_S1x128x128⟩, ⟨S1x128x128, shapeCast S1x128x128 (f 1 3) shapeCasts_S128x128_S1x128x128⟩, ⟨S1x128x128, shapeCast S1x128x128 (f 2 0) shapeCasts_S128x128_S1x128x128⟩, ⟨S1x128x128, shapeCast S1x128x128 (f 2 1) shapeCasts_S128x128_S1x128x128⟩, ⟨S1x128x128, shapeCast S1x128x128 (f 2 2) shapeCasts_S128x128_S1x128x128⟩, ⟨S1x128x128, shapeCast S1x128x128 (f 2 3) shapeCasts_S128x128_S1x128x128⟩, ⟨S1x128x128, shapeCast S1x128x128 (f 3 0) shapeCasts_S128x128_S1x128x128⟩, ⟨S1x128x128, shapeCast S1x128x128 (f 3 1) shapeCasts_S128x128_S1x128x128⟩, ⟨S1x128x128, shapeCast S1x128x128 (f 3 2) shapeCasts_S128x128_S1x128x128⟩, ⟨S1x128x128, shapeCast S1x128x128 (f 3 3) shapeCasts_S128x128_S1x128x128⟩] concatenates_S1x128x128_S1x128x128_S1x128x128_S1x128x128_S1x128x128_S1x128x128_S1x128x128_S1x128x128_S1x128x128_S1x128x128_S1x128x128_S1x128x128_S1x128x128_S1x128x128_S1x128x128_S1x128x128_S16x128x128_d0

/-- The sixteen blocks — four stretches of 128 tokens by four heads — one behind the other. -/
def stkc (f : Fin 4 → Fin 4 → FVec F S128x1 .f32) : FVec F S16x128x1 .f32 :=
  concatenate S16x128x1 0 [⟨S1x128x1, shapeCast S1x128x1 (f 0 0) shapeCasts_S128x1_S1x128x1⟩, ⟨S1x128x1, shapeCast S1x128x1 (f 0 1) shapeCasts_S128x1_S1x128x1⟩, ⟨S1x128x1, shapeCast S1x128x1 (f 0 2) shapeCasts_S128x1_S1x128x1⟩, ⟨S1x128x1, shapeCast S1x128x1 (f 0 3) shapeCasts_S128x1_S1x128x1⟩, ⟨S1x128x1, shapeCast S1x128x1 (f 1 0) shapeCasts_S128x1_S1x128x1⟩, ⟨S1x128x1, shapeCast S1x128x1 (f 1 1) shapeCasts_S128x1_S1x128x1⟩, ⟨S1x128x1, shapeCast S1x128x1 (f 1 2) shapeCasts_S128x1_S1x128x1⟩, ⟨S1x128x1, shapeCast S1x128x1 (f 1 3) shapeCasts_S128x1_S1x128x1⟩, ⟨S1x128x1, shapeCast S1x128x1 (f 2 0) shapeCasts_S128x1_S1x128x1⟩, ⟨S1x128x1, shapeCast S1x128x1 (f 2 1) shapeCasts_S128x1_S1x128x1⟩, ⟨S1x128x1, shapeCast S1x128x1 (f 2 2) shapeCasts_S128x1_S1x128x1⟩, ⟨S1x128x1, shapeCast S1x128x1 (f 2 3) shapeCasts_S128x1_S1x128x1⟩, ⟨S1x128x1, shapeCast S1x128x1 (f 3 0) shapeCasts_S128x1_S1x128x1⟩, ⟨S1x128x1, shapeCast S1x128x1 (f 3 1) shapeCasts_S128x1_S1x128x1⟩, ⟨S1x128x1, shapeCast S1x128x1 (f 3 2) shapeCasts_S128x1_S1x128x1⟩, ⟨S1x128x1, shapeCast S1x128x1 (f 3 3) shapeCasts_S128x1_S1x128x1⟩] concatenates_S1x128x1_S1x128x1_S1x128x1_S1x128x1_S1x128x1_S1x128x1_S1x128x1_S1x128x1_S1x128x1_S1x128x1_S1x128x1_S1x128x1_S1x128x1_S1x128x1_S1x128x1_S1x128x1_S16x128x1_d0

/-- The sixteen blocks — four stretches of 128 tokens by four heads — one behind the other. -/
def stkr (f : Fin 4 → Fin 4 → FVec F S1x128 .f32) : FVec F S16x1x128 .f32 :=
  concatenate S16x1x128 0 [⟨S1x1x128, shapeCast S1x1x128 (f 0 0) shapeCasts_S1x128_S1x1x128⟩, ⟨S1x1x128, shapeCast S1x1x128 (f 0 1) shapeCasts_S1x128_S1x1x128⟩, ⟨S1x1x128, shapeCast S1x1x128 (f 0 2) shapeCasts_S1x128_S1x1x128⟩, ⟨S1x1x128, shapeCast S1x1x128 (f 0 3) shapeCasts_S1x128_S1x1x128⟩, ⟨S1x1x128, shapeCast S1x1x128 (f 1 0) shapeCasts_S1x128_S1x1x128⟩, ⟨S1x1x128, shapeCast S1x1x128 (f 1 1) shapeCasts_S1x128_S1x1x128⟩, ⟨S1x1x128, shapeCast S1x1x128 (f 1 2) shapeCasts_S1x128_S1x1x128⟩, ⟨S1x1x128, shapeCast S1x1x128 (f 1 3) shapeCasts_S1x128_S1x1x128⟩, ⟨S1x1x128, shapeCast S1x1x128 (f 2 0) shapeCasts_S1x128_S1x1x128⟩, ⟨S1x1x128, shapeCast S1x1x128 (f 2 1) shapeCasts_S1x128_S1x1x128⟩, ⟨S1x1x128, shapeCast S1x1x128 (f 2 2) shapeCasts_S1x128_S1x1x128⟩, ⟨S1x1x128, shapeCast S1x1x128 (f 2 3) shapeCasts_S1x128_S1x1x128⟩, ⟨S1x1x128, shapeCast S1x1x128 (f 3 0) shapeCasts_S1x128_S1x1x128⟩, ⟨S1x1x128, shapeCast S1x1x128 (f 3 1) shapeCasts_S1x128_S1x1x128⟩, ⟨S1x1x128, shapeCast S1x1x128 (f 3 2) shapeCasts_S1x128_S1x1x128⟩, ⟨S1x1x128, shapeCast S1x1x128 (f 3 3) shapeCasts_S1x128_S1x1x128⟩] concatenates_S1x1x128_S1x1x128_S1x1x128_S1x1x128_S1x1x128_S1x1x128_S1x1x128_S1x1x128_S1x1x128_S1x1x128_S1x1x128_S1x1x128_S1x1x128_S1x1x128_S1x1x128_S1x1x128_S16x1x128_d0

/-- The sixteen blocks — four stretches of 128 tokens by four heads — one behind the other. -/
def stk1 (f : Fin 4 → Fin 4 → FVec F S1x1 .f32) : FVec F S16x1x1 .f32 :=
  concatenate S16x1x1 0 [⟨S1x1x1, shapeCast S1x1x1 (f 0 0) shapeCasts_S1x1_S1x1x1⟩, ⟨S1x1x1, shapeCast S1x1x1 (f 0 1) shapeCasts_S1x1_S1x1x1⟩, ⟨S1x1x1, shapeCast S1x1x1 (f 0 2) shapeCasts_S1x1_S1x1x1⟩, ⟨S1x1x1, shapeCast S1x1x1 (f 0 3) shapeCasts_S1x1_S1x1x1⟩, ⟨S1x1x1, shapeCast S1x1x1 (f 1 0) shapeCasts_S1x1_S1x1x1⟩, ⟨S1x1x1, shapeCast S1x1x1 (f 1 1) shapeCasts_S1x1_S1x1x1⟩, ⟨S1x1x1, shapeCast S1x1x1 (f 1 2) shapeCasts_S1x1_S1x1x1⟩, ⟨S1x1x1, shapeCast S1x1x1 (f 1 3) shapeCasts_S1x1_S1x1x1⟩, ⟨S1x1x1, shapeCast S1x1x1 (f 2 0) shapeCasts_S1x1_S1x1x1⟩, ⟨S1x1x1, shapeCast S1x1x1 (f 2 1) shapeCasts_S1x1_S1x1x1⟩, ⟨S1x1x1, shapeCast S1x1x1 (f 2 2) shapeCasts_S1x1_S1x1x1⟩, ⟨S1x1x1, shapeCast S1x1x1 (f 2 3) shapeCasts_S1x1_S1x1x1⟩, ⟨S1x1x1, shapeCast S1x1x1 (f 3 0) shapeCasts_S1x1_S1x1x1⟩, ⟨S1x1x1, shapeCast S1x1x1 (f 3 1) shapeCasts_S1x1_S1x1x1⟩, ⟨S1x1x1, shapeCast S1x1x1 (f 3 2) shapeCasts_S1x1_S1x1x1⟩, ⟨S1x1x1, shapeCast S1x1x1 (f 3 3) shapeCasts_S1x1_S1x1x1⟩] concatenates_S1x1x1_S1x1x1_S1x1x1_S1x1x1_S1x1x1_S1x1x1_S1x1x1_S1x1x1_S1x1x1_S1x1x1_S1x1x1_S1x1x1_S1x1x1_S1x1x1_S1x1x1_S1x1x1_S16x1x1_d0

def Q : FVec F S16x128x128 .f32 := stk (qb A)
def K : FVec F S16x128x128 .f32 := stk (kb A)
def V : FVec F S16x128x128 .f32 := stk (vb A)
def G : FVec F S16x128x1 .f32 := stkc (gcol A)
def Gr : FVec F S16x1x128 .f32 := stkr (grow A)
def Ge : FVec F S16x1x1 .f32 := stk1 (gend A)
def B : FVec F S16x128x1 .f32 := stkc (bcol A)

abbrev bc (x : FVec F S16x128x1 .f32) : FVec F S16x128x128 .f32 := broadcastTo S16x128x128 x broadcasts_S16x128x1_S16x128x128
abbrev msk (m : IVec S128x128 1) : IVec S16x128x128 1 :=
  broadcastTo S16x128x128 (shapeCast S1x128x128 m shapeCasts_S128x128_S1x128x128) broadcasts_S1x128x128_S16x128x128
abbrev tb {s : Shape} (x : FVec F s .f32) : FVec F s .bf16 := truncf .bf16 x bitsLt_bf16_f32
/-- Products of the blocks, and of a block with another's transpose. -/
abbrev mm (x y : FVec F S16x128x128 .bf16) : FVec F S16x128x128 .f32 :=
  matmul dot_S16x128x128_S16x128x128_S16x128x128_2_1_1_2_0_0 none x y (constant S16x128x128 .f32 0x00000000#32)
abbrev mmt (x y : FVec F S16x128x128 .bf16) : FVec F S16x128x128 .f32 :=
  matmul dot_S16x128x128_S16x128x128_S16x128x128_2_2_1_1_0_0 none x y (constant S16x128x128 .f32 0x00000000#32)
abbrev mm4 (x y : FVec F S4x128x128 .bf16) : FVec F S4x128x128 .f32 :=
  matmul dot_S4x128x128_S4x128x128_S4x128x128_2_1_1_2_0_0 none x y (constant S4x128x128 .f32 0x00000000#32)

/-- The decay from token `j` to token `i` of a block, nothing from later to earlier. -/
def D : FVec F S16x128x128 .f32 :=
  exp (select (msk k0_pay1) (subf (bc (G A)) (broadcastTo S16x128x128 (Gr A) broadcasts_S16x1x128_S16x128x128)) (broadcast S16x128x128 (Named.named κ "mask" 0xF149F2CA#32)))

def N : FVec F S16x128x128 .f32 :=
  select (msk k0_pay2) (mulf (mulf (bc (B A)) (mmt (tb (K A)) (tb (K A)))) (D A)) (broadcast S16x128x128 zf)

/-- The part of `N` between the halves of the stretches of twice a power of two. -/
def Nlev (m : IVec S128x128 1) : FVec F S16x128x128 .f32 := select (msk m) (N A) (broadcast S16x128x128 zf)
abbrev lv (l : BitVec 32) : IVec S128x128 1 := cmpi .eq (shrsi k0_pay3 (broadcast S128x128 l)) (broadcast S128x128 1#32)

def I0 : FVec F S16x128x128 .f32 :=
  subf (broadcastTo S16x128x128 (shapeCast S1x128x128 k0_pay5 shapeCasts_S128x128_S1x128x128) broadcasts_S1x128x128_S16x128x128) (Nlev A (cmpi .eq k0_pay3 (broadcast S128x128 1#32)))
def Inext (X : FVec F S16x128x128 .f32) (l : BitVec 32) : FVec F S16x128x128 .f32 :=
  subf X (mm (tb X) (tb (mm (tb (Nlev A (lv l))) (tb X))))
def I1 : FVec F S16x128x128 .f32 := Inext A (I0 A) 1#32
def I2 : FVec F S16x128x128 .f32 := Inext A (I1 A) 2#32
def I3 : FVec F S16x128x128 .f32 := Inext A (I2 A) 3#32
def I4 : FVec F S16x128x128 .f32 := Inext A (I3 A) 4#32
def I5 : FVec F S16x128x128 .f32 := Inext A (I4 A) 5#32
def I6 : FVec F S16x128x128 .f32 := Inext A (I5 A) 6#32

def EG : FVec F S16x128x1 .f32 := exp (G A)
def sol : FVec F S16x128x256 .f32 :=
  matmul dot_S16x128x128_S16x128x256_S16x128x256_2_1_1_2_0_0 none (tb (I6 A))
    (tb (concatenate S16x128x256 2 [⟨S16x128x128, mulf (V A) (bc (B A))⟩, ⟨S16x128x128, mulf (K A) (bc (mulf (B A) (EG A)))⟩] concatenates_S16x128x128_S16x128x128_S16x128x256_d2))
    (constant S16x128x256 .f32 0x00000000#32)
def U : FVec F S16x128x128 .f32 := extractStridedSlice S16x128x128 ![0, 0, 0] (sol A) slices_S16x128x256_o0_0_0_S16x128x128
def W : FVec F S16x128x128 .bf16 := tb (extractStridedSlice S16x128x128 ![0, 0, 128] (sol A) slices_S16x128x256_o0_0_128_S16x128x128)
def P : FVec F S16x128x128 .bf16 := tb (mulf (mmt (tb (Q A)) (tb (K A))) (D A))
def QD : FVec F S16x128x128 .bf16 := tb (mulf (Q A) (bc (EG A)))
def KD : FVec F S16x128x128 .f32 := mulf (K A) (bc (exp (subf (broadcastTo S16x128x1 (Ge A) broadcasts_S16x1x1_S16x128x1) (G A))))
def kdt (c h : Fin 4) : FVec F S128x128 .f32 :=
  transpose S128x128 [1, 0] (shapeCast S128x128 (extractStridedSlice S1x128x128 ![4 * c.val + h.val, 0, 0] (KD A) (slN c h)) shapeCasts_S1x128x128_S128x128) transposes_S128x128_p1_0_S128x128
def KT : FVec F S16x128x128 .bf16 := tb (stk (kdt A))
def EE : FVec F S16x1x1 .f32 := exp (Ge A)

/-- The four heads of stretch `c`. -/
abbrev p4 {φ : FTy} (c : Fin 4) (x : FVec F S16x128x128 φ) : FVec F S4x128x128 φ := extractStridedSlice S4x128x128 ![4 * c.val, 0, 0] x (sl4 c)

def vnew (c : Fin 4) (S : FVec F S4x128x128 .f32) : FVec F S4x128x128 .bf16 := tb (subf (p4 c (U A)) (mm4 (p4 c (W A)) (tb S)))
/-- The outputs of stretch `c` from the state before it, and the state after it. -/
def outs (c : Fin 4) (S : FVec F S4x128x128 .f32) : FVec F S4x128x128 .f32 := addf (mm4 (p4 c (QD A)) (tb S)) (mm4 (p4 c (P A)) (vnew A c S))
def nxt (c : Fin 4) (S : FVec F S4x128x128 .f32) : FVec F S4x128x128 .f32 :=
  addf (mulf S (broadcastTo S4x128x128 (extractStridedSlice S4x1x1 ![4 * c.val, 0, 0] (EE A) (sl41 c)) broadcasts_S4x1x1_S4x128x128)) (mm4 (p4 c (KT A)) (vnew A c S))

/-- The state after the first `n` stretches of the trip. -/
def Sat (S : FVec F S4x128x128 .f32) : ℕ → FVec F S4x128x128 .f32
  | 0 => S
  | 1 => nxt A 0 S
  | 2 => nxt A 1 (nxt A 0 S)
  | 3 => nxt A 2 (nxt A 1 (nxt A 0 S))
  | _ => nxt A 3 (nxt A 2 (nxt A 1 (nxt A 0 S)))

/-- A head's rows, normalised, scaled and gated. -/
def fin (o : FVec F S4x128x128 .f32) (h : Fin 4) (g : Vec F S1x128 .f32) (z : Vec F S128x128 .bf16) : FVec F S128x128 .bf16 :=
  have y : FVec F S128x128 .f32 := shapeCast S128x128 (extractStridedSlice S1x128x128 ![h.val, 0, 0] o (slH h)) shapeCasts_S1x128x128_S128x128
  have zz : FVec F S128x128 .f32 := extf .f32 z bitsLt_bf16_f32
  tb (mulf (mulf (mulf y (broadcastTo S128x128 (rsqrt (addf (divf (shapeCast S128x1 (multiReduction .add [1] S128 (mulf y y) 0x00000000#32 reduces_S128x128_S128 (.inl rfl) rfl) shapeCasts_S128_S128x1) (broadcast S128x1 (Scalar.ofBits .f32 0x43000000#32))) (broadcast S128x1 epsf))) broadcasts_S128x1_S128x128)) (broadcastTo S128x128 g broadcasts_S1x128_S128x128)) (mulf zz (logistic zz)))

/-- What the trip stores for head `h` of stretch `c`. -/
def piece (S : FVec F S4x128x128 .f32) (c h : Fin 4) (g : Vec F S1x128 .f32) (z : Vec F S128x128 .bf16) : FVec F S128x128 .bf16 :=
  fin (outs A c (Sat A S c.val)) h g z

end Cert.KernelIdeal.Own

end
-- ==== Proof.Match.lean ====
/- One trip's stores are the values named in `Vocab`. -/
module

public import proofs.«01_k».proof.Proof.Vocab

@[expose] public section

set_option maxRecDepth 16384
set_option maxHeartbeats 400000

noncomputable section

namespace Cert.KernelIdeal.Own

open Cert.KernelIdeal Cert.KernelIdeal.Gen
open Idealize.ShloMosaic Idealize.ShloMosaic.TcCoe Idealize.ShloMosaic.Tactic

variable {F : FTy → Type} [FloatOps F] [Named F]
variable (𝒱 : Variants) (c : Dev nD) (bd : Option 𝒱.V) (i : grid0.Coords) (arg1 : Memref sig .tc .vmem S2048x1536 .bf16) (harg1 : arg1.IsWhole) (arg2 : Memref sig .tc .vmem S2048x512 .bf16) (harg2 : arg2.IsWhole) (arg3 : Memref sig .tc .vmem S2048x128 .f32) (harg3 : arg3.IsWhole) (arg4 : Memref sig .tc .vmem S4x1536 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2048x512 .bf16) (harg8 : arg8.IsWhole) (arg9 : Memref sig .tc .vmem S4x128x128 .f32) (harg9 : arg9.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips)

/-- What trip `k` loads. -/
def ldOf : Ld F where
  x := View.readAt (Elt F) arg1.view (Rect.unit (s := S2048x1536) (k0_off1 k) S512x1536.size (k0_off1_inb k)).toLoadRect X_arg1
  h := View.readAt (Elt F) arg1.view (Rect.unit (s := S2048x1536) (k0_off2 k) S16x1536.size (k0_off2_inb k)).toLoadRect X_arg1
  w3 := View.readAt (Elt F) arg4.view (Rect.unit (s := S4x1536) ![3, 0] S1x1536.size (by decide)).toLoadRect X_arg4
  w2 := View.readAt (Elt F) arg4.view (Rect.unit (s := S4x1536) ![2, 0] S1x1536.size (by decide)).toLoadRect X_arg4
  w1 := View.readAt (Elt F) arg4.view (Rect.unit (s := S4x1536) ![1, 0] S1x1536.size (by decide)).toLoadRect X_arg4
  w0 := View.readAt (Elt F) arg4.view (Rect.unit (s := S4x1536) ![0, 0] S1x1536.size (by decide)).toLoadRect X_arg4
  sm := View.readAt (Elt F) arg3.view (Rect.unit (s := S2048x128) (k0_off3 k) S512x128.size (k0_off3_inb k)).toLoadRect X_arg3
  al := View.readAt (Elt F) arg5.view (Rect.unit (s := S1x128) ![0, 0] S1x128.size (by decide)).toLoadRect X_arg5
  dt := View.readAt (Elt F) arg6.view (Rect.unit (s := S1x128) ![0, 0] S1x128.size (by decide)).toLoadRect X_arg6
  fl := Scalar.select (Scalar.cmpi .sgt (Scf.iv 0#32 1#32 k) 0#32) of zf

local notation "𝔸" => ldOf arg1 arg3 arg4 arg5 arg6 X_arg1 X_arg3 X_arg4 X_arg5 X_arg6 k

variable (f_arg9 : BufTy.Contents (Elt F) arg9.view.ty)

/-- The state a trip finds. -/
abbrev stOf : FVec F S4x128x128 .f32 := View.readAt (Elt F) arg9.view (Rect.unit (s := S4x128x128) ![0, 0, 0] S4x128x128.size (inb_S4x128x128_S4x128x128_0_0_0)).toLoadRect f_arg9

local notation "𝕊" => stOf arg9 f_arg9

/-- The gains, and the gate rows of one stretch and head. -/
def gOf : Vec F S1x128 .f32 := View.readAt (Elt F) arg7.view (Rect.unit (s := S1x128) ![0, 0] S1x128.size inb_S1x128_S1x128_0_0).toLoadRect X_arg7
def zOf0 (b : BitVec 32) (hb : ∀ a, (k0_off4 k b) a + S128x128.size a ≤ S2048x512.size a) : Vec F S128x128 .bf16 := View.readAt (Elt F) arg2.view (Rect.unit (s := S2048x512) (k0_off4 k b) S128x128.size hb).toLoadRect X_arg2
def zOf1 (b : BitVec 32) (hb : ∀ a, (k0_off5 k b) a + S128x128.size a ≤ S2048x512.size a) : Vec F S128x128 .bf16 := View.readAt (Elt F) arg2.view (Rect.unit (s := S2048x512) (k0_off5 k b) S128x128.size hb).toLoadRect X_arg2
def zOf2 (b : BitVec 32) (hb : ∀ a, (k0_off6 k b) a + S128x128.size a ≤ S2048x512.size a) : Vec F S128x128 .bf16 := View.readAt (Elt F) arg2.view (Rect.unit (s := S2048x512) (k0_off6 k b) S128x128.size hb).toLoadRect X_arg2
def zOf3 (b : BitVec 32) (hb : ∀ a, (k0_off7 k b) a + S128x128.size a ≤ S2048x512.size a) : Vec F S128x128 .bf16 := View.readAt (Elt F) arg2.view (Rect.unit (s := S2048x512) (k0_off7 k b) S128x128.size hb).toLoadRect X_arg2

theorem m_v56 : trip_k0_t1.sl.v56 arg1 arg4 X_arg1 X_arg4 k = act 𝔸 := by
  rfl

theorem m_v77 : trip_k0_t1.sl.v77 arg3 arg5 arg6 X_arg3 X_arg5 X_arg6 k = ldv 𝔸 := by
  rfl

theorem m_v78 : trip_k0_t1.sl.v78 arg3 X_arg3 k = betav 𝔸 := by
  rfl

theorem m_v79 : trip_k0_t1.sl.v79 arg3 arg5 arg6 X_arg3 X_arg5 X_arg6 k = ld1 𝔸 := by
  simp only [trip_k0_t1.sl.v79, m_v77 arg1 arg3 arg4 arg5 arg6 X_arg1 X_arg3 X_arg4 X_arg5 X_arg6 k]; rfl

theorem m_v81 : trip_k0_t1.sl.v81 arg3 arg5 arg6 X_arg3 X_arg5 X_arg6 k = ldr 𝔸 := by
  simp only [trip_k0_t1.sl.v81, trip_k0_t1.sl.v80, m_v77 arg1 arg3 arg4 arg5 arg6 X_arg1 X_arg3 X_arg4 X_arg5 X_arg6 k, m_v79 arg1 arg3 arg4 arg5 arg6 X_arg1 X_arg3 X_arg4 X_arg5 X_arg6 k]; rfl

theorem m_v82 : trip_k0_t1.sl.v82 arg3 arg5 arg6 X_arg3 X_arg5 X_arg6 k = ld2 𝔸 := by
  simp only [trip_k0_t1.sl.v82, m_v81 arg1 arg3 arg4 arg5 arg6 X_arg1 X_arg3 X_arg4 X_arg5 X_arg6 k]; rfl

theorem m_v85 : trip_k0_t1.sl.v85 arg3 arg5 arg6 X_arg3 X_arg5 X_arg6 k = ld3 𝔸 := by
  simp only [trip_k0_t1.sl.v85, trip_k0_t1.sl.v84, trip_k0_t1.sl.v83, m_v81 arg1 arg3 arg4 arg5 arg6 X_arg1 X_arg3 X_arg4 X_arg5 X_arg6 k, m_v82 arg1 arg3 arg4 arg5 arg6 X_arg1 X_arg3 X_arg4 X_arg5 X_arg6 k]; rfl

theorem m_v93 : trip_k0_t1.sl.v93 arg3 arg5 arg6 X_arg3 X_arg5 X_arg6 k = gcv 𝔸 0 := by
  simp only [trip_k0_t1.sl.v93, trip_k0_t1.sl.v92, trip_k0_t1.sl.cst_28, trip_k0_t1.sl.v91, trip_k0_t1.sl.v90, trip_k0_t1.sl.v89, trip_k0_t1.sl.v88, trip_k0_t1.sl.v87, trip_k0_t1.sl.v86, m_v85 arg1 arg3 arg4 arg5 arg6 X_arg1 X_arg3 X_arg4 X_arg5 X_arg6 k, m_v82 arg1 arg3 arg4 arg5 arg6 X_arg1 X_arg3 X_arg4 X_arg5 X_arg6 k, m_v79 arg1 arg3 arg4 arg5 arg6 X_arg1 X_arg3 X_arg4 X_arg5 X_arg6 k]; rfl

theorem m_v202 : trip_k0_t1.sl.v202 arg3 arg5 arg6 X_arg3 X_arg5 X_arg6 k = gcv 𝔸 1 := by
  simp only [trip_k0_t1.sl.v202, trip_k0_t1.sl.v201, trip_k0_t1.sl.cst_28, trip_k0_t1.sl.v200, trip_k0_t1.sl.v199, trip_k0_t1.sl.v198, trip_k0_t1.sl.v197, trip_k0_t1.sl.v196, trip_k0_t1.sl.v195, m_v85 arg1 arg3 arg4 arg5 arg6 X_arg1 X_arg3 X_arg4 X_arg5 X_arg6 k, m_v82 arg1 arg3 arg4 arg5 arg6 X_arg1 X_arg3 X_arg4 X_arg5 X_arg6 k, m_v79 arg1 arg3 arg4 arg5 arg6 X_arg1 X_arg3 X_arg4 X_arg5 X_arg6 k]; rfl

theorem m_v311 : trip_k0_t1.sl.v311 arg3 arg5 arg6 X_arg3 X_arg5 X_arg6 k = gcv 𝔸 2 := by
  simp only [trip_k0_t1.sl.v311, trip_k0_t1.sl.v310, trip_k0_t1.sl.cst_28, trip_k0_t1.sl.v309, trip_k0_t1.sl.v308, trip_k0_t1.sl.v307, trip_k0_t1.sl.v306, trip_k0_t1.sl.v305, trip_k0_t1.sl.v304, m_v85 arg1 arg3 arg4 arg5 arg6 X_arg1 X_arg3 X_arg4 X_arg5 X_arg6 k, m_v82 arg1 arg3 arg4 arg5 arg6 X_arg1 X_arg3 X_arg4 X_arg5 X_arg6 k, m_v79 arg1 arg3 arg4 arg5 arg6 X_arg1 X_arg3 X_arg4 X_arg5 X_arg6 k]; rfl

theorem m_v420 : trip_k0_t1.sl.v420 arg3 arg5 arg6 X_arg3 X_arg5 X_arg6 k = gcv 𝔸 3 := by
  simp only [trip_k0_t1.sl.v420, trip_k0_t1.sl.v419, trip_k0_t1.sl.cst_28, trip_k0_t1.sl.v418, trip_k0_t1.sl.v417, trip_k0_t1.sl.v416, trip_k0_t1.sl.v415, trip_k0_t1.sl.v414, trip_k0_t1.sl.v413, m_v85 arg1 arg3 arg4 arg5 arg6 X_arg1 X_arg3 X_arg4 X_arg5 X_arg6 k, m_v82 arg1 arg3 arg4 arg5 arg6 X_arg1 X_arg3 X_arg4 X_arg5 X_arg6 k, m_v79 arg1 arg3 arg4 arg5 arg6 X_arg1 X_arg3 X_arg4 X_arg5 X_arg6 k]; rfl

theorem m_v105 : trip_k0_t1.sl.v105 arg1 arg4 X_arg1 X_arg4 k = qb 𝔸 0 0 := by
  simp only [trip_k0_t1.sl.v105, trip_k0_t1.sl.v104, trip_k0_t1.sl.cst_33, trip_k0_t1.sl.v103, trip_k0_t1.sl.v102, trip_k0_t1.sl.v101, trip_k0_t1.sl.v100, trip_k0_t1.sl.v99, trip_k0_t1.sl.cst_32, trip_k0_t1.sl.v98, trip_k0_t1.sl.v97, trip_k0_t1.sl.v96, trip_k0_t1.sl.v95, m_v56 arg1 arg3 arg4 arg5 arg6 X_arg1 X_arg3 X_arg4 X_arg5 X_arg6 k]; rfl

theorem m_v114 : trip_k0_t1.sl.v114 arg1 arg4 X_arg1 X_arg4 k = kb 𝔸 0 0 := by
  simp only [trip_k0_t1.sl.v114, trip_k0_t1.sl.v113, trip_k0_t1.sl.v112, trip_k0_t1.sl.v111, trip_k0_t1.sl.v99, trip_k0_t1.sl.cst_32, trip_k0_t1.sl.v109, trip_k0_t1.sl.v108, trip_k0_t1.sl.v107, trip_k0_t1.sl.v106, m_v56 arg1 arg3 arg4 arg5 arg6 X_arg1 X_arg3 X_arg4 X_arg5 X_arg6 k]; rfl

theorem m_v115 : trip_k0_t1.sl.v115 arg1 arg4 X_arg1 X_arg4 k = vb 𝔸 0 0 := by
  simp only [trip_k0_t1.sl.v115, m_v56 arg1 arg3 arg4 arg5 arg6 X_arg1 X_arg3 X_arg4 X_arg5 X_arg6 k]; rfl

theorem m_v116 : trip_k0_t1.sl.v116 arg3 arg5 arg6 X_arg3 X_arg5 X_arg6 k = gcol 𝔸 0 0 := by
  simp only [trip_k0_t1.sl.v116, m_v93 arg1 arg3 arg4 arg5 arg6 X_arg1 X_arg3 X_arg4 X_arg5 X_arg6 k]; rfl

theorem m_v117 : trip_k0_t1.sl.v117 arg3 arg5 arg6 X_arg3 X_arg5 X_arg6 k = grow 𝔸 0 0 := by
  simp only [trip_k0_t1.sl.v117, trip_k0_t1.sl.v94, m_v93 arg1 arg3 arg4 arg5 arg6 X_arg1 X_arg3 X_arg4 X_arg5 X_arg6 k]; rfl

theorem m_v118 : trip_k0_t1.sl.v118 arg3 arg5 arg6 X_arg3 X_arg5 X_arg6 k = gend 𝔸 0 0 := by
  simp only [trip_k0_t1.sl.v118, m_v93 arg1 arg3 arg4 arg5 arg6 X_arg1 X_arg3 X_arg4 X_arg5 X_arg6 k]; rfl

theorem m_v119 : trip_k0_t1.sl.v119 arg3 X_arg3 k = bcol 𝔸 0 0 := by
  simp only [trip_k0_t1.sl.v119, m_v78 arg1 arg3 arg4 arg5 arg6 X_arg1 X_arg3 X_arg4 X_arg5 X_arg6 k]; rfl

theorem m_v130 : trip_k0_t1.sl.v130 arg1 arg4 X_arg1 X_arg4 k = qb 𝔸 0 1 := by
  simp only [trip_k0_t1.sl.v130, trip_k0_t1.sl.v104, trip_k0_t1.sl.cst_33, trip_k0_t1.sl.v128, trip_k0_t1.sl.v127, trip_k0_t1.sl.v126, trip_k0_t1.sl.v125, trip_k0_t1.sl.v99, trip_k0_t1.sl.cst_32, trip_k0_t1.sl.v123, trip_k0_t1.sl.v122, trip_k0_t1.sl.v121, trip_k0_t1.sl.v120, m_v56 arg1 arg3 arg4 arg5 arg6 X_arg1 X_arg3 X_arg4 X_arg5 X_arg6 k]; rfl

theorem m_v139 : trip_k0_t1.sl.v139 arg1 arg4 X_arg1 X_arg4 k = kb 𝔸 0 1 := by
  simp only [trip_k0_t1.sl.v139, trip_k0_t1.sl.v138, trip_k0_t1.sl.v137, trip_k0_t1.sl.v136, trip_k0_t1.sl.v99, trip_k0_t1.sl.cst_32, trip_k0_t1.sl.v134, trip_k0_t1.sl.v133, trip_k0_t1.sl.v132, trip_k0_t1.sl.v131, m_v56 arg1 arg3 arg4 arg5 arg6 X_arg1 X_arg3 X_arg4 X_arg5 X_arg6 k]; rfl

theorem m_v140 : trip_k0_t1.sl.v140 arg1 arg4 X_arg1 X_arg4 k = vb 𝔸 0 1 := by
  simp only [trip_k0_t1.sl.v140, m_v56 arg1 arg3 arg4 arg5 arg6 X_arg1 X_arg3 X_arg4 X_arg5 X_arg6 k]; rfl

theorem m_v141 : trip_k0_t1.sl.v141 arg3 arg5 arg6 X_arg3 X_arg5 X_arg6 k = gcol 𝔸 0 1 := by
  simp only [trip_k0_t1.sl.v141, m_v93 arg1 arg3 arg4 arg5 arg6 X_arg1 X_arg3 X_arg4 X_arg5 X_arg6 k]; rfl

theorem m_v142 : trip_k0_t1.sl.v142 arg3 arg5 arg6 X_arg3 X_arg5 X_arg6 k = grow 𝔸 0 1 := by
  simp only [trip_k0_t1.sl.v142, trip_k0_t1.sl.v94, m_v93 arg1 arg3 arg4 arg5 arg6 X_arg1 X_arg3 X_arg4 X_arg5 X_arg6 k]; rfl

theorem m_v143 : trip_k0_t1.sl.v143 arg3 arg5 arg6 X_arg3 X_arg5 X_arg6 k = gend 𝔸 0 1 := by
  simp only [trip_k0_t1.sl.v143, m_v93 arg1 arg3 arg4 arg5 arg6 X_arg1 X_arg3 X_arg4 X_arg5 X_arg6 k]; rfl

theorem m_v144 : trip_k0_t1.sl.v144 arg3 X_arg3 k = bcol 𝔸 0 1 := by
  simp only [trip_k0_t1.sl.v144, m_v78 arg1 arg3 arg4 arg5 arg6 X_arg1 X_arg3 X_arg4 X_arg5 X_arg6 k]; rfl

theorem m_v155 : trip_k0_t1.sl.v155 arg1 arg4 X_arg1 X_arg4 k = qb 𝔸 0 2 := by
  simp only [trip_k0_t1.sl.v155, trip_k0_t1.sl.v104, trip_k0_t1.sl.cst_33, trip_k0_t1.sl.v153, trip_k0_t1.sl.v152, trip_k0_t1.sl.v151, trip_k0_t1.sl.v150, trip_k0_t1.sl.v99, trip_k0_t1.sl.cst_32, trip_k0_t1.sl.v148, trip_k0_t1.sl.v147, trip_k0_t1.sl.v146, trip_k0_t1.sl.v145, m_v56 arg1 arg3 arg4 arg5 arg6 X_arg1 X_arg3 X_arg4 X_arg5 X_arg6 k]; rfl

theorem m_v164 : trip_k0_t1.sl.v164 arg1 arg4 X_arg1 X_arg4 k = kb 𝔸 0 2 := by
  simp only [trip_k0_t1.sl.v164, trip_k0_t1.sl.v163, trip_k0_t1.sl.v162, trip_k0_t1.sl.v161, trip_k0_t1.sl.v99, trip_k0_t1.sl.cst_32, trip_k0_t1.sl.v159, trip_k0_t1.sl.v158, trip_k0_t1.sl.v157, trip_k0_t1.sl.v156, m_v56 arg1 arg3 arg4 arg5 arg6 X_arg1 X_arg3 X_arg4 X_arg5 X_arg6 k]; rfl

theorem m_v165 : trip_k0_t1.sl.v165 arg1 arg4 X_arg1 X_arg4 k = vb 𝔸 0 2 := by
  simp only [trip_k0_t1.sl.v165, m_v56 arg1 arg3 arg4 arg5 arg6 X_arg1 X_arg3 X_arg4 X_arg5 X_arg6 k]; rfl

theorem m_v166 : trip_k0_t1.sl.v166 arg3 arg5 arg6 X_arg3 X_arg5 X_arg6 k = gcol 𝔸 0 2 := by
  simp only [trip_k0_t1.sl.v166, m_v93 arg1 arg3 arg4 arg5 arg6 X_arg1 X_arg3 X_arg4 X_arg5 X_arg6 k]; rfl

theorem m_v167 : trip_k0_t1.sl.v167 arg3 arg5 arg6 X_arg3 X_arg5 X_arg6 k = grow 𝔸 0 2 := by
  simp only [trip_k0_t1.sl.v167, trip_k0_t1.sl.v94, m_v93 arg1 arg3 arg4 arg5 arg6 X_arg1 X_arg3 X_arg4 X_arg5 X_arg6 k]; rfl

theorem m_v168 : trip_k0_t1.sl.v168 arg3 arg5 arg6 X_arg3 X_arg5 X_arg6 k = gend 𝔸 0 2 := by
  simp only [trip_k0_t1.sl.v168, m_v93 arg1 arg3 arg4 arg5 arg6 X_arg1 X_arg3 X_arg4 X_arg5 X_arg6 k]; rfl

theorem m_v169 : trip_k0_t1.sl.v169 arg3 X_arg3 k = bcol 𝔸 0 2 := by
  simp only [trip_k0_t1.sl.v169, m_v78 arg1 arg3 arg4 arg5 arg6 X_arg1 X_arg3 X_arg4 X_arg5 X_arg6 k]; rfl

theorem m_v180 : trip_k0_t1.sl.v180 arg1 arg4 X_arg1 X_arg4 k = qb 𝔸 0 3 := by
  simp only [trip_k0_t1.sl.v180, trip_k0_t1.sl.v104, trip_k0_t1.sl.cst_33, trip_k0_t1.sl.v178, trip_k0_t1.sl.v177, trip_k0_t1.sl.v176, trip_k0_t1.sl.v175, trip_k0_t1.sl.v99, trip_k0_t1.sl.cst_32, trip_k0_t1.sl.v173, trip_k0_t1.sl.v172, trip_k0_t1.sl.v171, trip_k0_t1.sl.v170, m_v56 arg1 arg3 arg4 arg5 arg6 X_arg1 X_arg3 X_arg4 X_arg5 X_arg6 k]; rfl

theorem m_v189 : trip_k0_t1.sl.v189 arg1 arg4 X_arg1 X_arg4 k = kb 𝔸 0 3 := by
  simp only [trip_k0_t1.sl.v189, trip_k0_t1.sl.v188, trip_k0_t1.sl.v187, trip_k0_t1.sl.v186, trip_k0_t1.sl.v99, trip_k0_t1.sl.cst_32, trip_k0_t1.sl.v184, trip_k0_t1.sl.v183, trip_k0_t1.sl.v182, trip_k0_t1.sl.v181, m_v56 arg1 arg3 arg4 arg5 arg6 X_arg1 X_arg3 X_arg4 X_arg5 X_arg6 k]; rfl

theorem m_v190 : trip_k0_t1.sl.v190 arg1 arg4 X_arg1 X_arg4 k = vb 𝔸 0 3 := by
  simp only [trip_k0_t1.sl.v190, m_v56 arg1 arg3 arg4 arg5 arg6 X_arg1 X_arg3 X_arg4 X_arg5 X_arg6 k]; rfl

theorem m_v191 : trip_k0_t1.sl.v191 arg3 arg5 arg6 X_arg3 X_arg5 X_arg6 k = gcol 𝔸 0 3 := by
  simp only [trip_k0_t1.sl.v191, m_v93 arg1 arg3 arg4 arg5 arg6 X_arg1 X_arg3 X_arg4 X_arg5 X_arg6 k]; rfl

theorem m_v192 : trip_k0_t1.sl.v192 arg3 arg5 arg6 X_arg3 X_arg5 X_arg6 k = grow 𝔸 0 3 := by
  simp only [trip_k0_t1.sl.v192, trip_k0_t1.sl.v94, m_v93 arg1 arg3 arg4 arg5 arg6 X_arg1 X_arg3 X_arg4 X_arg5 X_arg6 k]; rfl

theorem m_v193 : trip_k0_t1.sl.v193 arg3 arg5 arg6 X_arg3 X_arg5 X_arg6 k = gend 𝔸 0 3 := by
  simp only [trip_k0_t1.sl.v193, m_v93 arg1 arg3 arg4 arg5 arg6 X_arg1 X_arg3 X_arg4 X_arg5 X_arg6 k]; rfl

theorem m_v194 : trip_k0_t1.sl.v194 arg3 X_arg3 k = bcol 𝔸 0 3 := by
  simp only [trip_k0_t1.sl.v194, m_v78 arg1 arg3 arg4 arg5 arg6 X_arg1 X_arg3 X_arg4 X_arg5 X_arg6 k]; rfl

theorem m_v214 : trip_k0_t1.sl.v214 arg1 arg4 X_arg1 X_arg4 k = qb 𝔸 1 0 := by
  simp only [trip_k0_t1.sl.v214, trip_k0_t1.sl.v104, trip_k0_t1.sl.cst_33, trip_k0_t1.sl.v212, trip_k0_t1.sl.v211, trip_k0_t1.sl.v210, trip_k0_t1.sl.v209, trip_k0_t1.sl.v99, trip_k0_t1.sl.cst_32, trip_k0_t1.sl.v207, trip_k0_t1.sl.v206, trip_k0_t1.sl.v205, trip_k0_t1.sl.v204, m_v56 arg1 arg3 arg4 arg5 arg6 X_arg1 X_arg3 X_arg4 X_arg5 X_arg6 k]; rfl

theorem m_v223 : trip_k0_t1.sl.v223 arg1 arg4 X_arg1 X_arg4 k = kb 𝔸 1 0 := by
  simp only [trip_k0_t1.sl.v223, trip_k0_t1.sl.v222, trip_k0_t1.sl.v221, trip_k0_t1.sl.v220, trip_k0_t1.sl.v99, trip_k0_t1.sl.cst_32, trip_k0_t1.sl.v218, trip_k0_t1.sl.v217, trip_k0_t1.sl.v216, trip_k0_t1.sl.v215, m_v56 arg1 arg3 arg4 arg5 arg6 X_arg1 X_arg3 X_arg4 X_arg5 X_arg6 k]; rfl

theorem m_v224 : trip_k0_t1.sl.v224 arg1 arg4 X_arg1 X_arg4 k = vb 𝔸 1 0 := by
  simp only [trip_k0_t1.sl.v224, m_v56 arg1 arg3 arg4 arg5 arg6 X_arg1 X_arg3 X_arg4 X_arg5 X_arg6 k]; rfl

theorem m_v225 : trip_k0_t1.sl.v225 arg3 arg5 arg6 X_arg3 X_arg5 X_arg6 k = gcol 𝔸 1 0 := by
  simp only [trip_k0_t1.sl.v225, m_v202 arg1 arg3 arg4 arg5 arg6 X_arg1 X_arg3 X_arg4 X_arg5 X_arg6 k]; rfl

theorem m_v226 : trip_k0_t1.sl.v226 arg3 arg5 arg6 X_arg3 X_arg5 X_arg6 k = grow 𝔸 1 0 := by
  simp only [trip_k0_t1.sl.v226, trip_k0_t1.sl.v203, m_v202 arg1 arg3 arg4 arg5 arg6 X_arg1 X_arg3 X_arg4 X_arg5 X_arg6 k]; rfl

theorem m_v227 : trip_k0_t1.sl.v227 arg3 arg5 arg6 X_arg3 X_arg5 X_arg6 k = gend 𝔸 1 0 := by
  simp only [trip_k0_t1.sl.v227, m_v202 arg1 arg3 arg4 arg5 arg6 X_arg1 X_arg3 X_arg4 X_arg5 X_arg6 k]; rfl

theorem m_v228 : trip_k0_t1.sl.v228 arg3 X_arg3 k = bcol 𝔸 1 0 := by
  simp only [trip_k0_t1.sl.v228, m_v78 arg1 arg3 arg4 arg5 arg6 X_arg1 X_arg3 X_arg4 X_arg5 X_arg6 k]; rfl

theorem m_v239 : trip_k0_t1.sl.v239 arg1 arg4 X_arg1 X_arg4 k = qb 𝔸 1 1 := by
  simp only [trip_k0_t1.sl.v239, trip_k0_t1.sl.v104, trip_k0_t1.sl.cst_33, trip_k0_t1.sl.v237, trip_k0_t1.sl.v236, trip_k0_t1.sl.v235, trip_k0_t1.sl.v234, trip_k0_t1.sl.v99, trip_k0_t1.sl.cst_32, trip_k0_t1.sl.v232, trip_k0_t1.sl.v231, trip_k0_t1.sl.v230, trip_k0_t1.sl.v229, m_v56 arg1 arg3 arg4 arg5 arg6 X_arg1 X_arg3 X_arg4 X_arg5 X_arg6 k]; rfl

theorem m_v248 : trip_k0_t1.sl.v248 arg1 arg4 X_arg1 X_arg4 k = kb 𝔸 1 1 := by
  simp only [trip_k0_t1.sl.v248, trip_k0_t1.sl.v247, trip_k0_t1.sl.v246, trip_k0_t1.sl.v245, trip_k0_t1.sl.v99, trip_k0_t1.sl.cst_32, trip_k0_t1.sl.v243, trip_k0_t1.sl.v242, trip_k0_t1.sl.v241, trip_k0_t1.sl.v240, m_v56 arg1 arg3 arg4 arg5 arg6 X_arg1 X_arg3 X_arg4 X_arg5 X_arg6 k]; rfl

theorem m_v249 : trip_k0_t1.sl.v249 arg1 arg4 X_arg1 X_arg4 k = vb 𝔸 1 1 := by
  simp only [trip_k0_t1.sl.v249, m_v56 arg1 arg3 arg4 arg5 arg6 X_arg1 X_arg3 X_arg4 X_arg5 X_arg6 k]; rfl

theorem m_v250 : trip_k0_t1.sl.v250 arg3 arg5 arg6 X_arg3 X_arg5 X_arg6 k = gcol 𝔸 1 1 := by
  simp only [trip_k0_t1.sl.v250, m_v202 arg1 arg3 arg4 arg5 arg6 X_arg1 X_arg3 X_arg4 X_arg5 X_arg6 k]; rfl

theorem m_v251 : trip_k0_t1.sl.v251 arg3 arg5 arg6 X_arg3 X_arg5 X_arg6 k = grow 𝔸 1 1 := by
  simp only [trip_k0_t1.sl.v251, trip_k0_t1.sl.v203, m_v202 arg1 arg3 arg4 arg5 arg6 X_arg1 X_arg3 X_arg4 X_arg5 X_arg6 k]; rfl

theorem m_v252 : trip_k0_t1.sl.v252 arg3 arg5 arg6 X_arg3 X_arg5 X_arg6 k = gend 𝔸 1 1 := by
  simp only [trip_k0_t1.sl.v252, m_v202 arg1 arg3 arg4 arg5 arg6 X_arg1 X_arg3 X_arg4 X_arg5 X_arg6 k]; rfl

theorem m_v253 : trip_k0_t1.sl.v253 arg3 X_arg3 k = bcol 𝔸 1 1 := by
  simp only [trip_k0_t1.sl.v253, m_v78 arg1 arg3 arg4 arg5 arg6 X_arg1 X_arg3 X_arg4 X_arg5 X_arg6 k]; rfl

theorem m_v264 : trip_k0_t1.sl.v264 arg1 arg4 X_arg1 X_arg4 k = qb 𝔸 1 2 := by
  simp only [trip_k0_t1.sl.v264, trip_k0_t1.sl.v104, trip_k0_t1.sl.cst_33, trip_k0_t1.sl.v262, trip_k0_t1.sl.v261, trip_k0_t1.sl.v260, trip_k0_t1.sl.v259, trip_k0_t1.sl.v99, trip_k0_t1.sl.cst_32, trip_k0_t1.sl.v257, trip_k0_t1.sl.v256, trip_k0_t1.sl.v255, trip_k0_t1.sl.v254, m_v56 arg1 arg3 arg4 arg5 arg6 X_arg1 X_arg3 X_arg4 X_arg5 X_arg6 k]; rfl

theorem m_v273 : trip_k0_t1.sl.v273 arg1 arg4 X_arg1 X_arg4 k = kb 𝔸 1 2 := by
  simp only [trip_k0_t1.sl.v273, trip_k0_t1.sl.v272, trip_k0_t1.sl.v271, trip_k0_t1.sl.v270, trip_k0_t1.sl.v99, trip_k0_t1.sl.cst_32, trip_k0_t1.sl.v268, trip_k0_t1.sl.v267, trip_k0_t1.sl.v266, trip_k0_t1.sl.v265, m_v56 arg1 arg3 arg4 arg5 arg6 X_arg1 X_arg3 X_arg4 X_arg5 X_arg6 k]; rfl

theorem m_v274 : trip_k0_t1.sl.v274 arg1 arg4 X_arg1 X_arg4 k = vb 𝔸 1 2 := by
  simp only [trip_k0_t1.sl.v274, m_v56 arg1 arg3 arg4 arg5 arg6 X_arg1 X_arg3 X_arg4 X_arg5 X_arg6 k]; rfl

theorem m_v275 : trip_k0_t1.sl.v275 arg3 arg5 arg6 X_arg3 X_arg5 X_arg6 k = gcol 𝔸 1 2 := by
  simp only [trip_k0_t1.sl.v275, m_v202 arg1 arg3 arg4 arg5 arg6 X_arg1 X_arg3 X_arg4 X_arg5 X_arg6 k]; rfl

theorem m_v276 : trip_k0_t1.sl.v276 arg3 arg5 arg6 X_arg3 X_arg5 X_arg6 k = grow 𝔸 1 2 := by
  simp only [trip_k0_t1.sl.v276, trip_k0_t1.sl.v203, m_v202 arg1 arg3 arg4 arg5 arg6 X_arg1 X_arg3 X_arg4 X_arg5 X_arg6 k]; rfl

theorem m_v277 : trip_k0_t1.sl.v277 arg3 arg5 arg6 X_arg3 X_arg5 X_arg6 k = gend 𝔸 1 2 := by
  simp only [trip_k0_t1.sl.v277, m_v202 arg1 arg3 arg4 arg5 arg6 X_arg1 X_arg3 X_arg4 X_arg5 X_arg6 k]; rfl

theorem m_v278 : trip_k0_t1.sl.v278 arg3 X_arg3 k = bcol 𝔸 1 2 := by
  simp only [trip_k0_t1.sl.v278, m_v78 arg1 arg3 arg4 arg5 arg6 X_arg1 X_arg3 X_arg4 X_arg5 X_arg6 k]; rfl

theorem m_v289 : trip_k0_t1.sl.v289 arg1 arg4 X_arg1 X_arg4 k = qb 𝔸 1 3 := by
  simp only [trip_k0_t1.sl.v289, trip_k0_t1.sl.v104, trip_k0_t1.sl.cst_33, trip_k0_t1.sl.v287, trip_k0_t1.sl.v286, trip_k0_t1.sl.v285, trip_k0_t1.sl.v284, trip_k0_t1.sl.v99, trip_k0_t1.sl.cst_32, trip_k0_t1.sl.v282, trip_k0_t1.sl.v281, trip_k0_t1.sl.v280, trip_k0_t1.sl.v279, m_v56 arg1 arg3 arg4 arg5 arg6 X_arg1 X_arg3 X_arg4 X_arg5 X_arg6 k]; rfl

theorem m_v298 : trip_k0_t1.sl.v298 arg1 arg4 X_arg1 X_arg4 k = kb 𝔸 1 3 := by
  simp only [trip_k0_t1.sl.v298, trip_k0_t1.sl.v297, trip_k0_t1.sl.v296, trip_k0_t1.sl.v295, trip_k0_t1.sl.v99, trip_k0_t1.sl.cst_32, trip_k0_t1.sl.v293, trip_k0_t1.sl.v292, trip_k0_t1.sl.v291, trip_k0_t1.sl.v290, m_v56 arg1 arg3 arg4 arg5 arg6 X_arg1 X_arg3 X_arg4 X_arg5 X_arg6 k]; rfl

theorem m_v299 : trip_k0_t1.sl.v299 arg1 arg4 X_arg1 X_arg4 k = vb 𝔸 1 3 := by
  simp only [trip_k0_t1.sl.v299, m_v56 arg1 arg3 arg4 arg5 arg6 X_arg1 X_arg3 X_arg4 X_arg5 X_arg6 k]; rfl

theorem m_v300 : trip_k0_t1.sl.v300 arg3 arg5 arg6 X_arg3 X_arg5 X_arg6 k = gcol 𝔸 1 3 := by
  simp only [trip_k0_t1.sl.v300, m_v202 arg1 arg3 arg4 arg5 arg6 X_arg1 X_arg3 X_arg4 X_arg5 X_arg6 k]; rfl

theorem m_v301 : trip_k0_t1.sl.v301 arg3 arg5 arg6 X_arg3 X_arg5 X_arg6 k = grow 𝔸 1 3 := by
  simp only [trip_k0_t1.sl.v301, trip_k0_t1.sl.v203, m_v202 arg1 arg3 arg4 arg5 arg6 X_arg1 X_arg3 X_arg4 X_arg5 X_arg6 k]; rfl

theorem m_v302 : trip_k0_t1.sl.v302 arg3 arg5 arg6 X_arg3 X_arg5 X_arg6 k = gend 𝔸 1 3 := by
  simp only [trip_k0_t1.sl.v302, m_v202 arg1 arg3 arg4 arg5 arg6 X_arg1 X_arg3 X_arg4 X_arg5 X_arg6 k]; rfl

theorem m_v303 : trip_k0_t1.sl.v303 arg3 X_arg3 k = bcol 𝔸 1 3 := by
  simp only [trip_k0_t1.sl.v303, m_v78 arg1 arg3 arg4 arg5 arg6 X_arg1 X_arg3 X_arg4 X_arg5 X_arg6 k]; rfl

theorem m_v323 : trip_k0_t1.sl.v323 arg1 arg4 X_arg1 X_arg4 k = qb 𝔸 2 0 := by
  simp only [trip_k0_t1.sl.v323, trip_k0_t1.sl.v104, trip_k0_t1.sl.cst_33, trip_k0_t1.sl.v321, trip_k0_t1.sl.v320, trip_k0_t1.sl.v319, trip_k0_t1.sl.v318, trip_k0_t1.sl.v99, trip_k0_t1.sl.cst_32, trip_k0_t1.sl.v316, trip_k0_t1.sl.v315, trip_k0_t1.sl.v314, trip_k0_t1.sl.v313, m_v56 arg1 arg3 arg4 arg5 arg6 X_arg1 X_arg3 X_arg4 X_arg5 X_arg6 k]; rfl

theorem m_v332 : trip_k0_t1.sl.v332 arg1 arg4 X_arg1 X_arg4 k = kb 𝔸 2 0 := by
  simp only [trip_k0_t1.sl.v332, trip_k0_t1.sl.v331, trip_k0_t1.sl.v330, trip_k0_t1.sl.v329, trip_k0_t1.sl.v99, trip_k0_t1.sl.cst_32, trip_k0_t1.sl.v327, trip_k0_t1.sl.v326, trip_k0_t1.sl.v325, trip_k0_t1.sl.v324, m_v56 arg1 arg3 arg4 arg5 arg6 X_arg1 X_arg3 X_arg4 X_arg5 X_arg6 k]; rfl

theorem m_v333 : trip_k0_t1.sl.v333 arg1 arg4 X_arg1 X_arg4 k = vb 𝔸 2 0 := by
  simp only [trip_k0_t1.sl.v333, m_v56 arg1 arg3 arg4 arg5 arg6 X_arg1 X_arg3 X_arg4 X_arg5 X_arg6 k]; rfl

theorem m_v334 : trip_k0_t1.sl.v334 arg3 arg5 arg6 X_arg3 X_arg5 X_arg6 k = gcol 𝔸 2 0 := by
  simp only [trip_k0_t1.sl.v334, m_v311 arg1 arg3 arg4 arg5 arg6 X_arg1 X_arg3 X_arg4 X_arg5 X_arg6 k]; rfl

theorem m_v335 : trip_k0_t1.sl.v335 arg3 arg5 arg6 X_arg3 X_arg5 X_arg6 k = grow 𝔸 2 0 := by
  simp only [trip_k0_t1.sl.v335, trip_k0_t1.sl.v312, m_v311 arg1 arg3 arg4 arg5 arg6 X_arg1 X_arg3 X_arg4 X_arg5 X_arg6 k]; rfl

theorem m_v336 : trip_k0_t1.sl.v336 arg3 arg5 arg6 X_arg3 X_arg5 X_arg6 k = gend 𝔸 2 0 := by
  simp only [trip_k0_t1.sl.v336, m_v311 arg1 arg3 arg4 arg5 arg6 X_arg1 X_arg3 X_arg4 X_arg5 X_arg6 k]; rfl

theorem m_v337 : trip_k0_t1.sl.v337 arg3 X_arg3 k = bcol 𝔸 2 0 := by
  simp only [trip_k0_t1.sl.v337, m_v78 arg1 arg3 arg4 arg5 arg6 X_arg1 X_arg3 X_arg4 X_arg5 X_arg6 k]; rfl

theorem m_v348 : trip_k0_t1.sl.v348 arg1 arg4 X_arg1 X_arg4 k = qb 𝔸 2 1 := by
  simp only [trip_k0_t1.sl.v348, trip_k0_t1.sl.v104, trip_k0_t1.sl.cst_33, trip_k0_t1.sl.v346, trip_k0_t1.sl.v345, trip_k0_t1.sl.v344, trip_k0_t1.sl.v343, trip_k0_t1.sl.v99, trip_k0_t1.sl.cst_32, trip_k0_t1.sl.v341, trip_k0_t1.sl.v340, trip_k0_t1.sl.v339, trip_k0_t1.sl.v338, m_v56 arg1 arg3 arg4 arg5 arg6 X_arg1 X_arg3 X_arg4 X_arg5 X_arg6 k]; rfl

theorem m_v357 : trip_k0_t1.sl.v357 arg1 arg4 X_arg1 X_arg4 k = kb 𝔸 2 1 := by
  simp only [trip_k0_t1.sl.v357, trip_k0_t1.sl.v356, trip_k0_t1.sl.v355, trip_k0_t1.sl.v354, trip_k0_t1.sl.v99, trip_k0_t1.sl.cst_32, trip_k0_t1.sl.v352, trip_k0_t1.sl.v351, trip_k0_t1.sl.v350, trip_k0_t1.sl.v349, m_v56 arg1 arg3 arg4 arg5 arg6 X_arg1 X_arg3 X_arg4 X_arg5 X_arg6 k]; rfl

theorem m_v358 : trip_k0_t1.sl.v358 arg1 arg4 X_arg1 X_arg4 k = vb 𝔸 2 1 := by
  simp only [trip_k0_t1.sl.v358, m_v56 arg1 arg3 arg4 arg5 arg6 X_arg1 X_arg3 X_arg4 X_arg5 X_arg6 k]; rfl

theorem m_v359 : trip_k0_t1.sl.v359 arg3 arg5 arg6 X_arg3 X_arg5 X_arg6 k = gcol 𝔸 2 1 := by
  simp only [trip_k0_t1.sl.v359, m_v311 arg1 arg3 arg4 arg5 arg6 X_arg1 X_arg3 X_arg4 X_arg5 X_arg6 k]; rfl

theorem m_v360 : trip_k0_t1.sl.v360 arg3 arg5 arg6 X_arg3 X_arg5 X_arg6 k = grow 𝔸 2 1 := by
  simp only [trip_k0_t1.sl.v360, trip_k0_t1.sl.v312, m_v311 arg1 arg3 arg4 arg5 arg6 X_arg1 X_arg3 X_arg4 X_arg5 X_arg6 k]; rfl

theorem m_v361 : trip_k0_t1.sl.v361 arg3 arg5 arg6 X_arg3 X_arg5 X_arg6 k = gend 𝔸 2 1 := by
  simp only [trip_k0_t1.sl.v361, m_v311 arg1 arg3 arg4 arg5 arg6 X_arg1 X_arg3 X_arg4 X_arg5 X_arg6 k]; rfl

theorem m_v362 : trip_k0_t1.sl.v362 arg3 X_arg3 k = bcol 𝔸 2 1 := by
  simp only [trip_k0_t1.sl.v362, m_v78 arg1 arg3 arg4 arg5 arg6 X_arg1 X_arg3 X_arg4 X_arg5 X_arg6 k]; rfl

theorem m_v373 : trip_k0_t1.sl.v373 arg1 arg4 X_arg1 X_arg4 k = qb 𝔸 2 2 := by
  simp only [trip_k0_t1.sl.v373, trip_k0_t1.sl.v104, trip_k0_t1.sl.cst_33, trip_k0_t1.sl.v371, trip_k0_t1.sl.v370, trip_k0_t1.sl.v369, trip_k0_t1.sl.v368, trip_k0_t1.sl.v99, trip_k0_t1.sl.cst_32, trip_k0_t1.sl.v366, trip_k0_t1.sl.v365, trip_k0_t1.sl.v364, trip_k0_t1.sl.v363, m_v56 arg1 arg3 arg4 arg5 arg6 X_arg1 X_arg3 X_arg4 X_arg5 X_arg6 k]; rfl

theorem m_v382 : trip_k0_t1.sl.v382 arg1 arg4 X_arg1 X_arg4 k = kb 𝔸 2 2 := by
  simp only [trip_k0_t1.sl.v382, trip_k0_t1.sl.v381, trip_k0_t1.sl.v380, trip_k0_t1.sl.v379, trip_k0_t1.sl.v99, trip_k0_t1.sl.cst_32, trip_k0_t1.sl.v377, trip_k0_t1.sl.v376, trip_k0_t1.sl.v375, trip_k0_t1.sl.v374, m_v56 arg1 arg3 arg4 arg5 arg6 X_arg1 X_arg3 X_arg4 X_arg5 X_arg6 k]; rfl

theorem m_v383 : trip_k0_t1.sl.v383 arg1 arg4 X_arg1 X_arg4 k = vb 𝔸 2 2 := by
  simp only [trip_k0_t1.sl.v383, m_v56 arg1 arg3 arg4 arg5 arg6 X_arg1 X_arg3 X_arg4 X_arg5 X_arg6 k]; rfl

theorem m_v384 : trip_k0_t1.sl.v384 arg3 arg5 arg6 X_arg3 X_arg5 X_arg6 k = gcol 𝔸 2 2 := by
  simp only [trip_k0_t1.sl.v384, m_v311 arg1 arg3 arg4 arg5 arg6 X_arg1 X_arg3 X_arg4 X_arg5 X_arg6 k]; rfl

theorem m_v385 : trip_k0_t1.sl.v385 arg3 arg5 arg6 X_arg3 X_arg5 X_arg6 k = grow 𝔸 2 2 := by
  simp only [trip_k0_t1.sl.v385, trip_k0_t1.sl.v312, m_v311 arg1 arg3 arg4 arg5 arg6 X_arg1 X_arg3 X_arg4 X_arg5 X_arg6 k]; rfl

theorem m_v386 : trip_k0_t1.sl.v386 arg3 arg5 arg6 X_arg3 X_arg5 X_arg6 k = gend 𝔸 2 2 := by
  simp only [trip_k0_t1.sl.v386, m_v311 arg1 arg3 arg4 arg5 arg6 X_arg1 X_arg3 X_arg4 X_arg5 X_arg6 k]; rfl

theorem m_v387 : trip_k0_t1.sl.v387 arg3 X_arg3 k = bcol 𝔸 2 2 := by
  simp only [trip_k0_t1.sl.v387, m_v78 arg1 arg3 arg4 arg5 arg6 X_arg1 X_arg3 X_arg4 X_arg5 X_arg6 k]; rfl

theorem m_v398 : trip_k0_t1.sl.v398 arg1 arg4 X_arg1 X_arg4 k = qb 𝔸 2 3 := by
  simp only [trip_k0_t1.sl.v398, trip_k0_t1.sl.v104, trip_k0_t1.sl.cst_33, trip_k0_t1.sl.v396, trip_k0_t1.sl.v395, trip_k0_t1.sl.v394, trip_k0_t1.sl.v393, trip_k0_t1.sl.v99, trip_k0_t1.sl.cst_32, trip_k0_t1.sl.v391, trip_k0_t1.sl.v390, trip_k0_t1.sl.v389, trip_k0_t1.sl.v388, m_v56 arg1 arg3 arg4 arg5 arg6 X_arg1 X_arg3 X_arg4 X_arg5 X_arg6 k]; rfl

theorem m_v407 : trip_k0_t1.sl.v407 arg1 arg4 X_arg1 X_arg4 k = kb 𝔸 2 3 := by
  simp only [trip_k0_t1.sl.v407, trip_k0_t1.sl.v406, trip_k0_t1.sl.v405, trip_k0_t1.sl.v404, trip_k0_t1.sl.v99, trip_k0_t1.sl.cst_32, trip_k0_t1.sl.v402, trip_k0_t1.sl.v401, trip_k0_t1.sl.v400, trip_k0_t1.sl.v399, m_v56 arg1 arg3 arg4 arg5 arg6 X_arg1 X_arg3 X_arg4 X_arg5 X_arg6 k]; rfl

theorem m_v408 : trip_k0_t1.sl.v408 arg1 arg4 X_arg1 X_arg4 k = vb 𝔸 2 3 := by
  simp only [trip_k0_t1.sl.v408, m_v56 arg1 arg3 arg4 arg5 arg6 X_arg1 X_arg3 X_arg4 X_arg5 X_arg6 k]; rfl

theorem m_v409 : trip_k0_t1.sl.v409 arg3 arg5 arg6 X_arg3 X_arg5 X_arg6 k = gcol 𝔸 2 3 := by
  simp only [trip_k0_t1.sl.v409, m_v311 arg1 arg3 arg4 arg5 arg6 X_arg1 X_arg3 X_arg4 X_arg5 X_arg6 k]; rfl

theorem m_v410 : trip_k0_t1.sl.v410 arg3 arg5 arg6 X_arg3 X_arg5 X_arg6 k = grow 𝔸 2 3 := by
  simp only [trip_k0_t1.sl.v410, trip_k0_t1.sl.v312, m_v311 arg1 arg3 arg4 arg5 arg6 X_arg1 X_arg3 X_arg4 X_arg5 X_arg6 k]; rfl

theorem m_v411 : trip_k0_t1.sl.v411 arg3 arg5 arg6 X_arg3 X_arg5 X_arg6 k = gend 𝔸 2 3 := by
  simp only [trip_k0_t1.sl.v411, m_v311 arg1 arg3 arg4 arg5 arg6 X_arg1 X_arg3 X_arg4 X_arg5 X_arg6 k]; rfl

theorem m_v412 : trip_k0_t1.sl.v412 arg3 X_arg3 k = bcol 𝔸 2 3 := by
  simp only [trip_k0_t1.sl.v412, m_v78 arg1 arg3 arg4 arg5 arg6 X_arg1 X_arg3 X_arg4 X_arg5 X_arg6 k]; rfl

theorem m_v432 : trip_k0_t1.sl.v432 arg1 arg4 X_arg1 X_arg4 k = qb 𝔸 3 0 := by
  simp only [trip_k0_t1.sl.v432, trip_k0_t1.sl.v104, trip_k0_t1.sl.cst_33, trip_k0_t1.sl.v430, trip_k0_t1.sl.v429, trip_k0_t1.sl.v428, trip_k0_t1.sl.v427, trip_k0_t1.sl.v99, trip_k0_t1.sl.cst_32, trip_k0_t1.sl.v425, trip_k0_t1.sl.v424, trip_k0_t1.sl.v423, trip_k0_t1.sl.v422, m_v56 arg1 arg3 arg4 arg5 arg6 X_arg1 X_arg3 X_arg4 X_arg5 X_arg6 k]; rfl

theorem m_v441 : trip_k0_t1.sl.v441 arg1 arg4 X_arg1 X_arg4 k = kb 𝔸 3 0 := by
  simp only [trip_k0_t1.sl.v441, trip_k0_t1.sl.v440, trip_k0_t1.sl.v439, trip_k0_t1.sl.v438, trip_k0_t1.sl.v99, trip_k0_t1.sl.cst_32, trip_k0_t1.sl.v436, trip_k0_t1.sl.v435, trip_k0_t1.sl.v434, trip_k0_t1.sl.v433, m_v56 arg1 arg3 arg4 arg5 arg6 X_arg1 X_arg3 X_arg4 X_arg5 X_arg6 k]; rfl

theorem m_v442 : trip_k0_t1.sl.v442 arg1 arg4 X_arg1 X_arg4 k = vb 𝔸 3 0 := by
  simp only [trip_k0_t1.sl.v442, m_v56 arg1 arg3 arg4 arg5 arg6 X_arg1 X_arg3 X_arg4 X_arg5 X_arg6 k]; rfl

theorem m_v443 : trip_k0_t1.sl.v443 arg3 arg5 arg6 X_arg3 X_arg5 X_arg6 k = gcol 𝔸 3 0 := by
  simp only [trip_k0_t1.sl.v443, m_v420 arg1 arg3 arg4 arg5 arg6 X_arg1 X_arg3 X_arg4 X_arg5 X_arg6 k]; rfl

theorem m_v444 : trip_k0_t1.sl.v444 arg3 arg5 arg6 X_arg3 X_arg5 X_arg6 k = grow 𝔸 3 0 := by
  simp only [trip_k0_t1.sl.v444, trip_k0_t1.sl.v421, m_v420 arg1 arg3 arg4 arg5 arg6 X_arg1 X_arg3 X_arg4 X_arg5 X_arg6 k]; rfl

theorem m_v445 : trip_k0_t1.sl.v445 arg3 arg5 arg6 X_arg3 X_arg5 X_arg6 k = gend 𝔸 3 0 := by
  simp only [trip_k0_t1.sl.v445, m_v420 arg1 arg3 arg4 arg5 arg6 X_arg1 X_arg3 X_arg4 X_arg5 X_arg6 k]; rfl

theorem m_v446 : trip_k0_t1.sl.v446 arg3 X_arg3 k = bcol 𝔸 3 0 := by
  simp only [trip_k0_t1.sl.v446, m_v78 arg1 arg3 arg4 arg5 arg6 X_arg1 X_arg3 X_arg4 X_arg5 X_arg6 k]; rfl

theorem m_v457 : trip_k0_t1.sl.v457 arg1 arg4 X_arg1 X_arg4 k = qb 𝔸 3 1 := by
  simp only [trip_k0_t1.sl.v457, trip_k0_t1.sl.v104, trip_k0_t1.sl.cst_33, trip_k0_t1.sl.v455, trip_k0_t1.sl.v454, trip_k0_t1.sl.v453, trip_k0_t1.sl.v452, trip_k0_t1.sl.v99, trip_k0_t1.sl.cst_32, trip_k0_t1.sl.v450, trip_k0_t1.sl.v449, trip_k0_t1.sl.v448, trip_k0_t1.sl.v447, m_v56 arg1 arg3 arg4 arg5 arg6 X_arg1 X_arg3 X_arg4 X_arg5 X_arg6 k]; rfl

theorem m_v466 : trip_k0_t1.sl.v466 arg1 arg4 X_arg1 X_arg4 k = kb 𝔸 3 1 := by
  simp only [trip_k0_t1.sl.v466, trip_k0_t1.sl.v465, trip_k0_t1.sl.v464, trip_k0_t1.sl.v463, trip_k0_t1.sl.v99, trip_k0_t1.sl.cst_32, trip_k0_t1.sl.v461, trip_k0_t1.sl.v460, trip_k0_t1.sl.v459, trip_k0_t1.sl.v458, m_v56 arg1 arg3 arg4 arg5 arg6 X_arg1 X_arg3 X_arg4 X_arg5 X_arg6 k]; rfl

theorem m_v467 : trip_k0_t1.sl.v467 arg1 arg4 X_arg1 X_arg4 k = vb 𝔸 3 1 := by
  simp only [trip_k0_t1.sl.v467, m_v56 arg1 arg3 arg4 arg5 arg6 X_arg1 X_arg3 X_arg4 X_arg5 X_arg6 k]; rfl

theorem m_v468 : trip_k0_t1.sl.v468 arg3 arg5 arg6 X_arg3 X_arg5 X_arg6 k = gcol 𝔸 3 1 := by
  simp only [trip_k0_t1.sl.v468, m_v420 arg1 arg3 arg4 arg5 arg6 X_arg1 X_arg3 X_arg4 X_arg5 X_arg6 k]; rfl

theorem m_v469 : trip_k0_t1.sl.v469 arg3 arg5 arg6 X_arg3 X_arg5 X_arg6 k = grow 𝔸 3 1 := by
  simp only [trip_k0_t1.sl.v469, trip_k0_t1.sl.v421, m_v420 arg1 arg3 arg4 arg5 arg6 X_arg1 X_arg3 X_arg4 X_arg5 X_arg6 k]; rfl

theorem m_v470 : trip_k0_t1.sl.v470 arg3 arg5 arg6 X_arg3 X_arg5 X_arg6 k = gend 𝔸 3 1 := by
  simp only [trip_k0_t1.sl.v470, m_v420 arg1 arg3 arg4 arg5 arg6 X_arg1 X_arg3 X_arg4 X_arg5 X_arg6 k]; rfl

theorem m_v471 : trip_k0_t1.sl.v471 arg3 X_arg3 k = bcol 𝔸 3 1 := by
  simp only [trip_k0_t1.sl.v471, m_v78 arg1 arg3 arg4 arg5 arg6 X_arg1 X_arg3 X_arg4 X_arg5 X_arg6 k]; rfl

theorem m_v482 : trip_k0_t1.sl.v482 arg1 arg4 X_arg1 X_arg4 k = qb 𝔸 3 2 := by
  simp only [trip_k0_t1.sl.v482, trip_k0_t1.sl.v104, trip_k0_t1.sl.cst_33, trip_k0_t1.sl.v480, trip_k0_t1.sl.v479, trip_k0_t1.sl.v478, trip_k0_t1.sl.v477, trip_k0_t1.sl.v99, trip_k0_t1.sl.cst_32, trip_k0_t1.sl.v475, trip_k0_t1.sl.v474, trip_k0_t1.sl.v473, trip_k0_t1.sl.v472, m_v56 arg1 arg3 arg4 arg5 arg6 X_arg1 X_arg3 X_arg4 X_arg5 X_arg6 k]; rfl

theorem m_v491 : trip_k0_t1.sl.v491 arg1 arg4 X_arg1 X_arg4 k = kb 𝔸 3 2 := by
  simp only [trip_k0_t1.sl.v491, trip_k0_t1.sl.v490, trip_k0_t1.sl.v489, trip_k0_t1.sl.v488, trip_k0_t1.sl.v99, trip_k0_t1.sl.cst_32, trip_k0_t1.sl.v486, trip_k0_t1.sl.v485, trip_k0_t1.sl.v484, trip_k0_t1.sl.v483, m_v56 arg1 arg3 arg4 arg5 arg6 X_arg1 X_arg3 X_arg4 X_arg5 X_arg6 k]; rfl

theorem m_v492 : trip_k0_t1.sl.v492 arg1 arg4 X_arg1 X_arg4 k = vb 𝔸 3 2 := by
  simp only [trip_k0_t1.sl.v492, m_v56 arg1 arg3 arg4 arg5 arg6 X_arg1 X_arg3 X_arg4 X_arg5 X_arg6 k]; rfl

theorem m_v493 : trip_k0_t1.sl.v493 arg3 arg5 arg6 X_arg3 X_arg5 X_arg6 k = gcol 𝔸 3 2 := by
  simp only [trip_k0_t1.sl.v493, m_v420 arg1 arg3 arg4 arg5 arg6 X_arg1 X_arg3 X_arg4 X_arg5 X_arg6 k]; rfl

theorem m_v494 : trip_k0_t1.sl.v494 arg3 arg5 arg6 X_arg3 X_arg5 X_arg6 k = grow 𝔸 3 2 := by
  simp only [trip_k0_t1.sl.v494, trip_k0_t1.sl.v421, m_v420 arg1 arg3 arg4 arg5 arg6 X_arg1 X_arg3 X_arg4 X_arg5 X_arg6 k]; rfl

theorem m_v495 : trip_k0_t1.sl.v495 arg3 arg5 arg6 X_arg3 X_arg5 X_arg6 k = gend 𝔸 3 2 := by
  simp only [trip_k0_t1.sl.v495, m_v420 arg1 arg3 arg4 arg5 arg6 X_arg1 X_arg3 X_arg4 X_arg5 X_arg6 k]; rfl

theorem m_v496 : trip_k0_t1.sl.v496 arg3 X_arg3 k = bcol 𝔸 3 2 := by
  simp only [trip_k0_t1.sl.v496, m_v78 arg1 arg3 arg4 arg5 arg6 X_arg1 X_arg3 X_arg4 X_arg5 X_arg6 k]; rfl

theorem m_v507 : trip_k0_t1.sl.v507 arg1 arg4 X_arg1 X_arg4 k = qb 𝔸 3 3 := by
  simp only [trip_k0_t1.sl.v507, trip_k0_t1.sl.v104, trip_k0_t1.sl.cst_33, trip_k0_t1.sl.v505, trip_k0_t1.sl.v504, trip_k0_t1.sl.v503, trip_k0_t1.sl.v502, trip_k0_t1.sl.v99, trip_k0_t1.sl.cst_32, trip_k0_t1.sl.v500, trip_k0_t1.sl.v499, trip_k0_t1.sl.v498, trip_k0_t1.sl.v497, m_v56 arg1 arg3 arg4 arg5 arg6 X_arg1 X_arg3 X_arg4 X_arg5 X_arg6 k]; rfl

theorem m_v516 : trip_k0_t1.sl.v516 arg1 arg4 X_arg1 X_arg4 k = kb 𝔸 3 3 := by
  simp only [trip_k0_t1.sl.v516, trip_k0_t1.sl.v515, trip_k0_t1.sl.v514, trip_k0_t1.sl.v513, trip_k0_t1.sl.v99, trip_k0_t1.sl.cst_32, trip_k0_t1.sl.v511, trip_k0_t1.sl.v510, trip_k0_t1.sl.v509, trip_k0_t1.sl.v508, m_v56 arg1 arg3 arg4 arg5 arg6 X_arg1 X_arg3 X_arg4 X_arg5 X_arg6 k]; rfl

theorem m_v517 : trip_k0_t1.sl.v517 arg1 arg4 X_arg1 X_arg4 k = vb 𝔸 3 3 := by
  simp only [trip_k0_t1.sl.v517, m_v56 arg1 arg3 arg4 arg5 arg6 X_arg1 X_arg3 X_arg4 X_arg5 X_arg6 k]; rfl

theorem m_v518 : trip_k0_t1.sl.v518 arg3 arg5 arg6 X_arg3 X_arg5 X_arg6 k = gcol 𝔸 3 3 := by
  simp only [trip_k0_t1.sl.v518, m_v420 arg1 arg3 arg4 arg5 arg6 X_arg1 X_arg3 X_arg4 X_arg5 X_arg6 k]; rfl

theorem m_v519 : trip_k0_t1.sl.v519 arg3 arg5 arg6 X_arg3 X_arg5 X_arg6 k = grow 𝔸 3 3 := by
  simp only [trip_k0_t1.sl.v519, trip_k0_t1.sl.v421, m_v420 arg1 arg3 arg4 arg5 arg6 X_arg1 X_arg3 X_arg4 X_arg5 X_arg6 k]; rfl

theorem m_v520 : trip_k0_t1.sl.v520 arg3 arg5 arg6 X_arg3 X_arg5 X_arg6 k = gend 𝔸 3 3 := by
  simp only [trip_k0_t1.sl.v520, m_v420 arg1 arg3 arg4 arg5 arg6 X_arg1 X_arg3 X_arg4 X_arg5 X_arg6 k]; rfl

theorem m_v521 : trip_k0_t1.sl.v521 arg3 X_arg3 k = bcol 𝔸 3 3 := by
  simp only [trip_k0_t1.sl.v521, m_v78 arg1 arg3 arg4 arg5 arg6 X_arg1 X_arg3 X_arg4 X_arg5 X_arg6 k]; rfl

theorem m_v538 : trip_k0_t1.sl.v538 arg1 arg4 X_arg1 X_arg4 k = Q 𝔸 := by
  simp only [trip_k0_t1.sl.v538, trip_k0_t1.sl.v537, trip_k0_t1.sl.v536, trip_k0_t1.sl.v535, trip_k0_t1.sl.v534, trip_k0_t1.sl.v533, trip_k0_t1.sl.v532, trip_k0_t1.sl.v531, trip_k0_t1.sl.v530, trip_k0_t1.sl.v529, trip_k0_t1.sl.v528, trip_k0_t1.sl.v527, trip_k0_t1.sl.v526, trip_k0_t1.sl.v525, trip_k0_t1.sl.v524, trip_k0_t1.sl.v523, trip_k0_t1.sl.v522, m_v507 arg1 arg3 arg4 arg5 arg6 X_arg1 X_arg3 X_arg4 X_arg5 X_arg6 k, m_v482 arg1 arg3 arg4 arg5 arg6 X_arg1 X_arg3 X_arg4 X_arg5 X_arg6 k, m_v457 arg1 arg3 arg4 arg5 arg6 X_arg1 X_arg3 X_arg4 X_arg5 X_arg6 k, m_v432 arg1 arg3 arg4 arg5 arg6 X_arg1 X_arg3 X_arg4 X_arg5 X_arg6 k, m_v398 arg1 arg3 arg4 arg5 arg6 X_arg1 X_arg3 X_arg4 X_arg5 X_arg6 k, m_v373 arg1 arg3 arg4 arg5 arg6 X_arg1 X_arg3 X_arg4 X_arg5 X_arg6 k, m_v348 arg1 arg3 arg4 arg5 arg6 X_arg1 X_arg3 X_arg4 X_arg5 X_arg6 k, m_v323 arg1 arg3 arg4 arg5 arg6 X_arg1 X_arg3 X_arg4 X_arg5 X_arg6 k, m_v289 arg1 arg3 arg4 arg5 arg6 X_arg1 X_arg3 X_arg4 X_arg5 X_arg6 k, m_v264 arg1 arg3 arg4 arg5 arg6 X_arg1 X_arg3 X_arg4 X_arg5 X_arg6 k, m_v239 arg1 arg3 arg4 arg5 arg6 X_arg1 X_arg3 X_arg4 X_arg5 X_arg6 k, m_v214 arg1 arg3 arg4 arg5 arg6 X_arg1 X_arg3 X_arg4 X_arg5 X_arg6 k, m_v180 arg1 arg3 arg4 arg5 arg6 X_arg1 X_arg3 X_arg4 X_arg5 X_arg6 k, m_v155 arg1 arg3 arg4 arg5 arg6 X_arg1 X_arg3 X_arg4 X_arg5 X_arg6 k, m_v130 arg1 arg3 arg4 arg5 arg6 X_arg1 X_arg3 X_arg4 X_arg5 X_arg6 k, m_v105 arg1 arg3 arg4 arg5 arg6 X_arg1 X_arg3 X_arg4 X_arg5 X_arg6 k]; rfl

theorem m_v555 : trip_k0_t1.sl.v555 arg1 arg4 X_arg1 X_arg4 k = K 𝔸 := by
  simp only [trip_k0_t1.sl.v555, trip_k0_t1.sl.v554, trip_k0_t1.sl.v553, trip_k0_t1.sl.v552, trip_k0_t1.sl.v551, trip_k0_t1.sl.v550, trip_k0_t1.sl.v549, trip_k0_t1.sl.v548, trip_k0_t1.sl.v547, trip_k0_t1.sl.v546, trip_k0_t1.sl.v545, trip_k0_t1.sl.v544, trip_k0_t1.sl.v543, trip_k0_t1.sl.v542, trip_k0_t1.sl.v541, trip_k0_t1.sl.v540, trip_k0_t1.sl.v539, m_v516 arg1 arg3 arg4 arg5 arg6 X_arg1 X_arg3 X_arg4 X_arg5 X_arg6 k, m_v491 arg1 arg3 arg4 arg5 arg6 X_arg1 X_arg3 X_arg4 X_arg5 X_arg6 k, m_v466 arg1 arg3 arg4 arg5 arg6 X_arg1 X_arg3 X_arg4 X_arg5 X_arg6 k, m_v441 arg1 arg3 arg4 arg5 arg6 X_arg1 X_arg3 X_arg4 X_arg5 X_arg6 k, m_v407 arg1 arg3 arg4 arg5 arg6 X_arg1 X_arg3 X_arg4 X_arg5 X_arg6 k, m_v382 arg1 arg3 arg4 arg5 arg6 X_arg1 X_arg3 X_arg4 X_arg5 X_arg6 k, m_v357 arg1 arg3 arg4 arg5 arg6 X_arg1 X_arg3 X_arg4 X_arg5 X_arg6 k, m_v332 arg1 arg3 arg4 arg5 arg6 X_arg1 X_arg3 X_arg4 X_arg5 X_arg6 k, m_v298 arg1 arg3 arg4 arg5 arg6 X_arg1 X_arg3 X_arg4 X_arg5 X_arg6 k, m_v273 arg1 arg3 arg4 arg5 arg6 X_arg1 X_arg3 X_arg4 X_arg5 X_arg6 k, m_v248 arg1 arg3 arg4 arg5 arg6 X_arg1 X_arg3 X_arg4 X_arg5 X_arg6 k, m_v223 arg1 arg3 arg4 arg5 arg6 X_arg1 X_arg3 X_arg4 X_arg5 X_arg6 k, m_v189 arg1 arg3 arg4 arg5 arg6 X_arg1 X_arg3 X_arg4 X_arg5 X_arg6 k, m_v164 arg1 arg3 arg4 arg5 arg6 X_arg1 X_arg3 X_arg4 X_arg5 X_arg6 k, m_v139 arg1 arg3 arg4 arg5 arg6 X_arg1 X_arg3 X_arg4 X_arg5 X_arg6 k, m_v114 arg1 arg3 arg4 arg5 arg6 X_arg1 X_arg3 X_arg4 X_arg5 X_arg6 k]; rfl

theorem m_v572 : trip_k0_t1.sl.v572 arg1 arg4 X_arg1 X_arg4 k = V 𝔸 := by
  simp only [trip_k0_t1.sl.v572, trip_k0_t1.sl.v571, trip_k0_t1.sl.v570, trip_k0_t1.sl.v569, trip_k0_t1.sl.v568, trip_k0_t1.sl.v567, trip_k0_t1.sl.v566, trip_k0_t1.sl.v565, trip_k0_t1.sl.v564, trip_k0_t1.sl.v563, trip_k0_t1.sl.v562, trip_k0_t1.sl.v561, trip_k0_t1.sl.v560, trip_k0_t1.sl.v559, trip_k0_t1.sl.v558, trip_k0_t1.sl.v557, trip_k0_t1.sl.v556, m_v517 arg1 arg3 arg4 arg5 arg6 X_arg1 X_arg3 X_arg4 X_arg5 X_arg6 k, m_v492 arg1 arg3 arg4 arg5 arg6 X_arg1 X_arg3 X_arg4 X_arg5 X_arg6 k, m_v467 arg1 arg3 arg4 arg5 arg6 X_arg1 X_arg3 X_arg4 X_arg5 X_arg6 k, m_v442 arg1 arg3 arg4 arg5 arg6 X_arg1 X_arg3 X_arg4 X_arg5 X_arg6 k, m_v408 arg1 arg3 arg4 arg5 arg6 X_arg1 X_arg3 X_arg4 X_arg5 X_arg6 k, m_v383 arg1 arg3 arg4 arg5 arg6 X_arg1 X_arg3 X_arg4 X_arg5 X_arg6 k, m_v358 arg1 arg3 arg4 arg5 arg6 X_arg1 X_arg3 X_arg4 X_arg5 X_arg6 k, m_v333 arg1 arg3 arg4 arg5 arg6 X_arg1 X_arg3 X_arg4 X_arg5 X_arg6 k, m_v299 arg1 arg3 arg4 arg5 arg6 X_arg1 X_arg3 X_arg4 X_arg5 X_arg6 k, m_v274 arg1 arg3 arg4 arg5 arg6 X_arg1 X_arg3 X_arg4 X_arg5 X_arg6 k, m_v249 arg1 arg3 arg4 arg5 arg6 X_arg1 X_arg3 X_arg4 X_arg5 X_arg6 k, m_v224 arg1 arg3 arg4 arg5 arg6 X_arg1 X_arg3 X_arg4 X_arg5 X_arg6 k, m_v190 arg1 arg3 arg4 arg5 arg6 X_arg1 X_arg3 X_arg4 X_arg5 X_arg6 k, m_v165 arg1 arg3 arg4 arg5 arg6 X_arg1 X_arg3 X_arg4 X_arg5 X_arg6 k, m_v140 arg1 arg3 arg4 arg5 arg6 X_arg1 X_arg3 X_arg4 X_arg5 X_arg6 k, m_v115 arg1 arg3 arg4 arg5 arg6 X_arg1 X_arg3 X_arg4 X_arg5 X_arg6 k]; rfl

theorem m_v589 : trip_k0_t1.sl.v589 arg3 arg5 arg6 X_arg3 X_arg5 X_arg6 k = G 𝔸 := by
  simp only [trip_k0_t1.sl.v589, trip_k0_t1.sl.v588, trip_k0_t1.sl.v587, trip_k0_t1.sl.v586, trip_k0_t1.sl.v585, trip_k0_t1.sl.v584, trip_k0_t1.sl.v583, trip_k0_t1.sl.v582, trip_k0_t1.sl.v581, trip_k0_t1.sl.v580, trip_k0_t1.sl.v579, trip_k0_t1.sl.v578, trip_k0_t1.sl.v577, trip_k0_t1.sl.v576, trip_k0_t1.sl.v575, trip_k0_t1.sl.v574, trip_k0_t1.sl.v573, m_v518 arg1 arg3 arg4 arg5 arg6 X_arg1 X_arg3 X_arg4 X_arg5 X_arg6 k, m_v493 arg1 arg3 arg4 arg5 arg6 X_arg1 X_arg3 X_arg4 X_arg5 X_arg6 k, m_v468 arg1 arg3 arg4 arg5 arg6 X_arg1 X_arg3 X_arg4 X_arg5 X_arg6 k, m_v443 arg1 arg3 arg4 arg5 arg6 X_arg1 X_arg3 X_arg4 X_arg5 X_arg6 k, m_v409 arg1 arg3 arg4 arg5 arg6 X_arg1 X_arg3 X_arg4 X_arg5 X_arg6 k, m_v384 arg1 arg3 arg4 arg5 arg6 X_arg1 X_arg3 X_arg4 X_arg5 X_arg6 k, m_v359 arg1 arg3 arg4 arg5 arg6 X_arg1 X_arg3 X_arg4 X_arg5 X_arg6 k, m_v334 arg1 arg3 arg4 arg5 arg6 X_arg1 X_arg3 X_arg4 X_arg5 X_arg6 k, m_v300 arg1 arg3 arg4 arg5 arg6 X_arg1 X_arg3 X_arg4 X_arg5 X_arg6 k, m_v275 arg1 arg3 arg4 arg5 arg6 X_arg1 X_arg3 X_arg4 X_arg5 X_arg6 k, m_v250 arg1 arg3 arg4 arg5 arg6 X_arg1 X_arg3 X_arg4 X_arg5 X_arg6 k, m_v225 arg1 arg3 arg4 arg5 arg6 X_arg1 X_arg3 X_arg4 X_arg5 X_arg6 k, m_v191 arg1 arg3 arg4 arg5 arg6 X_arg1 X_arg3 X_arg4 X_arg5 X_arg6 k, m_v166 arg1 arg3 arg4 arg5 arg6 X_arg1 X_arg3 X_arg4 X_arg5 X_arg6 k, m_v141 arg1 arg3 arg4 arg5 arg6 X_arg1 X_arg3 X_arg4 X_arg5 X_arg6 k, m_v116 arg1 arg3 arg4 arg5 arg6 X_arg1 X_arg3 X_arg4 X_arg5 X_arg6 k]; rfl

theorem m_v606 : trip_k0_t1.sl.v606 arg3 arg5 arg6 X_arg3 X_arg5 X_arg6 k = Gr 𝔸 := by
  simp only [trip_k0_t1.sl.v606, trip_k0_t1.sl.v605, trip_k0_t1.sl.v604, trip_k0_t1.sl.v603, trip_k0_t1.sl.v602, trip_k0_t1.sl.v601, trip_k0_t1.sl.v600, trip_k0_t1.sl.v599, trip_k0_t1.sl.v598, trip_k0_t1.sl.v597, trip_k0_t1.sl.v596, trip_k0_t1.sl.v595, trip_k0_t1.sl.v594, trip_k0_t1.sl.v593, trip_k0_t1.sl.v592, trip_k0_t1.sl.v591, trip_k0_t1.sl.v590, m_v519 arg1 arg3 arg4 arg5 arg6 X_arg1 X_arg3 X_arg4 X_arg5 X_arg6 k, m_v494 arg1 arg3 arg4 arg5 arg6 X_arg1 X_arg3 X_arg4 X_arg5 X_arg6 k, m_v469 arg1 arg3 arg4 arg5 arg6 X_arg1 X_arg3 X_arg4 X_arg5 X_arg6 k, m_v444 arg1 arg3 arg4 arg5 arg6 X_arg1 X_arg3 X_arg4 X_arg5 X_arg6 k, m_v410 arg1 arg3 arg4 arg5 arg6 X_arg1 X_arg3 X_arg4 X_arg5 X_arg6 k, m_v385 arg1 arg3 arg4 arg5 arg6 X_arg1 X_arg3 X_arg4 X_arg5 X_arg6 k, m_v360 arg1 arg3 arg4 arg5 arg6 X_arg1 X_arg3 X_arg4 X_arg5 X_arg6 k, m_v335 arg1 arg3 arg4 arg5 arg6 X_arg1 X_arg3 X_arg4 X_arg5 X_arg6 k, m_v301 arg1 arg3 arg4 arg5 arg6 X_arg1 X_arg3 X_arg4 X_arg5 X_arg6 k, m_v276 arg1 arg3 arg4 arg5 arg6 X_arg1 X_arg3 X_arg4 X_arg5 X_arg6 k, m_v251 arg1 arg3 arg4 arg5 arg6 X_arg1 X_arg3 X_arg4 X_arg5 X_arg6 k, m_v226 arg1 arg3 arg4 arg5 arg6 X_arg1 X_arg3 X_arg4 X_arg5 X_arg6 k, m_v192 arg1 arg3 arg4 arg5 arg6 X_arg1 X_arg3 X_arg4 X_arg5 X_arg6 k, m_v167 arg1 arg3 arg4 arg5 arg6 X_arg1 X_arg3 X_arg4 X_arg5 X_arg6 k, m_v142 arg1 arg3 arg4 arg5 arg6 X_arg1 X_arg3 X_arg4 X_arg5 X_arg6 k, m_v117 arg1 arg3 arg4 arg5 arg6 X_arg1 X_arg3 X_arg4 X_arg5 X_arg6 k]; rfl

theorem m_r : trip_k0_t1.sl.r arg3 arg5 arg6 X_arg3 X_arg5 X_arg6 k = Ge 𝔸 := by
  simp only [trip_k0_t1.sl.r, trip_k0_t1.sl.v616, trip_k0_t1.sl.v615, trip_k0_t1.sl.v614, trip_k0_t1.sl.v613, trip_k0_t1.sl.v612, trip_k0_t1.sl.v611, trip_k0_t1.sl.v610, trip_k0_t1.sl.v609, trip_k0_t1.sl.v608, trip_k0_t1.sl.v607, m_v386 arg1 arg3 arg4 arg5 arg6 X_arg1 X_arg3 X_arg4 X_arg5 X_arg6 k, m_v411 arg1 arg3 arg4 arg5 arg6 X_arg1 X_arg3 X_arg4 X_arg5 X_arg6 k, m_v445 arg1 arg3 arg4 arg5 arg6 X_arg1 X_arg3 X_arg4 X_arg5 X_arg6 k, m_v470 arg1 arg3 arg4 arg5 arg6 X_arg1 X_arg3 X_arg4 X_arg5 X_arg6 k, m_v495 arg1 arg3 arg4 arg5 arg6 X_arg1 X_arg3 X_arg4 X_arg5 X_arg6 k, m_v520 arg1 arg3 arg4 arg5 arg6 X_arg1 X_arg3 X_arg4 X_arg5 X_arg6 k, m_v361 arg1 arg3 arg4 arg5 arg6 X_arg1 X_arg3 X_arg4 X_arg5 X_arg6 k, m_v336 arg1 arg3 arg4 arg5 arg6 X_arg1 X_arg3 X_arg4 X_arg5 X_arg6 k, m_v302 arg1 arg3 arg4 arg5 arg6 X_arg1 X_arg3 X_arg4 X_arg5 X_arg6 k, m_v277 arg1 arg3 arg4 arg5 arg6 X_arg1 X_arg3 X_arg4 X_arg5 X_arg6 k, m_v252 arg1 arg3 arg4 arg5 arg6 X_arg1 X_arg3 X_arg4 X_arg5 X_arg6 k, m_v227 arg1 arg3 arg4 arg5 arg6 X_arg1 X_arg3 X_arg4 X_arg5 X_arg6 k, m_v193 arg1 arg3 arg4 arg5 arg6 X_arg1 X_arg3 X_arg4 X_arg5 X_arg6 k, m_v168 arg1 arg3 arg4 arg5 arg6 X_arg1 X_arg3 X_arg4 X_arg5 X_arg6 k, m_v143 arg1 arg3 arg4 arg5 arg6 X_arg1 X_arg3 X_arg4 X_arg5 X_arg6 k, m_v118 arg1 arg3 arg4 arg5 arg6 X_arg1 X_arg3 X_arg4 X_arg5 X_arg6 k]; rfl

theorem m_r_1 : trip_k0_t1.sl.r_1 arg3 X_arg3 k = B 𝔸 := by
  simp only [trip_k0_t1.sl.r_1, m_v119 arg1 arg3 arg4 arg5 arg6 X_arg1 X_arg3 X_arg4 X_arg5 X_arg6 k, m_v144 arg1 arg3 arg4 arg5 arg6 X_arg1 X_arg3 X_arg4 X_arg5 X_arg6 k, m_v169 arg1 arg3 arg4 arg5 arg6 X_arg1 X_arg3 X_arg4 X_arg5 X_arg6 k, m_v194 arg1 arg3 arg4 arg5 arg6 X_arg1 X_arg3 X_arg4 X_arg5 X_arg6 k, m_v228 arg1 arg3 arg4 arg5 arg6 X_arg1 X_arg3 X_arg4 X_arg5 X_arg6 k, m_v253 arg1 arg3 arg4 arg5 arg6 X_arg1 X_arg3 X_arg4 X_arg5 X_arg6 k, m_v278 arg1 arg3 arg4 arg5 arg6 X_arg1 X_arg3 X_arg4 X_arg5 X_arg6 k, m_v303 arg1 arg3 arg4 arg5 arg6 X_arg1 X_arg3 X_arg4 X_arg5 X_arg6 k, m_v337 arg1 arg3 arg4 arg5 arg6 X_arg1 X_arg3 X_arg4 X_arg5 X_arg6 k, m_v362 arg1 arg3 arg4 arg5 arg6 X_arg1 X_arg3 X_arg4 X_arg5 X_arg6 k, m_v387 arg1 arg3 arg4 arg5 arg6 X_arg1 X_arg3 X_arg4 X_arg5 X_arg6 k, m_v412 arg1 arg3 arg4 arg5 arg6 X_arg1 X_arg3 X_arg4 X_arg5 X_arg6 k, m_v446 arg1 arg3 arg4 arg5 arg6 X_arg1 X_arg3 X_arg4 X_arg5 X_arg6 k, m_v471 arg1 arg3 arg4 arg5 arg6 X_arg1 X_arg3 X_arg4 X_arg5 X_arg6 k, m_v496 arg1 arg3 arg4 arg5 arg6 X_arg1 X_arg3 X_arg4 X_arg5 X_arg6 k, m_v521 arg1 arg3 arg4 arg5 arg6 X_arg1 X_arg3 X_arg4 X_arg5 X_arg6 k]; rfl

theorem m_r_2 : trip_k0_t1.sl.r_2 arg3 arg5 arg6 X_arg3 X_arg5 X_arg6 k = D 𝔸 := by
  simp only [trip_k0_t1.sl.r_2, m_v589 arg1 arg3 arg4 arg5 arg6 X_arg1 X_arg3 X_arg4 X_arg5 X_arg6 k, m_v606 arg1 arg3 arg4 arg5 arg6 X_arg1 X_arg3 X_arg4 X_arg5 X_arg6 k]; rfl

theorem m_r_3 : trip_k0_t1.sl.r_3 arg1 arg4 X_arg1 X_arg4 k = tb (Q 𝔸) := by
  simp only [trip_k0_t1.sl.r_3, m_v538 arg1 arg3 arg4 arg5 arg6 X_arg1 X_arg3 X_arg4 X_arg5 X_arg6 k]; rfl

theorem m_r_4 : trip_k0_t1.sl.r_4 arg1 arg4 X_arg1 X_arg4 k = tb (K 𝔸) := by
  simp only [trip_k0_t1.sl.r_4, m_v555 arg1 arg3 arg4 arg5 arg6 X_arg1 X_arg3 X_arg4 X_arg5 X_arg6 k]; rfl

theorem m_r_5 : trip_k0_t1.sl.r_5 arg1 arg3 arg4 arg5 arg6 X_arg1 X_arg3 X_arg4 X_arg5 X_arg6 k = N 𝔸 := by
  simp only [trip_k0_t1.sl.r_5, m_v119 arg1 arg3 arg4 arg5 arg6 X_arg1 X_arg3 X_arg4 X_arg5 X_arg6 k, m_v144 arg1 arg3 arg4 arg5 arg6 X_arg1 X_arg3 X_arg4 X_arg5 X_arg6 k, m_v169 arg1 arg3 arg4 arg5 arg6 X_arg1 X_arg3 X_arg4 X_arg5 X_arg6 k, m_v194 arg1 arg3 arg4 arg5 arg6 X_arg1 X_arg3 X_arg4 X_arg5 X_arg6 k, m_v228 arg1 arg3 arg4 arg5 arg6 X_arg1 X_arg3 X_arg4 X_arg5 X_arg6 k, m_v253 arg1 arg3 arg4 arg5 arg6 X_arg1 X_arg3 X_arg4 X_arg5 X_arg6 k, m_v278 arg1 arg3 arg4 arg5 arg6 X_arg1 X_arg3 X_arg4 X_arg5 X_arg6 k, m_v303 arg1 arg3 arg4 arg5 arg6 X_arg1 X_arg3 X_arg4 X_arg5 X_arg6 k, m_v337 arg1 arg3 arg4 arg5 arg6 X_arg1 X_arg3 X_arg4 X_arg5 X_arg6 k, m_v362 arg1 arg3 arg4 arg5 arg6 X_arg1 X_arg3 X_arg4 X_arg5 X_arg6 k, m_v387 arg1 arg3 arg4 arg5 arg6 X_arg1 X_arg3 X_arg4 X_arg5 X_arg6 k, m_v412 arg1 arg3 arg4 arg5 arg6 X_arg1 X_arg3 X_arg4 X_arg5 X_arg6 k, m_v446 arg1 arg3 arg4 arg5 arg6 X_arg1 X_arg3 X_arg4 X_arg5 X_arg6 k, m_v471 arg1 arg3 arg4 arg5 arg6 X_arg1 X_arg3 X_arg4 X_arg5 X_arg6 k, m_v496 arg1 arg3 arg4 arg5 arg6 X_arg1 X_arg3 X_arg4 X_arg5 X_arg6 k, m_v521 arg1 arg3 arg4 arg5 arg6 X_arg1 X_arg3 X_arg4 X_arg5 X_arg6 k, m_v555 arg1 arg3 arg4 arg5 arg6 X_arg1 X_arg3 X_arg4 X_arg5 X_arg6 k, m_v589 arg1 arg3 arg4 arg5 arg6 X_arg1 X_arg3 X_arg4 X_arg5 X_arg6 k, m_v606 arg1 arg3 arg4 arg5 arg6 X_arg1 X_arg3 X_arg4 X_arg5 X_arg6 k]; rfl

theorem m_r_6 : trip_k0_t1.sl.r_6 arg1 arg3 arg4 arg5 arg6 X_arg1 X_arg3 X_arg4 X_arg5 X_arg6 k = I0 𝔸 := by
  simp only [trip_k0_t1.sl.r_6, m_v119 arg1 arg3 arg4 arg5 arg6 X_arg1 X_arg3 X_arg4 X_arg5 X_arg6 k, m_v144 arg1 arg3 arg4 arg5 arg6 X_arg1 X_arg3 X_arg4 X_arg5 X_arg6 k, m_v169 arg1 arg3 arg4 arg5 arg6 X_arg1 X_arg3 X_arg4 X_arg5 X_arg6 k, m_v194 arg1 arg3 arg4 arg5 arg6 X_arg1 X_arg3 X_arg4 X_arg5 X_arg6 k, m_v228 arg1 arg3 arg4 arg5 arg6 X_arg1 X_arg3 X_arg4 X_arg5 X_arg6 k, m_v253 arg1 arg3 arg4 arg5 arg6 X_arg1 X_arg3 X_arg4 X_arg5 X_arg6 k, m_v278 arg1 arg3 arg4 arg5 arg6 X_arg1 X_arg3 X_arg4 X_arg5 X_arg6 k, m_v303 arg1 arg3 arg4 arg5 arg6 X_arg1 X_arg3 X_arg4 X_arg5 X_arg6 k, m_v337 arg1 arg3 arg4 arg5 arg6 X_arg1 X_arg3 X_arg4 X_arg5 X_arg6 k, m_v362 arg1 arg3 arg4 arg5 arg6 X_arg1 X_arg3 X_arg4 X_arg5 X_arg6 k, m_v387 arg1 arg3 arg4 arg5 arg6 X_arg1 X_arg3 X_arg4 X_arg5 X_arg6 k, m_v412 arg1 arg3 arg4 arg5 arg6 X_arg1 X_arg3 X_arg4 X_arg5 X_arg6 k, m_v446 arg1 arg3 arg4 arg5 arg6 X_arg1 X_arg3 X_arg4 X_arg5 X_arg6 k, m_v471 arg1 arg3 arg4 arg5 arg6 X_arg1 X_arg3 X_arg4 X_arg5 X_arg6 k, m_v496 arg1 arg3 arg4 arg5 arg6 X_arg1 X_arg3 X_arg4 X_arg5 X_arg6 k, m_v521 arg1 arg3 arg4 arg5 arg6 X_arg1 X_arg3 X_arg4 X_arg5 X_arg6 k, m_v555 arg1 arg3 arg4 arg5 arg6 X_arg1 X_arg3 X_arg4 X_arg5 X_arg6 k, m_v589 arg1 arg3 arg4 arg5 arg6 X_arg1 X_arg3 X_arg4 X_arg5 X_arg6 k, m_v606 arg1 arg3 arg4 arg5 arg6 X_arg1 X_arg3 X_arg4 X_arg5 X_arg6 k]; rfl

theorem m_v681 : trip_k0_t1.sl.v681 arg1 arg3 arg4 arg5 arg6 X_arg1 X_arg3 X_arg4 X_arg5 X_arg6 k = I1 𝔸 := by
  simp only [trip_k0_t1.sl.v681, trip_k0_t1.sl.v680, trip_k0_t1.sl.cst_128, trip_k0_t1.sl.v679, trip_k0_t1.sl.v678, trip_k0_t1.sl.v677, trip_k0_t1.sl.v676, trip_k0_t1.sl.v675, trip_k0_t1.sl.v674, trip_k0_t1.sl.cst_12, trip_k0_t1.sl.v672, trip_k0_t1.sl.v670, m_r_6 arg1 arg3 arg4 arg5 arg6 X_arg1 X_arg3 X_arg4 X_arg5 X_arg6 k, m_r_5 arg1 arg3 arg4 arg5 arg6 X_arg1 X_arg3 X_arg4 X_arg5 X_arg6 k]; rfl

theorem m_v695 : trip_k0_t1.sl.v695 arg1 arg3 arg4 arg5 arg6 X_arg1 X_arg3 X_arg4 X_arg5 X_arg6 k = I2 𝔸 := by
  simp only [trip_k0_t1.sl.v695, trip_k0_t1.sl.v694, trip_k0_t1.sl.cst_128, trip_k0_t1.sl.v693, trip_k0_t1.sl.v692, trip_k0_t1.sl.v691, trip_k0_t1.sl.v690, trip_k0_t1.sl.v689, trip_k0_t1.sl.v674, trip_k0_t1.sl.cst_12, trip_k0_t1.sl.v687, trip_k0_t1.sl.v685, trip_k0_t1.sl.v670, trip_k0_t1.sl.v682, m_v681 arg1 arg3 arg4 arg5 arg6 X_arg1 X_arg3 X_arg4 X_arg5 X_arg6 k, m_r_5 arg1 arg3 arg4 arg5 arg6 X_arg1 X_arg3 X_arg4 X_arg5 X_arg6 k]; rfl

theorem m_v709 : trip_k0_t1.sl.v709 arg1 arg3 arg4 arg5 arg6 X_arg1 X_arg3 X_arg4 X_arg5 X_arg6 k = I3 𝔸 := by
  simp only [trip_k0_t1.sl.v709, trip_k0_t1.sl.v708, trip_k0_t1.sl.cst_128, trip_k0_t1.sl.v707, trip_k0_t1.sl.v706, trip_k0_t1.sl.v705, trip_k0_t1.sl.v704, trip_k0_t1.sl.v703, trip_k0_t1.sl.v674, trip_k0_t1.sl.cst_12, trip_k0_t1.sl.v701, trip_k0_t1.sl.v699, trip_k0_t1.sl.v670, trip_k0_t1.sl.v696, m_v695 arg1 arg3 arg4 arg5 arg6 X_arg1 X_arg3 X_arg4 X_arg5 X_arg6 k, m_r_5 arg1 arg3 arg4 arg5 arg6 X_arg1 X_arg3 X_arg4 X_arg5 X_arg6 k]; rfl

theorem m_v723 : trip_k0_t1.sl.v723 arg1 arg3 arg4 arg5 arg6 X_arg1 X_arg3 X_arg4 X_arg5 X_arg6 k = I4 𝔸 := by
  simp only [trip_k0_t1.sl.v723, trip_k0_t1.sl.v722, trip_k0_t1.sl.cst_128, trip_k0_t1.sl.v721, trip_k0_t1.sl.v720, trip_k0_t1.sl.v719, trip_k0_t1.sl.v718, trip_k0_t1.sl.v717, trip_k0_t1.sl.v674, trip_k0_t1.sl.cst_12, trip_k0_t1.sl.v715, trip_k0_t1.sl.v713, trip_k0_t1.sl.v670, trip_k0_t1.sl.v710, m_v709 arg1 arg3 arg4 arg5 arg6 X_arg1 X_arg3 X_arg4 X_arg5 X_arg6 k, m_r_5 arg1 arg3 arg4 arg5 arg6 X_arg1 X_arg3 X_arg4 X_arg5 X_arg6 k]; rfl

theorem m_v737 : trip_k0_t1.sl.v737 arg1 arg3 arg4 arg5 arg6 X_arg1 X_arg3 X_arg4 X_arg5 X_arg6 k = I5 𝔸 := by
  simp only [trip_k0_t1.sl.v737, trip_k0_t1.sl.v736, trip_k0_t1.sl.cst_128, trip_k0_t1.sl.v735, trip_k0_t1.sl.v734, trip_k0_t1.sl.v733, trip_k0_t1.sl.v732, trip_k0_t1.sl.v731, trip_k0_t1.sl.v674, trip_k0_t1.sl.cst_12, trip_k0_t1.sl.v729, trip_k0_t1.sl.v727, trip_k0_t1.sl.v670, trip_k0_t1.sl.v724, m_v723 arg1 arg3 arg4 arg5 arg6 X_arg1 X_arg3 X_arg4 X_arg5 X_arg6 k, m_r_5 arg1 arg3 arg4 arg5 arg6 X_arg1 X_arg3 X_arg4 X_arg5 X_arg6 k]; rfl

theorem m_v751 : trip_k0_t1.sl.v751 arg1 arg3 arg4 arg5 arg6 X_arg1 X_arg3 X_arg4 X_arg5 X_arg6 k = I6 𝔸 := by
  simp only [trip_k0_t1.sl.v751, trip_k0_t1.sl.v750, trip_k0_t1.sl.cst_128, trip_k0_t1.sl.v749, trip_k0_t1.sl.v748, trip_k0_t1.sl.v747, trip_k0_t1.sl.v746, trip_k0_t1.sl.v745, trip_k0_t1.sl.v674, trip_k0_t1.sl.cst_12, trip_k0_t1.sl.v743, trip_k0_t1.sl.v741, trip_k0_t1.sl.v670, trip_k0_t1.sl.v738, m_v737 arg1 arg3 arg4 arg5 arg6 X_arg1 X_arg3 X_arg4 X_arg5 X_arg6 k, m_r_5 arg1 arg3 arg4 arg5 arg6 X_arg1 X_arg3 X_arg4 X_arg5 X_arg6 k]; rfl

theorem m_v752 : trip_k0_t1.sl.v752 arg3 arg5 arg6 X_arg3 X_arg5 X_arg6 k = EG 𝔸 := by
  simp only [trip_k0_t1.sl.v752, m_v589 arg1 arg3 arg4 arg5 arg6 X_arg1 X_arg3 X_arg4 X_arg5 X_arg6 k]; rfl

theorem m_v761 : trip_k0_t1.sl.v761 arg1 arg3 arg4 arg5 arg6 X_arg1 X_arg3 X_arg4 X_arg5 X_arg6 k = sol 𝔸 := by
  dsimp only [trip_k0_t1.sl.v761, trip_k0_t1.sl.cst_153, trip_k0_t1.sl.v759, trip_k0_t1.sl.v758, trip_k0_t1.sl.v757, trip_k0_t1.sl.v756, trip_k0_t1.sl.v755, trip_k0_t1.sl.v754, trip_k0_t1.sl.v753, trip_k0_t1.sl.v760]; rw [m_v555 arg1 arg3 arg4 arg5 arg6 X_arg1 X_arg3 X_arg4 X_arg5 X_arg6 k, m_r_1 arg1 arg3 arg4 arg5 arg6 X_arg1 X_arg3 X_arg4 X_arg5 X_arg6 k, m_v752 arg1 arg3 arg4 arg5 arg6 X_arg1 X_arg3 X_arg4 X_arg5 X_arg6 k, m_v572 arg1 arg3 arg4 arg5 arg6 X_arg1 X_arg3 X_arg4 X_arg5 X_arg6 k, m_v751 arg1 arg3 arg4 arg5 arg6 X_arg1 X_arg3 X_arg4 X_arg5 X_arg6 k]; rfl

theorem m_v762 : trip_k0_t1.sl.v762 arg1 arg3 arg4 arg5 arg6 X_arg1 X_arg3 X_arg4 X_arg5 X_arg6 k = U 𝔸 := by
  simp only [trip_k0_t1.sl.v762, m_v761 arg1 arg3 arg4 arg5 arg6 X_arg1 X_arg3 X_arg4 X_arg5 X_arg6 k]; rfl

theorem m_v764 : trip_k0_t1.sl.v764 arg1 arg3 arg4 arg5 arg6 X_arg1 X_arg3 X_arg4 X_arg5 X_arg6 k = W 𝔸 := by
  simp only [trip_k0_t1.sl.v764, trip_k0_t1.sl.v763, m_v761 arg1 arg3 arg4 arg5 arg6 X_arg1 X_arg3 X_arg4 X_arg5 X_arg6 k]; rfl

theorem m_v767 : trip_k0_t1.sl.v767 arg1 arg3 arg4 arg5 arg6 X_arg1 X_arg3 X_arg4 X_arg5 X_arg6 k = P 𝔸 := by
  simp only [trip_k0_t1.sl.v767, trip_k0_t1.sl.v766, trip_k0_t1.sl.v765, trip_k0_t1.sl.cst_128, m_r_2 arg1 arg3 arg4 arg5 arg6 X_arg1 X_arg3 X_arg4 X_arg5 X_arg6 k, m_r_3 arg1 arg3 arg4 arg5 arg6 X_arg1 X_arg3 X_arg4 X_arg5 X_arg6 k, m_r_4 arg1 arg3 arg4 arg5 arg6 X_arg1 X_arg3 X_arg4 X_arg5 X_arg6 k]; rfl

theorem m_v770 : trip_k0_t1.sl.v770 arg1 arg3 arg4 arg5 arg6 X_arg1 X_arg3 X_arg4 X_arg5 X_arg6 k = QD 𝔸 := by
  simp only [trip_k0_t1.sl.v770, trip_k0_t1.sl.v769, trip_k0_t1.sl.v768, m_v538 arg1 arg3 arg4 arg5 arg6 X_arg1 X_arg3 X_arg4 X_arg5 X_arg6 k, m_v752 arg1 arg3 arg4 arg5 arg6 X_arg1 X_arg3 X_arg4 X_arg5 X_arg6 k]; rfl

theorem m_v775 : trip_k0_t1.sl.v775 arg1 arg3 arg4 arg5 arg6 X_arg1 X_arg3 X_arg4 X_arg5 X_arg6 k = KD 𝔸 := by
  simp only [trip_k0_t1.sl.v775, trip_k0_t1.sl.v774, trip_k0_t1.sl.v773, trip_k0_t1.sl.v772, trip_k0_t1.sl.v771, m_v555 arg1 arg3 arg4 arg5 arg6 X_arg1 X_arg3 X_arg4 X_arg5 X_arg6 k, m_v589 arg1 arg3 arg4 arg5 arg6 X_arg1 X_arg3 X_arg4 X_arg5 X_arg6 k, m_r arg1 arg3 arg4 arg5 arg6 X_arg1 X_arg3 X_arg4 X_arg5 X_arg6 k]; rfl

theorem m_v778 : trip_k0_t1.sl.v778 arg1 arg3 arg4 arg5 arg6 X_arg1 X_arg3 X_arg4 X_arg5 X_arg6 k = kdt 𝔸 0 0 := by
  simp only [trip_k0_t1.sl.v778, trip_k0_t1.sl.v777, trip_k0_t1.sl.v776, m_v775 arg1 arg3 arg4 arg5 arg6 X_arg1 X_arg3 X_arg4 X_arg5 X_arg6 k]; rfl

theorem m_v781 : trip_k0_t1.sl.v781 arg1 arg3 arg4 arg5 arg6 X_arg1 X_arg3 X_arg4 X_arg5 X_arg6 k = kdt 𝔸 0 1 := by
  simp only [trip_k0_t1.sl.v781, trip_k0_t1.sl.v780, trip_k0_t1.sl.v779, m_v775 arg1 arg3 arg4 arg5 arg6 X_arg1 X_arg3 X_arg4 X_arg5 X_arg6 k]; rfl

theorem m_v784 : trip_k0_t1.sl.v784 arg1 arg3 arg4 arg5 arg6 X_arg1 X_arg3 X_arg4 X_arg5 X_arg6 k = kdt 𝔸 0 2 := by
  simp only [trip_k0_t1.sl.v784, trip_k0_t1.sl.v783, trip_k0_t1.sl.v782, m_v775 arg1 arg3 arg4 arg5 arg6 X_arg1 X_arg3 X_arg4 X_arg5 X_arg6 k]; rfl

theorem m_v787 : trip_k0_t1.sl.v787 arg1 arg3 arg4 arg5 arg6 X_arg1 X_arg3 X_arg4 X_arg5 X_arg6 k = kdt 𝔸 0 3 := by
  simp only [trip_k0_t1.sl.v787, trip_k0_t1.sl.v786, trip_k0_t1.sl.v785, m_v775 arg1 arg3 arg4 arg5 arg6 X_arg1 X_arg3 X_arg4 X_arg5 X_arg6 k]; rfl

theorem m_v790 : trip_k0_t1.sl.v790 arg1 arg3 arg4 arg5 arg6 X_arg1 X_arg3 X_arg4 X_arg5 X_arg6 k = kdt 𝔸 1 0 := by
  simp only [trip_k0_t1.sl.v790, trip_k0_t1.sl.v789, trip_k0_t1.sl.v788, m_v775 arg1 arg3 arg4 arg5 arg6 X_arg1 X_arg3 X_arg4 X_arg5 X_arg6 k]; rfl

theorem m_v793 : trip_k0_t1.sl.v793 arg1 arg3 arg4 arg5 arg6 X_arg1 X_arg3 X_arg4 X_arg5 X_arg6 k = kdt 𝔸 1 1 := by
  simp only [trip_k0_t1.sl.v793, trip_k0_t1.sl.v792, trip_k0_t1.sl.v791, m_v775 arg1 arg3 arg4 arg5 arg6 X_arg1 X_arg3 X_arg4 X_arg5 X_arg6 k]; rfl

theorem m_v796 : trip_k0_t1.sl.v796 arg1 arg3 arg4 arg5 arg6 X_arg1 X_arg3 X_arg4 X_arg5 X_arg6 k = kdt 𝔸 1 2 := by
  simp only [trip_k0_t1.sl.v796, trip_k0_t1.sl.v795, trip_k0_t1.sl.v794, m_v775 arg1 arg3 arg4 arg5 arg6 X_arg1 X_arg3 X_arg4 X_arg5 X_arg6 k]; rfl

theorem m_v799 : trip_k0_t1.sl.v799 arg1 arg3 arg4 arg5 arg6 X_arg1 X_arg3 X_arg4 X_arg5 X_arg6 k = kdt 𝔸 1 3 := by
  simp only [trip_k0_t1.sl.v799, trip_k0_t1.sl.v798, trip_k0_t1.sl.v797, m_v775 arg1 arg3 arg4 arg5 arg6 X_arg1 X_arg3 X_arg4 X_arg5 X_arg6 k]; rfl

theorem m_v802 : trip_k0_t1.sl.v802 arg1 arg3 arg4 arg5 arg6 X_arg1 X_arg3 X_arg4 X_arg5 X_arg6 k = kdt 𝔸 2 0 := by
  simp only [trip_k0_t1.sl.v802, trip_k0_t1.sl.v801, trip_k0_t1.sl.v800, m_v775 arg1 arg3 arg4 arg5 arg6 X_arg1 X_arg3 X_arg4 X_arg5 X_arg6 k]; rfl

theorem m_v805 : trip_k0_t1.sl.v805 arg1 arg3 arg4 arg5 arg6 X_arg1 X_arg3 X_arg4 X_arg5 X_arg6 k = kdt 𝔸 2 1 := by
  simp only [trip_k0_t1.sl.v805, trip_k0_t1.sl.v804, trip_k0_t1.sl.v803, m_v775 arg1 arg3 arg4 arg5 arg6 X_arg1 X_arg3 X_arg4 X_arg5 X_arg6 k]; rfl

theorem m_v808 : trip_k0_t1.sl.v808 arg1 arg3 arg4 arg5 arg6 X_arg1 X_arg3 X_arg4 X_arg5 X_arg6 k = kdt 𝔸 2 2 := by
  simp only [trip_k0_t1.sl.v808, trip_k0_t1.sl.v807, trip_k0_t1.sl.v806, m_v775 arg1 arg3 arg4 arg5 arg6 X_arg1 X_arg3 X_arg4 X_arg5 X_arg6 k]; rfl

theorem m_v811 : trip_k0_t1.sl.v811 arg1 arg3 arg4 arg5 arg6 X_arg1 X_arg3 X_arg4 X_arg5 X_arg6 k = kdt 𝔸 2 3 := by
  simp only [trip_k0_t1.sl.v811, trip_k0_t1.sl.v810, trip_k0_t1.sl.v809, m_v775 arg1 arg3 arg4 arg5 arg6 X_arg1 X_arg3 X_arg4 X_arg5 X_arg6 k]; rfl

theorem m_v814 : trip_k0_t1.sl.v814 arg1 arg3 arg4 arg5 arg6 X_arg1 X_arg3 X_arg4 X_arg5 X_arg6 k = kdt 𝔸 3 0 := by
  simp only [trip_k0_t1.sl.v814, trip_k0_t1.sl.v813, trip_k0_t1.sl.v812, m_v775 arg1 arg3 arg4 arg5 arg6 X_arg1 X_arg3 X_arg4 X_arg5 X_arg6 k]; rfl

theorem m_v817 : trip_k0_t1.sl.v817 arg1 arg3 arg4 arg5 arg6 X_arg1 X_arg3 X_arg4 X_arg5 X_arg6 k = kdt 𝔸 3 1 := by
  simp only [trip_k0_t1.sl.v817, trip_k0_t1.sl.v816, trip_k0_t1.sl.v815, m_v775 arg1 arg3 arg4 arg5 arg6 X_arg1 X_arg3 X_arg4 X_arg5 X_arg6 k]; rfl

theorem m_v820 : trip_k0_t1.sl.v820 arg1 arg3 arg4 arg5 arg6 X_arg1 X_arg3 X_arg4 X_arg5 X_arg6 k = kdt 𝔸 3 2 := by
  simp only [trip_k0_t1.sl.v820, trip_k0_t1.sl.v819, trip_k0_t1.sl.v818, m_v775 arg1 arg3 arg4 arg5 arg6 X_arg1 X_arg3 X_arg4 X_arg5 X_arg6 k]; rfl

theorem m_v823 : trip_k0_t1.sl.v823 arg1 arg3 arg4 arg5 arg6 X_arg1 X_arg3 X_arg4 X_arg5 X_arg6 k = kdt 𝔸 3 3 := by
  simp only [trip_k0_t1.sl.v823, trip_k0_t1.sl.v822, trip_k0_t1.sl.v821, m_v775 arg1 arg3 arg4 arg5 arg6 X_arg1 X_arg3 X_arg4 X_arg5 X_arg6 k]; rfl

theorem m_v841 : trip_k0_t1.sl.v841 arg1 arg3 arg4 arg5 arg6 X_arg1 X_arg3 X_arg4 X_arg5 X_arg6 k = KT 𝔸 := by
  dsimp only [trip_k0_t1.sl.v841, trip_k0_t1.sl.v840, trip_k0_t1.sl.v839, trip_k0_t1.sl.v838, trip_k0_t1.sl.v837, trip_k0_t1.sl.v836, trip_k0_t1.sl.v835, trip_k0_t1.sl.v834, trip_k0_t1.sl.v833, trip_k0_t1.sl.v832, trip_k0_t1.sl.v831, trip_k0_t1.sl.v830, trip_k0_t1.sl.v829, trip_k0_t1.sl.v828, trip_k0_t1.sl.v827, trip_k0_t1.sl.v826, trip_k0_t1.sl.v825, trip_k0_t1.sl.v824]; rw [m_v823 arg1 arg3 arg4 arg5 arg6 X_arg1 X_arg3 X_arg4 X_arg5 X_arg6 k, m_v820 arg1 arg3 arg4 arg5 arg6 X_arg1 X_arg3 X_arg4 X_arg5 X_arg6 k, m_v817 arg1 arg3 arg4 arg5 arg6 X_arg1 X_arg3 X_arg4 X_arg5 X_arg6 k, m_v814 arg1 arg3 arg4 arg5 arg6 X_arg1 X_arg3 X_arg4 X_arg5 X_arg6 k, m_v811 arg1 arg3 arg4 arg5 arg6 X_arg1 X_arg3 X_arg4 X_arg5 X_arg6 k, m_v808 arg1 arg3 arg4 arg5 arg6 X_arg1 X_arg3 X_arg4 X_arg5 X_arg6 k, m_v805 arg1 arg3 arg4 arg5 arg6 X_arg1 X_arg3 X_arg4 X_arg5 X_arg6 k, m_v802 arg1 arg3 arg4 arg5 arg6 X_arg1 X_arg3 X_arg4 X_arg5 X_arg6 k, m_v799 arg1 arg3 arg4 arg5 arg6 X_arg1 X_arg3 X_arg4 X_arg5 X_arg6 k, m_v796 arg1 arg3 arg4 arg5 arg6 X_arg1 X_arg3 X_arg4 X_arg5 X_arg6 k, m_v793 arg1 arg3 arg4 arg5 arg6 X_arg1 X_arg3 X_arg4 X_arg5 X_arg6 k, m_v790 arg1 arg3 arg4 arg5 arg6 X_arg1 X_arg3 X_arg4 X_arg5 X_arg6 k, m_v787 arg1 arg3 arg4 arg5 arg6 X_arg1 X_arg3 X_arg4 X_arg5 X_arg6 k, m_v784 arg1 arg3 arg4 arg5 arg6 X_arg1 X_arg3 X_arg4 X_arg5 X_arg6 k, m_v781 arg1 arg3 arg4 arg5 arg6 X_arg1 X_arg3 X_arg4 X_arg5 X_arg6 k, m_v778 arg1 arg3 arg4 arg5 arg6 X_arg1 X_arg3 X_arg4 X_arg5 X_arg6 k]; rfl

theorem m_v842 : trip_k0_t1.sl.v842 arg3 arg5 arg6 X_arg3 X_arg5 X_arg6 k = EE 𝔸 := by
  simp only [trip_k0_t1.sl.v842, m_r arg1 arg3 arg4 arg5 arg6 X_arg1 X_arg3 X_arg4 X_arg5 X_arg6 k]; rfl

theorem m_v854 : trip_k0_t1.sl.v854 arg1 arg3 arg4 arg5 arg6 arg9 X_arg1 X_arg3 X_arg4 X_arg5 X_arg6 k f_arg9 = outs 𝔸 0 (Sat 𝔸 𝕊 0) := by
  simp only [trip_k0_t1.sl.v854, trip_k0_t1.sl.v853, trip_k0_t1.sl.cst_158, trip_k0_t1.sl.v849, trip_k0_t1.sl.v848, trip_k0_t1.sl.v847, trip_k0_t1.sl.v844, trip_k0_t1.sl.v846, trip_k0_t1.sl.v845, trip_k0_t1.sl.v852, trip_k0_t1.sl.v851, trip_k0_t1.sl.v850, m_v764 arg1 arg3 arg4 arg5 arg6 X_arg1 X_arg3 X_arg4 X_arg5 X_arg6 k, m_v762 arg1 arg3 arg4 arg5 arg6 X_arg1 X_arg3 X_arg4 X_arg5 X_arg6 k, m_v767 arg1 arg3 arg4 arg5 arg6 X_arg1 X_arg3 X_arg4 X_arg5 X_arg6 k, m_v770 arg1 arg3 arg4 arg5 arg6 X_arg1 X_arg3 X_arg4 X_arg5 X_arg6 k]; rfl

theorem m_v860 : trip_k0_t1.sl.v860 arg1 arg3 arg4 arg5 arg6 arg9 X_arg1 X_arg3 X_arg4 X_arg5 X_arg6 k f_arg9 = Sat 𝔸 𝕊 1 := by
  simp only [trip_k0_t1.sl.v860, trip_k0_t1.sl.v859, trip_k0_t1.sl.cst_158, trip_k0_t1.sl.v849, trip_k0_t1.sl.v848, trip_k0_t1.sl.v847, trip_k0_t1.sl.v844, trip_k0_t1.sl.v846, trip_k0_t1.sl.v845, trip_k0_t1.sl.v858, trip_k0_t1.sl.v857, trip_k0_t1.sl.v856, trip_k0_t1.sl.v855, m_v764 arg1 arg3 arg4 arg5 arg6 X_arg1 X_arg3 X_arg4 X_arg5 X_arg6 k, m_v762 arg1 arg3 arg4 arg5 arg6 X_arg1 X_arg3 X_arg4 X_arg5 X_arg6 k, m_v841 arg1 arg3 arg4 arg5 arg6 X_arg1 X_arg3 X_arg4 X_arg5 X_arg6 k, m_v842 arg1 arg3 arg4 arg5 arg6 X_arg1 X_arg3 X_arg4 X_arg5 X_arg6 k]; rfl

theorem m_v968 : trip_k0_t1.sl.v968 arg1 arg3 arg4 arg5 arg6 arg9 X_arg1 X_arg3 X_arg4 X_arg5 X_arg6 k f_arg9 = outs 𝔸 1 (Sat 𝔸 𝕊 1) := by
  simp only [trip_k0_t1.sl.v968, trip_k0_t1.sl.v967, trip_k0_t1.sl.cst_158, trip_k0_t1.sl.v963, trip_k0_t1.sl.v962, trip_k0_t1.sl.v961, trip_k0_t1.sl.v958, trip_k0_t1.sl.v960, trip_k0_t1.sl.v959, trip_k0_t1.sl.v966, trip_k0_t1.sl.v965, trip_k0_t1.sl.v964, m_v860 arg1 arg3 arg4 arg5 arg6 arg9 X_arg1 X_arg3 X_arg4 X_arg5 X_arg6 k f_arg9, m_v764 arg1 arg3 arg4 arg5 arg6 X_arg1 X_arg3 X_arg4 X_arg5 X_arg6 k, m_v762 arg1 arg3 arg4 arg5 arg6 X_arg1 X_arg3 X_arg4 X_arg5 X_arg6 k, m_v767 arg1 arg3 arg4 arg5 arg6 X_arg1 X_arg3 X_arg4 X_arg5 X_arg6 k, m_v770 arg1 arg3 arg4 arg5 arg6 X_arg1 X_arg3 X_arg4 X_arg5 X_arg6 k]; rfl

theorem m_v974 : trip_k0_t1.sl.v974 arg1 arg3 arg4 arg5 arg6 arg9 X_arg1 X_arg3 X_arg4 X_arg5 X_arg6 k f_arg9 = Sat 𝔸 𝕊 2 := by
  simp only [trip_k0_t1.sl.v974, trip_k0_t1.sl.v973, trip_k0_t1.sl.cst_158, trip_k0_t1.sl.v963, trip_k0_t1.sl.v962, trip_k0_t1.sl.v961, trip_k0_t1.sl.v958, trip_k0_t1.sl.v960, trip_k0_t1.sl.v959, trip_k0_t1.sl.v972, trip_k0_t1.sl.v971, trip_k0_t1.sl.v970, trip_k0_t1.sl.v969, m_v860 arg1 arg3 arg4 arg5 arg6 arg9 X_arg1 X_arg3 X_arg4 X_arg5 X_arg6 k f_arg9, m_v764 arg1 arg3 arg4 arg5 arg6 X_arg1 X_arg3 X_arg4 X_arg5 X_arg6 k, m_v762 arg1 arg3 arg4 arg5 arg6 X_arg1 X_arg3 X_arg4 X_arg5 X_arg6 k, m_v841 arg1 arg3 arg4 arg5 arg6 X_arg1 X_arg3 X_arg4 X_arg5 X_arg6 k, m_v842 arg1 arg3 arg4 arg5 arg6 X_arg1 X_arg3 X_arg4 X_arg5 X_arg6 k]; rfl

theorem m_v1082 : trip_k0_t1.sl.v1082 arg1 arg3 arg4 arg5 arg6 arg9 X_arg1 X_arg3 X_arg4 X_arg5 X_arg6 k f_arg9 = outs 𝔸 2 (Sat 𝔸 𝕊 2) := by
  simp only [trip_k0_t1.sl.v1082, trip_k0_t1.sl.v1081, trip_k0_t1.sl.cst_158, trip_k0_t1.sl.v1077, trip_k0_t1.sl.v1076, trip_k0_t1.sl.v1075, trip_k0_t1.sl.v1072, trip_k0_t1.sl.v1074, trip_k0_t1.sl.v1073, trip_k0_t1.sl.v1080, trip_k0_t1.sl.v1079, trip_k0_t1.sl.v1078, m_v974 arg1 arg3 arg4 arg5 arg6 arg9 X_arg1 X_arg3 X_arg4 X_arg5 X_arg6 k f_arg9, m_v764 arg1 arg3 arg4 arg5 arg6 X_arg1 X_arg3 X_arg4 X_arg5 X_arg6 k, m_v762 arg1 arg3 arg4 arg5 arg6 X_arg1 X_arg3 X_arg4 X_arg5 X_arg6 k, m_v767 arg1 arg3 arg4 arg5 arg6 X_arg1 X_arg3 X_arg4 X_arg5 X_arg6 k, m_v770 arg1 arg3 arg4 arg5 arg6 X_arg1 X_arg3 X_arg4 X_arg5 X_arg6 k]; rfl

theorem m_v1088 : trip_k0_t1.sl.v1088 arg1 arg3 arg4 arg5 arg6 arg9 X_arg1 X_arg3 X_arg4 X_arg5 X_arg6 k f_arg9 = Sat 𝔸 𝕊 3 := by
  simp only [trip_k0_t1.sl.v1088, trip_k0_t1.sl.v1087, trip_k0_t1.sl.cst_158, trip_k0_t1.sl.v1077, trip_k0_t1.sl.v1076, trip_k0_t1.sl.v1075, trip_k0_t1.sl.v1072, trip_k0_t1.sl.v1074, trip_k0_t1.sl.v1073, trip_k0_t1.sl.v1086, trip_k0_t1.sl.v1085, trip_k0_t1.sl.v1084, trip_k0_t1.sl.v1083, m_v974 arg1 arg3 arg4 arg5 arg6 arg9 X_arg1 X_arg3 X_arg4 X_arg5 X_arg6 k f_arg9, m_v764 arg1 arg3 arg4 arg5 arg6 X_arg1 X_arg3 X_arg4 X_arg5 X_arg6 k, m_v762 arg1 arg3 arg4 arg5 arg6 X_arg1 X_arg3 X_arg4 X_arg5 X_arg6 k, m_v841 arg1 arg3 arg4 arg5 arg6 X_arg1 X_arg3 X_arg4 X_arg5 X_arg6 k, m_v842 arg1 arg3 arg4 arg5 arg6 X_arg1 X_arg3 X_arg4 X_arg5 X_arg6 k]; rfl

theorem m_v1196 : trip_k0_t1.sl.v1196 arg1 arg3 arg4 arg5 arg6 arg9 X_arg1 X_arg3 X_arg4 X_arg5 X_arg6 k f_arg9 = outs 𝔸 3 (Sat 𝔸 𝕊 3) := by
  simp only [trip_k0_t1.sl.v1196, trip_k0_t1.sl.v1195, trip_k0_t1.sl.cst_158, trip_k0_t1.sl.v1191, trip_k0_t1.sl.v1190, trip_k0_t1.sl.v1189, trip_k0_t1.sl.v1186, trip_k0_t1.sl.v1188, trip_k0_t1.sl.v1187, trip_k0_t1.sl.v1194, trip_k0_t1.sl.v1193, trip_k0_t1.sl.v1192, m_v1088 arg1 arg3 arg4 arg5 arg6 arg9 X_arg1 X_arg3 X_arg4 X_arg5 X_arg6 k f_arg9, m_v764 arg1 arg3 arg4 arg5 arg6 X_arg1 X_arg3 X_arg4 X_arg5 X_arg6 k, m_v762 arg1 arg3 arg4 arg5 arg6 X_arg1 X_arg3 X_arg4 X_arg5 X_arg6 k, m_v767 arg1 arg3 arg4 arg5 arg6 X_arg1 X_arg3 X_arg4 X_arg5 X_arg6 k, m_v770 arg1 arg3 arg4 arg5 arg6 X_arg1 X_arg3 X_arg4 X_arg5 X_arg6 k]; rfl

theorem m_v1202 : trip_k0_t1.sl.v1202 arg1 arg3 arg4 arg5 arg6 arg9 X_arg1 X_arg3 X_arg4 X_arg5 X_arg6 k f_arg9 = Sat 𝔸 𝕊 4 := by
  simp only [trip_k0_t1.sl.v1202, trip_k0_t1.sl.v1201, trip_k0_t1.sl.cst_158, trip_k0_t1.sl.v1191, trip_k0_t1.sl.v1190, trip_k0_t1.sl.v1189, trip_k0_t1.sl.v1186, trip_k0_t1.sl.v1188, trip_k0_t1.sl.v1187, trip_k0_t1.sl.v1200, trip_k0_t1.sl.v1199, trip_k0_t1.sl.v1198, trip_k0_t1.sl.v1197, m_v1088 arg1 arg3 arg4 arg5 arg6 arg9 X_arg1 X_arg3 X_arg4 X_arg5 X_arg6 k f_arg9, m_v764 arg1 arg3 arg4 arg5 arg6 X_arg1 X_arg3 X_arg4 X_arg5 X_arg6 k, m_v762 arg1 arg3 arg4 arg5 arg6 X_arg1 X_arg3 X_arg4 X_arg5 X_arg6 k, m_v841 arg1 arg3 arg4 arg5 arg6 X_arg1 X_arg3 X_arg4 X_arg5 X_arg6 k, m_v842 arg1 arg3 arg4 arg5 arg6 X_arg1 X_arg3 X_arg4 X_arg5 X_arg6 k]; rfl

theorem m_v883 : trip_k0_t1.sl.v883 arg1 arg2 arg3 arg4 arg5 arg6 arg7 arg9 X_arg1 X_arg2 X_arg3 X_arg4 X_arg5 X_arg6 X_arg7 k f_arg9 = piece 𝔸 𝕊 0 0 (gOf arg7 X_arg7) (zOf0 arg2 X_arg2 k 0#32 (k0_off4_inb k 0)) := by
  simp only [trip_k0_t1.sl.v883, trip_k0_t1.sl.v882, trip_k0_t1.sl.v881, trip_k0_t1.sl.v880, trip_k0_t1.sl.v864, trip_k0_t1.sl.v879, trip_k0_t1.sl.v878, trip_k0_t1.sl.r_7, trip_k0_t1.sl.v877, trip_k0_t1.sl.v876, trip_k0_t1.sl.v875, trip_k0_t1.sl.v874, trip_k0_t1.sl.v99, trip_k0_t1.sl.cst_32, trip_k0_t1.sl.v872, trip_k0_t1.sl.v871, trip_k0_t1.sl.cst_167, trip_k0_t1.sl.v870, trip_k0_t1.sl.v869, trip_k0_t1.sl.v868, trip_k0_t1.sl.v866, trip_k0_t1.sl.v865, m_v854 arg1 arg3 arg4 arg5 arg6 arg9 X_arg1 X_arg3 X_arg4 X_arg5 X_arg6 k f_arg9]; rfl

theorem m_v907 : trip_k0_t1.sl.v907 arg1 arg2 arg3 arg4 arg5 arg6 arg7 arg9 X_arg1 X_arg2 X_arg3 X_arg4 X_arg5 X_arg6 X_arg7 k f_arg9 = piece 𝔸 𝕊 0 1 (gOf arg7 X_arg7) (zOf1 arg2 X_arg2 k 0#32 (k0_off5_inb k 0)) := by
  simp only [trip_k0_t1.sl.v907, trip_k0_t1.sl.v906, trip_k0_t1.sl.v905, trip_k0_t1.sl.v904, trip_k0_t1.sl.v888, trip_k0_t1.sl.v903, trip_k0_t1.sl.v902, trip_k0_t1.sl.v901, trip_k0_t1.sl.v900, trip_k0_t1.sl.v899, trip_k0_t1.sl.v898, trip_k0_t1.sl.v99, trip_k0_t1.sl.cst_32, trip_k0_t1.sl.v896, trip_k0_t1.sl.v871, trip_k0_t1.sl.cst_167, trip_k0_t1.sl.v894, trip_k0_t1.sl.v893, trip_k0_t1.sl.v892, trip_k0_t1.sl.v890, trip_k0_t1.sl.v889, m_v854 arg1 arg3 arg4 arg5 arg6 arg9 X_arg1 X_arg3 X_arg4 X_arg5 X_arg6 k f_arg9]; rfl

theorem m_v931 : trip_k0_t1.sl.v931 arg1 arg2 arg3 arg4 arg5 arg6 arg7 arg9 X_arg1 X_arg2 X_arg3 X_arg4 X_arg5 X_arg6 X_arg7 k f_arg9 = piece 𝔸 𝕊 0 2 (gOf arg7 X_arg7) (zOf2 arg2 X_arg2 k 0#32 (k0_off6_inb k 0)) := by
  simp only [trip_k0_t1.sl.v931, trip_k0_t1.sl.v930, trip_k0_t1.sl.v929, trip_k0_t1.sl.v928, trip_k0_t1.sl.v912, trip_k0_t1.sl.v927, trip_k0_t1.sl.v902, trip_k0_t1.sl.v925, trip_k0_t1.sl.v924, trip_k0_t1.sl.v923, trip_k0_t1.sl.v922, trip_k0_t1.sl.v99, trip_k0_t1.sl.cst_32, trip_k0_t1.sl.v920, trip_k0_t1.sl.v871, trip_k0_t1.sl.cst_167, trip_k0_t1.sl.v918, trip_k0_t1.sl.v917, trip_k0_t1.sl.v916, trip_k0_t1.sl.v914, trip_k0_t1.sl.v913, m_v854 arg1 arg3 arg4 arg5 arg6 arg9 X_arg1 X_arg3 X_arg4 X_arg5 X_arg6 k f_arg9]; rfl

theorem m_v955 : trip_k0_t1.sl.v955 arg1 arg2 arg3 arg4 arg5 arg6 arg7 arg9 X_arg1 X_arg2 X_arg3 X_arg4 X_arg5 X_arg6 X_arg7 k f_arg9 = piece 𝔸 𝕊 0 3 (gOf arg7 X_arg7) (zOf3 arg2 X_arg2 k 0#32 (k0_off7_inb k 0)) := by
  simp only [trip_k0_t1.sl.v955, trip_k0_t1.sl.v954, trip_k0_t1.sl.v953, trip_k0_t1.sl.v952, trip_k0_t1.sl.v936, trip_k0_t1.sl.v951, trip_k0_t1.sl.v902, trip_k0_t1.sl.v949, trip_k0_t1.sl.v948, trip_k0_t1.sl.v947, trip_k0_t1.sl.v946, trip_k0_t1.sl.v99, trip_k0_t1.sl.cst_32, trip_k0_t1.sl.v944, trip_k0_t1.sl.v871, trip_k0_t1.sl.cst_167, trip_k0_t1.sl.v942, trip_k0_t1.sl.v941, trip_k0_t1.sl.v940, trip_k0_t1.sl.v938, trip_k0_t1.sl.v937, m_v854 arg1 arg3 arg4 arg5 arg6 arg9 X_arg1 X_arg3 X_arg4 X_arg5 X_arg6 k f_arg9]; rfl

theorem m_v997 : trip_k0_t1.sl.v997 arg1 arg2 arg3 arg4 arg5 arg6 arg7 arg9 X_arg1 X_arg2 X_arg3 X_arg4 X_arg5 X_arg6 X_arg7 k f_arg9 = piece 𝔸 𝕊 1 0 (gOf arg7 X_arg7) (zOf0 arg2 X_arg2 k 128#32 (k0_off4_inb k 1)) := by
  simp only [trip_k0_t1.sl.v997, trip_k0_t1.sl.v996, trip_k0_t1.sl.v995, trip_k0_t1.sl.v994, trip_k0_t1.sl.v978, trip_k0_t1.sl.v993, trip_k0_t1.sl.v902, trip_k0_t1.sl.v991, trip_k0_t1.sl.v990, trip_k0_t1.sl.v989, trip_k0_t1.sl.v988, trip_k0_t1.sl.v99, trip_k0_t1.sl.cst_32, trip_k0_t1.sl.v986, trip_k0_t1.sl.v871, trip_k0_t1.sl.cst_167, trip_k0_t1.sl.v984, trip_k0_t1.sl.v983, trip_k0_t1.sl.v982, trip_k0_t1.sl.v980, trip_k0_t1.sl.v979, m_v968 arg1 arg3 arg4 arg5 arg6 arg9 X_arg1 X_arg3 X_arg4 X_arg5 X_arg6 k f_arg9]; rfl

theorem m_v1021 : trip_k0_t1.sl.v1021 arg1 arg2 arg3 arg4 arg5 arg6 arg7 arg9 X_arg1 X_arg2 X_arg3 X_arg4 X_arg5 X_arg6 X_arg7 k f_arg9 = piece 𝔸 𝕊 1 1 (gOf arg7 X_arg7) (zOf1 arg2 X_arg2 k 128#32 (k0_off5_inb k 1)) := by
  simp only [trip_k0_t1.sl.v1021, trip_k0_t1.sl.v1020, trip_k0_t1.sl.v1019, trip_k0_t1.sl.v1018, trip_k0_t1.sl.v1002, trip_k0_t1.sl.v1017, trip_k0_t1.sl.v902, trip_k0_t1.sl.v1015, trip_k0_t1.sl.v1014, trip_k0_t1.sl.v1013, trip_k0_t1.sl.v1012, trip_k0_t1.sl.v99, trip_k0_t1.sl.cst_32, trip_k0_t1.sl.v1010, trip_k0_t1.sl.v871, trip_k0_t1.sl.cst_167, trip_k0_t1.sl.v1008, trip_k0_t1.sl.v1007, trip_k0_t1.sl.v1006, trip_k0_t1.sl.v1004, trip_k0_t1.sl.v1003, m_v968 arg1 arg3 arg4 arg5 arg6 arg9 X_arg1 X_arg3 X_arg4 X_arg5 X_arg6 k f_arg9]; rfl

theorem m_v1045 : trip_k0_t1.sl.v1045 arg1 arg2 arg3 arg4 arg5 arg6 arg7 arg9 X_arg1 X_arg2 X_arg3 X_arg4 X_arg5 X_arg6 X_arg7 k f_arg9 = piece 𝔸 𝕊 1 2 (gOf arg7 X_arg7) (zOf2 arg2 X_arg2 k 128#32 (k0_off6_inb k 1)) := by
  simp only [trip_k0_t1.sl.v1045, trip_k0_t1.sl.v1044, trip_k0_t1.sl.v1043, trip_k0_t1.sl.v1042, trip_k0_t1.sl.v1026, trip_k0_t1.sl.v1041, trip_k0_t1.sl.v902, trip_k0_t1.sl.v1039, trip_k0_t1.sl.v1038, trip_k0_t1.sl.v1037, trip_k0_t1.sl.v1036, trip_k0_t1.sl.v99, trip_k0_t1.sl.cst_32, trip_k0_t1.sl.v1034, trip_k0_t1.sl.v871, trip_k0_t1.sl.cst_167, trip_k0_t1.sl.v1032, trip_k0_t1.sl.v1031, trip_k0_t1.sl.v1030, trip_k0_t1.sl.v1028, trip_k0_t1.sl.v1027, m_v968 arg1 arg3 arg4 arg5 arg6 arg9 X_arg1 X_arg3 X_arg4 X_arg5 X_arg6 k f_arg9]; rfl

theorem m_v1069 : trip_k0_t1.sl.v1069 arg1 arg2 arg3 arg4 arg5 arg6 arg7 arg9 X_arg1 X_arg2 X_arg3 X_arg4 X_arg5 X_arg6 X_arg7 k f_arg9 = piece 𝔸 𝕊 1 3 (gOf arg7 X_arg7) (zOf3 arg2 X_arg2 k 128#32 (k0_off7_inb k 1)) := by
  simp only [trip_k0_t1.sl.v1069, trip_k0_t1.sl.v1068, trip_k0_t1.sl.v1067, trip_k0_t1.sl.v1066, trip_k0_t1.sl.v1050, trip_k0_t1.sl.r_8, trip_k0_t1.sl.v1065, trip_k0_t1.sl.v902, trip_k0_t1.sl.v1063, trip_k0_t1.sl.v1062, trip_k0_t1.sl.v1061, trip_k0_t1.sl.v1060, trip_k0_t1.sl.v99, trip_k0_t1.sl.cst_32, trip_k0_t1.sl.v1058, trip_k0_t1.sl.v871, trip_k0_t1.sl.cst_167, trip_k0_t1.sl.v1056, trip_k0_t1.sl.v1055, trip_k0_t1.sl.v1054, trip_k0_t1.sl.v1052, trip_k0_t1.sl.v1051, m_v968 arg1 arg3 arg4 arg5 arg6 arg9 X_arg1 X_arg3 X_arg4 X_arg5 X_arg6 k f_arg9]; rfl

theorem m_v1111 : trip_k0_t1.sl.v1111 arg1 arg2 arg3 arg4 arg5 arg6 arg7 arg9 X_arg1 X_arg2 X_arg3 X_arg4 X_arg5 X_arg6 X_arg7 k f_arg9 = piece 𝔸 𝕊 2 0 (gOf arg7 X_arg7) (zOf0 arg2 X_arg2 k 256#32 (k0_off4_inb k 2)) := by
  simp only [trip_k0_t1.sl.v1111, trip_k0_t1.sl.v1110, trip_k0_t1.sl.v1109, trip_k0_t1.sl.v1108, trip_k0_t1.sl.v1092, trip_k0_t1.sl.v1107, trip_k0_t1.sl.v902, trip_k0_t1.sl.v1105, trip_k0_t1.sl.v1104, trip_k0_t1.sl.v1103, trip_k0_t1.sl.v1102, trip_k0_t1.sl.v99, trip_k0_t1.sl.cst_32, trip_k0_t1.sl.v1100, trip_k0_t1.sl.v871, trip_k0_t1.sl.cst_167, trip_k0_t1.sl.v1098, trip_k0_t1.sl.v1097, trip_k0_t1.sl.v1096, trip_k0_t1.sl.v1094, trip_k0_t1.sl.v1093, m_v1082 arg1 arg3 arg4 arg5 arg6 arg9 X_arg1 X_arg3 X_arg4 X_arg5 X_arg6 k f_arg9]; rfl

theorem m_v1135 : trip_k0_t1.sl.v1135 arg1 arg2 arg3 arg4 arg5 arg6 arg7 arg9 X_arg1 X_arg2 X_arg3 X_arg4 X_arg5 X_arg6 X_arg7 k f_arg9 = piece 𝔸 𝕊 2 1 (gOf arg7 X_arg7) (zOf1 arg2 X_arg2 k 256#32 (k0_off5_inb k 2)) := by
  simp only [trip_k0_t1.sl.v1135, trip_k0_t1.sl.v1134, trip_k0_t1.sl.v1133, trip_k0_t1.sl.v1132, trip_k0_t1.sl.v1116, trip_k0_t1.sl.v1131, trip_k0_t1.sl.v902, trip_k0_t1.sl.v1129, trip_k0_t1.sl.v1128, trip_k0_t1.sl.v1127, trip_k0_t1.sl.v1126, trip_k0_t1.sl.v99, trip_k0_t1.sl.cst_32, trip_k0_t1.sl.v1124, trip_k0_t1.sl.v871, trip_k0_t1.sl.cst_167, trip_k0_t1.sl.v1122, trip_k0_t1.sl.v1121, trip_k0_t1.sl.v1120, trip_k0_t1.sl.v1118, trip_k0_t1.sl.v1117, m_v1082 arg1 arg3 arg4 arg5 arg6 arg9 X_arg1 X_arg3 X_arg4 X_arg5 X_arg6 k f_arg9]; rfl

theorem m_v1159 : trip_k0_t1.sl.v1159 arg1 arg2 arg3 arg4 arg5 arg6 arg7 arg9 X_arg1 X_arg2 X_arg3 X_arg4 X_arg5 X_arg6 X_arg7 k f_arg9 = piece 𝔸 𝕊 2 2 (gOf arg7 X_arg7) (zOf2 arg2 X_arg2 k 256#32 (k0_off6_inb k 2)) := by
  simp only [trip_k0_t1.sl.v1159, trip_k0_t1.sl.v1158, trip_k0_t1.sl.v1157, trip_k0_t1.sl.v1156, trip_k0_t1.sl.v1140, trip_k0_t1.sl.v1155, trip_k0_t1.sl.v902, trip_k0_t1.sl.v1153, trip_k0_t1.sl.v1152, trip_k0_t1.sl.v1151, trip_k0_t1.sl.v1150, trip_k0_t1.sl.v99, trip_k0_t1.sl.cst_32, trip_k0_t1.sl.v1148, trip_k0_t1.sl.v871, trip_k0_t1.sl.cst_167, trip_k0_t1.sl.v1146, trip_k0_t1.sl.v1145, trip_k0_t1.sl.v1144, trip_k0_t1.sl.v1142, trip_k0_t1.sl.v1141, m_v1082 arg1 arg3 arg4 arg5 arg6 arg9 X_arg1 X_arg3 X_arg4 X_arg5 X_arg6 k f_arg9]; rfl

theorem m_v1183 : trip_k0_t1.sl.v1183 arg1 arg2 arg3 arg4 arg5 arg6 arg7 arg9 X_arg1 X_arg2 X_arg3 X_arg4 X_arg5 X_arg6 X_arg7 k f_arg9 = piece 𝔸 𝕊 2 3 (gOf arg7 X_arg7) (zOf3 arg2 X_arg2 k 256#32 (k0_off7_inb k 2)) := by
  simp only [trip_k0_t1.sl.v1183, trip_k0_t1.sl.v1182, trip_k0_t1.sl.v1181, trip_k0_t1.sl.v1180, trip_k0_t1.sl.v1164, trip_k0_t1.sl.v1179, trip_k0_t1.sl.v902, trip_k0_t1.sl.v1177, trip_k0_t1.sl.v1176, trip_k0_t1.sl.v1175, trip_k0_t1.sl.v1174, trip_k0_t1.sl.v99, trip_k0_t1.sl.cst_32, trip_k0_t1.sl.v1172, trip_k0_t1.sl.v871, trip_k0_t1.sl.cst_167, trip_k0_t1.sl.v1170, trip_k0_t1.sl.v1169, trip_k0_t1.sl.v1168, trip_k0_t1.sl.v1166, trip_k0_t1.sl.v1165, m_v1082 arg1 arg3 arg4 arg5 arg6 arg9 X_arg1 X_arg3 X_arg4 X_arg5 X_arg6 k f_arg9]; rfl

theorem m_v1225 : trip_k0_t1.sl.v1225 arg1 arg2 arg3 arg4 arg5 arg6 arg7 arg9 X_arg1 X_arg2 X_arg3 X_arg4 X_arg5 X_arg6 X_arg7 k f_arg9 = piece 𝔸 𝕊 3 0 (gOf arg7 X_arg7) (zOf0 arg2 X_arg2 k 384#32 (k0_off4_inb k 3)) := by
  simp only [trip_k0_t1.sl.v1225, trip_k0_t1.sl.v1224, trip_k0_t1.sl.v1223, trip_k0_t1.sl.v1222, trip_k0_t1.sl.v1206, trip_k0_t1.sl.v1221, trip_k0_t1.sl.v902, trip_k0_t1.sl.v1219, trip_k0_t1.sl.v1218, trip_k0_t1.sl.v1217, trip_k0_t1.sl.v1216, trip_k0_t1.sl.v99, trip_k0_t1.sl.cst_32, trip_k0_t1.sl.v1214, trip_k0_t1.sl.v871, trip_k0_t1.sl.cst_167, trip_k0_t1.sl.v1212, trip_k0_t1.sl.v1211, trip_k0_t1.sl.v1210, trip_k0_t1.sl.v1208, trip_k0_t1.sl.v1207, m_v1196 arg1 arg3 arg4 arg5 arg6 arg9 X_arg1 X_arg3 X_arg4 X_arg5 X_arg6 k f_arg9]; rfl

theorem m_v1249 : trip_k0_t1.sl.v1249 arg1 arg2 arg3 arg4 arg5 arg6 arg7 arg9 X_arg1 X_arg2 X_arg3 X_arg4 X_arg5 X_arg6 X_arg7 k f_arg9 = piece 𝔸 𝕊 3 1 (gOf arg7 X_arg7) (zOf1 arg2 X_arg2 k 384#32 (k0_off5_inb k 3)) := by
  simp only [trip_k0_t1.sl.v1249, trip_k0_t1.sl.v1248, trip_k0_t1.sl.v1247, trip_k0_t1.sl.v1246, trip_k0_t1.sl.v1230, trip_k0_t1.sl.v1245, trip_k0_t1.sl.v902, trip_k0_t1.sl.v1243, trip_k0_t1.sl.v1242, trip_k0_t1.sl.v1241, trip_k0_t1.sl.v1240, trip_k0_t1.sl.v99, trip_k0_t1.sl.cst_32, trip_k0_t1.sl.v1238, trip_k0_t1.sl.v871, trip_k0_t1.sl.cst_167, trip_k0_t1.sl.v1236, trip_k0_t1.sl.v1235, trip_k0_t1.sl.v1234, trip_k0_t1.sl.v1232, trip_k0_t1.sl.v1231, m_v1196 arg1 arg3 arg4 arg5 arg6 arg9 X_arg1 X_arg3 X_arg4 X_arg5 X_arg6 k f_arg9]; rfl

theorem m_v1273 : trip_k0_t1.sl.v1273 arg1 arg2 arg3 arg4 arg5 arg6 arg7 arg9 X_arg1 X_arg2 X_arg3 X_arg4 X_arg5 X_arg6 X_arg7 k f_arg9 = piece 𝔸 𝕊 3 2 (gOf arg7 X_arg7) (zOf2 arg2 X_arg2 k 384#32 (k0_off6_inb k 3)) := by
  simp only [trip_k0_t1.sl.v1273, trip_k0_t1.sl.v1272, trip_k0_t1.sl.v1271, trip_k0_t1.sl.v1270, trip_k0_t1.sl.v1254, trip_k0_t1.sl.v1269, trip_k0_t1.sl.v902, trip_k0_t1.sl.v1267, trip_k0_t1.sl.v1266, trip_k0_t1.sl.v1265, trip_k0_t1.sl.v1264, trip_k0_t1.sl.v99, trip_k0_t1.sl.cst_32, trip_k0_t1.sl.v1262, trip_k0_t1.sl.v871, trip_k0_t1.sl.cst_167, trip_k0_t1.sl.v1260, trip_k0_t1.sl.v1259, trip_k0_t1.sl.v1258, trip_k0_t1.sl.v1256, trip_k0_t1.sl.v1255, m_v1196 arg1 arg3 arg4 arg5 arg6 arg9 X_arg1 X_arg3 X_arg4 X_arg5 X_arg6 k f_arg9]; rfl

variable (f_arg8 : BufTy.Contents (Elt F) arg8.view.ty)

/-- The trip's one store into the state. -/
theorem trip9 : (tripL_k0_t1 (F := F) 𝒱 c bd i arg1 harg1 arg2 harg2 arg3 harg3 arg4 harg4 arg5 harg5 arg6 harg6 arg7 harg7 arg8 harg8 arg9 harg9 X_arg1 X_arg2 X_arg3 X_arg4 X_arg5 X_arg6 X_arg7 k f_arg8 f_arg9).2 = [⟨Rect.unit (s := S4x128x128) ![0, 0, 0] S4x128x128.size inb_S4x128x128_S4x128x128_0_0_0, k0_pay7 (Sat 𝔸 𝕊 4)⟩] := by
  unfold tripL_k0_t1 trip_k0_t1
  dsimp only
  rw [m_v1202 arg1 arg3 arg4 arg5 arg6 arg9 X_arg1 X_arg3 X_arg4 X_arg5 X_arg6 k f_arg9]

/-- The trip's sixteen stores into the output block. -/
theorem trip8 : (tripL_k0_t1 (F := F) 𝒱 c bd i arg1 harg1 arg2 harg2 arg3 harg3 arg4 harg4 arg5 harg5 arg6 harg6 arg7 harg7 arg8 harg8 arg9 harg9 X_arg1 X_arg2 X_arg3 X_arg4 X_arg5 X_arg6 X_arg7 k f_arg8 f_arg9).1 = [⟨Rect.unit (s := S2048x512) (k0_off7 k 384#32) S128x128.size (k0_off7_inb k 3), piece 𝔸 𝕊 3 3 (gOf arg7 X_arg7) (zOf3 arg2 X_arg2 k 384#32 (k0_off7_inb k 3))⟩, ⟨Rect.unit (s := S2048x512) (k0_off6 k 384#32) S128x128.size (k0_off6_inb k 3), piece 𝔸 𝕊 3 2 (gOf arg7 X_arg7) (zOf2 arg2 X_arg2 k 384#32 (k0_off6_inb k 3))⟩, ⟨Rect.unit (s := S2048x512) (k0_off5 k 384#32) S128x128.size (k0_off5_inb k 3), piece 𝔸 𝕊 3 1 (gOf arg7 X_arg7) (zOf1 arg2 X_arg2 k 384#32 (k0_off5_inb k 3))⟩, ⟨Rect.unit (s := S2048x512) (k0_off4 k 384#32) S128x128.size (k0_off4_inb k 3), piece 𝔸 𝕊 3 0 (gOf arg7 X_arg7) (zOf0 arg2 X_arg2 k 384#32 (k0_off4_inb k 3))⟩, ⟨Rect.unit (s := S2048x512) (k0_off7 k 256#32) S128x128.size (k0_off7_inb k 2), piece 𝔸 𝕊 2 3 (gOf arg7 X_arg7) (zOf3 arg2 X_arg2 k 256#32 (k0_off7_inb k 2))⟩, ⟨Rect.unit (s := S2048x512) (k0_off6 k 256#32) S128x128.size (k0_off6_inb k 2), piece 𝔸 𝕊 2 2 (gOf arg7 X_arg7) (zOf2 arg2 X_arg2 k 256#32 (k0_off6_inb k 2))⟩, ⟨Rect.unit (s := S2048x512) (k0_off5 k 256#32) S128x128.size (k0_off5_inb k 2), piece 𝔸 𝕊 2 1 (gOf arg7 X_arg7) (zOf1 arg2 X_arg2 k 256#32 (k0_off5_inb k 2))⟩, ⟨Rect.unit (s := S2048x512) (k0_off4 k 256#32) S128x128.size (k0_off4_inb k 2), piece 𝔸 𝕊 2 0 (gOf arg7 X_arg7) (zOf0 arg2 X_arg2 k 256#32 (k0_off4_inb k 2))⟩, ⟨Rect.unit (s := S2048x512) (k0_off7 k 128#32) S128x128.size (k0_off7_inb k 1), piece 𝔸 𝕊 1 3 (gOf arg7 X_arg7) (zOf3 arg2 X_arg2 k 128#32 (k0_off7_inb k 1))⟩, ⟨Rect.unit (s := S2048x512) (k0_off6 k 128#32) S128x128.size (k0_off6_inb k 1), piece 𝔸 𝕊 1 2 (gOf arg7 X_arg7) (zOf2 arg2 X_arg2 k 128#32 (k0_off6_inb k 1))⟩, ⟨Rect.unit (s := S2048x512) (k0_off5 k 128#32) S128x128.size (k0_off5_inb k 1), piece 𝔸 𝕊 1 1 (gOf arg7 X_arg7) (zOf1 arg2 X_arg2 k 128#32 (k0_off5_inb k 1))⟩, ⟨Rect.unit (s := S2048x512) (k0_off4 k 128#32) S128x128.size (k0_off4_inb k 1), piece 𝔸 𝕊 1 0 (gOf arg7 X_arg7) (zOf0 arg2 X_arg2 k 128#32 (k0_off4_inb k 1))⟩, ⟨Rect.unit (s := S2048x512) (k0_off7 k 0#32) S128x128.size (k0_off7_inb k 0), piece 𝔸 𝕊 0 3 (gOf arg7 X_arg7) (zOf3 arg2 X_arg2 k 0#32 (k0_off7_inb k 0))⟩, ⟨Rect.unit (s := S2048x512) (k0_off6 k 0#32) S128x128.size (k0_off6_inb k 0), piece 𝔸 𝕊 0 2 (gOf arg7 X_arg7) (zOf2 arg2 X_arg2 k 0#32 (k0_off6_inb k 0))⟩, ⟨Rect.unit (s := S2048x512) (k0_off5 k 0#32) S128x128.size (k0_off5_inb k 0), piece 𝔸 𝕊 0 1 (gOf arg7 X_arg7) (zOf1 arg2 X_arg2 k 0#32 (k0_off5_inb k 0))⟩, ⟨Rect.unit (s := S2048x512) (k0_off4 k 0#32) S128x128.size (k0_off4_inb k 0), piece 𝔸 𝕊 0 0 (gOf arg7 X_arg7) (zOf0 arg2 X_arg2 k 0#32 (k0_off4_inb k 0))⟩] := by
  unfold tripL_k0_t1 trip_k0_t1
  dsimp only
  rw [m_v883 arg1 arg2 arg3 arg4 arg5 arg6 arg7 arg9 X_arg1 X_arg2 X_arg3 X_arg4 X_arg5 X_arg6 X_arg7 k f_arg9, m_v907 arg1 arg2 arg3 arg4 arg5 arg6 arg7 arg9 X_arg1 X_arg2 X_arg3 X_arg4 X_arg5 X_arg6 X_arg7 k f_arg9, m_v931 arg1 arg2 arg3 arg4 arg5 arg6 arg7 arg9 X_arg1 X_arg2 X_arg3 X_arg4 X_arg5 X_arg6 X_arg7 k f_arg9, m_v955 arg1 arg2 arg3 arg4 arg5 arg6 arg7 arg9 X_arg1 X_arg2 X_arg3 X_arg4 X_arg5 X_arg6 X_arg7 k f_arg9, m_v997 arg1 arg2 arg3 arg4 arg5 arg6 arg7 arg9 X_arg1 X_arg2 X_arg3 X_arg4 X_arg5 X_arg6 X_arg7 k f_arg9, m_v1021 arg1 arg2 arg3 arg4 arg5 arg6 arg7 arg9 X_arg1 X_arg2 X_arg3 X_arg4 X_arg5 X_arg6 X_arg7 k f_arg9, m_v1045 arg1 arg2 arg3 arg4 arg5 arg6 arg7 arg9 X_arg1 X_arg2 X_arg3 X_arg4 X_arg5 X_arg6 X_arg7 k f_arg9, m_v1069 arg1 arg2 arg3 arg4 arg5 arg6 arg7 arg9 X_arg1 X_arg2 X_arg3 X_arg4 X_arg5 X_arg6 X_arg7 k f_arg9, m_v1111 arg1 arg2 arg3 arg4 arg5 arg6 arg7 arg9 X_arg1 X_arg2 X_arg3 X_arg4 X_arg5 X_arg6 X_arg7 k f_arg9, m_v1135 arg1 arg2 arg3 arg4 arg5 arg6 arg7 arg9 X_arg1 X_arg2 X_arg3 X_arg4 X_arg5 X_arg6 X_arg7 k f_arg9, m_v1159 arg1 arg2 arg3 arg4 arg5 arg6 arg7 arg9 X_arg1 X_arg2 X_arg3 X_arg4 X_arg5 X_arg6 X_arg7 k f_arg9, m_v1183 arg1 arg2 arg3 arg4 arg5 arg6 arg7 arg9 X_arg1 X_arg2 X_arg3 X_arg4 X_arg5 X_arg6 X_arg7 k f_arg9, m_v1225 arg1 arg2 arg3 arg4 arg5 arg6 arg7 arg9 X_arg1 X_arg2 X_arg3 X_arg4 X_arg5 X_arg6 X_arg7 k f_arg9, m_v1249 arg1 arg2 arg3 arg4 arg5 arg6 arg7 arg9 X_arg1 X_arg2 X_arg3 X_arg4 X_arg5 X_arg6 X_arg7 k f_arg9, m_v1273 arg1 arg2 arg3 arg4 arg5 arg6 arg7 arg9 X_arg1 X_arg2 X_arg3 X_arg4 X_arg5 X_arg6 X_arg7 k f_arg9, m_v1196 arg1 arg3 arg4 arg5 arg6 arg9 X_arg1 X_arg3 X_arg4 X_arg5 X_arg6 k f_arg9]
  rfl

end Cert.KernelIdeal.Own

end
-- ==== Proof.Loop.lean ====
/- What a sequence's run leaves in the output block, from the blocks it reads: the trips one after the other. -/
module

public import proofs.«01_k».proof.Proof.Match
public import Idealize.ShloMosaic.Lib.VecWindow
public import Idealize.ShloMosaic.Lib.Pointwise
public import Idealize.ShloMosaic.Lib.Pipeline.Value

@[expose] public section

set_option maxRecDepth 16384

noncomputable section

namespace Cert.KernelIdeal.Own

open Cert.KernelIdeal Cert.KernelIdeal.Gen
open Idealize.ShloMosaic Idealize.ShloMosaic.TcCoe Idealize.ShloMosaic.Tactic

variable {F : FTy → Type} [FloatOps F] [Named F]
variable (𝒱 : Variants) (c : Dev nD) (bd : Option 𝒱.V) (i : grid0.Coords) (arg1 : Memref sig .tc .vmem S2048x1536 .bf16) (harg1 : arg1.IsWhole) (arg2 : Memref sig .tc .vmem S2048x512 .bf16) (harg2 : arg2.IsWhole) (arg3 : Memref sig .tc .vmem S2048x128 .f32) (harg3 : arg3.IsWhole) (arg4 : Memref sig .tc .vmem S4x1536 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2048x512 .bf16) (harg8 : arg8.IsWhole) (arg9 : Memref sig .tc .vmem S4x128x128 .f32) (harg9 : arg9.IsWhole)
  (x0 : Vec F S2048x1536 .bf16) (x1 : Vec F S2048x512 .bf16) (x2 : Vec F S2048x128 .f32) (x3 : Vec F S4x1536 .f32) (x4 : Vec F S1x128 .f32) (x5 : Vec F S1x128 .f32) (x6 : Vec F S1x128 .f32)

theorem tlt (k : Fin k0_t1_loop.trips) : k.val < 4 := Nat.lt_of_lt_of_le k.isLt k0_t1_abs.2.1
theorem trips_four : k0_t1_loop.trips = 4 := by decide +kernel

/-- What trip `k` of a sequence loads. -/
def ldV (k : Fin 4) : Ld F where
  x := VecWindow.window x0 ![512 * k.val, 0] S512x1536.size (by revert k; decide)
  h := VecWindow.window x0 ![512 * k.val - 16, 0] S16x1536.size (by revert k; decide)
  w3 := VecWindow.window x3 ![3, 0] S1x1536.size (by decide)
  w2 := VecWindow.window x3 ![2, 0] S1x1536.size (by decide)
  w1 := VecWindow.window x3 ![1, 0] S1x1536.size (by decide)
  w0 := VecWindow.window x3 ![0, 0] S1x1536.size (by decide)
  sm := VecWindow.window x2 ![512 * k.val, 0] S512x128.size (by revert k; decide)
  al := x4
  dt := x5
  fl := Scalar.select (Scalar.cmpi .sgt (Scf.iv 0#32 1#32 k.val) 0#32) of zf

/-- The state before trip `n`. -/
def StV : ℕ → FVec F S4x128x128 .f32
  | 0 => k0_pay6
  | n + 1 => if h : n < 4 then k0_pay7 (Sat (ldV x0 x2 x3 x4 x5 ⟨n, h⟩) (StV n) 4) else StV n

/-- The gate rows of one stretch and head. -/
def zV (k c h : Fin 4) : Vec F S128x128 .bf16 :=
  VecWindow.window x1 ![512 * k.val + 128 * c.val, 128 * h.val] S128x128.size (by revert k c h; decide)

/-- Stretch `c` of trip `k` for head `h`, as stored. -/
def blkV (k c h : Fin 4) : FVec F S128x128 .bf16 :=
  piece (ldV x0 x2 x3 x4 x5 k) (StV x0 x2 x3 x4 x5 k.val) c h x6 (zV x1 k c h)

/-- The output block. -/
def OutV : Vec F S2048x512 .bf16 := fun j =>
  have h0 : (j 0).val < 2048 := (j 0).isLt
  have h1 : (j 1).val < 512 := (j 1).isLt
  blkV x0 x1 x2 x3 x4 x5 x6 ⟨(j 0).val / 512, by omega⟩ ⟨(j 0).val / 128 % 4, by omega⟩ ⟨(j 1).val / 128, by omega⟩
    (ix2 ⟨(j 0).val % 128, by omega⟩ ⟨(j 1).val % 128, by omega⟩)

theorem off2 : ∀ k : Fin k0_t1_loop.trips, k0_off2 k = ![512 * k.val - 16, 0] := by decide +kernel

theorem ldOf_eq (k : Fin k0_t1_loop.trips) : ldOf arg1 arg3 arg4 arg5 arg6 (harg1.unread x0) (harg3.unread x2) (harg4.unread x3) (harg5.unread x4) (harg6.unread x5) k = ldV x0 x2 x3 x4 x5 ⟨k.val, tlt k⟩ := by
  unfold ldOf ldV
  congr 1
  · rw [View.readAt_unit _ _ _ (k0_off1_eq k) (by have := tlt k; intro a; fin_cases a <;> simp <;> omega), harg1.read_unread]
  · rw [View.readAt_unit _ _ _ (off2 k) (by have := tlt k; intro a; fin_cases a <;> simp <;> omega), harg1.read_unread]
  · rw [View.readAt_unit _ _ _ rfl, harg4.read_unread]
  · rw [View.readAt_unit _ _ _ rfl, harg4.read_unread]
  · rw [View.readAt_unit _ _ _ rfl, harg4.read_unread]
  · rw [View.readAt_unit _ _ _ rfl, harg4.read_unread]
  · rw [View.readAt_unit _ _ _ (k0_off3_eq k) (by have := tlt k; intro a; fin_cases a <;> simp <;> omega), harg3.read_unread]
  · exact (View.readAt_full _ _ _).trans (harg5.read_unread _)
  · exact (View.readAt_full _ _ _).trans (harg6.read_unread _)

theorem gOf_eq : gOf arg7 (harg7.unread x6) = x6 := (View.readAt_full _ _ _).trans (harg7.read_unread _)
theorem zOf0_eq (k : Fin k0_t1_loop.trips) (c : Fin 4) (b : BitVec 32) (hb) (e : b = BitVec.ofNat 32 (128 * c.val)) : zOf0 arg2 (harg2.unread x1) k b hb = zV x1 ⟨k.val, tlt k⟩ c 0 := by
  subst e
  unfold zOf0 zV
  rw [View.readAt_unit _ _ _ (k0_off4_eq k c) (by have := tlt k; intro a; fin_cases a <;> fin_cases c <;> simp <;> omega), harg2.read_unread]
  rfl
theorem zOf1_eq (k : Fin k0_t1_loop.trips) (c : Fin 4) (b : BitVec 32) (hb) (e : b = BitVec.ofNat 32 (128 * c.val)) : zOf1 arg2 (harg2.unread x1) k b hb = zV x1 ⟨k.val, tlt k⟩ c 1 := by
  subst e
  unfold zOf1 zV
  rw [View.readAt_unit _ _ _ (k0_off5_eq k c) (by have := tlt k; intro a; fin_cases a <;> fin_cases c <;> simp <;> omega), harg2.read_unread]
  rfl
theorem zOf2_eq (k : Fin k0_t1_loop.trips) (c : Fin 4) (b : BitVec 32) (hb) (e : b = BitVec.ofNat 32 (128 * c.val)) : zOf2 arg2 (harg2.unread x1) k b hb = zV x1 ⟨k.val, tlt k⟩ c 2 := by
  subst e
  unfold zOf2 zV
  rw [View.readAt_unit _ _ _ (k0_off6_eq k c) (by have := tlt k; intro a; fin_cases a <;> fin_cases c <;> simp <;> omega), harg2.read_unread]
  rfl
theorem zOf3_eq (k : Fin k0_t1_loop.trips) (c : Fin 4) (b : BitVec 32) (hb) (e : b = BitVec.ofNat 32 (128 * c.val)) : zOf3 arg2 (harg2.unread x1) k b hb = zV x1 ⟨k.val, tlt k⟩ c 3 := by
  subst e
  unfold zOf3 zV
  rw [View.readAt_unit _ _ _ (k0_off7_eq k c) (by have := tlt k; intro a; fin_cases a <;> fin_cases c <;> simp <;> omega), harg2.read_unread]
  rfl

/-- A piece put at its place agrees with the output block. -/
theorem piece_at (k c h : Fin 4) (off : Fin 2 → ℕ) (ho : off = ![512 * k.val + 128 * c.val, 128 * h.val]) (hb) (x : S128x128.Idx) :
    blkV x0 x1 x2 x3 x4 x5 x6 k c h x = OutV x0 x1 x2 x3 x4 x5 x6 ((Rect.unit (s := S2048x512) off S128x128.size hb).emb x) := by
  subst ho
  obtain ⟨a, b, rfl⟩ : ∃ a b, x = ix2 (n0 := 128) (n1 := 128) a b := ⟨x 0, x 1, eq_ix2 x⟩
  unfold OutV
  have e0 : (((Rect.unit (s := S2048x512) ![512 * k.val + 128 * c.val, 128 * h.val] S128x128.size hb).emb (ix2 a b)) 0).val = 512 * k.val + 128 * c.val + a.val := by
    show 512 * k.val + 128 * c.val + 1 * a.val = _; omega
  have e1 : (((Rect.unit (s := S2048x512) ![512 * k.val + 128 * c.val, 128 * h.val] S128x128.size hb).emb (ix2 a b)) 1).val = 128 * h.val + b.val := by
    show 128 * h.val + 1 * b.val = _; omega
  have := a.isLt; have := b.isLt; have := k.isLt; have := c.isLt; have := h.isLt
  have gen : ∀ (k' c' h' : Fin 4) (a' b' : Fin 128), k' = k → c' = c → h' = h → a' = a → b' = b →
      blkV x0 x1 x2 x3 x4 x5 x6 k c h (ix2 a b) = blkV x0 x1 x2 x3 x4 x5 x6 k' c' h' (ix2 a' b') := by
    rintro _ _ _ _ _ rfl rfl rfl rfl rfl; rfl
  apply gen <;> apply Fin.ext <;> simp only [e0, e1] <;> omega

/-- The loop, trip by trip: the state, and the rows written so far. -/
theorem loop_vals (G8 : BufTy.Contents (Elt F) arg8.view.ty) (G9 : BufTy.Contents (Elt F) arg9.view.ty) (h9 : arg9.view.read (Elt F) G9 = k0_pay6) :
    ∀ n ≤ 4,
      arg9.view.read (Elt F) (arg9.view.writes (Elt F) G9 (pb_k0_t1 (F := F) 𝒱 c bd i arg1 harg1 arg2 harg2 arg3 harg3 arg4 harg4 arg5 harg5 arg6 harg6 arg7 harg7 arg8 harg8 arg9 harg9 (harg1.unread x0) (harg2.unread x1) (harg3.unread x2) (harg4.unread x3) (harg5.unread x4) (harg6.unread x5) (harg7.unread x6) G8 G9 n).2) = StV x0 x2 x3 x4 x5 n
      ∧ ∀ y : S2048x512.Idx, (y 0).val < 512 * n →
        arg8.view.read (Elt F) (arg8.view.writes (Elt F) G8 (pb_k0_t1 (F := F) 𝒱 c bd i arg1 harg1 arg2 harg2 arg3 harg3 arg4 harg4 arg5 harg5 arg6 harg6 arg7 harg7 arg8 harg8 arg9 harg9 (harg1.unread x0) (harg2.unread x1) (harg3.unread x2) (harg4.unread x3) (harg5.unread x4) (harg6.unread x5) (harg7.unread x6) G8 G9 n).1) y = OutV x0 x1 x2 x3 x4 x5 x6 y
  | 0, _ => by
    refine ⟨?_, fun y hy => absurd hy (by omega)⟩
    rw [pb_k0_t1.eq_1]; exact h9
  | n + 1, hn => by
    obtain ⟨i9, i8⟩ := loop_vals G8 G9 h9 n (by omega)
    have hk : n < k0_t1_loop.trips := by rw [trips_four]; omega
    rw [pb_k0_t1_succ 𝒱 c bd i arg1 harg1 arg2 harg2 arg3 harg3 arg4 harg4 arg5 harg5 arg6 harg6 arg7 harg7 arg8 harg8 arg9 harg9 _ _ _ _ _ _ _ G8 G9 ⟨n, hk⟩]
    rw [trip9, trip8]
    have hs : stOf arg9 (arg9.view.writes (Elt F) G9 (pb_k0_t1 (F := F) 𝒱 c bd i arg1 harg1 arg2 harg2 arg3 harg3 arg4 harg4 arg5 harg5 arg6 harg6 arg7 harg7 arg8 harg8 arg9 harg9 (harg1.unread x0) (harg2.unread x1) (harg3.unread x2) (harg4.unread x3) (harg5.unread x4) (harg6.unread x5) (harg7.unread x6) G8 G9 n).2) = StV x0 x2 x3 x4 x5 n := (View.readAt_full _ _ _).trans i9
    rw [View.writes_append, View.writes_append]
    rw [hs]
    constructor
    · rw [View.read_writes_full, ldOf_eq]
      show _ = if h : n < 4 then _ else _
      rw [dif_pos (by omega)]
    · intro y hy
      by_cases hlt : (y 0).val < 512 * n
      · rw [View.read_writes_apply_of_forall_not_mem, i8 y hlt]
        intro p hp
        have key : ∀ (o : Fin 2 → ℕ) (hb) (a b : ℕ), o = ![512 * n + a, b] → y ∉ (Rect.unit (s := S2048x512) o S128x128.size hb).set := by
          intro o hb a b ho
          subst ho
          exact Rect.not_mem_set_of_axis _ y 0 _ 128 rfl rfl rfl (.inl (by show _ < 512 * n + a; omega))
        simp only [List.mem_cons, List.not_mem_nil, or_false] at hp
        rcases hp with rfl | rfl | rfl | rfl | rfl | rfl | rfl | rfl | rfl | rfl | rfl | rfl | rfl | rfl | rfl | rfl
        · exact key _ (k0_off7_inb ⟨n, hk⟩ 3) 384 384 (k0_off7_eq ⟨n, hk⟩ 3)
        · exact key _ (k0_off6_inb ⟨n, hk⟩ 3) 384 256 (k0_off6_eq ⟨n, hk⟩ 3)
        · exact key _ (k0_off5_inb ⟨n, hk⟩ 3) 384 128 (k0_off5_eq ⟨n, hk⟩ 3)
        · exact key _ (k0_off4_inb ⟨n, hk⟩ 3) 384 0 (k0_off4_eq ⟨n, hk⟩ 3)
        · exact key _ (k0_off7_inb ⟨n, hk⟩ 2) 256 384 (k0_off7_eq ⟨n, hk⟩ 2)
        · exact key _ (k0_off6_inb ⟨n, hk⟩ 2) 256 256 (k0_off6_eq ⟨n, hk⟩ 2)
        · exact key _ (k0_off5_inb ⟨n, hk⟩ 2) 256 128 (k0_off5_eq ⟨n, hk⟩ 2)
        · exact key _ (k0_off4_inb ⟨n, hk⟩ 2) 256 0 (k0_off4_eq ⟨n, hk⟩ 2)
        · exact key _ (k0_off7_inb ⟨n, hk⟩ 1) 128 384 (k0_off7_eq ⟨n, hk⟩ 1)
        · exact key _ (k0_off6_inb ⟨n, hk⟩ 1) 128 256 (k0_off6_eq ⟨n, hk⟩ 1)
        · exact key _ (k0_off5_inb ⟨n, hk⟩ 1) 128 128 (k0_off5_eq ⟨n, hk⟩ 1)
        · exact key _ (k0_off4_inb ⟨n, hk⟩ 1) 128 0 (k0_off4_eq ⟨n, hk⟩ 1)
        · exact key _ (k0_off7_inb ⟨n, hk⟩ 0) 0 384 (k0_off7_eq ⟨n, hk⟩ 0)
        · exact key _ (k0_off6_inb ⟨n, hk⟩ 0) 0 256 (k0_off6_eq ⟨n, hk⟩ 0)
        · exact key _ (k0_off5_inb ⟨n, hk⟩ 0) 0 128 (k0_off5_eq ⟨n, hk⟩ 0)
        · exact key _ (k0_off4_inb ⟨n, hk⟩ 0) 0 0 (k0_off4_eq ⟨n, hk⟩ 0)
      · refine View.read_writes_apply_of_pieces _ _ (OutV x0 x1 x2 x3 x4 x5 x6) _ ?_ y ?_
        · intro p hp
          simp only [List.mem_cons, List.not_mem_nil, or_false] at hp
          rcases hp with rfl | rfl | rfl | rfl | rfl | rfl | rfl | rfl | rfl | rfl | rfl | rfl | rfl | rfl | rfl | rfl
          · intro x; dsimp only; rw [ldOf_eq, gOf_eq, zOf3_eq _ _ _ _ 3 384#32 _ rfl]; exact piece_at x0 x1 x2 x3 x4 x5 x6 ⟨n, by omega⟩ 3 3 _ (k0_off7_eq ⟨n, hk⟩ 3) _ x
          · intro x; dsimp only; rw [ldOf_eq, gOf_eq, zOf2_eq _ _ _ _ 3 384#32 _ rfl]; exact piece_at x0 x1 x2 x3 x4 x5 x6 ⟨n, by omega⟩ 3 2 _ (k0_off6_eq ⟨n, hk⟩ 3) _ x
          · intro x; dsimp only; rw [ldOf_eq, gOf_eq, zOf1_eq _ _ _ _ 3 384#32 _ rfl]; exact piece_at x0 x1 x2 x3 x4 x5 x6 ⟨n, by omega⟩ 3 1 _ (k0_off5_eq ⟨n, hk⟩ 3) _ x
          · intro x; dsimp only; rw [ldOf_eq, gOf_eq, zOf0_eq _ _ _ _ 3 384#32 _ rfl]; exact piece_at x0 x1 x2 x3 x4 x5 x6 ⟨n, by omega⟩ 3 0 _ (k0_off4_eq ⟨n, hk⟩ 3) _ x
          · intro x; dsimp only; rw [ldOf_eq, gOf_eq, zOf3_eq _ _ _ _ 2 256#32 _ rfl]; exact piece_at x0 x1 x2 x3 x4 x5 x6 ⟨n, by omega⟩ 2 3 _ (k0_off7_eq ⟨n, hk⟩ 2) _ x
          · intro x; dsimp only; rw [ldOf_eq, gOf_eq, zOf2_eq _ _ _ _ 2 256#32 _ rfl]; exact piece_at x0 x1 x2 x3 x4 x5 x6 ⟨n, by omega⟩ 2 2 _ (k0_off6_eq ⟨n, hk⟩ 2) _ x
          · intro x; dsimp only; rw [ldOf_eq, gOf_eq, zOf1_eq _ _ _ _ 2 256#32 _ rfl]; exact piece_at x0 x1 x2 x3 x4 x5 x6 ⟨n, by omega⟩ 2 1 _ (k0_off5_eq ⟨n, hk⟩ 2) _ x
          · intro x; dsimp only; rw [ldOf_eq, gOf_eq, zOf0_eq _ _ _ _ 2 256#32 _ rfl]; exact piece_at x0 x1 x2 x3 x4 x5 x6 ⟨n, by omega⟩ 2 0 _ (k0_off4_eq ⟨n, hk⟩ 2) _ x
          · intro x; dsimp only; rw [ldOf_eq, gOf_eq, zOf3_eq _ _ _ _ 1 128#32 _ rfl]; exact piece_at x0 x1 x2 x3 x4 x5 x6 ⟨n, by omega⟩ 1 3 _ (k0_off7_eq ⟨n, hk⟩ 1) _ x
          · intro x; dsimp only; rw [ldOf_eq, gOf_eq, zOf2_eq _ _ _ _ 1 128#32 _ rfl]; exact piece_at x0 x1 x2 x3 x4 x5 x6 ⟨n, by omega⟩ 1 2 _ (k0_off6_eq ⟨n, hk⟩ 1) _ x
          · intro x; dsimp only; rw [ldOf_eq, gOf_eq, zOf1_eq _ _ _ _ 1 128#32 _ rfl]; exact piece_at x0 x1 x2 x3 x4 x5 x6 ⟨n, by omega⟩ 1 1 _ (k0_off5_eq ⟨n, hk⟩ 1) _ x
          · intro x; dsimp only; rw [ldOf_eq, gOf_eq, zOf0_eq _ _ _ _ 1 128#32 _ rfl]; exact piece_at x0 x1 x2 x3 x4 x5 x6 ⟨n, by omega⟩ 1 0 _ (k0_off4_eq ⟨n, hk⟩ 1) _ x
          · intro x; dsimp only; rw [ldOf_eq, gOf_eq, zOf3_eq _ _ _ _ 0 0#32 _ rfl]; exact piece_at x0 x1 x2 x3 x4 x5 x6 ⟨n, by omega⟩ 0 3 _ (k0_off7_eq ⟨n, hk⟩ 0) _ x
          · intro x; dsimp only; rw [ldOf_eq, gOf_eq, zOf2_eq _ _ _ _ 0 0#32 _ rfl]; exact piece_at x0 x1 x2 x3 x4 x5 x6 ⟨n, by omega⟩ 0 2 _ (k0_off6_eq ⟨n, hk⟩ 0) _ x
          · intro x; dsimp only; rw [ldOf_eq, gOf_eq, zOf1_eq _ _ _ _ 0 0#32 _ rfl]; exact piece_at x0 x1 x2 x3 x4 x5 x6 ⟨n, by omega⟩ 0 1 _ (k0_off5_eq ⟨n, hk⟩ 0) _ x
          · intro x; dsimp only; rw [ldOf_eq, gOf_eq, zOf0_eq _ _ _ _ 0 0#32 _ rfl]; exact piece_at x0 x1 x2 x3 x4 x5 x6 ⟨n, by omega⟩ 0 0 _ (k0_off4_eq ⟨n, hk⟩ 0) _ x
        · have y0 : (y 0).val < 2048 := (y 0).isLt
          have y1 : (y 1).val < 512 := (y 1).isLt
          have key : ∀ (o : Fin 2 → ℕ) (hb) (a b : ℕ), o = ![512 * n + a, b] → 512 * n + a ≤ (y 0).val → (y 0).val < 512 * n + a + 128 → b ≤ (y 1).val → (y 1).val < b + 128 →
              y ∈ (Rect.unit (s := S2048x512) o S128x128.size hb).set := by
            intro o hb a b ho h1 h2 h3 h4
            subst ho
            rw [Rect.mem_set_unit]
            intro a; fin_cases a
            · exact ⟨h1, h2⟩
            · exact ⟨h3, h4⟩
          simp only [List.exists_mem_cons_iff, List.not_mem_nil, false_and, exists_false, or_false]
          rcases (by omega : ((y 0).val - 512 * n) / 128 = 0 ∨ ((y 0).val - 512 * n) / 128 = 1 ∨ ((y 0).val - 512 * n) / 128 = 2 ∨ ((y 0).val - 512 * n) / 128 = 3) with hc | hc | hc | hc <;>
          rcases (by omega : (y 1).val / 128 = 0 ∨ (y 1).val / 128 = 1 ∨ (y 1).val / 128 = 2 ∨ (y 1).val / 128 = 3) with hh | hh | hh | hh
          · exact .inr (.inr (.inr (.inr (.inr (.inr (.inr (.inr (.inr (.inr (.inr (.inr (.inr (.inr (.inr (key _ (k0_off4_inb ⟨n, hk⟩ 0) 0 0 (k0_off4_eq ⟨n, hk⟩ 0) (by omega) (by omega) (by omega) (by omega))))))))))))))))
          · exact .inr (.inr (.inr (.inr (.inr (.inr (.inr (.inr (.inr (.inr (.inr (.inr (.inr (.inr (.inl (key _ (k0_off5_inb ⟨n, hk⟩ 0) 0 128 (k0_off5_eq ⟨n, hk⟩ 0) (by omega) (by omega) (by omega) (by omega))))))))))))))))
          · exact .inr (.inr (.inr (.inr (.inr (.inr (.inr (.inr (.inr (.inr (.inr (.inr (.inr (.inl (key _ (k0_off6_inb ⟨n, hk⟩ 0) 0 256 (k0_off6_eq ⟨n, hk⟩ 0) (by omega) (by omega) (by omega) (by omega)))))))))))))))
          · exact .inr (.inr (.inr (.inr (.inr (.inr (.inr (.inr (.inr (.inr (.inr (.inr (.inl (key _ (k0_off7_inb ⟨n, hk⟩ 0) 0 384 (k0_off7_eq ⟨n, hk⟩ 0) (by omega) (by omega) (by omega) (by omega))))))))))))))
          · exact .inr (.inr (.inr (.inr (.inr (.inr (.inr (.inr (.inr (.inr (.inr (.inl (key _ (k0_off4_inb ⟨n, hk⟩ 1) 128 0 (k0_off4_eq ⟨n, hk⟩ 1) (by omega) (by omega) (by omega) (by omega)))))))))))))
          · exact .inr (.inr (.inr (.inr (.inr (.inr (.inr (.inr (.inr (.inr (.inl (key _ (k0_off5_inb ⟨n, hk⟩ 1) 128 128 (k0_off5_eq ⟨n, hk⟩ 1) (by omega) (by omega) (by omega) (by omega))))))))))))
          · exact .inr (.inr (.inr (.inr (.inr (.inr (.inr (.inr (.inr (.inl (key _ (k0_off6_inb ⟨n, hk⟩ 1) 128 256 (k0_off6_eq ⟨n, hk⟩ 1) (by omega) (by omega) (by omega) (by omega)))))))))))
          · exact .inr (.inr (.inr (.inr (.inr (.inr (.inr (.inr (.inl (key _ (k0_off7_inb ⟨n, hk⟩ 1) 128 384 (k0_off7_eq ⟨n, hk⟩ 1) (by omega) (by omega) (by omega) (by omega))))))))))
          · exact .inr (.inr (.inr (.inr (.inr (.inr (.inr (.inl (key _ (k0_off4_inb ⟨n, hk⟩ 2) 256 0 (k0_off4_eq ⟨n, hk⟩ 2) (by omega) (by omega) (by omega) (by omega)))))))))
          · exact .inr (.inr (.inr (.inr (.inr (.inr (.inl (key _ (k0_off5_inb ⟨n, hk⟩ 2) 256 128 (k0_off5_eq ⟨n, hk⟩ 2) (by omega) (by omega) (by omega) (by omega))))))))
          · exact .inr (.inr (.inr (.inr (.inr (.inl (key _ (k0_off6_inb ⟨n, hk⟩ 2) 256 256 (k0_off6_eq ⟨n, hk⟩ 2) (by omega) (by omega) (by omega) (by omega)))))))
          · exact .inr (.inr (.inr (.inr (.inl (key _ (k0_off7_inb ⟨n, hk⟩ 2) 256 384 (k0_off7_eq ⟨n, hk⟩ 2) (by omega) (by omega) (by omega) (by omega))))))
          · exact .inr (.inr (.inr (.inl (key _ (k0_off4_inb ⟨n, hk⟩ 3) 384 0 (k0_off4_eq ⟨n, hk⟩ 3) (by omega) (by omega) (by omega) (by omega)))))
          · exact .inr (.inr (.inl (key _ (k0_off5_inb ⟨n, hk⟩ 3) 384 128 (k0_off5_eq ⟨n, hk⟩ 3) (by omega) (by omega) (by omega) (by omega))))
          · exact .inr (.inl (key _ (k0_off6_inb ⟨n, hk⟩ 3) 384 256 (k0_off6_eq ⟨n, hk⟩ 3) (by omega) (by omega) (by omega) (by omega)))
          · exact .inl (key _ (k0_off7_inb ⟨n, hk⟩ 3) 384 384 (k0_off7_eq ⟨n, hk⟩ 3) (by omega) (by omega) (by omega) (by omega))

end Cert.KernelIdeal.Own

end
-- ==== Proof.KernelFrame.lean ====
/- The run of the gated DeltaNet call: each sequence's block ends as `OutV` of the blocks it reads, and the run's frame. -/
module

public import proofs.«01_k».proof.Proof.Loop
public import Idealize.ShloMosaic.Lib.Claim

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body on whole buffers: the inputs kept, the output block at `OutV`, the state buffer at something. -/
theorem run (c : Dev nD) (i : grid0.Coords) (arg1 : Memref sig .tc .vmem S2048x1536 .bf16) (harg1 : arg1.IsWhole) (arg2 : Memref sig .tc .vmem S2048x512 .bf16) (harg2 : arg2.IsWhole) (arg3 : Memref sig .tc .vmem S2048x128 .f32) (harg3 : arg3.IsWhole) (arg4 : Memref sig .tc .vmem S4x1536 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2048x512 .bf16) (harg8 : arg8.IsWhole) (arg9 : Memref sig .tc .vmem S4x128x128 .f32) (harg9 : arg9.IsWhole)
    (x0 : Vec F S2048x1536 .bf16) (x1 : Vec F S2048x512 .bf16) (x2 : Vec F S2048x128 .f32) (x3 : Vec F S4x1536 .f32) (x4 : Vec F S1x128 .f32) (x5 : Vec F S1x128 .f32) (x6 : Vec F S1x128 .f32) :
    ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (OutV x0 x1 x2 x3 x4 x5 x6) ∗ (∃ d, owns (c : Thread nD τ) arg9 fullShare d)) -∗ K ⟨⟩))
          ⊢ wp frame (wpE (defs₀ (F := F)) Variants.none c none) E (cc0_dn i arg1 harg1 arg2 harg2 arg3 harg3 arg4 harg4 arg5 harg5 arg6 harg6 arg7 harg7 arg8 harg8 arg9 harg9) K := by
    intro E K
    simp only [cc0_dn_eq_skeleton]; unfold cc0_dn_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr
      swap; · iexact H7
      ipureintro
      funext y
      have hy : (y 0).val < 2048 := (y 0).isLt
      refine Eq.trans ?_ ((loop_vals (F := F) Variants.none c none i arg1 harg1 arg2 harg2 arg3 harg3 arg4 harg4 arg5 harg5 arg6 harg6 arg7 harg7 arg8 harg8 arg9 harg9 x0 x1 x2 x3 x4 x5 x6 f7 (arg9.view.writes (Elt F) arg9.view.junk [⟨Rect.unit (s := S4x128x128) ![0, 0, 0] S4x128x128.size inb_S4x128x128_S4x128x128_0_0_0, k0_pay6⟩]) (View.read_writes_full _ _ _ _ _) k0_t1_loop.trips trips_four.le).2 y (by rw [trips_four]; omega))
      rfl
    iexists _, _; isplitr; swap; · iexact HS0
    ipureintro; rfl

def outsAt0 (c : Dev nD) (t : Fin cfg0.N) : Vec F S2048x512 .bf16 :=
  OutV (iblk m c 0 t) (iblk m c 1 t) (iblk m c 2 t) (iblk m c 3 t) (iblk m c 4 t) (iblk m c 5 t) (iblk m c 6 t)

def dats (_ : Fin 1) (c : Dev nD) : Dat τ (Elt F) Unit ℕ (UR sig nD τ) ℕ cfg0 c where
  A w := Gen.V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t)
  Φ _ := Pipeline.ΦA spec0 c
  q _ := fullShare
  owed _ := 0

theorem A_eq (c : Dev nD) (w : Fin cfg0.W) : (dats m 0 c).A w = Gen.V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  unfold outsAt0
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run c (grid0.coords t) _ _ _ _ _ _ _ _ _ _ _ _ _ _ _ _ _ _ (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  iintro ⟨H0, H1, H2, H3, H4, H5, H6, H7, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- `θ_run_frame`'s implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.FramePost cfgs (dats m) 0 (Gen.V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := Gen.V m) (hmain := hmain m Variants.none) (hA := A_eq m) (hΦ := fun _ _ => rfl)

theorem run_main : θ_run defs (onTc (τ := τ) (main (F := F))) (s₀ m ρ) (Pipeline.FramePost cfgs (dats m) 0 (Gen.V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Own

end
-- ==== Proof.KernelValue.lean ====
/- The gated DeltaNet call's output array as one function of its arguments. -/
module

public import proofs.«01_k».proof.Proof.KernelFrame

@[expose] public section

set_option maxRecDepth 16384

noncomputable section

namespace Cert.KernelIdeal.Own

open Cert.KernelIdeal Cert.KernelIdeal.Gen
open Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-- Sequence `t`'s rows of an array holding all sequences one after the other. -/
def rows {w : ℕ} {e : EltTy} (x : Vec F ⟨2, ![65536, w]⟩ e) (t : Fin 32) : Vec F ⟨2, ![2048, w]⟩ e := fun y =>
  x (ix2 ⟨2048 * t.val + (y 0).val, by have h : (y 0).val < 2048 := (y 0).isLt; have := t.isLt; omega⟩ (y 1))

/-- The output array, from the arguments. -/
def seqOut (x : Vec F S65536x1536 .bf16) (z : Vec F S65536x512 .bf16) (sm : Vec F S65536x128 .f32) (w : Vec F S4x1536 .f32) (al dt g : Vec F S1x128 .f32) : Vec F S65536x512 .bf16 := fun j =>
  have h0 : (j 0).val < 65536 := (j 0).isLt
  OutV (rows x ⟨(j 0).val / 2048, by omega⟩) (rows z ⟨(j 0).val / 2048, by omega⟩) (rows sm ⟨(j 0).val / 2048, by omega⟩) w al dt g (ix2 ⟨(j 0).val % 2048, by omega⟩ (j 1))

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![0, 0] := by decide +kernel
theorem idx7 : ∀ t : Fin grid0.N, win0_7.index t = ![t.val, 0] := by decide +kernel

theorem blk0 (c : Dev nD) (t : Fin cfg0.N) : (iblk m c 0 t : Vec F S2048x1536 .bf16) = rows (m ((c : Thread nD τ).loc main_arg0)) t := by
  funext y
  show m ((c : Thread nD τ).loc main_arg0) ((win0_0.rect t).emb y) = _
  unfold rows
  congr 1
  funext a; apply Fin.ext
  rw [win0_0.rect_emb_val t y a, idx0]
  fin_cases a
  · show t.val * 2048 + (y 0).val = 2048 * t.val + (y 0).val; omega
  · show 0 * 1536 + (y 1).val = (y 1).val; omega
theorem blk1 (c : Dev nD) (t : Fin cfg0.N) : (iblk m c 1 t : Vec F S2048x512 .bf16) = rows (m ((c : Thread nD τ).loc main_arg1)) t := by
  funext y
  show m ((c : Thread nD τ).loc main_arg1) ((win0_1.rect t).emb y) = _
  unfold rows
  congr 1
  funext a; apply Fin.ext
  rw [win0_1.rect_emb_val t y a, idx1]
  fin_cases a
  · show t.val * 2048 + (y 0).val = 2048 * t.val + (y 0).val; omega
  · show 0 * 512 + (y 1).val = (y 1).val; omega
theorem blk2 (c : Dev nD) (t : Fin cfg0.N) : (iblk m c 2 t : Vec F S2048x128 .f32) = rows (m ((c : Thread nD τ).loc main_arg2)) t := by
  funext y
  show m ((c : Thread nD τ).loc main_arg2) ((win0_2.rect t).emb y) = _
  unfold rows
  congr 1
  funext a; apply Fin.ext
  rw [win0_2.rect_emb_val t y a, idx2]
  fin_cases a
  · show t.val * 2048 + (y 0).val = 2048 * t.val + (y 0).val; omega
  · show 0 * 128 + (y 1).val = (y 1).val; omega
theorem blk3 (c : Dev nD) (t : Fin cfg0.N) : (iblk m c 3 t : Vec F S4x1536 .f32) = m ((c : Thread nD τ).loc main_arg3) := by
  funext y
  show m ((c : Thread nD τ).loc main_arg3) ((win0_3.rect t).emb y) = _
  congr 1
  funext a; apply Fin.ext
  rw [win0_3.rect_emb_val t y a, idx3]
  fin_cases a
  · show 0 * 4 + (y 0).val = (y 0).val; omega
  · show 0 * 1536 + (y 1).val = (y 1).val; omega
theorem blk4 (c : Dev nD) (t : Fin cfg0.N) : (iblk m c 4 t : Vec F S1x128 .f32) = m ((c : Thread nD τ).loc main_arg4) := by
  funext y
  show m ((c : Thread nD τ).loc main_arg4) ((win0_4.rect t).emb y) = _
  congr 1
  funext a; apply Fin.ext
  rw [win0_4.rect_emb_val t y a, idx4]
  fin_cases a
  · show 0 * 1 + (y 0).val = (y 0).val; omega
  · show 0 * 128 + (y 1).val = (y 1).val; omega
theorem blk5 (c : Dev nD) (t : Fin cfg0.N) : (iblk m c 5 t : Vec F S1x128 .f32) = m ((c : Thread nD τ).loc main_arg5) := by
  funext y
  show m ((c : Thread nD τ).loc main_arg5) ((win0_5.rect t).emb y) = _
  congr 1
  funext a; apply Fin.ext
  rw [win0_5.rect_emb_val t y a, idx5]
  fin_cases a
  · show 0 * 1 + (y 0).val = (y 0).val; omega
  · show 0 * 128 + (y 1).val = (y 1).val; omega
theorem blk6 (c : Dev nD) (t : Fin cfg0.N) : (iblk m c 6 t : Vec F S1x128 .f32) = m ((c : Thread nD τ).loc main_arg6) := by
  funext y
  show m ((c : Thread nD τ).loc main_arg6) ((win0_6.rect t).emb y) = _
  congr 1
  funext a; apply Fin.ext
  rw [win0_6.rect_emb_val t y a, idx6]
  fin_cases a
  · show 0 * 1 + (y 0).val = (y 0).val; omega
  · show 0 * 128 + (y 1).val = (y 1).val; omega

/-- The whole output array. -/
abbrev outArr (c : Dev nD) : Vec F S65536x512 .bf16 :=
  seqOut (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

theorem flush7 : ∀ t : Fin grid0.N, win0_7.flush t = true := by decide +kernel

/-- What sequence `t` writes back is its block of the array. -/
theorem flushed7 (c : Dev nD) (t : Fin cfg0.N) :
    (dats m 0 c).flushed 7 t = ((cfg0.win 7).blk t).view.read (Elt F) (outArr m c) := by
  show (cfg0.win 7).cut (grid0.coords t) ((dats m 0 c).after 7 t) = _
  rw [after0_7]
  unfold outsAt0
  rw [blk0, blk1, blk2, blk3, blk4, blk5, blk6]
  funext y
  show OutV _ _ _ _ _ _ _ y = outArr m c ((win0_7.rect t).emb y)
  have e0 : (((win0_7.rect t).emb y) 0).val = 2048 * t.val + (y 0).val := by
    rw [win0_7.rect_emb_val t y 0, idx7]; show t.val * 2048 + (y 0).val = _; omega
  have e1 : (((win0_7.rect t).emb y) 1).val = (y 1).val := by
    rw [win0_7.rect_emb_val t y 1, idx7]; show 0 * 512 + (y 1).val = _; omega
  have h0 : (y 0).val < 2048 := (y 0).isLt
  have ht : t.val < 32 := t.isLt
  unfold outArr seqOut
  have gen : ∀ (t' : Fin 32) (y' : S2048x512.Idx), t' = t → y' = y → ∀ (x : Vec F S65536x1536 .bf16) (z : Vec F S65536x512 .bf16) (sm : Vec F S65536x128 .f32) w al dt g,
      OutV (rows x t) (rows z t) (rows sm t) w al dt g y = OutV (rows x t') (rows z t') (rows sm t') w al dt g y' := by
    rintro _ _ rfl rfl _ _ _ _ _ _ _; rfl
  apply gen
  · apply Fin.ext; show (((win0_7.rect t).emb y) 0).val / 2048 = _; rw [e0]; omega
  · funext a; apply Fin.ext; fin_cases a
    · show (((win0_7.rect t).emb y) 0).val % 2048 = _; rw [e0]; show _ = (y 0).val; omega
    · show (((win0_7.rect t).emb y) 1).val = _; exact e1

/-- After the run the output array is `outArr`. -/
theorem arr7 (c : Dev nD) : (dats m 0 c).arrAt 7 cfg0.N = outArr m c := by
  refine Dat.arrAt_eq_of_cover _ 7 _ (fun t _ => flushed7 m c t) fun i => ?_
  have h0 : (i 0).val < 65536 := (i 0).isLt
  obtain ⟨t, ht⟩ : ∃ t : Fin cfg0.N, t.val = (i 0).val / 2048 := ⟨⟨(i 0).val / 2048, by show _ < 32; omega⟩, rfl⟩
  refine ⟨t, flush7 _, ?_⟩
  have e : (win0_7.rect t).emb (ix2 (n0 := 2048) (n1 := 512) ⟨(i 0).val % 2048, by omega⟩ (i 1)) = i := by
    funext a; apply Fin.ext
    rw [win0_7.rect_emb_val _ _ a, idx7]
    fin_cases a
    · show t.val * 2048 + (i 0).val % 2048 = (i 0).val; omega
    · show 0 * 512 + (i 1).val = (i 1).val; omega
  have hm := View.emb_mem_set ((cfg0.win 7).blk t).view (ix2 (n0 := 2048) (n1 := 512) ⟨(i 0).val % 2048, by omega⟩ (i 1))
  rwa [show ((cfg0.win 7).blk t).view.emb (ix2 (n0 := 2048) (n1 := 512) ⟨(i 0).val % 2048, by omega⟩ (i 1)) = i from e] at hm

/-- The run: the output array, the arguments kept, the counters at zero. -/
theorem run_value : θ_run defs (onTc (τ := τ) (main (F := F))) ⟨m, fun _ => 0, ρ⟩ fun r => ∀ c : Dev nD,
      r.2.mem ((c.tc : Thread nD τ).loc main_v0) = outArr m c
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).1 7).trans (arr7 m c), h.2 c⟩) (θ_run_and (run_main m ρ) (unchanged m ρ))

end Cert.KernelIdeal.Own

end
-- ==== Proof.RefRun.lean ====
/- The reference's run over the step of its loop: every weakly fair execution ends with the result read off the state after the last token. -/
module

public import proofs.«01_k».proof.Proof.Gen.ReferenceIdeal.Run
public import proofs.«01_k».proof.Proof.Gen.ReferenceIdeal.Step

@[expose] public section

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_6 : V0 (Proc.devRef .tc main_v101_6) = s.main_v101_6
  f_7 : V0 (Proc.devRef .tc main_v101_7) = s.main_v101_7
  f_0 : V0 (Proc.devRef .tc main_v101_0) = s.main_v101_0
  f_1 : V0 (Proc.devRef .tc main_v101_1) = s.main_v101_1
  f_2 : V0 (Proc.devRef .tc main_v101_2) = s.main_v101_2
  f_3 : V0 (Proc.devRef .tc main_v101_3) = s.main_v101_3
  f_4 : V0 (Proc.devRef .tc main_v101_4) = s.main_v101_4
  n_5 : V0 (Proc.devRef .tc main_v101_5) = constantI S_ 32 (BitVec.ofNat 32 j)

variable {V0 s j}

set_option maxRecDepth 8192 in
theorem al_0 (h : Holds V0 s j) : (constantI S_ 32 0#32 : (Proc.devRef .tc main_while0b_call1_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call1_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call1_c_1 : DevRef τ sig).ty.Contents (Elt F)) = Cert.ReferenceIdeal.Step.b2 j s := by
  unfold Cert.ReferenceIdeal.Step.b2
  rfl
set_option maxRecDepth 8192 in
theorem al_3 (h : Holds V0 s j) : (Host.dynamicSlice S1x32x4x128 (V0 (Proc.devRef .tc main_v101_0)) (fun k => (((![V0 (Proc.devRef .tc main_v101_5), constantI S_ 32 0#32, constantI S_ 32 0#32, constantI S_ 32 0#32] : Fin 4 → (⟨S_, .i32⟩ : BufTy).Contents (Elt F))) k (Shape.Idx.first h_S_)).toInt) sliceFits_S2048x32x4x128_S1x32x4x128 : (Proc.devRef .tc main_while0b_call1_v0 : DevRef τ sig).ty.Contents (Elt F)) = Cert.ReferenceIdeal.Step.b3 j s := by
  unfold Cert.ReferenceIdeal.Step.b3
  rw [← al_0 h, ← al_1 h, ← al_2 h, h.f_0, h.n_5]
  try rfl
set_option maxRecDepth 8192 in
theorem al_4 (h : Holds V0 s j) : (shapeCast S32x4x128 (Host.dynamicSlice S1x32x4x128 (V0 (Proc.devRef .tc main_v101_0)) (fun k => (((![V0 (Proc.devRef .tc main_v101_5), constantI S_ 32 0#32, constantI S_ 32 0#32, constantI S_ 32 0#32] : Fin 4 → (⟨S_, .i32⟩ : BufTy).Contents (Elt F))) k (Shape.Idx.first h_S_)).toInt) sliceFits_S2048x32x4x128_S1x32x4x128) shapeCasts_S1x32x4x128_S32x4x128 : (Proc.devRef .tc main_while0b_v129 : DevRef τ sig).ty.Contents (Elt F)) = Cert.ReferenceIdeal.Step.b4 j s := by
  unfold Cert.ReferenceIdeal.Step.b4
  rw [← al_3 h]
  try rfl
set_option maxRecDepth 8192 in
theorem al_5 (h : Holds V0 s j) : (constantI S_ 32 0#32 : (Proc.devRef .tc main_while0b_call2_c : DevRef τ sig).ty.Contents (Elt F)) = Cert.ReferenceIdeal.Step.b5 j s := by
  unfold Cert.ReferenceIdeal.Step.b5
  rfl
set_option maxRecDepth 8192 in
theorem al_6 (h : Holds V0 s j) : (constantI S_ 32 0#32 : (Proc.devRef .tc main_while0b_call2_c_0 : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call2_c_1 : DevRef τ sig).ty.Contents (Elt F)) = Cert.ReferenceIdeal.Step.b7 j s := by
  unfold Cert.ReferenceIdeal.Step.b7
  rfl
set_option maxRecDepth 8192 in
theorem al_8 (h : Holds V0 s j) : (Host.dynamicSlice S1x32x4x128 (V0 (Proc.devRef .tc main_v101_1)) (fun k => (((![V0 (Proc.devRef .tc main_v101_5), constantI S_ 32 0#32, constantI S_ 32 0#32, constantI S_ 32 0#32] : Fin 4 → (⟨S_, .i32⟩ : BufTy).Contents (Elt F))) k (Shape.Idx.first h_S_)).toInt) sliceFits_S2048x32x4x128_S1x32x4x128 : (Proc.devRef .tc main_while0b_call2_v0 : DevRef τ sig).ty.Contents (Elt F)) = Cert.ReferenceIdeal.Step.b8 j s := by
  unfold Cert.ReferenceIdeal.Step.b8
  rw [← al_5 h, ← al_6 h, ← al_7 h, h.f_1, h.n_5]
  try rfl
set_option maxRecDepth 8192 in
theorem al_9 (h : Holds V0 s j) : (res_main_while0b_v130 V0 : (Proc.devRef .tc main_while0b_v130 : DevRef τ sig).ty.Contents (Elt F)) = Cert.ReferenceIdeal.Step.b9 j s := by
  unfold res_main_while0b_v130 Cert.ReferenceIdeal.Step.b9
  rw [← al_8 h]
  try rfl
set_option maxRecDepth 8192 in
theorem al_10 (h : Holds V0 s j) : (constantI S_ 32 0#32 : (Proc.devRef .tc main_while0b_call3_c : DevRef τ sig).ty.Contents (Elt F)) = Cert.ReferenceIdeal.Step.b10 j s := by
  unfold Cert.ReferenceIdeal.Step.b10
  rfl
set_option maxRecDepth 8192 in
theorem al_11 (h : Holds V0 s j) : (constantI S_ 32 0#32 : (Proc.devRef .tc main_while0b_call3_c_0 : DevRef τ sig).ty.Contents (Elt F)) = Cert.ReferenceIdeal.Step.b11 j s := by
  unfold Cert.ReferenceIdeal.Step.b11
  rfl
set_option maxRecDepth 8192 in
theorem al_12 (h : Holds V0 s j) : (constantI S_ 32 0#32 : (Proc.devRef .tc main_while0b_call3_c_1 : DevRef τ sig).ty.Contents (Elt F)) = Cert.ReferenceIdeal.Step.b12 j s := by
  unfold Cert.ReferenceIdeal.Step.b12
  rfl
set_option maxRecDepth 8192 in
theorem al_13 (h : Holds V0 s j) : (Host.dynamicSlice S1x32x4x128 (V0 (Proc.devRef .tc main_v101_2)) (fun k => (((![V0 (Proc.devRef .tc main_v101_5), constantI S_ 32 0#32, constantI S_ 32 0#32, constantI S_ 32 0#32] : Fin 4 → (⟨S_, .i32⟩ : BufTy).Contents (Elt F))) k (Shape.Idx.first h_S_)).toInt) sliceFits_S2048x32x4x128_S1x32x4x128 : (Proc.devRef .tc main_while0b_call3_v0 : DevRef τ sig).ty.Contents (Elt F)) = Cert.ReferenceIdeal.Step.b13 j s := by
  unfold Cert.ReferenceIdeal.Step.b13
  rw [← al_10 h, ← al_11 h, ← al_12 h, h.f_2, h.n_5]
  try rfl
set_option maxRecDepth 8192 in
theorem al_14 (h : Holds V0 s j) : (shapeCast S32x4x128 (Host.dynamicSlice S1x32x4x128 (V0 (Proc.devRef .tc main_v101_2)) (fun k => (((![V0 (Proc.devRef .tc main_v101_5), constantI S_ 32 0#32, constantI S_ 32 0#32, constantI S_ 32 0#32] : Fin 4 → (⟨S_, .i32⟩ : BufTy).Contents (Elt F))) k (Shape.Idx.first h_S_)).toInt) sliceFits_S2048x32x4x128_S1x32x4x128) shapeCasts_S1x32x4x128_S32x4x128 : (Proc.devRef .tc main_while0b_v131 : DevRef τ sig).ty.Contents (Elt F)) = Cert.ReferenceIdeal.Step.b14 j s := by
  unfold Cert.ReferenceIdeal.Step.b14
  rw [← al_13 h]
  try rfl
set_option maxRecDepth 8192 in
theorem al_15 (h : Holds V0 s j) : (constantI S_ 32 0#32 : (Proc.devRef .tc main_while0b_call4_c : DevRef τ sig).ty.Contents (Elt F)) = Cert.ReferenceIdeal.Step.b15 j s := by
  unfold Cert.ReferenceIdeal.Step.b15
  rfl
set_option maxRecDepth 8192 in
theorem al_16 (h : Holds V0 s j) : (constantI S_ 32 0#32 : (Proc.devRef .tc main_while0b_call4_c_0 : DevRef τ sig).ty.Contents (Elt F)) = Cert.ReferenceIdeal.Step.b16 j s := by
  unfold Cert.ReferenceIdeal.Step.b16
  rfl
set_option maxRecDepth 8192 in
theorem al_17 (h : Holds V0 s j) : (Host.dynamicSlice S1x32x4 (V0 (Proc.devRef .tc main_v101_3)) (fun k => (((![V0 (Proc.devRef .tc main_v101_5), constantI S_ 32 0#32, constantI S_ 32 0#32] : Fin 3 → (⟨S_, .i32⟩ : BufTy).Contents (Elt F))) k (Shape.Idx.first h_S_)).toInt) sliceFits_S2048x32x4_S1x32x4 : (Proc.devRef .tc main_while0b_call4_v0 : DevRef τ sig).ty.Contents (Elt F)) = Cert.ReferenceIdeal.Step.b17 j s := by
  unfold Cert.ReferenceIdeal.Step.b17
  rw [← al_15 h, ← al_16 h, h.f_3, h.n_5]
  try rfl
set_option maxRecDepth 8192 in
theorem al_18 (h : Holds V0 s j) : (shapeCast S32x4 (Host.dynamicSlice S1x32x4 (V0 (Proc.devRef .tc main_v101_3)) (fun k => (((![V0 (Proc.devRef .tc main_v101_5), constantI S_ 32 0#32, constantI S_ 32 0#32] : Fin 3 → (⟨S_, .i32⟩ : BufTy).Contents (Elt F))) k (Shape.Idx.first h_S_)).toInt) sliceFits_S2048x32x4_S1x32x4) shapeCasts_S1x32x4_S32x4 : (Proc.devRef .tc main_while0b_v132 : DevRef τ sig).ty.Contents (Elt F)) = Cert.ReferenceIdeal.Step.b18 j s := by
  unfold Cert.ReferenceIdeal.Step.b18
  rw [← al_17 h]
  try rfl
set_option maxRecDepth 8192 in
theorem al_19 (h : Holds V0 s j) : (constantI S_ 32 0#32 : (Proc.devRef .tc main_while0b_call5_c : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call5_c_0 : DevRef τ sig).ty.Contents (Elt F)) = Cert.ReferenceIdeal.Step.b20 j s := by
  unfold Cert.ReferenceIdeal.Step.b20
  rfl
set_option maxRecDepth 8192 in
theorem al_21 (h : Holds V0 s j) : (Host.dynamicSlice S1x32x4 (V0 (Proc.devRef .tc main_v101_4)) (fun k => (((![V0 (Proc.devRef .tc main_v101_5), constantI S_ 32 0#32, constantI S_ 32 0#32] : Fin 3 → (⟨S_, .i32⟩ : BufTy).Contents (Elt F))) k (Shape.Idx.first h_S_)).toInt) sliceFits_S2048x32x4_S1x32x4 : (Proc.devRef .tc main_while0b_call5_v0 : DevRef τ sig).ty.Contents (Elt F)) = Cert.ReferenceIdeal.Step.b21 j s := by
  unfold Cert.ReferenceIdeal.Step.b21
  rw [← al_19 h, ← al_20 h, h.f_4, h.n_5]
  try rfl
set_option maxRecDepth 8192 in
theorem al_22 (h : Holds V0 s j) : (shapeCast S32x4 (Host.dynamicSlice S1x32x4 (V0 (Proc.devRef .tc main_v101_4)) (fun k => (((![V0 (Proc.devRef .tc main_v101_5), constantI S_ 32 0#32, constantI S_ 32 0#32] : Fin 3 → (⟨S_, .i32⟩ : BufTy).Contents (Elt F))) k (Shape.Idx.first h_S_)).toInt) sliceFits_S2048x32x4_S1x32x4) shapeCasts_S1x32x4_S32x4 : (Proc.devRef .tc main_while0b_v133 : DevRef τ sig).ty.Contents (Elt F)) = Cert.ReferenceIdeal.Step.b22 j s := by
  unfold Cert.ReferenceIdeal.Step.b22
  rw [← al_21 h]
  try rfl
set_option maxRecDepth 8192 in
theorem al_23 (h : Holds V0 s j) : (broadcastInDim S32x4x1x1 ![0, 1] bcast_S32x4_S32x4x1x1_0_1 (shapeCast S32x4 (Host.dynamicSlice S1x32x4 (V0 (Proc.devRef .tc main_v101_3)) (fun k => (((![V0 (Proc.devRef .tc main_v101_5), constantI S_ 32 0#32, constantI S_ 32 0#32] : Fin 3 → (⟨S_, .i32⟩ : BufTy).Contents (Elt F))) k (Shape.Idx.first h_S_)).toInt) sliceFits_S2048x32x4_S1x32x4) shapeCasts_S1x32x4_S32x4) : (Proc.devRef .tc main_while0b_v134 : DevRef τ sig).ty.Contents (Elt F)) = Cert.ReferenceIdeal.Step.b23 j s := by
  unfold Cert.ReferenceIdeal.Step.b23
  rw [← al_18 h]
  try rfl
set_option maxRecDepth 8192 in
theorem al_24 (h : Holds V0 s j) : (broadcastInDim S32x4x128x128 ![0, 1, 2, 3] bcast_S32x4x1x1_S32x4x128x128_0_1_2_3 (broadcastInDim S32x4x1x1 ![0, 1] bcast_S32x4_S32x4x1x1_0_1 (shapeCast S32x4 (Host.dynamicSlice S1x32x4 (V0 (Proc.devRef .tc main_v101_3)) (fun k => (((![V0 (Proc.devRef .tc main_v101_5), constantI S_ 32 0#32, constantI S_ 32 0#32] : Fin 3 → (⟨S_, .i32⟩ : BufTy).Contents (Elt F))) k (Shape.Idx.first h_S_)).toInt) sliceFits_S2048x32x4_S1x32x4) shapeCasts_S1x32x4_S32x4)) : (Proc.devRef .tc main_while0b_v135 : DevRef τ sig).ty.Contents (Elt F)) = Cert.ReferenceIdeal.Step.b24 j s := by
  unfold Cert.ReferenceIdeal.Step.b24
  rw [← al_23 h]
  try rfl
set_option maxRecDepth 8192 in
theorem al_25 (h : Holds V0 s j) : (res_main_while0b_v136 V0 : (Proc.devRef .tc main_while0b_v136 : DevRef τ sig).ty.Contents (Elt F)) = Cert.ReferenceIdeal.Step.b25 j s := by
  unfold res_main_while0b_v136 Cert.ReferenceIdeal.Step.b25
  rw [← al_24 h, h.f_6]
  try rfl
set_option maxRecDepth 8192 in
theorem al_26 (h : Holds V0 s j) : (broadcastInDim S32x4x1 ![0, 1] bcast_S32x4_S32x4x1_0_1 (shapeCast S32x4 (Host.dynamicSlice S1x32x4 (V0 (Proc.devRef .tc main_v101_4)) (fun k => (((![V0 (Proc.devRef .tc main_v101_5), constantI S_ 32 0#32, constantI S_ 32 0#32] : Fin 3 → (⟨S_, .i32⟩ : BufTy).Contents (Elt F))) k (Shape.Idx.first h_S_)).toInt) sliceFits_S2048x32x4_S1x32x4) shapeCasts_S1x32x4_S32x4) : (Proc.devRef .tc main_while0b_v137 : DevRef τ sig).ty.Contents (Elt F)) = Cert.ReferenceIdeal.Step.b26 j s := by
  unfold Cert.ReferenceIdeal.Step.b26
  rw [← al_22 h]
  try rfl
set_option maxRecDepth 8192 in
theorem al_27 (h : Holds V0 s j) : (Host.dotGeneral dot_S32x4x128_S32x4x128x128_S32x4x128_2_2_n_3_01_01 none (res_main_while0b_v130 V0) (res_main_while0b_v136 V0) : (Proc.devRef .tc main_while0b_v138 : DevRef τ sig).ty.Contents (Elt F)) = Cert.ReferenceIdeal.Step.b27 j s := by
  unfold Cert.ReferenceIdeal.Step.b27
  rw [← al_9 h, ← al_25 h]
  try rfl
set_option maxRecDepth 8192 in
theorem al_28 (h : Holds V0 s j) : (subf (shapeCast S32x4x128 (Host.dynamicSlice S1x32x4x128 (V0 (Proc.devRef .tc main_v101_2)) (fun k => (((![V0 (Proc.devRef .tc main_v101_5), constantI S_ 32 0#32, constantI S_ 32 0#32, constantI S_ 32 0#32] : Fin 4 → (⟨S_, .i32⟩ : BufTy).Contents (Elt F))) k (Shape.Idx.first h_S_)).toInt) sliceFits_S2048x32x4x128_S1x32x4x128) shapeCasts_S1x32x4x128_S32x4x128) (Host.dotGeneral dot_S32x4x128_S32x4x128x128_S32x4x128_2_2_n_3_01_01 none (res_main_while0b_v130 V0) (res_main_while0b_v136 V0)) : (Proc.devRef .tc main_while0b_v139 : DevRef τ sig).ty.Contents (Elt F)) = Cert.ReferenceIdeal.Step.b28 j s := by
  unfold Cert.ReferenceIdeal.Step.b28
  rw [← al_14 h, ← al_27 h]
  try rfl
set_option maxRecDepth 8192 in
theorem al_29 (h : Holds V0 s j) : (broadcastInDim S32x4x128 ![0, 1, 2] bcast_S32x4x1_S32x4x128_0_1_2 (broadcastInDim S32x4x1 ![0, 1] bcast_S32x4_S32x4x1_0_1 (shapeCast S32x4 (Host.dynamicSlice S1x32x4 (V0 (Proc.devRef .tc main_v101_4)) (fun k => (((![V0 (Proc.devRef .tc main_v101_5), constantI S_ 32 0#32, constantI S_ 32 0#32] : Fin 3 → (⟨S_, .i32⟩ : BufTy).Contents (Elt F))) k (Shape.Idx.first h_S_)).toInt) sliceFits_S2048x32x4_S1x32x4) shapeCasts_S1x32x4_S32x4)) : (Proc.devRef .tc main_while0b_v140 : DevRef τ sig).ty.Contents (Elt F)) = Cert.ReferenceIdeal.Step.b29 j s := by
  unfold Cert.ReferenceIdeal.Step.b29
  rw [← al_26 h]
  try rfl
set_option maxRecDepth 8192 in
theorem al_30 (h : Holds V0 s j) : (mulf (broadcastInDim S32x4x128 ![0, 1, 2] bcast_S32x4x1_S32x4x128_0_1_2 (broadcastInDim S32x4x1 ![0, 1] bcast_S32x4_S32x4x1_0_1 (shapeCast S32x4 (Host.dynamicSlice S1x32x4 (V0 (Proc.devRef .tc main_v101_4)) (fun k => (((![V0 (Proc.devRef .tc main_v101_5), constantI S_ 32 0#32, constantI S_ 32 0#32] : Fin 3 → (⟨S_, .i32⟩ : BufTy).Contents (Elt F))) k (Shape.Idx.first h_S_)).toInt) sliceFits_S2048x32x4_S1x32x4) shapeCasts_S1x32x4_S32x4))) (subf (shapeCast S32x4x128 (Host.dynamicSlice S1x32x4x128 (V0 (Proc.devRef .tc main_v101_2)) (fun k => (((![V0 (Proc.devRef .tc main_v101_5), constantI S_ 32 0#32, constantI S_ 32 0#32, constantI S_ 32 0#32] : Fin 4 → (⟨S_, .i32⟩ : BufTy).Contents (Elt F))) k (Shape.Idx.first h_S_)).toInt) sliceFits_S2048x32x4x128_S1x32x4x128) shapeCasts_S1x32x4x128_S32x4x128) (Host.dotGeneral dot_S32x4x128_S32x4x128x128_S32x4x128_2_2_n_3_01_01 none (res_main_while0b_v130 V0) (res_main_while0b_v136 V0))) : (Proc.devRef .tc main_while0b_v141 : DevRef τ sig).ty.Contents (Elt F)) = Cert.ReferenceIdeal.Step.b30 j s := by
  unfold Cert.ReferenceIdeal.Step.b30
  rw [← al_29 h, ← al_28 h]
  try rfl
set_option maxRecDepth 8192 in
theorem al_31 (h : Holds V0 s j) : (broadcastInDim S32x4x128x1 ![0, 1, 2] bcast_S32x4x128_S32x4x128x1_0_1_2 (res_main_while0b_v130 V0) : (Proc.devRef .tc main_while0b_v142 : DevRef τ sig).ty.Contents (Elt F)) = Cert.ReferenceIdeal.Step.b31 j s := by
  unfold Cert.ReferenceIdeal.Step.b31
  rw [← al_9 h]
  try rfl
set_option maxRecDepth 8192 in
theorem al_32 (h : Holds V0 s j) : (broadcastInDim S32x4x1x128 ![0, 1, 3] bcast_S32x4x128_S32x4x1x128_0_1_3 (mulf (broadcastInDim S32x4x128 ![0, 1, 2] bcast_S32x4x1_S32x4x128_0_1_2 (broadcastInDim S32x4x1 ![0, 1] bcast_S32x4_S32x4x1_0_1 (shapeCast S32x4 (Host.dynamicSlice S1x32x4 (V0 (Proc.devRef .tc main_v101_4)) (fun k => (((![V0 (Proc.devRef .tc main_v101_5), constantI S_ 32 0#32, constantI S_ 32 0#32] : Fin 3 → (⟨S_, .i32⟩ : BufTy).Contents (Elt F))) k (Shape.Idx.first h_S_)).toInt) sliceFits_S2048x32x4_S1x32x4) shapeCasts_S1x32x4_S32x4))) (subf (shapeCast S32x4x128 (Host.dynamicSlice S1x32x4x128 (V0 (Proc.devRef .tc main_v101_2)) (fun k => (((![V0 (Proc.devRef .tc main_v101_5), constantI S_ 32 0#32, constantI S_ 32 0#32, constantI S_ 32 0#32] : Fin 4 → (⟨S_, .i32⟩ : BufTy).Contents (Elt F))) k (Shape.Idx.first h_S_)).toInt) sliceFits_S2048x32x4x128_S1x32x4x128) shapeCasts_S1x32x4x128_S32x4x128) (Host.dotGeneral dot_S32x4x128_S32x4x128x128_S32x4x128_2_2_n_3_01_01 none (res_main_while0b_v130 V0) (res_main_while0b_v136 V0)))) : (Proc.devRef .tc main_while0b_v143 : DevRef τ sig).ty.Contents (Elt F)) = Cert.ReferenceIdeal.Step.b32 j s := by
  unfold Cert.ReferenceIdeal.Step.b32
  rw [← al_30 h]
  try rfl
set_option maxRecDepth 8192 in
theorem al_33 (h : Holds V0 s j) : (broadcastInDim S32x4x128x128 ![0, 1, 2, 3] bcast_S32x4x128x1_S32x4x128x128_0_1_2_3 (broadcastInDim S32x4x128x1 ![0, 1, 2] bcast_S32x4x128_S32x4x128x1_0_1_2 (res_main_while0b_v130 V0)) : (Proc.devRef .tc main_while0b_v144 : DevRef τ sig).ty.Contents (Elt F)) = Cert.ReferenceIdeal.Step.b33 j s := by
  unfold Cert.ReferenceIdeal.Step.b33
  rw [← al_31 h]
  try rfl
set_option maxRecDepth 8192 in
theorem al_34 (h : Holds V0 s j) : (broadcastInDim S32x4x128x128 ![0, 1, 2, 3] bcast_S32x4x1x128_S32x4x128x128_0_1_2_3 (broadcastInDim S32x4x1x128 ![0, 1, 3] bcast_S32x4x128_S32x4x1x128_0_1_3 (mulf (broadcastInDim S32x4x128 ![0, 1, 2] bcast_S32x4x1_S32x4x128_0_1_2 (broadcastInDim S32x4x1 ![0, 1] bcast_S32x4_S32x4x1_0_1 (shapeCast S32x4 (Host.dynamicSlice S1x32x4 (V0 (Proc.devRef .tc main_v101_4)) (fun k => (((![V0 (Proc.devRef .tc main_v101_5), constantI S_ 32 0#32, constantI S_ 32 0#32] : Fin 3 → (⟨S_, .i32⟩ : BufTy).Contents (Elt F))) k (Shape.Idx.first h_S_)).toInt) sliceFits_S2048x32x4_S1x32x4) shapeCasts_S1x32x4_S32x4))) (subf (shapeCast S32x4x128 (Host.dynamicSlice S1x32x4x128 (V0 (Proc.devRef .tc main_v101_2)) (fun k => (((![V0 (Proc.devRef .tc main_v101_5), constantI S_ 32 0#32, constantI S_ 32 0#32, constantI S_ 32 0#32] : Fin 4 → (⟨S_, .i32⟩ : BufTy).Contents (Elt F))) k (Shape.Idx.first h_S_)).toInt) sliceFits_S2048x32x4x128_S1x32x4x128) shapeCasts_S1x32x4x128_S32x4x128) (Host.dotGeneral dot_S32x4x128_S32x4x128x128_S32x4x128_2_2_n_3_01_01 none (res_main_while0b_v130 V0) (res_main_while0b_v136 V0))))) : (Proc.devRef .tc main_while0b_v145 : DevRef τ sig).ty.Contents (Elt F)) = Cert.ReferenceIdeal.Step.b34 j s := by
  unfold Cert.ReferenceIdeal.Step.b34
  rw [← al_32 h]
  try rfl
set_option maxRecDepth 8192 in
theorem al_35 (h : Holds V0 s j) : (mulf (broadcastInDim S32x4x128x128 ![0, 1, 2, 3] bcast_S32x4x128x1_S32x4x128x128_0_1_2_3 (broadcastInDim S32x4x128x1 ![0, 1, 2] bcast_S32x4x128_S32x4x128x1_0_1_2 (res_main_while0b_v130 V0))) (broadcastInDim S32x4x128x128 ![0, 1, 2, 3] bcast_S32x4x1x128_S32x4x128x128_0_1_2_3 (broadcastInDim S32x4x1x128 ![0, 1, 3] bcast_S32x4x128_S32x4x1x128_0_1_3 (mulf (broadcastInDim S32x4x128 ![0, 1, 2] bcast_S32x4x1_S32x4x128_0_1_2 (broadcastInDim S32x4x1 ![0, 1] bcast_S32x4_S32x4x1_0_1 (shapeCast S32x4 (Host.dynamicSlice S1x32x4 (V0 (Proc.devRef .tc main_v101_4)) (fun k => (((![V0 (Proc.devRef .tc main_v101_5), constantI S_ 32 0#32, constantI S_ 32 0#32] : Fin 3 → (⟨S_, .i32⟩ : BufTy).Contents (Elt F))) k (Shape.Idx.first h_S_)).toInt) sliceFits_S2048x32x4_S1x32x4) shapeCasts_S1x32x4_S32x4))) (subf (shapeCast S32x4x128 (Host.dynamicSlice S1x32x4x128 (V0 (Proc.devRef .tc main_v101_2)) (fun k => (((![V0 (Proc.devRef .tc main_v101_5), constantI S_ 32 0#32, constantI S_ 32 0#32, constantI S_ 32 0#32] : Fin 4 → (⟨S_, .i32⟩ : BufTy).Contents (Elt F))) k (Shape.Idx.first h_S_)).toInt) sliceFits_S2048x32x4x128_S1x32x4x128) shapeCasts_S1x32x4x128_S32x4x128) (Host.dotGeneral dot_S32x4x128_S32x4x128x128_S32x4x128_2_2_n_3_01_01 none (res_main_while0b_v130 V0) (res_main_while0b_v136 V0)))))) : (Proc.devRef .tc main_while0b_v146 : DevRef τ sig).ty.Contents (Elt F)) = Cert.ReferenceIdeal.Step.b35 j s := by
  unfold Cert.ReferenceIdeal.Step.b35
  rw [← al_33 h, ← al_34 h]
  try rfl
set_option maxRecDepth 8192 in
theorem al_36 (h : Holds V0 s j) : (res_main_while0b_v147 V0 : (Proc.devRef .tc main_while0b_v147 : DevRef τ sig).ty.Contents (Elt F)) = Cert.ReferenceIdeal.Step.b36 j s := by
  unfold res_main_while0b_v147 Cert.ReferenceIdeal.Step.b36
  rw [← al_25 h, ← al_35 h]
  try rfl
set_option maxRecDepth 8192 in
theorem al_37 (h : Holds V0 s j) : (Host.dotGeneral dot_S32x4x128_S32x4x128x128_S32x4x128_2_2_n_3_01_01 none (shapeCast S32x4x128 (Host.dynamicSlice S1x32x4x128 (V0 (Proc.devRef .tc main_v101_0)) (fun k => (((![V0 (Proc.devRef .tc main_v101_5), constantI S_ 32 0#32, constantI S_ 32 0#32, constantI S_ 32 0#32] : Fin 4 → (⟨S_, .i32⟩ : BufTy).Contents (Elt F))) k (Shape.Idx.first h_S_)).toInt) sliceFits_S2048x32x4x128_S1x32x4x128) shapeCasts_S1x32x4x128_S32x4x128) (res_main_while0b_v147 V0) : (Proc.devRef .tc main_while0b_v148 : DevRef τ sig).ty.Contents (Elt F)) = Cert.ReferenceIdeal.Step.b37 j s := by
  unfold Cert.ReferenceIdeal.Step.b37
  rw [← al_4 h, ← al_36 h]
  try rfl
set_option maxRecDepth 8192 in
theorem al_38 (h : Holds V0 s j) : (broadcastInDim S1x32x4x128 ![1, 2, 3] bcast_S32x4x128_S1x32x4x128_1_2_3 (Host.dotGeneral dot_S32x4x128_S32x4x128x128_S32x4x128_2_2_n_3_01_01 none (shapeCast S32x4x128 (Host.dynamicSlice S1x32x4x128 (V0 (Proc.devRef .tc main_v101_0)) (fun k => (((![V0 (Proc.devRef .tc main_v101_5), constantI S_ 32 0#32, constantI S_ 32 0#32, constantI S_ 32 0#32] : Fin 4 → (⟨S_, .i32⟩ : BufTy).Contents (Elt F))) k (Shape.Idx.first h_S_)).toInt) sliceFits_S2048x32x4x128_S1x32x4x128) shapeCasts_S1x32x4x128_S32x4x128) (res_main_while0b_v147 V0)) : (Proc.devRef .tc main_while0b_call6_v0 : DevRef τ sig).ty.Contents (Elt F)) = Cert.ReferenceIdeal.Step.b38 j s := by
  unfold Cert.ReferenceIdeal.Step.b38
  rw [← al_37 h]
  try rfl
set_option maxRecDepth 8192 in
theorem al_39 (h : Holds V0 s j) : (constantI S_ 32 0#32 : (Proc.devRef .tc main_while0b_call6_c : DevRef τ sig).ty.Contents (Elt F)) = Cert.ReferenceIdeal.Step.b39 j s := by
  unfold Cert.ReferenceIdeal.Step.b39
  rfl
set_option maxRecDepth 8192 in
theorem al_40 (h : Holds V0 s j) : (constantI S_ 32 0#32 : (Proc.devRef .tc main_while0b_call6_c_0 : DevRef τ sig).ty.Contents (Elt F)) = Cert.ReferenceIdeal.Step.b40 j s := by
  unfold Cert.ReferenceIdeal.Step.b40
  rfl
set_option maxRecDepth 8192 in
theorem al_41 (h : Holds V0 s j) : (constantI S_ 32 0#32 : (Proc.devRef .tc main_while0b_call6_c_1 : DevRef τ sig).ty.Contents (Elt F)) = Cert.ReferenceIdeal.Step.b41 j s := by
  unfold Cert.ReferenceIdeal.Step.b41
  rfl
set_option maxRecDepth 8192 in
theorem al_42 (h : Holds V0 s j) : (Host.dynamicUpdateSlice (V0 (Proc.devRef .tc main_v101_7)) (broadcastInDim S1x32x4x128 ![1, 2, 3] bcast_S32x4x128_S1x32x4x128_1_2_3 (Host.dotGeneral dot_S32x4x128_S32x4x128x128_S32x4x128_2_2_n_3_01_01 none (shapeCast S32x4x128 (Host.dynamicSlice S1x32x4x128 (V0 (Proc.devRef .tc main_v101_0)) (fun k => (((![V0 (Proc.devRef .tc main_v101_5), constantI S_ 32 0#32, constantI S_ 32 0#32, constantI S_ 32 0#32] : Fin 4 → (⟨S_, .i32⟩ : BufTy).Contents (Elt F))) k (Shape.Idx.first h_S_)).toInt) sliceFits_S2048x32x4x128_S1x32x4x128) shapeCasts_S1x32x4x128_S32x4x128) (res_main_while0b_v147 V0))) (fun k => (((![V0 (Proc.devRef .tc main_v101_5), constantI S_ 32 0#32, constantI S_ 32 0#32, constantI S_ 32 0#32] : Fin 4 → (⟨S_, .i32⟩ : BufTy).Contents (Elt F))) k (Shape.Idx.first h_S_)).toInt) updateFits_S2048x32x4x128_S1x32x4x128 : (Proc.devRef .tc main_while0b_v149 : DevRef τ sig).ty.Contents (Elt F)) = Cert.ReferenceIdeal.Step.b42 j s := by
  unfold Cert.ReferenceIdeal.Step.b42
  rw [← al_38 h, ← al_39 h, ← al_40 h, ← al_41 h, h.f_7, h.n_5]
  try rfl

/-! One trip's step of the carried values is `step`, field by field; a counter steps to the next number. -/

theorem step_6 (h : Holds V0 s j) : step_main_v101_6 V0 = (step j s).main_v101_6 := by
  unfold step_main_v101_6 Cert.ReferenceIdeal.Step.step
  show id (res_main_while0b_v147 V0) = _
  rw [al_36 h]
  try rfl
theorem step_7 (h : Holds V0 s j) : step_main_v101_7 V0 = (step j s).main_v101_7 := by
  unfold step_main_v101_7 Cert.ReferenceIdeal.Step.step
  show id (Host.dynamicUpdateSlice (V0 (Proc.devRef .tc main_v101_7)) (broadcastInDim S1x32x4x128 ![1, 2, 3] bcast_S32x4x128_S1x32x4x128_1_2_3 (Host.dotGeneral dot_S32x4x128_S32x4x128x128_S32x4x128_2_2_n_3_01_01 none (shapeCast S32x4x128 (Host.dynamicSlice S1x32x4x128 (V0 (Proc.devRef .tc main_v101_0)) (fun k => (((![V0 (Proc.devRef .tc main_v101_5), constantI S_ 32 0#32, constantI S_ 32 0#32, constantI S_ 32 0#32] : Fin 4 → (⟨S_, .i32⟩ : BufTy).Contents (Elt F))) k (Shape.Idx.first h_S_)).toInt) sliceFits_S2048x32x4x128_S1x32x4x128) shapeCasts_S1x32x4x128_S32x4x128) (res_main_while0b_v147 V0))) (fun k => (((![V0 (Proc.devRef .tc main_v101_5), constantI S_ 32 0#32, constantI S_ 32 0#32, constantI S_ 32 0#32] : Fin 4 → (⟨S_, .i32⟩ : BufTy).Contents (Elt F))) k (Shape.Idx.first h_S_)).toInt) updateFits_S2048x32x4x128_S1x32x4x128) = _
  exact al_42 h
theorem step_5 (h : Holds V0 s j) : step_main_v101_5 V0 = constantI S_ 32 (BitVec.ofNat 32 (j + 1)) := by
  unfold step_main_v101_5
  rw [h.n_5]
  funext i
  show BitVec.ofNat 32 j + 1#32 = BitVec.ofNat 32 (j + 1)
  simp only [BitVec.ofNat_add]

set_option maxRecDepth 8192 in
theorem out_main_v128_holds (h : Holds V0 s j) {x_main_arg1 : (⟨S65536x512, .bf16⟩ : BufTy).Contents (Elt F)} (h_main_arg1 : V0 (Proc.devRef .tc main_arg1) = x_main_arg1) {x_main_arg6 : (⟨S1x128, .f32⟩ : BufTy).Contents (Elt F)} (h_main_arg6 : V0 (Proc.devRef .tc main_arg6) = x_main_arg6) : out_main_v128 V0 = Cert.ReferenceIdeal.Step.R_main_v128 s x_main_arg1 x_main_arg6 := by
  unfold out_main_v128 Cert.ReferenceIdeal.Step.R_main_v128
  rw [h.f_7, h_main_arg1, h_main_arg6]
  try rfl

/-- One trip keeps the valuation holding: `step` of the state, the same set-up values, the next number. -/
theorem holds_step (h : Holds V0 s j) : Holds (STEP V0) (step j s) (j + 1) where
  f_6 := (STEP_main_v101_6 V0).trans (step_6 h)
  f_7 := (STEP_main_v101_7 V0).trans (step_7 h)
  n_5 := (STEP_main_v101_5 V0).trans (step_5 h)
  f_0 := (STEP_main_v101_0 V0).trans h.f_0
  f_1 := (STEP_main_v101_1 V0).trans h.f_1
  f_2 := (STEP_main_v101_2 V0).trans h.f_2
  f_3 := (STEP_main_v101_3 V0).trans h.f_3
  f_4 := (STEP_main_v101_4 V0).trans h.f_4

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))

variable (m : (ℓ : Loc nD τ sig) → Buf (Elt F) ℓ) (c : Dev nD)

set_option maxRecDepth 65536 in
set_option maxHeartbeats 600000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 2048 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v128) = Cert.ReferenceIdeal.Step.R_main_v128 (it c 2048) (m ((c.tc : Thread nD τ).loc main_arg1)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    have hk := holds_iter m c (it c) (h0 c) (hs c) 2048
    ⟨(h c).1.trans (out_main_v128_holds hk (iter_main_arg1 m c 2048) (iter_main_arg6 m c 2048)), (h c).2.1, (h c).2.2.1, (h c).2.2.2.1, (h c).2.2.2.2.1, (h c).2.2.2.2.2.1, (h c).2.2.2.2.2.2.1, (h c).2.2.2.2.2.2.2⟩) (Value.run m ρ)

end Cert.ReferenceIdeal.StepRun

end
-- ==== Proof.ChunkMath.lean ====
/- The gated delta rule over one chunk of 128 tokens, over the reals: the triangular matrix's inverse by doubling, the
   closed form of the token recurrence inside a chunk, and that the chunk form computes what the recurrence computes. -/
module

public import Mathlib.Data.Matrix.Mul
public import Mathlib.Analysis.SpecialFunctions.Exp
public import Mathlib.Algebra.BigOperators.Fin
public import Mathlib.Tactic.Ring
public import Mathlib.Tactic.NoncommRing
public import Mathlib.Tactic.Linarith

@[expose] public section

noncomputable section

open scoped BigOperators

namespace Cert.Chunk

/-! ## The inverse by doubling -/

/-- Whether `i` and `j` lie in the same block of `2^(l+1)` and in different blocks of `2^l`. -/
def split (l : ℕ) (i j : Fin 128) : Prop := i.val / 2 ^ (l + 1) = j.val / 2 ^ (l + 1) ∧ i.val / 2 ^ l ≠ j.val / 2 ^ l

instance (l : ℕ) (i j : Fin 128) : Decidable (split l i j) := by unfold split; infer_instance

/-- The entries of `N` at level `l`. -/
def lev (N : Matrix (Fin 128) (Fin 128) ℝ) (l : ℕ) : Matrix (Fin 128) (Fin 128) ℝ :=
  Matrix.of fun i j => if split l i j then N i j else 0

/-- One doubling step. -/
def dbl (N V : Matrix (Fin 128) (Fin 128) ℝ) (l : ℕ) : Matrix (Fin 128) (Fin 128) ℝ := V - V * (lev N l * V)

/-- The identity with the entries of `N` inside the blocks of `2^l`. -/
def blockOf (N : Matrix (Fin 128) (Fin 128) ℝ) (l : ℕ) : Matrix (Fin 128) (Fin 128) ℝ :=
  1 + Matrix.of fun i j => if i.val / 2 ^ l = j.val / 2 ^ l then N i j else 0

/-- Supported inside the blocks of `2^l`. -/
def Inside (V : Matrix (Fin 128) (Fin 128) ℝ) (l : ℕ) : Prop := ∀ i j, V i j ≠ 0 → i.val / 2 ^ l = j.val / 2 ^ l

variable {N V : Matrix (Fin 128) (Fin 128) ℝ} {l : ℕ}

theorem div_succ (a l : ℕ) : a / 2 ^ (l + 1) = a / 2 ^ l / 2 := by rw [pow_succ, Nat.div_div_eq_div_mul]

theorem lev_mul_mul_lev (hN : ∀ i j, ¬ j < i → N i j = 0) (hV : Inside V l) : lev N l * V * lev N l = 0 := by
  ext i j
  rw [Matrix.mul_apply]
  refine Finset.sum_eq_zero fun c _ => ?_
  rw [Matrix.mul_apply, Finset.sum_mul]
  refine Finset.sum_eq_zero fun a _ => ?_
  by_contra h
  have hva : V a c ≠ 0 := fun h' => h (by rw [h']; ring)
  have h1 : lev N l i a ≠ 0 := fun h' => h (by rw [h']; ring)
  have h2 : lev N l c j ≠ 0 := fun h' => h (by rw [h']; ring)
  have key : ∀ x y : Fin 128, lev N l x y ≠ 0 → x.val / 2 ^ l % 2 = 1 ∧ y.val / 2 ^ l % 2 = 0 := by
    intro x y hxy
    unfold lev at hxy; rw [Matrix.of_apply] at hxy
    split_ifs at hxy with hs
    · have hlt : y < x := by
        by_contra hc; exact hxy (hN _ _ hc)
      have hlt' : y.val / 2 ^ l ≤ x.val / 2 ^ l := Nat.div_le_div_right (le_of_lt hlt)
      have hb := hs.1
      rw [div_succ, div_succ] at hb
      have := hs.2
      omega
    · exact absurd rfl hxy
  have ha := (key _ _ h1).2
  have hc := (key _ _ h2).1
  rw [hV _ _ hva] at ha
  omega

theorem blockOf_succ (N : Matrix (Fin 128) (Fin 128) ℝ) (l : ℕ) : blockOf N (l + 1) = blockOf N l + lev N l := by
  unfold blockOf lev split
  ext i j
  simp only [Matrix.add_apply, Matrix.of_apply]
  by_cases h : i.val / 2 ^ l = j.val / 2 ^ l
  · have h' : i.val / 2 ^ (l + 1) = j.val / 2 ^ (l + 1) := by rw [div_succ, div_succ, h]
    simp [h, h']
  · by_cases h' : i.val / 2 ^ (l + 1) = j.val / 2 ^ (l + 1)
    · simp [h, h']
    · simp [h, h']

theorem dbl_mul (hN : ∀ i j, ¬ j < i → N i j = 0) (hV : Inside V l) (h : V * blockOf N l = 1) :
    dbl N V l * blockOf N (l + 1) = 1 := by
  have h0 := lev_mul_mul_lev hN hV
  rw [blockOf_succ]
  unfold dbl
  have e : (V - V * (lev N l * V)) * (blockOf N l + lev N l)
      = V * blockOf N l + V * lev N l - V * lev N l * (V * blockOf N l) - V * (lev N l * V * lev N l) := by
    noncomm_ring
  rw [e, h, h0]
  simp

theorem Inside.mul {A B : Matrix (Fin 128) (Fin 128) ℝ} (hA : Inside A l) (hB : Inside B l) : Inside (A * B) l := by
  intro i j h
  rw [Matrix.mul_apply] at h
  obtain ⟨k, _, hk⟩ := Finset.exists_ne_zero_of_sum_ne_zero h
  rw [hA i k (left_ne_zero_of_mul hk), hB k j (right_ne_zero_of_mul hk)]

theorem Inside.succ {A : Matrix (Fin 128) (Fin 128) ℝ} (hA : Inside A l) : Inside A (l + 1) := by
  intro i j h; rw [div_succ, div_succ, hA i j h]

theorem inside_lev : Inside (lev N l) (l + 1) := by
  intro i j h
  unfold lev at h; rw [Matrix.of_apply] at h
  split_ifs at h with hs
  · exact hs.1
  · exact absurd rfl h

theorem inside_dbl (hV : Inside V l) : Inside (dbl N V l) (l + 1) := by
  intro i j h
  unfold dbl at h
  by_contra hc
  apply h
  have h1 : V i j = 0 := by by_contra h'; exact hc (hV.succ i j h')
  have h2 : (V * (lev N l * V)) i j = 0 := by
    by_contra h'; exact hc ((hV.succ.mul (inside_lev.mul hV.succ)) i j h')
  simp [h1, h2]

/-- The inverse after `l` levels. -/
def inv (N : Matrix (Fin 128) (Fin 128) ℝ) : ℕ → Matrix (Fin 128) (Fin 128) ℝ
  | 0 => 1
  | l + 1 => dbl N (inv N l) l

theorem inside_inv : ∀ l, Inside (inv N l) l
  | 0 => by
    intro i j h
    simp only [inv, Matrix.one_apply, ne_eq, ite_eq_right_iff, one_ne_zero, imp_false, not_not] at h
    rw [h]
  | l + 1 => inside_dbl (inside_inv l)

theorem inv_mul (hN : ∀ i j, ¬ j < i → N i j = 0) : ∀ l, inv N l * blockOf N l = 1
  | 0 => by
    have : blockOf N 0 = 1 := by
      unfold blockOf
      ext i j
      simp only [Matrix.add_apply, Matrix.of_apply, pow_zero, Nat.div_one]
      by_cases h : i.val = j.val
      · rw [if_pos h, hN i j (by rw [Fin.lt_def]; omega), add_zero]
      · rw [if_neg h, add_zero]
    rw [this]; simp [inv]
  | l + 1 => dbl_mul hN (inside_inv l) (inv_mul hN l)

theorem inv_seven (hN : ∀ i j, ¬ j < i → N i j = 0) : inv N 7 * (1 + N) = 1 := by
  have h := inv_mul hN 7
  have : blockOf N 7 = 1 + N := by
    unfold blockOf
    ext i j
    have hi := i.isLt; have hj := j.isLt
    simp only [Matrix.add_apply, Matrix.of_apply]
    rw [if_pos (by rw [Nat.div_eq_of_lt (by omega), Nat.div_eq_of_lt (by omega)])]
  rwa [this] at h

/-! ## The token recurrence -/

section Rec

/-- The state after `t` tokens: `a t` the decay, `b t` the write strength. -/
def state (k v : ℕ → Fin 128 → ℝ) (a b : ℕ → ℝ) (S : Fin 128 → Fin 128 → ℝ) : ℕ → Fin 128 → Fin 128 → ℝ
  | 0 => S
  | t + 1 => fun e d => state k v a b S t e d * a t
      + k t e * (b t * (v t d - ∑ x, k t x * (state k v a b S t x d * a t)))

variable (q k v : ℕ → Fin 128 → ℝ) (ld b : ℕ → ℝ) (S : Fin 128 → Fin 128 → ℝ)

/-- What token `t` writes. -/
def wr (a : ℕ → ℝ) (t : ℕ) (d : Fin 128) : ℝ := b t * (v t d - ∑ x, k t x * (state k v a b S t x d * a t))

/-- The sum of the log decays of the tokens before `t`. -/
def cum (ld : ℕ → ℝ) (t : ℕ) : ℝ := ∑ j ∈ Finset.range t, ld j

theorem cum_succ (ld : ℕ → ℝ) (t : ℕ) : cum ld (t + 1) = cum ld t + ld t := Finset.sum_range_succ _ _

/-- The recurrence from `s` tokens on is the recurrence of the shifted inputs. -/
theorem state_add (a : ℕ → ℝ) (s t : ℕ) :
    state k v a b S (s + t) = state (fun i => k (s + i)) (fun i => v (s + i)) (fun i => a (s + i)) (fun i => b (s + i))
      (state k v a b S s) t := by
  induction t with
  | zero => rfl
  | succ t ih =>
    show state k v a b S ((s + t) + 1) = _
    simp only [state]
    rw [ih]

/-- The closed form of the state. -/
theorem state_eq (t : ℕ) (e d : Fin 128) :
    state k v (fun i => Real.exp (ld i)) b S t e d = Real.exp (cum ld t) * S e d
      + ∑ j ∈ Finset.range t, Real.exp (cum ld t - cum ld (j + 1)) * (k j e * wr k v b S (fun i => Real.exp (ld i)) j d) := by
  induction t with
  | zero => simp [state, cum]
  | succ t ih =>
    show state k v _ b S t e d * Real.exp (ld t) + k t e * wr k v b S (fun i => Real.exp (ld i)) t d = _
    rw [ih, Finset.sum_range_succ, cum_succ, add_mul, Finset.sum_mul]
    rw [show cum ld t + ld t - (cum ld t + ld t) = 0 by ring, Real.exp_zero, one_mul, Real.exp_add]
    rw [← add_assoc]
    congr 1
    congr 1
    · ring
    · refine Finset.sum_congr rfl fun j _ => ?_
      rw [show cum ld t + ld t - cum ld (j + 1) = (cum ld t - cum ld (j + 1)) + ld t by ring, Real.exp_add]
      ring

end Rec

/-! ## The chunk form -/

section Form

variable (q k v : Fin 128 → Fin 128 → ℝ) (g b : Fin 128 → ℝ) (S : Fin 128 → Fin 128 → ℝ)

/-- The strictly lower triangular matrix of a chunk. -/
def nmat : Matrix (Fin 128) (Fin 128) ℝ := fun i j =>
  if j < i then b i * (∑ x, k i x * k j x) * Real.exp (g i - g j) else 0

/-- What the chunk's tokens write. -/
def vnew (i d : Fin 128) : ℝ :=
  (∑ j, inv (nmat k g b) 7 i j * (v j d * b j))
    - ∑ x, (∑ j, inv (nmat k g b) 7 i j * (k j x * (b j * Real.exp (g j)))) * S x d

/-- The chunk's outputs. -/
def outc (i d : Fin 128) : ℝ :=
  (∑ x, q i x * Real.exp (g i) * S x d)
    + ∑ j, (∑ x, q i x * k j x) * (if j ≤ i then Real.exp (g i - g j) else 0) * vnew k v g b S j d

/-- The state after the chunk. -/
def statec (e d : Fin 128) : ℝ :=
  S e d * Real.exp (g 127) + ∑ j, k j e * Real.exp (g 127 - g j) * vnew k v g b S j d

end Form

section Eq

variable (q k v : ℕ → Fin 128 → ℝ) (ld b : ℕ → ℝ) (S : Fin 128 → Fin 128 → ℝ)

/-- The sum of a function of the tokens below `i` as a sum over the chunk. -/
theorem sum_range_fin (t : ℕ) (ht : t ≤ 128) (f : ℕ → ℝ) :
    ∑ j ∈ Finset.range t, f j = ∑ j : Fin 128, if j.val < t then f j.val else 0 := by
  rw [Fin.sum_univ_eq_sum_range (fun j => if j < t then f j else 0) 128, ← Finset.sum_filter]
  refine Finset.sum_congr ?_ fun _ _ => rfl
  ext x; simp only [Finset.mem_range, Finset.mem_filter]; omega

/-- The chunk's `g`: the inclusive running sum of the log decays. -/
def gc (i : Fin 128) : ℝ := cum ld (i.val + 1)

local notation "W" => wr k v b S (fun i => Real.exp (ld i))

theorem wr_eq (i d : Fin 128) :
    W i.val d = b i.val * v i.val d - b i.val * Real.exp (gc ld i) * ∑ x, k i.val x * S x d
      - ∑ j : Fin 128, nmat (fun i => k i.val) (gc ld) (fun i => b i.val) i j * W j.val d := by
  have h1 : W i.val d = b i.val * (v i.val d - ∑ x, k i.val x
      * (state k v (fun i => Real.exp (ld i)) b S i.val x d * Real.exp (ld i.val))) := rfl
  have h2 : ∀ x, state k v (fun i => Real.exp (ld i)) b S i.val x d * Real.exp (ld i.val)
      = Real.exp (gc ld i) * S x d + ∑ j : Fin 128, if j < i then
          Real.exp (gc ld i - gc ld j) * (k j.val x * W j.val d) else 0 := by
    intro x
    rw [state_eq, add_mul]
    congr 1
    · unfold gc; rw [cum_succ, Real.exp_add]; ring
    · rw [sum_range_fin i.val i.isLt.le, Finset.sum_mul]
      refine Finset.sum_congr rfl fun j _ => ?_
      by_cases hj : j < i
      · rw [if_pos hj, if_pos (by exact hj)]
        unfold gc
        rw [cum_succ ld i.val, show cum ld i.val + ld i.val - cum ld (j.val + 1)
          = (cum ld i.val - cum ld (j.val + 1)) + ld i.val by ring, Real.exp_add]
        ring
      · rw [if_neg hj, if_neg (by exact hj), zero_mul]
  rw [h1]
  simp only [h2, mul_add, Finset.sum_add_distrib, mul_sub, Finset.mul_sum]
  rw [sub_sub]
  congr 1
  congr 1
  · refine Finset.sum_congr rfl fun x _ => by ring
  · rw [Finset.sum_comm]
    refine Finset.sum_congr rfl fun j _ => ?_
    unfold nmat
    by_cases hj : j < i
    · simp only [if_pos hj, Finset.mul_sum, Finset.sum_mul]
      refine Finset.sum_congr rfl fun x _ => by ring
    · simp [if_neg hj]

theorem vnew_eq (i d : Fin 128) :
    vnew (fun i => k i.val) (fun i => v i.val) (gc ld) (fun i => b i.val) S i d = W i.val d := by
  set N := nmat (fun i => k i.val) (gc ld) (fun i : Fin 128 => b i.val) with hNd
  have hN : ∀ i j, ¬ j < i → N i j = 0 := fun i j h => by rw [hNd]; unfold nmat; rw [if_neg h]
  have hinv := inv_seven hN
  have h1 : ∀ i, ∑ j, (1 + N) i j * W j.val d
      = b i.val * v i.val d - b i.val * Real.exp (gc ld i) * ∑ x, k i.val x * S x d := by
    intro i
    have := wr_eq k v ld b S i d
    simp only [Matrix.add_apply, add_mul, Finset.sum_add_distrib, Matrix.one_apply, ite_mul, one_mul, zero_mul,
      Finset.sum_ite_eq, Finset.mem_univ, if_true]
    linarith
  have h2 : W i.val d = ∑ j, inv N 7 i j * ∑ m, (1 + N) j m * W m.val d := by
    have : ∀ m : Fin 128, ∑ j, inv N 7 i j * (1 + N) j m = if i = m then 1 else 0 := by
      intro m
      rw [← Matrix.mul_apply, hinv, Matrix.one_apply]
    simp only [Finset.mul_sum]
    rw [Finset.sum_comm]
    have h3 : ∀ m : Fin 128, ∑ j, inv N 7 i j * ((1 + N) j m * W m.val d) = (if i = m then 1 else 0) * W m.val d := by
      intro m
      rw [← this m, Finset.sum_mul]
      exact Finset.sum_congr rfl fun j _ => by ring
    simp only [h3, ite_mul, one_mul, zero_mul, Finset.sum_ite_eq, Finset.mem_univ, if_true]
  rw [h2]
  simp only [h1]
  unfold vnew
  simp only [mul_sub, Finset.sum_sub_distrib, Finset.mul_sum, Finset.sum_mul]
  congr 1
  · exact Finset.sum_congr rfl fun j _ => by ring
  · rw [Finset.sum_comm]
    exact Finset.sum_congr rfl fun j _ => Finset.sum_congr rfl fun x _ => by ring

/-- The state after the chunk is the recurrence's. -/
theorem statec_eq (e d : Fin 128) :
    statec (fun i => k i.val) (fun i => v i.val) (gc ld) (fun i => b i.val) S e d
      = state k v (fun i => Real.exp (ld i)) b S 128 e d := by
  unfold statec
  rw [state_eq, sum_range_fin 128 le_rfl]
  congr 1
  · rw [mul_comm]; rfl
  · refine Finset.sum_congr rfl fun j _ => ?_
    rw [if_pos j.isLt, vnew_eq]
    unfold gc
    simp only [show ((127 : Fin 128).val + 1) = 128 from rfl]
    ring

/-- The chunk's outputs are the recurrence's. -/
theorem outc_eq (i d : Fin 128) :
    outc (fun i => q i.val) (fun i => k i.val) (fun i => v i.val) (gc ld) (fun i => b i.val) S i d
      = ∑ x, q i.val x * state k v (fun i => Real.exp (ld i)) b S (i.val + 1) x d := by
  unfold outc
  simp only [state_eq, mul_add, Finset.sum_add_distrib]
  congr 1
  · exact Finset.sum_congr rfl fun x _ => by unfold gc; ring
  · simp only [sum_range_fin (i.val + 1) i.isLt, Finset.mul_sum]
    rw [Finset.sum_comm]
    refine Finset.sum_congr rfl fun j _ => ?_
    rw [vnew_eq, Finset.sum_mul, Finset.sum_mul]
    refine Finset.sum_congr rfl fun x _ => ?_
    by_cases hj : j ≤ i
    · rw [if_pos hj, if_pos (by rw [Fin.le_def] at hj; omega)]
      unfold gc; ring
    · rw [if_neg hj, if_neg (by rw [Fin.le_def] at hj; omega)]
      ring

end Eq

end Cert.Chunk

end
-- ==== Proof.Model.lean ====
/- The gated DeltaNet of one sequence over the reals: convolution, gates, unit rows and the recurrence. -/
module

public import proofs.«01_k».proof.Proof.ChunkMath
public import Mathlib.Analysis.SpecialFunctions.Log.Basic

@[expose] public section

noncomputable section

namespace Cert.Chunk

/-- The two literals: the guard under the square roots and `128^(-1/2)` rounded. -/
def epsR : ℝ := 8796093 / 2 ^ 43
def qsR : ℝ := 11863283 / 2 ^ 27

/-- One sequence's inputs. -/
structure Seq where
  x : ℕ → Fin 1536 → ℝ
  w : Fin 4 → Fin 1536 → ℝ
  sm : ℕ → Fin 128 → ℝ
  al : Fin 128 → ℝ
  dt : Fin 128 → ℝ

namespace Seq
variable (s : Seq)

/-- The inputs `n` tokens before `t`, nothing before the first. -/
def xs (t n : ℕ) (ch : Fin 1536) : ℝ := if n ≤ t then s.x (t - n) ch else 0

def pre (t : ℕ) (ch : Fin 1536) : ℝ :=
  s.xs t 0 ch * s.w 3 ch + s.xs t 1 ch * s.w 2 ch + s.xs t 2 ch * s.w 1 ch + s.xs t 3 ch * s.w 0 ch

def act (t : ℕ) (ch : Fin 1536) : ℝ := s.pre t ch * (1 + Real.exp (-s.pre t ch))⁻¹

/-- The place of head `h`'s element `d` in part `p` (queries, keys, values). -/
def chan (p : Fin 3) (h : Fin 4) (d : Fin 128) : Fin 1536 := ⟨512 * p.val + 128 * h.val + d.val, by omega⟩

def head (p : Fin 3) (h : Fin 4) (t : ℕ) (d : Fin 128) : ℝ := s.act t (chan p h d)

/-- A row scaled to unit length. -/
def unit (y : Fin 128 → ℝ) (d : Fin 128) : ℝ := y d * (Real.sqrt (∑ x, y x * y x + epsR))⁻¹

def q (h : Fin 4) (t : ℕ) (d : Fin 128) : ℝ := unit (s.head 0 h t) d * qsR
def k (h : Fin 4) (t : ℕ) (d : Fin 128) : ℝ := unit (s.head 1 h t) d
def v (h : Fin 4) (t : ℕ) (d : Fin 128) : ℝ := s.head 2 h t d

/-- The log-decay and the write strength of a lane. -/
def ld (l : Fin 128) (t : ℕ) : ℝ :=
  (0 - Real.exp (s.al l)) * (max (s.sm t l + s.dt l) 0 + Real.log (1 + Real.exp (0 - |s.sm t l + s.dt l|)))
def be (l : Fin 128) (t : ℕ) : ℝ := (1 + Real.exp (-s.sm t l))⁻¹

def lg (h : Fin 4) : Fin 128 := ⟨24 + h.val, by omega⟩
def lb (h : Fin 4) : Fin 128 := ⟨28 + h.val, by omega⟩

/-- The state before token `t`, and the output at token `t`. -/
def st (h : Fin 4) (t : ℕ) : Fin 128 → Fin 128 → ℝ :=
  state (s.k h) (s.v h) (fun t => Real.exp (s.ld (lg h) t)) (s.be (lb h)) (fun _ _ => 0) t
theorem st_add (h : Fin 4) (T n : ℕ) :
    s.st h (T + n) = state (fun i => s.k h (T + i)) (fun i => s.v h (T + i)) (fun i => Real.exp (s.ld (lg h) (T + i))) (fun i => s.be (lb h) (T + i)) (s.st h T) n :=
  state_add _ _ _ _ _ _ _
def out (h : Fin 4) (t : ℕ) (d : Fin 128) : ℝ := ∑ x, s.q h t x * s.st h (t + 1) x d

end Seq

end Cert.Chunk

end
-- ==== Proof.Read.lean ====
/- The kernel's words over the reals: for finite inputs each block is the real one of the model. -/
module

public import proofs.«01_k».proof.Proof.Vocab
public import proofs.«01_k».proof.Proof.Model
public import Idealize.ShloMosaic.Lib.Pointwise
public import Idealize.ShloMosaic.Lib.KernelVsHost

@[expose] public section
set_option maxRecDepth 16384
noncomputable section
namespace Cert.KernelIdeal.Own
open Cert.KernelIdeal Cert.KernelIdeal.Gen Cert.Chunk
open Idealize.ShloMosaic Idealize.ShloMosaic.TcCoe Idealize.ShloMosaic.Tactic

/-- Trip `k`'s loads are the rows of the sequence `s`. -/
structure Good (s : Seq) (k : Fin 4) (A : Ld Ideal) : Prop where
  x : ∀ i ch, A.x (ix2 i ch) = ((s.x (512 * k.val + i.val) ch : ℝ) : EReal)
  h : ∀ i ch, A.h (ix2 i ch) = ((s.x (512 * k.val - 16 + i.val) ch : ℝ) : EReal)
  w3 : ∀ ch, A.w3 (ix2 0 ch) = ((s.w 3 ch : ℝ) : EReal)
  w2 : ∀ ch, A.w2 (ix2 0 ch) = ((s.w 2 ch : ℝ) : EReal)
  w1 : ∀ ch, A.w1 (ix2 0 ch) = ((s.w 1 ch : ℝ) : EReal)
  w0 : ∀ ch, A.w0 (ix2 0 ch) = ((s.w 0 ch : ℝ) : EReal)
  sm : ∀ i l, A.sm (ix2 i l) = ((s.sm (512 * k.val + i.val) l : ℝ) : EReal)
  al : ∀ l, A.al (ix2 0 l) = ((s.al l : ℝ) : EReal)
  dt : ∀ l, A.dt (ix2 0 l) = ((s.dt l : ℝ) : EReal)
  fl : A.fl = (((if k.val = 0 then 0 else 1 : ℝ)) : EReal)

theorem csum {n : ℕ} (f : Fin n → ℝ) : ∑ x, ((f x : ℝ) : EReal) = ((∑ x, f x : ℝ) : EReal) := by
  induction n with
  | zero => simp
  | succ n ih => rw [Fin.sum_univ_succ, Fin.sum_univ_succ, EReal.coe_add, ← ih]

theorem cmax (a b : ℝ) : max (a : EReal) (b : EReal) = ((max a b : ℝ) : EReal) := (EReal.coe_strictMono.monotone.map_max).symm

theorem absf_coe {φ : FTy} (r : ℝ) : FloatOps.absf (F := Ideal) (φ := φ) ((r : ℝ) : EReal) = ((|r| : ℝ) : EReal) := by
  show max (r : EReal) (-(r : EReal)) = _
  rw [← EReal.coe_neg, cmax]; rfl

theorem eps_eq : Ideal.ofBits FTy.f32 0x358637BD#32 = ((epsR : ℝ) : EReal) := by
  simp [Ideal.ofBits, Ideal.ieee, -EReal.coe_mul, epsR]; norm_num
theorem qs_eq : Ideal.ofBits FTy.f32 0x3DB504F3#32 = ((qsR : ℝ) : EReal) := by
  simp [Ideal.ofBits, Ideal.ieee, -EReal.coe_mul, qsR]; norm_num
theorem eps_pos : 0 < epsR := by unfold epsR; positivity

theorem log1p_exp (r : ℝ) : Ideal.log (1 + Ideal.exp ((r : ℝ) : EReal)) = ((Real.log (1 + Real.exp r) : ℝ) : EReal) := by
  rw [Ideal.exp_coe, ← EReal.coe_one, ← EReal.coe_add, Ideal.log_coe, if_neg (by have := Real.exp_pos r; linarith)]

theorem rsqrt_pos {r : ℝ} (h : 0 < r) : Ideal.rsqrt ((r : ℝ) : EReal) = (((Real.sqrt r)⁻¹ : ℝ) : EReal) := by
  rw [Ideal.rsqrt_coe, if_neg (not_lt.mpr h.le), if_neg h.ne']

variable {s : Seq} {k : Fin 4} {A : Ld Ideal} (H : Good s k A)
include H

theorem ctx_r (n : ℕ) (hn : n ≤ 3) (i : Fin 512) (ch : Fin 1536) (j : Fin 528) (hj : j.val = 16 + i.val - n) :
    ctx A (ix2 j ch) = ((s.xs (512 * k.val + i.val) n ch : ℝ) : EReal) := by
  pointwise [ctx]
  unfold Seq.xs
  have hi := i.isLt
  by_cases h : j.val < 16
  · rw [dif_pos h, H.h, H.fl, ← EReal.coe_mul]
    by_cases hk : k.val = 0
    · rw [if_pos hk, if_neg (by omega), mul_zero]
    · rw [if_neg hk, if_pos (by omega), mul_one]
      congr 3; show 512 * k.val - 16 + j.val = _; omega
  · rw [dif_neg h]
    refine (H.x ⟨j.val - 16, by omega⟩ ch).trans ?_
    rw [if_pos (by omega)]
    congr 2; show 512 * k.val + (j.val - 16) = _; omega

theorem sh1_r (i : Fin 512) (ch : Fin 1536) : shifted A 1#32 (ix2 i ch) = ((s.xs (512 * k.val + i.val) 1 ch : ℝ) : EReal) := by
  pointwise [shifted]
  exact ctx_r H 1 (by omega) i ch _ (by show (16 + i.val + 528 - 1) % 528 = _; omega)
theorem sh2_r (i : Fin 512) (ch : Fin 1536) : shifted A 2#32 (ix2 i ch) = ((s.xs (512 * k.val + i.val) 2 ch : ℝ) : EReal) := by
  pointwise [shifted]
  exact ctx_r H 2 (by omega) i ch _ (by show (16 + i.val + 528 - 2) % 528 = _; omega)
theorem sh3_r (i : Fin 512) (ch : Fin 1536) : shifted A 3#32 (ix2 i ch) = ((s.xs (512 * k.val + i.val) 3 ch : ℝ) : EReal) := by
  pointwise [shifted]
  exact ctx_r H 3 (by omega) i ch _ (by show (16 + i.val + 528 - 3) % 528 = _; omega)

theorem pre_r (i : Fin 512) (ch : Fin 1536) : pre A (ix2 i ch) = ((s.pre (512 * k.val + i.val) ch : ℝ) : EReal) := by
  pointwise [pre, wrow]
  rw [sh1_r H, sh2_r H, sh3_r H, H.x, H.w3, H.w2, H.w1, H.w0]
  unfold Seq.pre
  rw [show s.xs (512 * k.val + i.val) 0 ch = s.x (512 * k.val + i.val) ch by unfold Seq.xs; simp]
  norm_cast

theorem act_r (i : Fin 512) (ch : Fin 1536) : act A (ix2 i ch) = ((s.act (512 * k.val + i.val) ch : ℝ) : EReal) := by
  pointwise [act]
  rw [pre_r H, Ideal.logistic_coe, ← EReal.coe_mul]; rfl

theorem ldv_r (i : Fin 512) (l : Fin 128) : ldv A (ix2 i l) = ((s.ld l (512 * k.val + i.val) : ℝ) : EReal) := by
  pointwise [ldv, gin]
  rw [H.al, H.sm, H.dt, ← EReal.coe_add, absf_coe, ← EReal.coe_zero, ← EReal.coe_sub, log1p_exp, Ideal.exp_coe, cmax]
  unfold Seq.ld
  norm_cast

theorem betav_r (i : Fin 512) (l : Fin 128) : betav A (ix2 i l) = ((s.be l (512 * k.val + i.val) : ℝ) : EReal) := by
  pointwise [betav]
  rw [H.sm, Ideal.logistic_coe]; rfl

end Cert.KernelIdeal.Own
end
-- ==== Proof.Bits.lean ====
/- The kernel's masks over a block's places, place by place. -/
module

public import proofs.«01_k».proof.Proof.ChunkMath
public import Idealize.ShloMosaic.Lib.Pointwise

@[expose] public section
set_option maxRecDepth 16384
noncomputable section
namespace Cert.Chunk
open Idealize.ShloMosaic

theorem ge_bit : ∀ i j : Fin 128, IntOp.cmpi .sge (BitVec.ofNat 32 i.val) (BitVec.ofNat 32 j.val) = if j ≤ i then 1#1 else 0#1 := by decide +kernel
theorem gt_bit : ∀ i j : Fin 128, IntOp.cmpi .sgt (BitVec.ofNat 32 i.val) (BitVec.ofNat 32 j.val) = if j < i then 1#1 else 0#1 := by decide +kernel
theorem eq_bit : ∀ i j : Fin 128, IntOp.cmpi .eq (BitVec.ofNat 32 i.val) (BitVec.ofNat 32 j.val) = if i = j then 1#1 else 0#1 := by decide +kernel
theorem lv0_bit : ∀ i j : Fin 128, IntOp.cmpi .eq (IntOp.xori (BitVec.ofNat 32 i.val) (BitVec.ofNat 32 j.val)) 1#32 = if split 0 i j then 1#1 else 0#1 := by decide +kernel
theorem lv1_bit : ∀ i j : Fin 128, IntOp.cmpi .eq (IntOp.shrsi .vector (IntOp.xori (BitVec.ofNat 32 i.val) (BitVec.ofNat 32 j.val)) 1#32) 1#32 = if split 1 i j then 1#1 else 0#1 := by decide +kernel
theorem lv2_bit : ∀ i j : Fin 128, IntOp.cmpi .eq (IntOp.shrsi .vector (IntOp.xori (BitVec.ofNat 32 i.val) (BitVec.ofNat 32 j.val)) 2#32) 1#32 = if split 2 i j then 1#1 else 0#1 := by decide +kernel
theorem lv3_bit : ∀ i j : Fin 128, IntOp.cmpi .eq (IntOp.shrsi .vector (IntOp.xori (BitVec.ofNat 32 i.val) (BitVec.ofNat 32 j.val)) 3#32) 1#32 = if split 3 i j then 1#1 else 0#1 := by decide +kernel
theorem lv4_bit : ∀ i j : Fin 128, IntOp.cmpi .eq (IntOp.shrsi .vector (IntOp.xori (BitVec.ofNat 32 i.val) (BitVec.ofNat 32 j.val)) 4#32) 1#32 = if split 4 i j then 1#1 else 0#1 := by decide +kernel
theorem lv5_bit : ∀ i j : Fin 128, IntOp.cmpi .eq (IntOp.shrsi .vector (IntOp.xori (BitVec.ofNat 32 i.val) (BitVec.ofNat 32 j.val)) 5#32) 1#32 = if split 5 i j then 1#1 else 0#1 := by decide +kernel
theorem lv6_bit : ∀ i j : Fin 128, IntOp.cmpi .eq (IntOp.shrsi .vector (IntOp.xori (BitVec.ofNat 32 i.val) (BitVec.ofNat 32 j.val)) 6#32) 1#32 = if split 6 i j then 1#1 else 0#1 := by decide +kernel

end Cert.Chunk
end
-- ==== Proof.ReadChunk.lean ====
/- The kernel's blocks over the reals, stretch by stretch and head by head: the chunk form of the recurrence. -/
module

public import proofs.«01_k».proof.Proof.Read
public import proofs.«01_k».proof.Proof.Bits

@[expose] public section
set_option maxRecDepth 16384
noncomputable section
namespace Cert.KernelIdeal.Own
open Cert.KernelIdeal Cert.KernelIdeal.Gen Cert.Chunk
open Idealize.ShloMosaic Idealize.ShloMosaic.TcCoe Idealize.ShloMosaic.Tactic

/-- Block `4 c + h`: stretch `c`, head `h`. -/
abbrev nn (c h : Fin 4) : Fin 16 := ⟨4 * c.val + h.val, by omega⟩

section Stacks
variable (c h : Fin 4)
theorem stk_at (f : Fin 4 → Fin 4 → FVec Ideal S128x128 .f32) (i j : Fin 128) : stk f (ix3 (nn c h) i j) = f c h (ix2 i j) := by
  pointwise [stk]
  fin_cases c <;> fin_cases h <;> simp
theorem stkc_at (f : Fin 4 → Fin 4 → FVec Ideal S128x1 .f32) (i : Fin 128) : stkc f (ix3 (nn c h) i 0) = f c h (ix2 i 0) := by
  pointwise [stkc]
  fin_cases c <;> fin_cases h <;> simp
theorem stkr_at (f : Fin 4 → Fin 4 → FVec Ideal S1x128 .f32) (j : Fin 128) : stkr f (ix3 (nn c h) 0 j) = f c h (ix2 0 j) := by
  pointwise [stkr]
  fin_cases c <;> fin_cases h <;> simp
theorem stk1_at (f : Fin 4 → Fin 4 → FVec Ideal S1x1 .f32) : stk1 f (ix3 (nn c h) 0 0) = f c h (ix2 0 0) := by
  pointwise [stk1]
  fin_cases c <;> fin_cases h <;> simp
end Stacks

theorem sel {α : Type} (p : Prop) [Decidable p] (a b : α) : Scalar.select (if p then 1#1 else 0#1) a b = if p then a else b := by
  split <;> rfl

theorem mask_bot : Named.named (F := Ideal) (φ := .f32) κ "mask" 0xF149F2CA#32 = (⊥ : EReal) := IdealRules.named_const.ideal_named_scalar _ _ _ _ rfl

variable {s : Seq} {k : Fin 4} {A : Ld Ideal} (H : Good s k A)

/-- The first token of stretch `c` of trip `k`. -/
abbrev tok (k c : Fin 4) : ℕ := 512 * k.val + 128 * c.val

/-- The stretch's inputs as the chunk form takes them. -/
abbrev cq (s : Seq) (k c h : Fin 4) : ℕ → Fin 128 → ℝ := fun i => s.q h (tok k c + i)
abbrev ck (s : Seq) (k c h : Fin 4) : ℕ → Fin 128 → ℝ := fun i => s.k h (tok k c + i)
abbrev cv (s : Seq) (k c h : Fin 4) : ℕ → Fin 128 → ℝ := fun i => s.v h (tok k c + i)
abbrev cl (s : Seq) (k c h : Fin 4) : ℕ → ℝ := fun i => s.ld (Seq.lg h) (tok k c + i)
abbrev cb (s : Seq) (k c h : Fin 4) : ℕ → ℝ := fun i => s.be (Seq.lb h) (tok k c + i)
abbrev cN (s : Seq) (k c h : Fin 4) : Matrix (Fin 128) (Fin 128) ℝ :=
  nmat (fun i => ck s k c h i.val) (gc (cl s k c h)) (fun i => cb s k c h i.val)

section
include H
variable (c h : Fin 4)

theorem blk_r (p : Fin 3) (i j : Fin 128) : blk A p c h (ix2 i j) = ((s.head p h (tok k c + i.val) j : ℝ) : EReal) := by
  pointwise [blk]
  refine (act_r H ⟨128 * c.val + i.val, by omega⟩ (Seq.chan p h j)).trans ?_
  unfold Seq.head tok
  congr 2; show 512 * k.val + (128 * c.val + i.val) = _; omega

theorem unit_r (p : Fin 3) (i j : Fin 128) : unitv (blk A p c h) (ix2 i j) = ((Seq.unit (s.head p h (tok k c + i.val)) j : ℝ) : EReal) := by
  pointwise [unitv]
  simp only [blk_r H, eps_eq, ← EReal.coe_mul, csum, ← EReal.coe_add]
  rw [rsqrt_pos (by have := eps_pos; have : 0 ≤ ∑ x, s.head p h (tok k c + i.val) x * s.head p h (tok k c + i.val) x := Finset.sum_nonneg fun x _ => mul_self_nonneg _; linarith), ← EReal.coe_mul]
  rfl

theorem q_r (i j : Fin 128) : Q A (ix3 (nn c h) i j) = ((cq s k c h i.val j : ℝ) : EReal) := by
  unfold Q; rw [stk_at]
  pointwise [qb]
  rw [unit_r H, qs_eq, ← EReal.coe_mul]; rfl
theorem k_r (i j : Fin 128) : K A (ix3 (nn c h) i j) = ((ck s k c h i.val j : ℝ) : EReal) := by
  unfold K; rw [stk_at]
  exact unit_r H c h 1 i j
theorem v_r (i j : Fin 128) : V A (ix3 (nn c h) i j) = ((cv s k c h i.val j : ℝ) : EReal) := by
  unfold V; rw [stk_at]
  exact blk_r H c h 2 i j
theorem b_r (i : Fin 128) : B A (ix3 (nn c h) i 0) = ((cb s k c h i.val : ℝ) : EReal) := by
  unfold B; rw [stkc_at]
  pointwise [bcol]
  refine (betav_r H ⟨128 * c.val + i.val, by omega⟩ (Seq.lb h)).trans ?_
  congr 2; show 512 * k.val + (128 * c.val + i.val) = _; unfold tok; omega

theorem gcv_r (i l : Fin 128) : gcv A c (ix2 i l) = ((gc (fun t => s.ld l (tok k c + t)) i : ℝ) : EReal) := by
  have hl : ∀ x : Fin 128, ldv A (ix2 ⟨128 * c.val + x.val, by omega⟩ l) = ((s.ld l (tok k c + x.val) : ℝ) : EReal) := fun x => by
    rw [ldv_r H]; congr 2; show 512 * k.val + (128 * c.val + x.val) = _; unfold tok; omega
  pointwise [gcv, tri, ld1, ld2, ld3, ldr, k0_pay4, k0_pay1]
  simp only [hl, ge_bit, sel, ← EReal.coe_sub, sub_self, EReal.coe_zero, sub_zero, ite_self, Finset.sum_const_zero, add_zero]
  have e : ∀ x : Fin 128, (if x ≤ i then ((s.ld l (tok k c + x.val) : ℝ) : EReal) else 0) = ((if x.val < i.val + 1 then s.ld l (tok k c + x.val) else 0 : ℝ) : EReal) := fun x => by
    by_cases hx : x ≤ i
    · rw [if_pos hx, if_pos (by have : x.val ≤ i.val := hx; omega)]
    · rw [if_neg hx, if_neg (by have : ¬ x.val ≤ i.val := hx; omega)]; rfl
  rw [gc, cum, sum_range_fin _ (by omega)]
  simp only [e, csum]

theorem g_r (i : Fin 128) : G A (ix3 (nn c h) i 0) = ((gc (cl s k c h) i : ℝ) : EReal) := by
  unfold G; rw [stkc_at]
  pointwise [gcol]
  exact gcv_r H c i (Seq.lg h)
theorem gr_r (j : Fin 128) : Gr A (ix3 (nn c h) 0 j) = ((gc (cl s k c h) j : ℝ) : EReal) := by
  unfold Gr; rw [stkr_at]
  pointwise [grow]
  exact gcv_r H c j (Seq.lg h)
theorem ge_r : Ge A (ix3 (nn c h) 0 0) = ((gc (cl s k c h) 127 : ℝ) : EReal) := by
  unfold Ge; rw [stk1_at]
  pointwise [gend]
  exact gcv_r H c 127 (Seq.lg h)

theorem d_r (i j : Fin 128) : D A (ix3 (nn c h) i j) = ((if j ≤ i then Real.exp (gc (cl s k c h) i - gc (cl s k c h) j) else 0 : ℝ) : EReal) := by
  pointwise [D, k0_pay1]
  rw [ge_bit, sel, g_r H, gr_r H, mask_bot]
  split
  · rw [← EReal.coe_sub, Ideal.exp_coe]
  · rw [Ideal.exp_bot]; rfl

theorem n_r (i j : Fin 128) : N A (ix3 (nn c h) i j) = ((cN s k c h i j : ℝ) : EReal) := by
  pointwise [N, k0_pay2]
  rw [gt_bit, sel]
  simp only [k_r H, b_r H, d_r H, ← EReal.coe_mul, csum]
  unfold cN nmat
  by_cases hx : j < i
  · rw [if_pos hx, if_pos hx, if_pos hx.le]
  · rw [if_neg hx, if_neg hx]; rfl

theorem i0_r (i j : Fin 128) : I0 A (ix3 (nn c h) i j) = ((inv (cN s k c h) 1 i j : ℝ) : EReal) := by
  pointwise [I0, Nlev, k0_pay5, k0_pay3]
  rw [eq_bit, lv0_bit, sel, sel, n_r H]
  rw [show inv (cN s k c h) 1 = 1 - 1 * (lev (cN s k c h) 0 * 1) from rfl, one_mul, mul_one, Matrix.sub_apply, Matrix.one_apply, EReal.coe_sub]
  congr 1
  · split <;> rfl
  · unfold lev; rw [Matrix.of_apply]; split <;> rfl

theorem step_r (m : BitVec 32) (l : ℕ) (hm : ∀ i j : Fin 128, IntOp.cmpi .eq (IntOp.shrsi .vector (IntOp.xori (BitVec.ofNat 32 i.val) (BitVec.ofNat 32 j.val)) m) 1#32 = if split l i j then 1#1 else 0#1)
    (X : FVec Ideal S16x128x128 .f32) (hX : ∀ i j : Fin 128, X (ix3 (nn c h) i j) = ((inv (cN s k c h) l i j : ℝ) : EReal)) (i j : Fin 128) :
    Inext A X m (ix3 (nn c h) i j) = ((inv (cN s k c h) (l + 1) i j : ℝ) : EReal) := by
  have hl : ∀ i j : Fin 128, Nlev A (lv m) (ix3 (nn c h) i j) = ((lev (cN s k c h) l i j : ℝ) : EReal) := fun i j => by
    pointwise [Nlev, lv, k0_pay3]
    rw [hm, sel, n_r H]; unfold lev; rw [Matrix.of_apply]; split <;> rfl
  pointwise [Inext]
  simp only [hX, hl, ← EReal.coe_mul, csum, ← EReal.coe_sub]
  rfl

theorem i6_r (i j : Fin 128) : I6 A (ix3 (nn c h) i j) = ((inv (cN s k c h) 7 i j : ℝ) : EReal) :=
  step_r H c h _ 6 lv6_bit _ (step_r H c h _ 5 lv5_bit _ (step_r H c h _ 4 lv4_bit _ (step_r H c h _ 3 lv3_bit _ (step_r H c h _ 2 lv2_bit _ (step_r H c h _ 1 lv1_bit _ (i0_r H c h)))))) i j

theorem eg_r (i : Fin 128) : EG A (ix3 (nn c h) i 0) = ((Real.exp (gc (cl s k c h) i) : ℝ) : EReal) := by
  pointwise [EG]
  rw [g_r H, Ideal.exp_coe]

theorem u_r (i j : Fin 128) : U A (ix3 (nn c h) i j) = ((∑ x, inv (cN s k c h) 7 i x * (cv s k c h x.val j * cb s k c h x.val) : ℝ) : EReal) := by
  pointwise [U, sol]
  simp only [i6_r H, v_r H, b_r H, ← EReal.coe_mul, csum]
theorem w_r (i j : Fin 128) : W A (ix3 (nn c h) i j) = ((∑ x, inv (cN s k c h) 7 i x * (ck s k c h x.val j * (cb s k c h x.val * Real.exp (gc (cl s k c h) x))) : ℝ) : EReal) := by
  pointwise [W, sol]
  simp only [i6_r H, k_r H, b_r H, eg_r H, ← EReal.coe_mul, csum]
theorem p_r (i j : Fin 128) : P A (ix3 (nn c h) i j) = (((∑ x, cq s k c h i.val x * ck s k c h j.val x) * (if j ≤ i then Real.exp (gc (cl s k c h) i - gc (cl s k c h) j) else 0) : ℝ) : EReal) := by
  pointwise [P]
  simp only [q_r H, k_r H, d_r H, ← EReal.coe_mul, csum]
theorem qd_r (i j : Fin 128) : QD A (ix3 (nn c h) i j) = ((cq s k c h i.val j * Real.exp (gc (cl s k c h) i) : ℝ) : EReal) := by
  pointwise [QD]
  rw [q_r H, eg_r H, ← EReal.coe_mul]
theorem kt_r (e j : Fin 128) : KT A (ix3 (nn c h) e j) = ((ck s k c h j.val e * Real.exp (gc (cl s k c h) 127 - gc (cl s k c h) j) : ℝ) : EReal) := by
  pointwise [KT]
  rw [stk_at]
  pointwise [kdt, KD]
  rw [k_r H, ge_r H, g_r H, ← EReal.coe_sub, Ideal.exp_coe, ← EReal.coe_mul]
theorem ee_r : EE A (ix3 (nn c h) 0 0) = ((Real.exp (gc (cl s k c h) 127) : ℝ) : EReal) := by
  pointwise [EE]
  rw [ge_r H, Ideal.exp_coe]

variable (S : FVec Ideal S4x128x128 .f32) (R : Fin 128 → Fin 128 → ℝ) (hS : ∀ e d, S (ix3 h e d) = ((R e d : ℝ) : EReal))
include hS

theorem vnew_r (i d : Fin 128) : vnew A c S (ix3 h i d) = ((Chunk.vnew (fun i => ck s k c h i.val) (fun i => cv s k c h i.val) (gc (cl s k c h)) (fun i => cb s k c h i.val) R i d : ℝ) : EReal) := by
  pointwise [vnew]
  simp only [u_r H, w_r H, hS, ← EReal.coe_mul, csum, ← EReal.coe_sub]
  rfl

theorem outs_r (i d : Fin 128) : outs A c S (ix3 h i d) = ((∑ x, cq s k c h i.val x * state (ck s k c h) (cv s k c h) (fun i => Real.exp (cl s k c h i)) (cb s k c h) R (i.val + 1) x d : ℝ) : EReal) := by
  rw [← outc_eq]
  pointwise [outs]
  simp only [qd_r H, p_r H, vnew_r H c h S R hS, hS, ← EReal.coe_mul, csum, ← EReal.coe_add]
  rfl

theorem nxt_r (e d : Fin 128) : nxt A c S (ix3 h e d) = ((state (ck s k c h) (cv s k c h) (fun i => Real.exp (cl s k c h i)) (cb s k c h) R 128 e d : ℝ) : EReal) := by
  rw [← statec_eq]
  pointwise [nxt]
  simp only [ee_r H, kt_r H, vnew_r H c h S R hS, hS, ← EReal.coe_mul, csum, ← EReal.coe_add]
  rfl

end

section
include H

/-- From the model's state to the model's state, and the model's output. -/
theorem nxt_st (c h : Fin 4) (S : FVec Ideal S4x128x128 .f32) (hS : ∀ e d, S (ix3 h e d) = ((s.st h (tok k c) e d : ℝ) : EReal)) (e d : Fin 128) :
    nxt A c S (ix3 h e d) = ((s.st h (tok k c + 128) e d : ℝ) : EReal) := by
  rw [nxt_r H c h S _ hS, Seq.st_add s h (tok k c) 128]
theorem outs_st (c h : Fin 4) (S : FVec Ideal S4x128x128 .f32) (hS : ∀ e d, S (ix3 h e d) = ((s.st h (tok k c) e d : ℝ) : EReal)) (i d : Fin 128) :
    outs A c S (ix3 h i d) = ((s.out h (tok k c + i.val) d : ℝ) : EReal) := by
  rw [outs_r H c h S _ hS]; unfold Seq.out
  congr 1; refine Finset.sum_congr rfl fun x _ => ?_
  rw [show tok k c + i.val + 1 = tok k c + (i.val + 1) from by omega, Seq.st_add s h (tok k c) (i.val + 1)]

theorem sat_st (h : Fin 4) (S : FVec Ideal S4x128x128 .f32) (hS : ∀ e d, S (ix3 h e d) = ((s.st h (512 * k.val) e d : ℝ) : EReal)) :
    ∀ n ≤ 4, ∀ e d, Sat A S n (ix3 h e d) = ((s.st h (512 * k.val + 128 * n) e d : ℝ) : EReal)
  | 0, _, e, d => hS e d
  | 1, _, e, d => nxt_st H 0 h S hS e d
  | 2, _, e, d => nxt_st H 1 h _ (sat_st h S hS 1 (by omega)) e d
  | 3, _, e, d => nxt_st H 2 h _ (sat_st h S hS 2 (by omega)) e d
  | 4, _, e, d => nxt_st H 3 h _ (sat_st h S hS 3 (by omega)) e d
  | _ + 5, hn, _, _ => absurd hn (by omega)

/-- The last step of both programs: a row `o` normalised, times its gain and its gate. -/
def lastStep (o : Fin 128 → EReal) (g : Fin 128 → EReal) (z : EReal) (d : Fin 128) : EReal :=
  o d * Ideal.rsqrt (Ideal.div (∑ x, o x * o x) (Ideal.ofBits FTy.f32 0x43000000#32) + Ideal.ofBits FTy.f32 0x358637BD#32) * g d * (z * Ideal.logistic z)

theorem piece_r (c h : Fin 4) (S : FVec Ideal S4x128x128 .f32) (hS : ∀ e d, S (ix3 h e d) = ((s.st h (512 * k.val) e d : ℝ) : EReal))
    (g : Vec Ideal S1x128 .f32) (z : Vec Ideal S128x128 .bf16) (i d : Fin 128) :
    piece A S c h g z (ix2 i d) = lastStep (fun x => ((s.out h (tok k c + i.val) x : ℝ) : EReal)) (fun x => g (ix2 0 x)) (z (ix2 i d)) d := by
  unfold piece
  pointwise [fin]
  simp only [outs_st H c h _ (sat_st H h S hS c.val (by omega))]
  rfl

end

end Cert.KernelIdeal.Own
end
-- ==== Proof.KernelRead.lean ====
/- The kernel's output block at an index: each row is the model's output, normalised and gated. -/
module

public import proofs.«01_k».proof.Proof.ReadChunk
public import proofs.«01_k».proof.Proof.KernelValue

@[expose] public section
set_option maxRecDepth 16384
noncomputable section
namespace Cert.KernelIdeal.Own
open Cert.KernelIdeal Cert.KernelIdeal.Gen Cert.Chunk
open Idealize.ShloMosaic Idealize.ShloMosaic.TcCoe Idealize.ShloMosaic.Tactic

theorem win2 {n0 n1 a b : ℕ} {e : EltTy} (x : Vec Ideal ⟨2, ![n0, n1]⟩ e) (p q : ℕ) (hb) (i : Fin a) (j : Fin b) (i' : Fin n0) (j' : Fin n1)
    (hi : i'.val = p + i.val) (hj : j'.val = q + j.val) :
    VecWindow.window (s := ⟨2, ![n0, n1]⟩) x ![p, q] ![a, b] hb (ix2 i j) = x (ix2 i' j') := by
  show x _ = x _
  congr 1
  funext r; apply Fin.ext
  fin_cases r
  · show p + 1 * i.val = i'.val; omega
  · show q + 1 * j.val = j'.val; omega

theorem fl_at (k : Fin 4) : Scalar.select (Scalar.cmpi .sgt (Scf.iv 0#32 1#32 k.val) 0#32) (of (F := Ideal)) zf = ((if k.val = 0 then 0 else 1 : ℝ) : EReal) := by
  have h1 : (of (F := Ideal)) = ((1 : ℝ) : EReal) := by
    show Ideal.ofBits FTy.f32 0x3F800000#32 = _
    simp [Ideal.ofBits, Ideal.ieee, -EReal.coe_mul]; norm_num
  have h0 : (zf (F := Ideal)) = ((0 : ℝ) : EReal) := by
    show Ideal.ofBits FTy.f32 0x00000000#32 = _
    simp [Ideal.ofBits, Ideal.ieee, -EReal.coe_mul]
  rw [h1, h0]
  fin_cases k <;> rfl

section
variable {s : Seq} {x0 : Vec Ideal S2048x1536 .bf16} (x1 : Vec Ideal S2048x512 .bf16) {x2 : Vec Ideal S2048x128 .f32} {x3 : Vec Ideal S4x1536 .f32} {x4 x5 : Vec Ideal S1x128 .f32} (x6 : Vec Ideal S1x128 .f32)
  (hx : ∀ (r : Fin 2048) ch, x0 (ix2 r ch) = ((s.x r.val ch : ℝ) : EReal))
  (hsm : ∀ (r : Fin 2048) l, x2 (ix2 r l) = ((s.sm r.val l : ℝ) : EReal))
  (hw : ∀ (n : Fin 4) ch, x3 (ix2 n ch) = ((s.w n ch : ℝ) : EReal))
  (hal : ∀ l, x4 (ix2 0 l) = ((s.al l : ℝ) : EReal)) (hdt : ∀ l, x5 (ix2 0 l) = ((s.dt l : ℝ) : EReal))
include hx hsm hw hal hdt

theorem good (k : Fin 4) : Good s k (ldV x0 x2 x3 x4 x5 k) where
  x i ch := (win2 x0 (512 * k.val) 0 _ i ch ⟨512 * k.val + i.val, by omega⟩ ch rfl (Nat.zero_add _).symm).trans (hx _ _)
  h i ch := (win2 x0 (512 * k.val - 16) 0 _ i ch ⟨512 * k.val - 16 + i.val, by omega⟩ ch rfl (Nat.zero_add _).symm).trans (hx _ _)
  w3 ch := (win2 x3 3 0 _ (0 : Fin 1) ch 3 ch rfl (Nat.zero_add _).symm).trans (hw _ _)
  w2 ch := (win2 x3 2 0 _ (0 : Fin 1) ch 2 ch rfl (Nat.zero_add _).symm).trans (hw _ _)
  w1 ch := (win2 x3 1 0 _ (0 : Fin 1) ch 1 ch rfl (Nat.zero_add _).symm).trans (hw _ _)
  w0 ch := (win2 x3 0 0 _ (0 : Fin 1) ch 0 ch rfl (Nat.zero_add _).symm).trans (hw _ _)
  sm i l := (win2 x2 (512 * k.val) 0 _ i l ⟨512 * k.val + i.val, by omega⟩ l rfl (Nat.zero_add _).symm).trans (hsm _ _)
  al l := hal l
  dt l := hdt l
  fl := fl_at k

theorem stV_r : ∀ n ≤ 4, ∀ (h : Fin 4) (e d : Fin 128), StV x0 x2 x3 x4 x5 n (ix3 h e d) = ((s.st h (512 * n) e d : ℝ) : EReal)
  | 0, _, h, e, d => by
    show k0_pay6 (F := Ideal) (ix3 h e d) = _
    pointwise [k0_pay6]
    rfl
  | n + 1, hn, h, e, d => by
    have hlt : n < 4 := by omega
    show (if h : n < 4 then k0_pay7 (Sat (ldV x0 x2 x3 x4 x5 ⟨n, h⟩) (StV x0 x2 x3 x4 x5 n) 4) else StV x0 x2 x3 x4 x5 n) (ix3 h e d) = _
    rw [dif_pos hlt]
    have := sat_st (good hx hsm hw hal hdt ⟨n, hlt⟩) h (StV x0 x2 x3 x4 x5 n) (fun e d => stV_r n (by omega) h e d) 4 (by omega) e d
    pointwise [k0_pay7]
    exact this

theorem outV_r (t : Fin 2048) (h : Fin 4) (d : Fin 128) (col : Fin 512) (hc : col.val = 128 * h.val + d.val) :
    OutV x0 x1 x2 x3 x4 x5 x6 (ix2 t col) = lastStep (fun x => ((s.out h t.val x : ℝ) : EReal)) (fun x => x6 (ix2 0 x)) (x1 (ix2 t col)) d := by
  have ht := t.isLt
  have gen : ∀ (k c h' : Fin 4) (i d' : Fin 128), 512 * k.val + 128 * c.val + i.val = t.val → h' = h → d' = d →
      blkV x0 x1 x2 x3 x4 x5 x6 k c h' (ix2 i d') = lastStep (fun x => ((s.out h t.val x : ℝ) : EReal)) (fun x => x6 (ix2 0 x)) (x1 (ix2 t col)) d := by
    intro k c h' i d' hk hh hd
    rw [hh, hd]
    unfold blkV
    refine (piece_r (good hx hsm hw hal hdt k) c h _ (fun e d => stV_r hx hsm hw hal hdt k.val (by omega) h e d) x6 _ i d).trans ?_
    rw [show zV x1 k c h (ix2 i d) = x1 (ix2 t col) from win2 x1 _ _ _ i d t col hk.symm hc]
    unfold tok
    rw [hk]
  unfold OutV
  apply gen
  · show 512 * (t.val / 512) + 128 * (t.val / 128 % 4) + t.val % 128 = t.val; omega
  · apply Fin.ext; show col.val / 128 = _; omega
  · apply Fin.ext; show col.val % 128 = _; omega
end

end Cert.KernelIdeal.Own
end
-- ==== Proof.RefRead.lean ====
/- The reference's values before its loop, at an index: the model's queries, keys, values, decays and write strengths. -/
module

public import proofs.«01_k».proof.Proof.Gen.ReferenceIdeal.Step
public import proofs.«01_k».proof.Proof.Read

@[expose] public section
set_option maxRecDepth 16384
noncomputable section
namespace Cert.ReferenceIdeal.Own
open Cert.ReferenceIdeal Cert.ReferenceIdeal.Gen Cert.ReferenceIdeal.Step Cert.Chunk
open Cert.KernelIdeal.Own (csum cmax absf_coe eps_eq qs_eq eps_pos log1p_exp rsqrt_pos)
open Idealize.ShloMosaic Idealize.ShloMosaic.TcCoe Idealize.ShloMosaic.Tactic

/-- The arguments' rows of sequence `b` are those of `s`. -/
structure GoodR (s : Seq) (b : Fin 32) (a0 : FVec Ideal S65536x1536 .bf16) (a2 : FVec Ideal S65536x128 .f32) (a3 : FVec Ideal S4x1536 .f32) (a4 a5 : FVec Ideal S1x128 .f32) : Prop where
  x : ∀ (r : Fin 65536) (t : ℕ) ch, t < 2048 → r.val = b.val * 2048 + t → a0 (ix2 r ch) = ((s.x t ch : ℝ) : EReal)
  sm : ∀ (r : Fin 65536) (t : ℕ) l, t < 2048 → r.val = b.val * 2048 + t → a2 (ix2 r l) = ((s.sm t l : ℝ) : EReal)
  w : ∀ (n : Fin 4) ch, a3 (ix2 n ch) = ((s.w n ch : ℝ) : EReal)
  al : ∀ l, a4 (ix2 0 l) = ((s.al l : ℝ) : EReal)
  dt : ∀ l, a5 (ix2 0 l) = ((s.dt l : ℝ) : EReal)

section
variable {s : Seq} {b : Fin 32} {a0 : FVec Ideal S65536x1536 .bf16} {a2 : FVec Ideal S65536x128 .f32} {a3 : FVec Ideal S4x1536 .f32} {a4 a5 : FVec Ideal S1x128 .f32}
  (H : GoodR s b a0 a2 a3 a4 a5)
include H

theorem v2_r (n : ℕ) (hn : n ≤ 3) (t : Fin 2048) (ch : Fin 1536) (j : Fin 2051) (hj : j.val = t.val + 3 - n) :
    A_main_v2 (F := Ideal) a0 a2 a3 a4 a5 (ix3 b j ch) = ((s.xs t.val n ch : ℝ) : EReal) := by
  pointwise [A_main_v2, A_main_v1, A_main_v0, K_main_call0_v0, K_main_c]
  have := t.isLt
  unfold Seq.xs
  by_cases h : 3 ≤ j.val ∧ j.val - 3 < 2048
  · rw [dif_pos h, if_pos (by omega)]
    refine (H.x _ (j.val - 3) ch (by omega) rfl).trans ?_
    congr 2; omega
  · rw [dif_neg h, if_neg (by omega)]
    show ((((0#32).toInt : ℤ) : ℝ) : EReal) = _
    norm_num

theorem pre_r (t : Fin 2048) (ch : Fin 1536) : A_main_v31 (F := Ideal) a0 a2 a3 a4 a5 (ix3 b t ch) = ((s.pre t.val ch : ℝ) : EReal) := by
  pointwise [K_main_v9, K_main_cst, A_main_v3, A_main_v4, A_main_v5, A_main_v6, A_main_v7, A_main_v8, A_main_v10, A_main_v11, A_main_v12, A_main_v13, A_main_v14, A_main_v15, A_main_v16, A_main_v17, A_main_v18, A_main_v19, A_main_v20, A_main_v21, A_main_v22, A_main_v23, A_main_v24, A_main_v25, A_main_v26, A_main_v27, A_main_v28, A_main_v29, A_main_v30, A_main_v31]
  refine (congrArg₂ (· + ·) (congrArg₂ (· + ·) (congrArg₂ (· + ·)
    (congrArg₂ (· * ·) (v2_r H 3 (by omega) t ch _ ?_) (H.w 0 ch))
    (congrArg₂ (· * ·) (v2_r H 2 (by omega) t ch _ ?_) (H.w 1 ch)))
    (congrArg₂ (· * ·) (v2_r H 1 (by omega) t ch _ ?_) (H.w 2 ch)))
    (congrArg₂ (· * ·) (v2_r H 0 (by omega) t ch _ ?_) (H.w 3 ch))).trans ?_
  · show t.val = _; omega
  · show 1 + t.val = _; omega
  · show 2 + t.val = _; omega
  · show 3 + t.val = _; omega
  · unfold Seq.pre
    simp only [← EReal.coe_mul, ← EReal.coe_add]
    congr 1; ring

theorem act_r (t : Fin 2048) (ch : Fin 1536) : A_main_v38 (F := Ideal) a0 a2 a3 a4 a5 (ix3 b t ch) = ((s.act t.val ch : ℝ) : EReal) := by
  pointwise [A_main_v32, A_main_v33, A_main_v35, A_main_v37, A_main_v38, K_main_v34, K_main_cst_0, K_main_v36, K_main_cst_1]
  rw [pre_r H]
  show _ * Ideal.logistic _ = _
  rw [Ideal.logistic_coe, ← EReal.coe_mul]; rfl

theorem head_r (p : Fin 3) (h : Fin 4) (d : Fin 128) (t : Fin 2048) (j : Fin 1536) (hj : j.val = 512 * p.val + 128 * h.val + d.val) :
    A_main_v38 (F := Ideal) a0 a2 a3 a4 a5 (ix3 b t j) = ((s.head p h t.val d : ℝ) : EReal) := by
  rw [act_r H, show j = Seq.chan p h d from Fin.ext hj]; rfl

theorem unit_aux (y : Fin 128 → ℝ) (f : Fin 128 → EReal) (hf : ∀ d, f d = ((y d : ℝ) : EReal)) (d : Fin 128) :
    f d * Ideal.rsqrt (∑ x, f x * f x + Ideal.ofBits FTy.f32 0x358637BD#32) = ((Seq.unit y d : ℝ) : EReal) := by
  simp only [hf, eps_eq, ← EReal.coe_mul, csum, ← EReal.coe_add]
  rw [rsqrt_pos (by have := eps_pos; have : 0 ≤ ∑ x, y x * y x := Finset.sum_nonneg fun x _ => mul_self_nonneg _; linarith), ← EReal.coe_mul]
  rfl

theorem q_r (t : Fin 2048) (h : Fin 4) (d : Fin 128) : A_main_v94 (F := Ideal) a0 a2 a3 a4 a5 (ix4 t b h d) = ((s.q h t.val d : ℝ) : EReal) := by
  pointwise [A_main_v39, A_main_v40, A_main_v41, A_main_v42, A_main_v43, A_main_v45, A_main_v46, A_main_v47, A_main_v48, A_main_v50, A_main_v94, K_main_cst_2, K_main_cst_3, K_main_v44, K_main_cst_4, K_main_v49]
  rw [qs_eq]
  refine (congrArg (· * _) (unit_aux H (s.head 0 h t.val) (fun x => A_main_v38 (F := Ideal) a0 a2 a3 a4 a5 (ix3 b t ⟨h.val * 128 + x.val, by omega⟩))
    (fun x => head_r H 0 h x t _ (by show h.val * 128 + x.val = 512 * 0 + 128 * h.val + x.val; omega)) d)).trans ?_
  rw [← EReal.coe_mul]; rfl

theorem k_r (t : Fin 2048) (h : Fin 4) (d : Fin 128) : A_main_v95 (F := Ideal) a0 a2 a3 a4 a5 (ix4 t b h d) = ((s.k h t.val d : ℝ) : EReal) := by
  pointwise [A_main_v51, A_main_v52, A_main_v53, A_main_v54, A_main_v55, A_main_v57, A_main_v58, A_main_v59, A_main_v60, A_main_v95, K_main_cst_5, K_main_cst_6, K_main_v56]
  exact unit_aux H (s.head 1 h t.val) (fun x => A_main_v38 (F := Ideal) a0 a2 a3 a4 a5 (ix3 b t ⟨512 + (h.val * 128 + x.val), by omega⟩))
    (fun x => head_r H 1 h x t _ (by show 512 + (h.val * 128 + x.val) = 512 * 1 + 128 * h.val + x.val; omega)) d

theorem v_r (t : Fin 2048) (h : Fin 4) (d : Fin 128) : A_main_v96 (F := Ideal) a0 a2 a3 a4 a5 (ix4 t b h d) = ((s.v h t.val d : ℝ) : EReal) := by
  pointwise [A_main_v61, A_main_v62, A_main_v96]
  exact head_r H 2 h d t _ (by show 1024 + (h.val * 128 + d.val) = 512 * 2 + 128 * h.val + d.val; omega)

theorem decay_r (t : Fin 2048) (h : Fin 4) : A_main_v97 (F := Ideal) a0 a2 a3 a4 a5 (ix3 t b h) = ((Real.exp (s.ld (Seq.lg h) t.val) : ℝ) : EReal) := by
  pointwise [A_main_v63, A_main_v64, A_main_v65, A_main_v66, A_main_v67, A_main_v68, A_main_v69, A_main_v71, A_main_v72, A_main_v73, A_main_v74, A_main_v76, A_main_v77, A_main_v78, A_main_v79, A_main_v80, A_main_v81, A_main_v82, A_main_v83, A_main_v84, A_main_v85, A_main_v86, A_main_v97, K_main_cst_7, K_main_v70, K_main_cst_8, K_main_v75]
  rw [show a4 (ix2 0 ⟨24 + h.val, by omega⟩) = _ from H.al (Seq.lg h), show a5 (ix2 0 ⟨24 + h.val, by omega⟩) = _ from H.dt (Seq.lg h),
    H.sm ⟨b.val * 2048 + t.val, by omega⟩ t.val ⟨24 + h.val, by omega⟩ t.isLt rfl]
  rw [← EReal.coe_add, absf_coe, ← EReal.coe_neg, log1p_exp, Ideal.exp_coe, ← EReal.coe_neg, ← EReal.coe_zero, cmax, ← EReal.coe_add, ← EReal.coe_mul, Ideal.exp_coe]
  unfold Seq.ld
  rw [zero_sub, zero_sub]; rfl

theorem beta_r (t : Fin 2048) (h : Fin 4) : A_main_v98 (F := Ideal) a0 a2 a3 a4 a5 (ix3 t b h) = ((s.be (Seq.lb h) t.val : ℝ) : EReal) := by
  pointwise [A_main_v63, A_main_v87, A_main_v88, A_main_v89, A_main_v91, A_main_v93, A_main_v98, K_main_cst_9, K_main_v90, K_main_cst_10, K_main_v92]
  rw [H.sm ⟨b.val * 2048 + t.val, by omega⟩ t.val ⟨28 + h.val, by omega⟩ t.isLt rfl]
  exact Ideal.logistic_coe _
end

end Cert.ReferenceIdeal.Own
-- ==== Proof.RefLoop.lean ====
/- The reference's loop over the tokens: the state and the outputs so far are the model's. -/
module

public import proofs.«01_k».proof.Proof.RefRead
public import proofs.«01_k».proof.Proof.ReadChunk

@[expose] public section
set_option maxRecDepth 16384
noncomputable section
namespace Cert.ReferenceIdeal.Own
open Cert.ReferenceIdeal Cert.ReferenceIdeal.Gen Cert.ReferenceIdeal.Step Cert.Chunk
open Cert.KernelIdeal.Own (csum)
open Idealize.ShloMosaic Idealize.ShloMosaic.TcCoe Idealize.ShloMosaic.Tactic

theorem toInt_zero : (0#32).toInt = 0 := rfl
theorem start_first (n : ℕ) (hn : n < 2048) : (BitVec.ofNat 32 n).toInt = (n : Int) := by
  rw [BitVec.toInt_eq_toNat_of_lt (by rw [BitVec.toNat_ofNat]; omega), BitVec.toNat_ofNat]
  omega

theorem clamp4_0 (st : Fin 4 → Int) (n : ℕ) (hs : S1x32x4x128.rank = S2048x32x4x128.rank) (h : st 0 = n) (hn : n + 1 ≤ 2048) : Host.clampedStart S2048x32x4x128 S1x32x4x128 hs st (0 : Fin 4) = n :=
  Host.clampedStart_of_le (s := S2048x32x4x128) (t := S1x32x4x128) hs st (0 : Fin 4) n h hn
theorem clamp4_1 (st : Fin 4 → Int) (n : ℕ) (hs : S1x32x4x128.rank = S2048x32x4x128.rank) (h : st 1 = n) (hn : n + 32 ≤ 32) : Host.clampedStart S2048x32x4x128 S1x32x4x128 hs st (1 : Fin 4) = n :=
  Host.clampedStart_of_le (s := S2048x32x4x128) (t := S1x32x4x128) hs st (1 : Fin 4) n h hn
theorem clamp4_2 (st : Fin 4 → Int) (n : ℕ) (hs : S1x32x4x128.rank = S2048x32x4x128.rank) (h : st 2 = n) (hn : n + 4 ≤ 4) : Host.clampedStart S2048x32x4x128 S1x32x4x128 hs st (2 : Fin 4) = n :=
  Host.clampedStart_of_le (s := S2048x32x4x128) (t := S1x32x4x128) hs st (2 : Fin 4) n h hn
theorem clamp4_3 (st : Fin 4 → Int) (n : ℕ) (hs : S1x32x4x128.rank = S2048x32x4x128.rank) (h : st 3 = n) (hn : n + 128 ≤ 128) : Host.clampedStart S2048x32x4x128 S1x32x4x128 hs st (3 : Fin 4) = n :=
  Host.clampedStart_of_le (s := S2048x32x4x128) (t := S1x32x4x128) hs st (3 : Fin 4) n h hn
theorem clamp3_0 (st : Fin 3 → Int) (n : ℕ) (hs : S1x32x4.rank = S2048x32x4.rank) (h : st 0 = n) (hn : n + 1 ≤ 2048) : Host.clampedStart S2048x32x4 S1x32x4 hs st (0 : Fin 3) = n :=
  Host.clampedStart_of_le (s := S2048x32x4) (t := S1x32x4) hs st (0 : Fin 3) n h hn
theorem clamp3_1 (st : Fin 3 → Int) (n : ℕ) (hs : S1x32x4.rank = S2048x32x4.rank) (h : st 1 = n) (hn : n + 32 ≤ 32) : Host.clampedStart S2048x32x4 S1x32x4 hs st (1 : Fin 3) = n :=
  Host.clampedStart_of_le (s := S2048x32x4) (t := S1x32x4) hs st (1 : Fin 3) n h hn
theorem clamp3_2 (st : Fin 3 → Int) (n : ℕ) (hs : S1x32x4.rank = S2048x32x4.rank) (h : st 2 = n) (hn : n + 4 ≤ 4) : Host.clampedStart S2048x32x4 S1x32x4 hs st (2 : Fin 3) = n :=
  Host.clampedStart_of_le (s := S2048x32x4) (t := S1x32x4) hs st (2 : Fin 3) n h hn

theorem slice4 (x : (⟨4, ![2048, 32, 4, 128]⟩ : Shape).Idx → EReal) (n : ℕ) (hn : n < 2048) (st : Fin 4 → Int)
    (h0 : st 0 = n) (h1 : st 1 = 0) (h2 : st 2 = 0) (h3 : st 3 = 0) (hs) (b : Fin 32) (h : Fin 4) (d : Fin 128) :
    Host.dynamicSlice (s := S2048x32x4x128) S1x32x4x128 x st hs (ix4 0 b h d) = x (ix4 ⟨n, hn⟩ b h d) := by
  rw [Host.dynamicSlice_apply]
  congr 1
  funext a; apply Fin.ext
  fin_cases a
  · show Host.clampedStart S2048x32x4x128 S1x32x4x128 _ st 0 + 0 = n
    rw [clamp4_0 st n _ h0 (by omega)]; omega
  · show Host.clampedStart S2048x32x4x128 S1x32x4x128 _ st 1 + b.val = b.val
    rw [clamp4_1 st 0 _ h1 (by omega)]; omega
  · show Host.clampedStart S2048x32x4x128 S1x32x4x128 _ st 2 + h.val = h.val
    rw [clamp4_2 st 0 _ h2 (by omega)]; omega
  · show Host.clampedStart S2048x32x4x128 S1x32x4x128 _ st 3 + d.val = d.val
    rw [clamp4_3 st 0 _ h3 (by omega)]; omega

theorem slice3 (x : (⟨3, ![2048, 32, 4]⟩ : Shape).Idx → EReal) (n : ℕ) (hn : n < 2048) (st : Fin 3 → Int)
    (h0 : st 0 = n) (h1 : st 1 = 0) (h2 : st 2 = 0) (hs) (b : Fin 32) (h : Fin 4) :
    Host.dynamicSlice (s := S2048x32x4) S1x32x4 x st hs (ix3 0 b h) = x (ix3 ⟨n, hn⟩ b h) := by
  rw [Host.dynamicSlice_apply]
  congr 1
  funext a; apply Fin.ext
  fin_cases a
  · show Host.clampedStart S2048x32x4 S1x32x4 _ st 0 + 0 = n
    rw [clamp3_0 st n _ h0 (by omega)]; omega
  · show Host.clampedStart S2048x32x4 S1x32x4 _ st 1 + b.val = b.val
    rw [clamp3_1 st 0 _ h1 (by omega)]; omega
  · show Host.clampedStart S2048x32x4 S1x32x4 _ st 2 + h.val = h.val
    rw [clamp3_2 st 0 _ h2 (by omega)]; omega

theorem update4 (x : (⟨4, ![2048, 32, 4, 128]⟩ : Shape).Idx → EReal) (u : (⟨4, ![1, 32, 4, 128]⟩ : Shape).Idx → EReal) (n : ℕ) (hn : n < 2048) (st : Fin 4 → Int)
    (h0 : st 0 = n) (h1 : st 1 = 0) (h2 : st 2 = 0) (h3 : st 3 = 0) (hs) (t : Fin 2048) (b : Fin 32) (h : Fin 4) (d : Fin 128) :
    Host.dynamicUpdateSlice (s := S2048x32x4x128) (u := S1x32x4x128) x u st hs (ix4 t b h d) = if t.val = n then u (ix4 0 b h d) else x (ix4 t b h d) := by
  have e0 : Host.clampedStart S2048x32x4x128 S1x32x4x128 hs.1 st (0 : Fin 4) = n := clamp4_0 st n _ h0 (by omega)
  have e1 : Host.clampedStart S2048x32x4x128 S1x32x4x128 hs.1 st (1 : Fin 4) = 0 := clamp4_1 st 0 _ h1 (by omega)
  have e2 : Host.clampedStart S2048x32x4x128 S1x32x4x128 hs.1 st (2 : Fin 4) = 0 := clamp4_2 st 0 _ h2 (by omega)
  have e3 : Host.clampedStart S2048x32x4x128 S1x32x4x128 hs.1 st (3 : Fin 4) = 0 := clamp4_3 st 0 _ h3 (by omega)
  rw [Host.dynamicUpdateSlice_apply]
  by_cases ht : t.val = n
  · rw [if_pos ht, dif_pos]
    · congr 1
      funext a; apply Fin.ext
      fin_cases a
      · show t.val - Host.clampedStart S2048x32x4x128 S1x32x4x128 _ st (0 : Fin 4) = 0
        rw [e0]; omega
      · show b.val - Host.clampedStart S2048x32x4x128 S1x32x4x128 _ st (1 : Fin 4) = b.val
        rw [e1]; omega
      · show h.val - Host.clampedStart S2048x32x4x128 S1x32x4x128 _ st (2 : Fin 4) = h.val
        rw [e2]; omega
      · show d.val - Host.clampedStart S2048x32x4x128 S1x32x4x128 _ st (3 : Fin 4) = d.val
        rw [e3]; omega
    · intro a
      fin_cases a
      · show Host.clampedStart S2048x32x4x128 S1x32x4x128 _ st (0 : Fin 4) ≤ t.val ∧ t.val < Host.clampedStart S2048x32x4x128 S1x32x4x128 _ st (0 : Fin 4) + 1
        rw [e0]; omega
      · show Host.clampedStart S2048x32x4x128 S1x32x4x128 _ st (1 : Fin 4) ≤ b.val ∧ b.val < Host.clampedStart S2048x32x4x128 S1x32x4x128 _ st (1 : Fin 4) + 32
        rw [e1]; omega
      · show Host.clampedStart S2048x32x4x128 S1x32x4x128 _ st (2 : Fin 4) ≤ h.val ∧ h.val < Host.clampedStart S2048x32x4x128 S1x32x4x128 _ st (2 : Fin 4) + 4
        rw [e2]; omega
      · show Host.clampedStart S2048x32x4x128 S1x32x4x128 _ st (3 : Fin 4) ≤ d.val ∧ d.val < Host.clampedStart S2048x32x4x128 S1x32x4x128 _ st (3 : Fin 4) + 128
        rw [e3]; omega
  · rw [if_neg ht, dif_neg]
    intro hh
    have : Host.clampedStart S2048x32x4x128 S1x32x4x128 hs.1 st (0 : Fin 4) ≤ t.val ∧ t.val < Host.clampedStart S2048x32x4x128 S1x32x4x128 hs.1 st (0 : Fin 4) + 1 := hh (0 : Fin 4)
    rw [e0] at this; omega

section
variable (S : State Ideal) (n : ℕ) (hn : n < 2048) (b : Fin 32) (h : Fin 4) (e d : Fin 128) (t : Fin 2048)
include hn
theorem b3_at : b3 n S (ix4 0 b h d) = S.main_v101_0 (ix4 ⟨n, hn⟩ b h d) := slice4 _ n hn _ (start_first n hn) rfl rfl rfl _ b h d
theorem b8_at : b8 n S (ix4 0 b h d) = S.main_v101_1 (ix4 ⟨n, hn⟩ b h d) := slice4 _ n hn _ (start_first n hn) rfl rfl rfl _ b h d
theorem b13_at : b13 n S (ix4 0 b h d) = S.main_v101_2 (ix4 ⟨n, hn⟩ b h d) := slice4 _ n hn _ (start_first n hn) rfl rfl rfl _ b h d
theorem b17_at : b17 n S (ix3 0 b h) = S.main_v101_3 (ix3 ⟨n, hn⟩ b h) := slice3 _ n hn _ (start_first n hn) rfl rfl _ b h
theorem b21_at : b21 n S (ix3 0 b h) = S.main_v101_4 (ix3 ⟨n, hn⟩ b h) := slice3 _ n hn _ (start_first n hn) rfl rfl _ b h
theorem b42_at : b42 n S (ix4 t b h d) = if t.val = n then b37 n S (ix3 b h d) else S.main_v101_7 (ix4 t b h d) := by
  refine (update4 S.main_v101_7 (b38 n S) n hn _ (start_first n hn) rfl rfl rfl _ t b h d).trans ?_
  congr 1
  pointwise [b38]
end

theorem b36_at (S : State Ideal) (n : ℕ) (b : Fin 32) (h : Fin 4) (e d : Fin 128) : b36 n S (ix4 b h e d) =
      S.main_v101_6 (ix4 b h e d) * b17 n S (ix3 0 b h) +
      b8 n S (ix4 0 b h e) * (b21 n S (ix3 0 b h) *
        (b13 n S (ix4 0 b h d) - ∑ x, b8 n S (ix4 0 b h x) * (S.main_v101_6 (ix4 b h x d) * b17 n S (ix3 0 b h)))) := by
  pointwise [b4, b9, b14, b18, b22, b23, b24, b25, b26, b27, b28, b29, b30, b31, b32, b33, b34, b35, b36]
theorem b37_at (S : State Ideal) (n : ℕ) (b : Fin 32) (h : Fin 4) (d : Fin 128) : b37 n S (ix3 b h d) = ∑ x, b3 n S (ix4 0 b h x) * b36 n S (ix4 b h x d) := by
  pointwise [b37, b4]

section
variable (a0 : FVec Ideal S65536x1536 .bf16) (a2 : FVec Ideal S65536x128 .f32) (a3 : FVec Ideal S4x1536 .f32) (a4 a5 : FVec Ideal S1x128 .f32)

/-- The state before token `n`. -/
def iter : ℕ → State Ideal
  | 0 => init (F := Ideal) a0 a2 a3 a4 a5
  | n + 1 => step n (iter n)

variable {s : Seq} {b : Fin 32} {a0 a2 a3 a4 a5}

/-- What holds before token `n`: the inputs are untouched, the state and the outputs so far are the model's. -/
structure Inv (s : Seq) (b : Fin 32) (n : ℕ) (S : State Ideal) : Prop where
  q : ∀ (t : Fin 2048) (h : Fin 4) (d : Fin 128), S.main_v101_0 (ix4 t b h d) = ((s.q h t.val d : ℝ) : EReal)
  k : ∀ (t : Fin 2048) (h : Fin 4) (d : Fin 128), S.main_v101_1 (ix4 t b h d) = ((s.k h t.val d : ℝ) : EReal)
  v : ∀ (t : Fin 2048) (h : Fin 4) (d : Fin 128), S.main_v101_2 (ix4 t b h d) = ((s.v h t.val d : ℝ) : EReal)
  g : ∀ (t : Fin 2048) (h : Fin 4), S.main_v101_3 (ix3 t b h) = ((Real.exp (s.ld (Seq.lg h) t.val) : ℝ) : EReal)
  be : ∀ (t : Fin 2048) (h : Fin 4), S.main_v101_4 (ix3 t b h) = ((s.be (Seq.lb h) t.val : ℝ) : EReal)
  st : ∀ (h : Fin 4) (e d : Fin 128), S.main_v101_6 (ix4 b h e d) = ((s.st h n e d : ℝ) : EReal)
  out : ∀ (t : Fin 2048) (h : Fin 4) (d : Fin 128), t.val < n → S.main_v101_7 (ix4 t b h d) = ((s.out h t.val d : ℝ) : EReal)

theorem inv_init (H : GoodR s b a0 a2 a3 a4 a5) : Inv s b 0 (init (F := Ideal) a0 a2 a3 a4 a5) where
  q t h d := q_r H t h d
  k t h d := k_r H t h d
  v t h d := v_r H t h d
  g t h := decay_r H t h
  be t h := beta_r H t h
  st h e d := by
    show K_main_v99 (F := Ideal) (ix4 b h e d) = _
    pointwise [K_main_v99, K_main_cst_11]
    rfl
  out t h d ht := absurd ht (by omega)

theorem st_next {S : State Ideal} {n : ℕ} (hn : n < 2048) (I : Inv s b n S) (h : Fin 4) (e d : Fin 128) : b36 n S (ix4 b h e d) = ((s.st h (n + 1) e d : ℝ) : EReal) := by
  rw [b36_at]
  simp only [b8_at S n hn, b13_at S n hn, b17_at S n hn, b21_at S n hn, I.k, I.v, I.g, I.be, I.st, ← EReal.coe_mul, csum, ← EReal.coe_sub, ← EReal.coe_add]
  rfl

theorem out_next {S : State Ideal} {n : ℕ} (hn : n < 2048) (I : Inv s b n S) (h : Fin 4) (d : Fin 128) : b37 n S (ix3 b h d) = ((s.out h n d : ℝ) : EReal) := by
  rw [b37_at]
  simp only [b3_at S n hn, I.q, st_next hn I, ← EReal.coe_mul, csum]
  rfl

theorem inv_step {S : State Ideal} {n : ℕ} (hn : n < 2048) (I : Inv s b n S) : Inv s b (n + 1) (step n S) where
  q := I.q
  k := I.k
  v := I.v
  g := I.g
  be := I.be
  st h e d := by rw [step_main_v101_6]; exact st_next hn I h e d
  out t h d ht := by
    rw [step_main_v101_7, b42_at S n hn]
    by_cases e : t.val = n
    · rw [if_pos e, out_next hn I, e]
    · rw [if_neg e]; exact I.out t h d (by omega)

theorem inv_iter (H : GoodR s b a0 a2 a3 a4 a5) : ∀ n ≤ 2048, Inv s b n (iter a0 a2 a3 a4 a5 n)
  | 0, _ => inv_init H
  | n + 1, hn => inv_step (by omega) (inv_iter H n (by omega))

end

theorem R_at (S : State Ideal) (a1 : FVec Ideal S65536x512 .bf16) (a6 : FVec Ideal S1x128 .f32) (r : Fin 65536) (e : Fin 512) (t : Fin 2048) (b : Fin 32) (h : Fin 4) (d : Fin 128)
    (hr : r.val = 2048 * b.val + t.val) (he : e.val = 128 * h.val + d.val) (o : Fin 128 → EReal) (ho : ∀ d, S.main_v101_7 (ix4 t b h d) = o d) :
    R_main_v128 S a1 a6 (ix2 r e) = Cert.KernelIdeal.Own.lastStep o (fun x => a6 (ix2 0 x)) (a1 (ix2 r e)) d := by
  pointwise [R_main_v128]
  have E : ∀ x : Fin 128, S.main_v101_7 (ix4 ⟨r.val % 2048, by omega⟩ ⟨r.val / 2048, by omega⟩ ⟨e.val / 128, by omega⟩ x) = o x := fun x => by
    rw [← ho x]
    congr 1
    rw [show (⟨r.val % 2048, by omega⟩ : Fin 2048) = t from Fin.ext (by show r.val % 2048 = _; omega),
      show (⟨r.val / 2048, by omega⟩ : Fin 32) = b from Fin.ext (by show r.val / 2048 = _; omega),
      show (⟨e.val / 128, by omega⟩ : Fin 4) = h from Fin.ext (by show e.val / 128 = _; omega)]
  simp only [E]
  rw [show (⟨e.val % 128, by omega⟩ : Fin 128) = d from Fin.ext (by show e.val % 128 = _; omega)]
  rfl

end Cert.ReferenceIdeal.Own
end
-- ==== Proof.Finite.lean ====
/- What the precondition says: every element of the five arguments that enter the recurrence is a real number. -/
module

public import proofs.«01_k».proof.Pre_finite_inputs
public import Idealize.ShloMosaic.Lib.ReduceAll
public import Idealize.ShloMosaic.Lib.Pointwise

@[expose] public section
noncomputable section
namespace Cert.Pre_finite_inputs
open Idealize.ShloMosaic

instance facts : Cert.Pre_finite_inputs.Facts where
  bitsLt_bf16_f32 := by decide
  bcast_S_S65536x1536 := by decide
  reducesTo_S65536x1536_S_d0_1 := by decide
  h_S_ := by decide
  bcast_S_S65536x128 := by decide
  reducesTo_S65536x128_S_d0_1 := by decide
  bcast_S_S4x1536 := by decide
  reducesTo_S4x1536_S_d0_1 := by decide
  bcast_S_S1x128 := by decide
  reducesTo_S1x128_S_d0_1 := by decide

theorem inf_eq : Ideal.ofBits .f32 0x7F800000#32 = (⊤ : EReal) := by
  simp [Ideal.ofBits, Ideal.ieee]

theorem real_of_bit (x : EReal) (h : Ideal.cmp .olt (max x (-x)) (Ideal.ofBits .f32 0x7F800000#32) = 1#1) : x = ((x.toReal : ℝ) : EReal) := by
  rw [inf_eq] at h
  induction x using EReal.rec with
  | bot => exact absurd h (by simp [Ideal.cmp])
  | top => exact absurd h (by simp [Ideal.cmp])
  | coe r => rfl

/-- The five arguments hold real numbers. -/
structure Reals (a0 : FVec Ideal S65536x1536 .bf16) (a2 : FVec Ideal S65536x128 .f32) (a3 : FVec Ideal S4x1536 .f32) (a4 a5 : FVec Ideal S1x128 .f32) : Prop where
  h0 : ∀ i, a0 i = (((a0 i : EReal).toReal : ℝ) : EReal)
  h2 : ∀ i, a2 i = (((a2 i : EReal).toReal : ℝ) : EReal)
  h3 : ∀ i, a3 i = (((a3 i : EReal).toReal : ℝ) : EReal)
  h4 : ∀ i, a4 i = (((a4 i : EReal).toReal : ℝ) : EReal)
  h5 : ∀ i, a5 i = (((a5 i : EReal).toReal : ℝ) : EReal)

instance : Subsingleton S_.Idx := ⟨fun a b => funext fun i => i.elim0⟩

theorem reals (a0 : FVec Ideal S65536x1536 .bf16) (a1 : FVec Ideal S65536x512 .bf16) (a2 : FVec Ideal S65536x128 .f32) (a3 : FVec Ideal S4x1536 .f32) (a4 a5 a6 : FVec Ideal S1x128 .f32)
    (h : fn (F := Ideal) a0 a1 a2 a3 a4 a5 a6 = fun _ => 1#1) : Reals a0 a2 a3 a4 a5 := by
  have e := congrFun h (Shape.Idx.first facts.h_S_)
  unfold fn fn_part1 at e
  obtain ⟨e, e5⟩ := IntOp.andi_eq_one.1 e
  obtain ⟨e, e4⟩ := IntOp.andi_eq_one.1 e
  obtain ⟨e, e3⟩ := IntOp.andi_eq_one.1 e
  obtain ⟨e0, e2⟩ := IntOp.andi_eq_one.1 e
  exact ⟨fun i => real_of_bit _ (Host.reduce_andi_all _ _ _ _ _ e0 i), fun i => real_of_bit _ (Host.reduce_andi_all _ _ _ _ _ e2 i),
    fun i => real_of_bit _ (Host.reduce_andi_all _ _ _ _ _ e3 i), fun i => real_of_bit _ (Host.reduce_andi_all _ _ _ _ _ e4 i),
    fun i => real_of_bit _ (Host.reduce_andi_all _ _ _ _ _ e5 i)⟩

end Cert.Pre_finite_inputs
end
-- ==== Proof.Equal.lean ====
/- For real inputs the kernel's array and the reference's are the same. -/
module

public import proofs.«01_k».proof.Proof.KernelRead
public import proofs.«01_k».proof.Proof.RefLoop
public import proofs.«01_k».proof.Proof.Finite

@[expose] public section
set_option maxRecDepth 16384
noncomputable section
namespace Cert.Equal
open Cert.KernelIdeal Cert.Chunk Cert.KernelIdeal.Own
open Idealize.ShloMosaic Idealize.ShloMosaic.TcCoe Idealize.ShloMosaic.Tactic

/-- Sequence `b` of the arguments, as real numbers. -/
def seqOf (x : FVec Ideal S65536x1536 .bf16) (sm : FVec Ideal S65536x128 .f32) (w : FVec Ideal S4x1536 .f32) (al dt : FVec Ideal S1x128 .f32) (b : Fin 32) : Seq where
  x t ch := (x (ix2 ⟨(2048 * b.val + t) % 65536, Nat.mod_lt _ (by decide)⟩ ch) : EReal).toReal
  w n ch := (w (ix2 n ch) : EReal).toReal
  sm t l := (sm (ix2 ⟨(2048 * b.val + t) % 65536, Nat.mod_lt _ (by decide)⟩ l) : EReal).toReal
  al l := (al (ix2 0 l) : EReal).toReal
  dt l := (dt (ix2 0 l) : EReal).toReal

section
variable (a0 : FVec Ideal S65536x1536 .bf16) (a1 : FVec Ideal S65536x512 .bf16) (a2 : FVec Ideal S65536x128 .f32) (a3 : FVec Ideal S4x1536 .f32) (a4 a5 a6 : FVec Ideal S1x128 .f32)
  (R : Cert.Pre_finite_inputs.Reals a0 a2 a3 a4 a5)
include R

theorem x_at (b : Fin 32) (r : Fin 65536) (t : ℕ) (ch : Fin 1536) (hr : r.val = 2048 * b.val + t) :
    a0 (ix2 r ch) = (((seqOf a0 a2 a3 a4 a5 b).x t ch : ℝ) : EReal) := by
  rw [R.h0]
  unfold seqOf
  rw [show r = ⟨(2048 * b.val + t) % 65536, Nat.mod_lt _ (by decide)⟩ from Fin.ext (by show r.val = _ % _; omega)]
theorem sm_at (b : Fin 32) (r : Fin 65536) (t : ℕ) (l : Fin 128) (hr : r.val = 2048 * b.val + t) :
    a2 (ix2 r l) = (((seqOf a0 a2 a3 a4 a5 b).sm t l : ℝ) : EReal) := by
  rw [R.h2]
  unfold seqOf
  rw [show r = ⟨(2048 * b.val + t) % 65536, Nat.mod_lt _ (by decide)⟩ from Fin.ext (by show r.val = _ % _; omega)]

theorem goodR (b : Fin 32) : Cert.ReferenceIdeal.Own.GoodR (seqOf a0 a2 a3 a4 a5 b) b a0 a2 a3 a4 a5 where
  x r t ch _ hr := x_at a0 a2 a3 a4 a5 R b r t ch (by omega)
  sm r t l _ hr := sm_at a0 a2 a3 a4 a5 R b r t l (by omega)
  w n ch := R.h3 _
  al l := R.h4 _
  dt l := R.h5 _

theorem kernel_at (b : Fin 32) (t : Fin 2048) (h : Fin 4) (d : Fin 128) (r : Fin 65536) (e : Fin 512) (hr : r.val = 2048 * b.val + t.val) (he : e.val = 128 * h.val + d.val) :
    (OutV (F := Ideal) (rows a0 b) (rows a1 b) (rows a2 b) a3 a4 a5 a6 (ix2 t e) : EReal) =
      lastStep (fun x => (((seqOf a0 a2 a3 a4 a5 b).out h t.val x : ℝ) : EReal)) (fun x => a6 (ix2 0 x)) (a1 (ix2 r e)) d := by
  refine (outV_r (s := seqOf a0 a2 a3 a4 a5 b) (rows a1 b) a6 (fun q ch => x_at a0 a2 a3 a4 a5 R b _ q.val ch rfl)
    (fun q l => sm_at a0 a2 a3 a4 a5 R b _ q.val l rfl) (fun n ch => R.h3 _) (fun l => R.h4 _) (fun l => R.h5 _) t h d e he).trans ?_
  rw [show r = ⟨2048 * b.val + t.val, by omega⟩ from Fin.ext hr]
  rfl

theorem equal : seqOut a0 a1 a2 a3 a4 a5 a6 =
    Cert.ReferenceIdeal.Step.R_main_v128 (F := Ideal) (Cert.ReferenceIdeal.Own.iter a0 a2 a3 a4 a5 2048) a1 a6 := by
  funext j
  obtain ⟨r, e, rfl⟩ : ∃ r e, j = ix2 (n0 := 65536) (n1 := 512) r e := ⟨j 0, j 1, eq_ix2 j⟩
  have hb : r.val / 2048 < 32 := by omega
  have ht : r.val % 2048 < 2048 := by omega
  have hh : e.val / 128 < 4 := by omega
  have hd : e.val % 128 < 128 := by omega
  have hr : r.val = 2048 * (r.val / 2048) + r.val % 2048 := by omega
  have he : e.val = 128 * (e.val / 128) + e.val % 128 := by omega
  refine (kernel_at a0 a1 a2 a3 a4 a5 a6 R ⟨_, hb⟩ ⟨_, ht⟩ ⟨_, hh⟩ ⟨_, hd⟩ r e hr he).trans ?_
  exact (Cert.ReferenceIdeal.Own.R_at (Cert.ReferenceIdeal.Own.iter a0 a2 a3 a4 a5 2048) a1 a6 r e ⟨_, ht⟩ ⟨_, hb⟩ ⟨_, hh⟩ ⟨_, hd⟩ hr he _
    (fun d => (Cert.ReferenceIdeal.Own.inv_iter (goodR a0 a2 a3 a4 a5 R ⟨_, hb⟩) 2048 (le_refl _)).out ⟨_, ht⟩ ⟨_, hh⟩ d ht)).symm
end

end Cert.Equal
end
-- ==== Proof.Rows.lean ====
/- Functions of one row that the row-tiled calls share: the root-mean-square norm and the gated feed-forward. -/
module

public import Idealize.ShloMosaic.Lib.Pointwise
public import Idealize.ShloMosaic.Lib.KernelVsHost
public import Idealize.ShloMosaic.Lib.Pipeline.Value
public import Idealize.ShloMosaic.Lib.Pipeline.ValueKit.Basic

@[expose] public section
noncomputable section
namespace Cert.Rows
open Idealize.ShloMosaic Idealize.ShloMosaic.TcCoe

/-- The root-mean-square norm of a row of 1024 entries, times the gain, at entry `j`. -/
def nrm (f g : Fin 1024 → EReal) (j : Fin 1024) : EReal :=
  f j * Ideal.rsqrt (Ideal.div (∑ x, f x * f x) (Ideal.ofBits FTy.f32 1149239296#32) + Ideal.ofBits FTy.f32 897988541#32) * g j

/-- One hidden unit: the gated activation of two inner products. -/
def unit (u a b : Fin 1024 → EReal) : EReal := (∑ k, u k * a k) * Ideal.logistic (∑ k, u k * a k) * ∑ k, u k * b k

/-- The feed-forward of a row before its output norm. -/
def hid (u : Fin 1024 → EReal) (wg wu : Fin 1024 → Fin 2816 → EReal) (wd : Fin 2816 → Fin 1024 → EReal) (j : Fin 1024) : EReal :=
  ∑ k, unit u (fun r => wg r k) (fun r => wu r k) * wd k j

/-- The feed-forward half step of a row. -/
def ffn (x pre : Fin 1024 → EReal) (wg wu : Fin 1024 → Fin 2816 → EReal) (wd : Fin 2816 → Fin 1024 → EReal) (post : Fin 1024 → EReal) (j : Fin 1024) : EReal :=
  x j + Ideal.ofBits FTy.f32 0x3F000000#32 * nrm (hid (nrm x pre) wg wu wd) post j

/-- A sum over 2816 indices by eleven runs of 256. -/
theorem sum_runs (f : Fin 2816 → EReal) : ∑ k, f k = ∑ c : Fin 11, ∑ x : Fin 256, f ⟨256 * c.val + x.val, by omega⟩ := by
  rw [← Fintype.sum_prod_type']
  refine (Equiv.sum_comp (finProdFinEquiv : Fin 11 × Fin 256 ≃ Fin 2816) f).symm.trans ?_
  refine Finset.sum_congr rfl fun p _ => congrArg f (Fin.ext ?_)
  show p.2.val + 256 * p.1.val = 256 * p.1.val + p.2.val
  omega

theorem sum_eleven (g : Fin 11 → EReal) : ∑ c, g c = g 0 + g 1 + g 2 + g 3 + g 4 + g 5 + g 6 + g 7 + g 8 + g 9 + g 10 := by
  simp only [Fin.sum_univ_castSucc, Fin.sum_univ_zero, zero_add]; rfl

/-- A load of a part of a matrix, at an index. -/
theorem ld_at {n0 n1 a b : ℕ} {e : EltTy} (x : Vec Ideal ⟨2, ![n0, n1]⟩ e) (p q : ℕ) (hb) (i : Fin a) (j : Fin b) (i' : Fin n0) (j' : Fin n1)
    (hi : i'.val = p + i.val) (hj : j'.val = q + j.val) :
    View.ld x (Rect.unit (s := ⟨2, ![n0, n1]⟩) ![p, q] ![a, b] hb) (ix2 i j) = x (ix2 i' j') := by
  show x _ = x _
  congr 1
  funext r; apply Fin.ext
  fin_cases r
  · show p + 1 * i.val = i'.val; omega
  · show q + 1 * j.val = j'.val; omega

end Cert.Rows
end
-- ==== Proof.FfnRead.lean ====
/- The feed-forward call's output block at an index, and its reference's result at an index: the same function of a row. -/
module

public import proofs.«01_k».proof.Proof.Gen.FfnIdeal.Value
public import proofs.«01_k».proof.Proof.Gen.FfnReferenceIdeal.Run
public import proofs.«01_k».proof.Proof.Rows

@[expose] public section
set_option maxRecDepth 16384
noncomputable section
namespace Cert.FfnIdeal.Own
open Cert.FfnIdeal Cert.FfnIdeal.Gen Cert.Rows
open Idealize.ShloMosaic Idealize.ShloMosaic.TcCoe Idealize.ShloMosaic.Tactic

/-- What one run of 256 hidden units adds. -/
def ch (q : FVec Ideal S1024x1024 .bf16) (a b : Vec Ideal S1024x256 .bf16) (d : Vec Ideal S256x1024 .bf16) (i j : Fin 1024) : EReal :=
  ∑ x, unit (fun k => q (ix2 i k)) (fun k => a (ix2 k x)) (fun k => b (ix2 k x)) * d (ix2 x j)

theorem pay2_at (v0 : Vec Ideal S1024x1024 .f32) (v1 : Vec Ideal S1x1024 .f32) (i j : Fin 1024) :
    (k0_pay2 v0 v1 (ix2 i j) : EReal) = nrm (fun k => v0 (ix2 i k)) (fun k => v1 (ix2 0 k)) j := by
  pointwise [k0_pay2]; rfl

theorem pay3_at (v0 : Vec Ideal S1024x1024 .f32) (v1 : Vec Ideal S1x1024 .f32) a b d (i j : Fin 1024) :
    (k0_pay3 v0 v1 a b d (ix2 i j) : EReal) = ch (k0_pay2 v0 v1) a b d i j := by
  pointwise [k0_pay3]; rfl

theorem pay6_at q acc v0 v1 a b d a' b' d' a'' b'' d'' (hq : q = k0_pay2 v0 v1) (i j : Fin 1024) :
    (k0_pay6 (F := Ideal) q acc (k0_pay4 v0 v1 a) (k0_pay5 b) (constant S1024x256 .f32 0x00000000#32) d a' b' d' a'' b'' d'' (ix2 i j) : EReal)
      = acc (ix2 i j) + ch q a b d i j + ch q a' b' d' i j + ch q a'' b'' d'' i j := by
  subst hq
  pointwise [k0_pay6, k0_pay4, k0_pay5]; rfl

theorem pay7_at q acc a b d a' b' d' (i j : Fin 1024) :
    (k0_pay7 (F := Ideal) q acc a b d a' b' d' (ix2 i j) : EReal) = acc (ix2 i j) + ch q a b d i j + ch q a' b' d' i j := by
  pointwise [k0_pay7]; rfl

theorem pay9_at q acc a b d a' b' d' a'' b'' d'' (i j : Fin 1024) :
    (k0_pay9 (F := Ideal) q acc (k0_pay8 q a b) d a' b' d' a'' b'' d'' (ix2 i j) : EReal)
      = acc (ix2 i j) + ch q a b d i j + ch q a' b' d' i j + ch q a'' b'' d'' i j := by
  pointwise [k0_pay9, k0_pay8]; rfl

theorem pay11_at q acc a b d a' b' d' g (i j : Fin 1024) :
    (k0_pay11 (F := Ideal) q acc (k0_pay10 q a) b d a' b' d' g (ix2 i j) : EReal)
      = nrm (fun j => acc (ix2 i j) + ch q a b d i j + ch q a' b' d' i j) (fun k => g (ix2 0 k)) j := by
  pointwise [k0_pay11, k0_pay10]; rfl

theorem out_at (x0 : Vec Ideal S1024x1024 .f32) (x1 : Vec Ideal S1x1024 .f32) (x2 x3 : Vec Ideal S1024x2816 .bf16) (x4 : Vec Ideal S2816x1024 .bf16) (x5 : Vec Ideal S1x1024 .f32) (i j : Fin 1024) :
    (out0_6 x0 x1 x2 x3 x4 x5 (ix2 i j) : EReal) = ffn (fun k => x0 (ix2 i k)) (fun k => x1 (ix2 0 k)) (fun r k => x2 (ix2 r k)) (fun r k => x3 (ix2 r k)) (fun k j => x4 (ix2 k j)) (fun k => x5 (ix2 0 k)) j := by
  unfold out0_6 k0_pay13
  rw [View.canon_cons_unit_lit _ _ _ (by decide), View.ld_unit_lit _ x0 (by decide), View.ld_unit_lit _ x1 (by decide), View.ld_unit_lit _ x5 (by decide)]
  pointwise [k0_pay1, k0_pay12]
  unfold ffn
  rw [pay11_at]
  refine congrArg₂ (· + ·) rfl (congrArg₂ (· * ·) rfl (congrArg (fun f => nrm f _ j) (funext fun j => ?_)))
  rw [pay9_at, pay7_at, pay6_at _ _ _ _ _ _ _ _ _ _ _ _ _ rfl, pay3_at]
  unfold hid
  rw [sum_runs]
  have hc : ∀ (c : Fin 11) (h2 h4), ch (k0_pay2 x0 x1) (View.ld x2 (Rect.unit (s := S1024x2816) ![0, 256 * c.val] S1024x256.size h2)) (View.ld x3 (Rect.unit (s := S1024x2816) ![0, 256 * c.val] S1024x256.size h2))
      (View.ld x4 (Rect.unit (s := S2816x1024) ![256 * c.val, 0] S256x1024.size h4)) i j
      = ∑ x : Fin 256, unit (nrm (fun k => x0 (ix2 i k)) (fun k => x1 (ix2 0 k))) (fun r => x2 (ix2 r ⟨256 * c.val + x.val, by omega⟩)) (fun r => x3 (ix2 r ⟨256 * c.val + x.val, by omega⟩)) * x4 (ix2 ⟨256 * c.val + x.val, by omega⟩ j) := by
    intro c h2 h4
    unfold ch
    refine Finset.sum_congr rfl fun x _ => congrArg₂ (· * ·) ?_ (ld_at x4 _ _ _ _ _ _ _ rfl (Nat.zero_add _).symm)
    exact congr (congr (congrArg unit (funext fun k => pay2_at x0 x1 i k)) (funext fun k => ld_at x2 _ _ _ _ _ _ _ (Nat.zero_add _).symm rfl)) (funext fun k => ld_at x3 _ _ _ _ _ _ _ (Nat.zero_add _).symm rfl)
  rw [sum_eleven]
  have e0 := hc 0 inb_S1024x2816_S1024x256_0_0 inb_S2816x1024_S256x1024_0_0
  have e1 := hc 1 inb_S1024x2816_S1024x256_0_256 inb_S2816x1024_S256x1024_256_0
  have e2 := hc 2 inb_S1024x2816_S1024x256_0_512 inb_S2816x1024_S256x1024_512_0
  have e3 := hc 3 inb_S1024x2816_S1024x256_0_768 inb_S2816x1024_S256x1024_768_0
  have e4 := hc 4 inb_S1024x2816_S1024x256_0_1024 inb_S2816x1024_S256x1024_1024_0
  have e5 := hc 5 inb_S1024x2816_S1024x256_0_1280 inb_S2816x1024_S256x1024_1280_0
  have e6 := hc 6 inb_S1024x2816_S1024x256_0_1536 inb_S2816x1024_S256x1024_1536_0
  have e7 := hc 7 inb_S1024x2816_S1024x256_0_1792 inb_S2816x1024_S256x1024_1792_0
  have e8 := hc 8 inb_S1024x2816_S1024x256_0_2048 inb_S2816x1024_S256x1024_2048_0
  have e9 := hc 9 inb_S1024x2816_S1024x256_0_2304 inb_S2816x1024_S256x1024_2304_0
  have e10 := hc 10 inb_S1024x2816_S1024x256_0_2560 inb_S2816x1024_S256x1024_2560_0
  exact congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·)
    e0 e1) e2) e3) e4) e5) e6) e7) e8) e9) e10

end Cert.FfnIdeal.Own

namespace Cert.FfnReferenceIdeal.Own
open Cert.FfnReferenceIdeal Cert.FfnReferenceIdeal.Gen Cert.FfnReferenceIdeal.Value Cert.Rows
open Idealize.ShloMosaic Idealize.ShloMosaic.TcCoe Idealize.ShloMosaic.Tactic

theorem out_at (m : (ℓ : Loc nD τ sig) → Buf (Elt Ideal) ℓ) (c : Dev nD) (i : Fin 65536) (j : Fin 1024) :
    (res_main_v39 m c (ix2 i j) : EReal) = ffn (fun k => m (c.tc.loc main_arg0) (ix2 i k)) (fun k => m (c.tc.loc main_arg1) (ix1 k)) (fun r k => m (c.tc.loc main_arg2) (ix2 r k))
      (fun r k => m (c.tc.loc main_arg3) (ix2 r k)) (fun k j => m (c.tc.loc main_arg4) (ix2 k j)) (fun k => m (c.tc.loc main_arg5) (ix1 k)) j := by
  pointwise [res_main_v39]; rfl

end Cert.FfnReferenceIdeal.Own
end
-- ==== Proof.FfnEqual.lean ====
/- The feed-forward call: the output array as one function of the arguments, equal to the reference's result. -/
module

public import proofs.«01_k».proof.Proof.Gen.Ffn.Frame
public import proofs.«01_k».proof.Defs
public import proofs.«01_k».proof.Proof.FfnRead
public import Idealize.ShloMosaic.Lib.Quiescent

@[expose] public section
set_option maxRecDepth 16384
noncomputable section
namespace Cert.FfnIdeal.Own
open Cert.FfnIdeal Cert.FfnIdeal.Gen Cert.Rows
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg)

/-- The output array. -/
def outArr (c : Dev nD) : Vec Ideal S65536x1024 .f32 := fun y =>
  ffn (fun k => m (c.tc.loc main_arg0) (ix2 (y 0) k)) (fun k => m (c.tc.loc main_arg1) (ix1 k)) (fun r k => m (c.tc.loc main_arg2) (ix2 r k))
    (fun r k => m (c.tc.loc main_arg3) (ix2 r k)) (fun k j => m (c.tc.loc main_arg4) (ix2 k j)) (fun k => m (c.tc.loc main_arg5) (ix1 k)) (y 1)

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![t.val, 0] := by decide +kernel

theorem v0_at (c : Dev nD) (k : Fin 1024) : (V m c main_v0 (ix2 0 k) : EReal) = m (c.tc.loc main_arg1) (ix1 k) := by
  have h : V m c main_v0 = shapeCast S1x1024 (m (c.tc.loc main_arg1)) shapeCasts_S1024_S1x1024 := by
    show StableHlo.after hostOps0 _ _ = _
    after_results_simp; rfl
  rw [h]; pointwise []
theorem v1_at (c : Dev nD) (r : Fin 1024) (k : Fin 2816) : (V m c main_v1 (ix2 r k) : EReal) = m (c.tc.loc main_arg2) (ix2 r k) := by
  have h : V m c main_v1 = (truncf (F := Ideal) .bf16 (m (c.tc.loc main_arg2) : FVec Ideal S1024x2816 .f32) bitsLt_bf16_f32 : FVec Ideal S1024x2816 .bf16) := by
    show StableHlo.after hostOps0 _ _ = _
    after_results_simp
  rw [h]; rfl
theorem v2_at (c : Dev nD) (r : Fin 1024) (k : Fin 2816) : (V m c main_v2 (ix2 r k) : EReal) = m (c.tc.loc main_arg3) (ix2 r k) := by
  have h : V m c main_v2 = (truncf (F := Ideal) .bf16 (m (c.tc.loc main_arg3) : FVec Ideal S1024x2816 .f32) bitsLt_bf16_f32 : FVec Ideal S1024x2816 .bf16) := by
    show StableHlo.after hostOps0 _ _ = _
    after_results_simp
  rw [h]; rfl
theorem v3_at (c : Dev nD) (k : Fin 2816) (r : Fin 1024) : (V m c main_v3 (ix2 k r) : EReal) = m (c.tc.loc main_arg4) (ix2 k r) := by
  have h : V m c main_v3 = (truncf (F := Ideal) .bf16 (m (c.tc.loc main_arg4) : FVec Ideal S2816x1024 .f32) bitsLt_bf16_f32 : FVec Ideal S2816x1024 .bf16) := by
    show StableHlo.after hostOps0 _ _ = _
    after_results_simp
  rw [h]; rfl
theorem v4_at (c : Dev nD) (k : Fin 1024) : (V m c main_v4 (ix2 0 k) : EReal) = m (c.tc.loc main_arg5) (ix1 k) := by
  have h : V m c main_v4 = shapeCast S1x1024 (m (c.tc.loc main_arg5)) shapeCasts_S1024_S1x1024 := by
    show StableHlo.after hostOps0 _ _ = _
    after_results_simp; rfl
  rw [h]; pointwise []

theorem blk0 (c : Dev nD) (t : Fin cfg0.N) (i k : Fin 1024) (r : Fin 65536) (hr : r.val = t.val * 1024 + i.val) : (iblk m c 0 t (ix2 i k) : EReal) = m (c.tc.loc main_arg0) (ix2 r k) := by
  refine (congrArg (V m c main_arg0) (?_ : (win0_0.rect t).emb (ix2 i k) = ix2 r k)).trans (congrFun (V_main_arg0 m c) _)
  funext a; apply Fin.ext
  rw [win0_0.rect_emb_val t _ a, idx0]
  fin_cases a
  · exact hr.symm
  · show 0 * 1024 + k.val = k.val; omega
theorem blk1 (c : Dev nD) (t : Fin cfg0.N) : iblk m c 1 t = V m c main_v0 := by
  funext y
  refine congrArg (V m c main_v0) (?_ : (win0_1.rect t).emb y = y)
  funext a; apply Fin.ext
  rw [win0_1.rect_emb_val t _ a, idx1]
  fin_cases a
  · show 0 * 1 + (y 0).val = (y 0).val; omega
  · show 0 * 1024 + (y 1).val = (y 1).val; omega
theorem blk2 (c : Dev nD) (t : Fin cfg0.N) : iblk m c 2 t = V m c main_v1 := by
  funext y
  refine congrArg (V m c main_v1) (?_ : (win0_2.rect t).emb y = y)
  funext a; apply Fin.ext
  rw [win0_2.rect_emb_val t _ a, idx2]
  fin_cases a
  · show 0 * 1024 + (y 0).val = (y 0).val; omega
  · show 0 * 2816 + (y 1).val = (y 1).val; omega
theorem blk3 (c : Dev nD) (t : Fin cfg0.N) : iblk m c 3 t = V m c main_v2 := by
  funext y
  refine congrArg (V m c main_v2) (?_ : (win0_3.rect t).emb y = y)
  funext a; apply Fin.ext
  rw [win0_3.rect_emb_val t _ a, idx3]
  fin_cases a
  · show 0 * 1024 + (y 0).val = (y 0).val; omega
  · show 0 * 2816 + (y 1).val = (y 1).val; omega
theorem blk4 (c : Dev nD) (t : Fin cfg0.N) : iblk m c 4 t = V m c main_v3 := by
  funext y
  refine congrArg (V m c main_v3) (?_ : (win0_4.rect t).emb y = y)
  funext a; apply Fin.ext
  rw [win0_4.rect_emb_val t _ a, idx4]
  fin_cases a
  · show 0 * 2816 + (y 0).val = (y 0).val; omega
  · show 0 * 1024 + (y 1).val = (y 1).val; omega
theorem blk5 (c : Dev nD) (t : Fin cfg0.N) : iblk m c 5 t = V m c main_v4 := by
  funext y
  refine congrArg (V m c main_v4) (?_ : (win0_5.rect t).emb y = y)
  funext a; apply Fin.ext
  rw [win0_5.rect_emb_val t _ a, idx5]
  fin_cases a
  · show 0 * 1 + (y 0).val = (y 0).val; omega
  · show 0 * 1024 + (y 1).val = (y 1).val; omega

/-- What tile `t` writes back is its block of the array. -/
theorem flushed (c : Dev nD) (t : Fin cfg0.N) :
    (dats m 0 c).flushed 6 t = ((cfg0.win 6).blk t).view.read (Elt Ideal) (outArr m c) := by
  show (cfg0.win 6).cut (grid0.coords t) ((dats m 0 c).after 6 t) = _
  rw [after0_6]
  funext y
  show (out0_6 (F := Ideal) _ _ _ _ _ _ y : EReal) = outArr m c ((win0_6.rect t).emb y)
  obtain ⟨i, j, rfl⟩ : ∃ i j : Fin 1024, y = ix2 i j := ⟨y 0, y 1, by funext a; fin_cases a <;> rfl⟩
  have ht : t.val < 64 := t.isLt
  have e : (win0_6.rect t).emb (ix2 i j) = ix2 (⟨t.val * 1024 + i.val, by omega⟩ : Fin 65536) j := by
    funext a; apply Fin.ext
    rw [win0_6.rect_emb_val t _ a, idx6]
    fin_cases a
    · rfl
    · show 0 * 1024 + j.val = j.val; omega
  rw [e]
  exact (out_at _ _ _ _ _ _ i j).trans (congr (congr (congr (congr (congr (congr (congrArg ffn
    (funext fun k => blk0 m c t i k ⟨t.val * 1024 + i.val, by omega⟩ rfl))
    (funext fun k => (congrFun (blk1 m c t) _).trans (v0_at m c k)))
    (funext fun r => funext fun k => (congrFun (blk2 m c t) _).trans (v1_at m c r k)))
    (funext fun r => funext fun k => (congrFun (blk3 m c t) _).trans (v2_at m c r k)))
    (funext fun r => funext fun k => (congrFun (blk4 m c t) _).trans (v3_at m c r k)))
    (funext fun k => (congrFun (blk5 m c t) _).trans (v4_at m c k))) (rfl : j = j))

theorem arr (c : Dev nD) : (dats m 0 c).arrAt 6 cfg0.N = outArr m c := by
  refine Dat.arrAt_eq_of_cover _ 6 _ (fun t _ => flushed m c t) fun i => ?_
  have h0 : (i 0).val < 65536 := (i 0).isLt
  obtain ⟨t, ht⟩ : ∃ t : Fin cfg0.N, t.val = (i 0).val / 1024 := ⟨⟨(i 0).val / 1024, by show _ < 64; omega⟩, rfl⟩
  refine ⟨t, flush0_6 _, ?_⟩
  have e : (win0_6.rect t).emb (ix2 (n0 := 1024) (n1 := 1024) ⟨(i 0).val % 1024, by omega⟩ (i 1)) = i := by
    funext a; apply Fin.ext
    rw [win0_6.rect_emb_val _ _ a, idx6]
    fin_cases a
    · show t.val * 1024 + (i 0).val % 1024 = (i 0).val; omega
    · show 0 * 1024 + (i 1).val = (i 1).val; omega
  have hm := View.emb_mem_set ((cfg0.win 6).blk t).view (ix2 (n0 := 1024) (n1 := 1024) ⟨(i 0).val % 1024, by omega⟩ (i 1))
  rwa [show ((cfg0.win 6).blk t).view.emb (ix2 (n0 := 1024) (n1 := 1024) ⟨(i 0).val % 1024, by omega⟩ (i 1)) = i from e] at hm

end Cert.FfnIdeal.Own

namespace Cert.FfnProof
open Idealize.ShloMosaic Idealize.ShloMosaic.TcCoe Idealize.SL.Sem

theorem refFrame : Cert.quiescent_FfnReferenceIdeal := fun m ρ _ =>
  (θ_run Cert.FfnReferenceIdeal.defs _ _).mono (fun r h => ⟨fun c => (h c).2, Idealize.ShloMosaic.sem_eq_zero_of_no_sems (by decide) r.2⟩) (Cert.FfnReferenceIdeal.Value.run (F := Ideal) m ρ)

theorem algebraic : Cert.algebraic_FfnIdeal_FfnReferenceIdeal := fun m g m' g' hpre hargs => by
  refine ⟨fun c => Cert.FfnIdeal.Own.outArr m c, (θ_run _ _ _).mono (fun r h c => ⟨(h c).1.trans (Cert.FfnIdeal.Own.arr m c), (h c).2⟩) (Cert.FfnIdeal.Value.run_blocks (F := Ideal) m g),
    (θ_run _ _ _).mono (fun r h c => ⟨(h c).1.trans ?_, (h c).2⟩) (Cert.FfnReferenceIdeal.Value.run (F := Ideal) m' g')⟩
  obtain ⟨h0, h1, h2, h3, h4, h5⟩ := hargs c
  funext y
  obtain ⟨i, j, rfl⟩ : ∃ (i : Fin 65536) (j : Fin 1024), y = ix2 i j := ⟨y 0, y 1, by funext a; fin_cases a <;> rfl⟩
  refine (Cert.FfnReferenceIdeal.Own.out_at m' c i j).trans ?_
  rw [h0, h1, h2, h3, h4, h5]
  rfl

end Cert.FfnProof
end
-- ==== Proof.MemkvRead.lean ====
/- The memory call's output blocks at an index: the normed memory row by a column of the matrix. -/
module

public import proofs.«01_k».proof.Proof.Gen.MemkvIdeal.Value
public import proofs.«01_k».proof.Proof.Gen.MemkvReferenceIdeal.Run
public import proofs.«01_k».proof.Proof.Rows

@[expose] public section
set_option maxRecDepth 16384
noncomputable section
namespace Cert.Rows
open Idealize.ShloMosaic Idealize.ShloMosaic.TcCoe

/-- The normed memory row by a column. -/
def mdot (x g w : Fin 1024 → EReal) : EReal := ∑ k, nrm x g k * w k

end Cert.Rows

namespace Cert.MemkvIdeal.Own
open Cert.MemkvIdeal Cert.MemkvIdeal.Gen Cert.Rows
open Idealize.ShloMosaic Idealize.ShloMosaic.TcCoe Idealize.ShloMosaic.Tactic

theorem pay1_at (v0 : Vec Ideal S1x256x1024 .f32) (v1 : Vec Ideal S1x1024 .f32) (i : Fin 256) (j : Fin 1024) :
    (k0_pay1 v0 v1 (ix2 i j) : EReal) = nrm (fun k => v0 (ix3 0 i k)) (fun k => v1 (ix2 0 k)) j := by
  pointwise [k0_pay1]; rfl

theorem pay2_at (v0 : Vec Ideal S1x256x1024 .f32) (v1 : Vec Ideal S1x1024 .f32) (w : Vec Ideal S1024x512 .bf16) (i : Fin 256) (j : Fin 512) :
    (k0_pay2 v0 v1 w (ix3 0 i j) : EReal) = ∑ k, k0_pay1 v0 v1 (ix2 i k) * w (ix2 k j) := by pointwise [k0_pay2]
theorem pay3_at (v0 : Vec Ideal S1x256x1024 .f32) (v1 : Vec Ideal S1x1024 .f32) (w : Vec Ideal S1024x512 .bf16) (i : Fin 256) (j : Fin 512) :
    (k0_pay3 v0 v1 w (ix3 0 i j) : EReal) = ∑ k, k0_pay1 v0 v1 (ix2 i k) * w (ix2 k j) := by pointwise [k0_pay3]

variable (x0 : Vec Ideal S1x256x1024 .f32) (x1 : Vec Ideal S1x1024 .f32) (x2 : Vec Ideal S1024x1024 .bf16) (i : Fin 256)

/-- A block's normed row by a column of the matrix. -/
def bd (c : Fin 1024) : EReal := mdot (fun k => x0 (ix3 0 i k)) (fun k => x1 (ix2 0 k)) (fun k => x2 (ix2 k c))

theorem bd_of (q : ℕ) (hb) (j : Fin 512) (c : Fin 1024) (hc : c.val = q + j.val) :
    (∑ k : Fin 1024, (k0_pay1 x0 x1 (ix2 i k) : EReal) * View.ld x2 (Rect.unit (s := S1024x1024) ![0, q] ![1024, 512] hb) (ix2 k j)) = bd x0 x1 x2 i c :=
  Finset.sum_congr rfl fun k _ => congrArg₂ (· * ·) (pay1_at x0 x1 i k) (ld_at x2 _ _ _ _ _ _ _ (Nat.zero_add _).symm hc)

theorem out3_at (j : Fin 512) : (out0_3 x0 x1 x2 (ix3 0 i j) : EReal) = bd x0 x1 x2 i ⟨0 + j.val, by omega⟩ := by
  unfold out0_3
  rw [View.canon_cons_unit_lit _ _ _ (by decide), View.ld_unit_lit _ x0 (by decide), View.ld_unit_lit _ x1 (by decide)]
  exact (pay2_at _ _ _ i j).trans (bd_of x0 x1 x2 i 0 _ j _ rfl)
theorem out4_at (j : Fin 512) : (out0_4 x0 x1 x2 (ix3 0 i j) : EReal) = bd x0 x1 x2 i ⟨512 + j.val, by omega⟩ := by
  unfold out0_4
  rw [View.canon_cons_unit_lit _ _ _ (by decide), View.ld_unit_lit _ x0 (by decide), View.ld_unit_lit _ x1 (by decide)]
  exact (pay3_at _ _ _ i j).trans (bd_of x0 x1 x2 i 512 _ j _ rfl)

end Cert.MemkvIdeal.Own

namespace Cert.MemkvReferenceIdeal.Own
open Cert.MemkvReferenceIdeal Cert.MemkvReferenceIdeal.Gen Cert.MemkvReferenceIdeal.Value Cert.Rows
open Idealize.ShloMosaic Idealize.ShloMosaic.TcCoe Idealize.ShloMosaic.Tactic

/-- The root-mean-square norm of every memory row, times the gain, by the matrix. -/
def prd (x : FVec Ideal S32x256x1024 .f32) (g : FVec Ideal S1024 .f32) (w : FVec Ideal S1024x1024 .f32) : FVec Ideal S32x256x1024 .f32 :=
  Host.dotGeneral dot_S32x256x1024_S1024x1024_S32x256x1024_2_0_01_1_n_n none (mulf (mulf x (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf x x) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![2] bcast_S1024_S1x1x1024_2 g))) w

theorem prd_at x g w (b : Fin 32) (i : Fin 256) (j : Fin 1024) : (prd x g w (ix3 b i j) : EReal) = mdot (fun k => x (ix3 b i k)) (fun k => g (ix1 k)) (fun k => w (ix2 k j)) := by
  pointwise [prd]; rfl

variable (y : FVec Ideal S32x256x1024 .f32)
/-- The memory's keys. -/
def r0 : FVec Ideal S32x256x512 .bf16 := truncf .bf16 (extractStridedSlice S32x256x512 ![0, 0, 0] y slices_S32x256x1024_S32x256x512_0_0_0) bitsLt_bf16_f32
/-- The memory's values. -/
def r1 : FVec Ideal S32x256x512 .bf16 := truncf .bf16 (extractStridedSlice S32x256x512 ![0, 0, 512] y slices_S32x256x1024_S32x256x512_0_0_512) bitsLt_bf16_f32
theorem r0_at (b : Fin 32) (i : Fin 256) (j : Fin 512) : (r0 y (ix3 b i j) : EReal) = y (ix3 b i ⟨0 + j.val, by omega⟩) := by
  pointwise [r0]
theorem r1_at (b : Fin 32) (i : Fin 256) (j : Fin 512) : (r1 y (ix3 b i j) : EReal) = y (ix3 b i ⟨512 + j.val, by omega⟩) := by
  pointwise [r1]

end Cert.MemkvReferenceIdeal.Own
end
-- ==== Proof.MemkvEqual.lean ====
/- The memory call: its output arrays as functions of the arguments, equal to the reference's results. -/
module

public import proofs.«01_k».proof.Proof.Gen.Memkv.Frame
public import proofs.«01_k».proof.Defs
public import proofs.«01_k».proof.Proof.MemkvRead
public import Idealize.ShloMosaic.Lib.Quiescent

@[expose] public section
set_option maxRecDepth 16384
noncomputable section
namespace Cert.MemkvIdeal.Own
open Cert.MemkvIdeal Cert.MemkvIdeal.Gen Cert.Rows
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg)

/-- Memory `b`'s normed row `i` by column `q` of the matrix. -/
def pd (c : Dev nD) (b : Fin 32) (i : Fin 256) (q : Fin 1024) : EReal :=
  mdot (fun k => m (c.tc.loc main_arg0) (ix3 b i k)) (fun k => m (c.tc.loc main_arg1) (ix1 k)) (fun k => m (c.tc.loc main_arg2) (ix2 k q))

/-- Output array 0 at an index. -/
def at3 (c : Dev nD) (b : Fin 32) (i : Fin 256) (j : Fin 512) : EReal := pd m c b i ⟨0 + j.val, by omega⟩
/-- Output array 0. -/
def arr3 (c : Dev nD) : Vec Ideal S32x256x512 .bf16 := fun y => at3 m c (y 0) (y 1) (y 2)
/-- Output array 1 at an index. -/
def at4 (c : Dev nD) (b : Fin 32) (i : Fin 256) (j : Fin 512) : EReal := pd m c b i ⟨512 + j.val, by omega⟩
/-- Output array 1. -/
def arr4 (c : Dev nD) : Vec Ideal S32x256x512 .bf16 := fun y => at4 m c (y 0) (y 1) (y 2)
theorem idx0 : ∀ t : Fin grid0.N, win0_0.index t = ![t.val, 0, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![t.val, 0, 0] := by decide +kernel
theorem idx4 : ∀ t : Fin grid0.N, win0_4.index t = ![t.val, 0, 0] := by decide +kernel

theorem v0_at (c : Dev nD) (k : Fin 1024) : (V m c main_v0 (ix2 0 k) : EReal) = m (c.tc.loc main_arg1) (ix1 k) := by
  have h : V m c main_v0 = shapeCast S1x1024 (m (c.tc.loc main_arg1)) shapeCasts_S1024_S1x1024 := by
    show StableHlo.after hostOps0 _ _ = _
    after_results_simp; rfl
  rw [h]; pointwise []
theorem v1_at (c : Dev nD) (r : Fin 1024) (k : Fin 1024) : (V m c main_v1 (ix2 r k) : EReal) = m (c.tc.loc main_arg2) (ix2 r k) := by
  have h : V m c main_v1 = (truncf (F := Ideal) .bf16 (m (c.tc.loc main_arg2) : FVec Ideal S1024x1024 .f32) bitsLt_bf16_f32 : FVec Ideal S1024x1024 .bf16) := by
    show StableHlo.after hostOps0 _ _ = _
    after_results_simp
  rw [h]; rfl

theorem blk0 (c : Dev nD) (t : Fin cfg0.N) (i : Fin 256) (k : Fin 1024) (b : Fin 32) (hb : b.val = t.val) : (iblk m c 0 t (ix3 0 i k) : EReal) = m (c.tc.loc main_arg0) (ix3 b i k) := by
  refine (congrArg (V m c main_arg0) (?_ : (win0_0.rect t).emb (ix3 0 i k) = ix3 b i k)).trans (congrFun (V_main_arg0 m c) _)
  funext a; apply Fin.ext
  rw [win0_0.rect_emb_val t _ a, idx0]
  fin_cases a
  · show t.val * 1 + 0 = b.val; omega
  · show 0 * 256 + i.val = i.val; omega
  · show 0 * 1024 + k.val = k.val; omega
theorem blk1 (c : Dev nD) (t : Fin cfg0.N) : iblk m c 1 t = V m c main_v0 := by
  funext y
  refine congrArg (V m c main_v0) (?_ : (win0_1.rect t).emb y = y)
  funext a; apply Fin.ext
  rw [win0_1.rect_emb_val t _ a, idx1]
  fin_cases a
  · show 0 * 1 + (y 0).val = (y 0).val; omega
  · show 0 * 1024 + (y 1).val = (y 1).val; omega
theorem blk2 (c : Dev nD) (t : Fin cfg0.N) : iblk m c 2 t = V m c main_v1 := by
  funext y
  refine congrArg (V m c main_v1) (?_ : (win0_2.rect t).emb y = y)
  funext a; apply Fin.ext
  rw [win0_2.rect_emb_val t _ a, idx2]
  fin_cases a
  · show 0 * 1024 + (y 0).val = (y 0).val; omega
  · show 0 * 1024 + (y 1).val = (y 1).val; omega

/-- A block's normed row by a column. -/
theorem bd_blk (c : Dev nD) (t : Fin cfg0.N) (i : Fin 256) (b : Fin 32) (hb : b.val = t.val) (q : Fin 1024) :
    bd (iblk m c 0 t) (iblk m c 1 t) (iblk m c 2 t) i q = pd m c b i q := by
  unfold bd pd
  exact congr (congr (congrArg mdot (funext fun k => blk0 m c t i k b hb)) (funext fun k => (congrFun (blk1 m c t) _).trans (v0_at m c k)))
    (funext fun k => (congrFun (blk2 m c t) _).trans (v1_at m c k q))

/-- What tile `t` writes back to array 0 is its block of the array. -/
theorem flushed3 (c : Dev nD) (t : Fin cfg0.N) :
    (dats m 0 c).flushed 3 t = ((cfg0.win 3).blk t).view.read (Elt Ideal) (arr3 m c) := by
  show (cfg0.win 3).cut (grid0.coords t) ((dats m 0 c).after 3 t) = _
  rw [after0_3]
  funext y
  show (out0_3 (F := Ideal) _ _ _ y : EReal) = arr3 m c ((win0_3.rect t).emb y)
  obtain ⟨z, i, j, rfl⟩ : ∃ (z : Fin 1) (i : Fin 256) (j : Fin 512), y = ix3 z i j := ⟨y 0, y 1, y 2, by funext a; fin_cases a <;> rfl⟩
  obtain rfl : z = 0 := Subsingleton.elim _ _
  have ht : t.val < 32 := t.isLt
  have e : (win0_3.rect t).emb (ix3 0 i j) = ix3 (⟨t.val, ht⟩ : Fin 32) i j := by
    funext a; apply Fin.ext
    rw [win0_3.rect_emb_val t _ a, idx3]
    fin_cases a
    · show t.val * 1 + 0 = t.val; omega
    · show 0 * 256 + i.val = i.val; omega
    · show 0 * 512 + j.val = j.val; omega
  rw [e]
  exact (out3_at _ _ _ i j).trans (bd_blk m c t i ⟨t.val, ht⟩ rfl _)

theorem done3 (c : Dev nD) : (dats m 0 c).arrAt 3 cfg0.N = arr3 m c := by
  refine Dat.arrAt_eq_of_cover _ 3 _ (fun t _ => flushed3 m c t) fun i => ?_
  have h0 : (i 0).val < 32 := (i 0).isLt
  obtain ⟨t, ht⟩ : ∃ t : Fin cfg0.N, t.val = (i 0).val := ⟨⟨(i 0).val, h0⟩, rfl⟩
  refine ⟨t, flush0_3 _, ?_⟩
  have e : (win0_3.rect t).emb (ix3 (n0 := 1) (n1 := 256) (n2 := 512) 0 (i 1) (i 2)) = i := by
    funext a; apply Fin.ext
    rw [win0_3.rect_emb_val _ _ a, idx3]
    fin_cases a
    · show t.val * 1 + 0 = (i 0).val; omega
    · show 0 * 256 + (i 1).val = (i 1).val; omega
    · show 0 * 512 + (i 2).val = (i 2).val; omega
  have hm := View.emb_mem_set ((cfg0.win 3).blk t).view (ix3 (n0 := 1) (n1 := 256) (n2 := 512) 0 (i 1) (i 2))
  rwa [show ((cfg0.win 3).blk t).view.emb (ix3 (n0 := 1) (n1 := 256) (n2 := 512) 0 (i 1) (i 2)) = i from e] at hm

/-- What tile `t` writes back to array 1 is its block of the array. -/
theorem flushed4 (c : Dev nD) (t : Fin cfg0.N) :
    (dats m 0 c).flushed 4 t = ((cfg0.win 4).blk t).view.read (Elt Ideal) (arr4 m c) := by
  show (cfg0.win 4).cut (grid0.coords t) ((dats m 0 c).after 4 t) = _
  rw [after0_4]
  funext y
  show (out0_4 (F := Ideal) _ _ _ y : EReal) = arr4 m c ((win0_4.rect t).emb y)
  obtain ⟨z, i, j, rfl⟩ : ∃ (z : Fin 1) (i : Fin 256) (j : Fin 512), y = ix3 z i j := ⟨y 0, y 1, y 2, by funext a; fin_cases a <;> rfl⟩
  obtain rfl : z = 0 := Subsingleton.elim _ _
  have ht : t.val < 32 := t.isLt
  have e : (win0_4.rect t).emb (ix3 0 i j) = ix3 (⟨t.val, ht⟩ : Fin 32) i j := by
    funext a; apply Fin.ext
    rw [win0_4.rect_emb_val t _ a, idx4]
    fin_cases a
    · show t.val * 1 + 0 = t.val; omega
    · show 0 * 256 + i.val = i.val; omega
    · show 0 * 512 + j.val = j.val; omega
  rw [e]
  exact (out4_at _ _ _ i j).trans (bd_blk m c t i ⟨t.val, ht⟩ rfl _)

theorem done4 (c : Dev nD) : (dats m 0 c).arrAt 4 cfg0.N = arr4 m c := by
  refine Dat.arrAt_eq_of_cover _ 4 _ (fun t _ => flushed4 m c t) fun i => ?_
  have h0 : (i 0).val < 32 := (i 0).isLt
  obtain ⟨t, ht⟩ : ∃ t : Fin cfg0.N, t.val = (i 0).val := ⟨⟨(i 0).val, h0⟩, rfl⟩
  refine ⟨t, flush0_4 _, ?_⟩
  have e : (win0_4.rect t).emb (ix3 (n0 := 1) (n1 := 256) (n2 := 512) 0 (i 1) (i 2)) = i := by
    funext a; apply Fin.ext
    rw [win0_4.rect_emb_val _ _ a, idx4]
    fin_cases a
    · show t.val * 1 + 0 = (i 0).val; omega
    · show 0 * 256 + (i 1).val = (i 1).val; omega
    · show 0 * 512 + (i 2).val = (i 2).val; omega
  have hm := View.emb_mem_set ((cfg0.win 4).blk t).view (ix3 (n0 := 1) (n1 := 256) (n2 := 512) 0 (i 1) (i 2))
  rwa [show ((cfg0.win 4).blk t).view.emb (ix3 (n0 := 1) (n1 := 256) (n2 := 512) 0 (i 1) (i 2)) = i from e] at hm

end Cert.MemkvIdeal.Own

namespace Cert.MemkvProof
open Idealize.ShloMosaic Idealize.ShloMosaic.TcCoe Idealize.SL.Sem Cert.Rows
open Cert.MemkvReferenceIdeal.Own (prd)

theorem refFrame : Cert.quiescent_MemkvReferenceIdeal := fun m ρ _ =>
  (θ_run Cert.MemkvReferenceIdeal.defs _ _).mono (fun r h => ⟨fun c => (h c).2.2, Idealize.ShloMosaic.sem_eq_zero_of_no_sems (by decide) r.2⟩) (Cert.MemkvReferenceIdeal.Value.run (F := Ideal) m ρ)

section
variable (m : (ℓ : Loc Cert.MemkvIdeal.nD Cert.MemkvIdeal.τ Cert.MemkvIdeal.sig) → Buf (Elt Ideal) ℓ) (c : Dev Cert.MemkvIdeal.nD)
/-- The reference's product of the normed memory rows and the matrix, of the call's arguments. -/
def yy : FVec Ideal Cert.MemkvReferenceIdeal.S32x256x1024 .f32 :=
  prd (m (c.tc.loc Cert.MemkvIdeal.main_arg0)) (m (c.tc.loc Cert.MemkvIdeal.main_arg1)) (m (c.tc.loc Cert.MemkvIdeal.main_arg2))
theorem ref0 : (Cert.MemkvReferenceIdeal.Own.r0 (yy m c) : Vec Ideal Cert.MemkvReferenceIdeal.S32x256x512 .bf16) = Cert.MemkvIdeal.Own.arr3 m c := by
  funext y
  obtain ⟨b, i, j, rfl⟩ : ∃ (b : Fin 32) (i : Fin 256) (j : Fin 512), y = ix3 b i j := ⟨y 0, y 1, y 2, by funext a; fin_cases a <;> rfl⟩
  exact (Cert.MemkvReferenceIdeal.Own.r0_at _ b i j).trans (Cert.MemkvReferenceIdeal.Own.prd_at _ _ _ b i _)
theorem ref1 : (Cert.MemkvReferenceIdeal.Own.r1 (yy m c) : Vec Ideal Cert.MemkvReferenceIdeal.S32x256x512 .bf16) = Cert.MemkvIdeal.Own.arr4 m c := by
  funext y
  obtain ⟨b, i, j, rfl⟩ : ∃ (b : Fin 32) (i : Fin 256) (j : Fin 512), y = ix3 b i j := ⟨y 0, y 1, y 2, by funext a; fin_cases a <;> rfl⟩
  exact (Cert.MemkvReferenceIdeal.Own.r1_at _ b i j).trans (Cert.MemkvReferenceIdeal.Own.prd_at _ _ _ b i _)
end

theorem algebraic : Cert.algebraic_MemkvIdeal_MemkvReferenceIdeal := fun m g m' g' hpre hargs => by
  refine ⟨fun c => Cert.MemkvIdeal.Own.arr3 m c, fun c => Cert.MemkvIdeal.Own.arr4 m c,
    (θ_run _ _ _).mono (fun r h c => ⟨(h c).1.trans (Cert.MemkvIdeal.Own.done3 m c), (h c).2.1.trans (Cert.MemkvIdeal.Own.done4 m c), (h c).2.2⟩) (Cert.MemkvIdeal.Value.run_blocks (F := Ideal) m g),
    (θ_run _ _ _).mono (fun r h c => ⟨(h c).1.trans ((?_ : _ = Cert.MemkvReferenceIdeal.Own.r0 (yy m c)).trans (ref0 m c)), (h c).2.1.trans ((?_ : _ = Cert.MemkvReferenceIdeal.Own.r1 (yy m c)).trans (ref1 m c)), (h c).2.2⟩) (Cert.MemkvReferenceIdeal.Value.run (F := Ideal) m' g')⟩
  all_goals
    obtain ⟨h0, h1, h2⟩ := hargs c
    rw [h0, h1, h2]
    rfl

end Cert.MemkvProof
end
-- ==== Proof.CmpRead.lean ====
/- The compression call's output blocks and its reference's results at an index. -/
module

public import proofs.«01_k».proof.Proof.Gen.CmpIdeal.Value
public import proofs.«01_k».proof.Proof.Gen.CmpReferenceIdeal.Run
public import proofs.«01_k».proof.Proof.Rows

@[expose] public section
set_option maxRecDepth 16384
noncomputable section
namespace Cert.Rows
open Idealize.ShloMosaic Idealize.ShloMosaic.TcCoe

/-- The hidden layer's unit. -/
def sil (h : EReal) : EReal := h * Ideal.logistic h
/-- Half of a block, with its positions, by half of a column. -/
def half (c p w : Fin 1024 → EReal) : EReal := ∑ k, (c k + p k) * w k
/-- The second layer of a hidden row. -/
def lay (h w : Fin 256 → EReal) : EReal := ∑ u, sil (h u) * w u

/-- A sum over 2048 indices all of whose terms outside one head group are zero. -/
theorem sum_group (g : Fin 2) (f : Fin 2048 → EReal) (h : ∀ k : Fin 2048, k.val / 64 % 2 ≠ g.val → f k = 0) :
    ∑ k, f k = ∑ r : Fin 1024, f ⟨r.val / 64 * 128 + g.val * 64 + r.val % 64, by omega⟩ := by
  symm
  refine Fintype.sum_of_injective (fun r : Fin 1024 => (⟨r.val / 64 * 128 + g.val * 64 + r.val % 64, by omega⟩ : Fin 2048)) ?_ _ _ ?_ (fun _ => rfl)
  · intro a b e
    have e := congrArg Fin.val e
    dsimp only at e
    apply Fin.ext; omega
  · intro k hk
    refine h k fun e => hk ⟨⟨k.val / 128 * 64 + k.val % 64, by omega⟩, Fin.ext ?_⟩
    dsimp only; omega
/-- The same over 512 indices. -/
theorem sum_group2 (g : Fin 2) (f : Fin 512 → EReal) (h : ∀ k : Fin 512, k.val / 256 ≠ g.val → f k = 0) :
    ∑ k, f k = ∑ u : Fin 256, f ⟨g.val * 256 + u.val, by omega⟩ := by
  symm
  refine Fintype.sum_of_injective (fun u : Fin 256 => (⟨g.val * 256 + u.val, by omega⟩ : Fin 512)) ?_ _ _ ?_ (fun _ => rfl)
  · intro a b e
    have e := congrArg Fin.val e
    dsimp only at e
    apply Fin.ext; omega
  · intro k hk
    refine h k fun e => hk ⟨⟨k.val % 256, by omega⟩, Fin.ext ?_⟩
    dsimp only; omega
/-- A sum over 2048 indices by its two halves. -/
theorem sum_half (f : Fin 2048 → EReal) : ∑ k, f k = ∑ r : Fin 1024, f ⟨r.val, by omega⟩ + ∑ r : Fin 1024, f ⟨1024 + r.val, by omega⟩ :=
  Fin.sum_univ_add (a := 1024) (b := 1024) f

section
variable (x : Fin 65536 → Fin 128 → EReal) (p : Fin 32 → Fin 64 → EReal) (w : Fin 2048 → Fin 256 → EReal)
/-- The hidden layer of compressed row `n` of sequence `b` for head group `g`, at unit `u`. -/
def hrow (b : Fin 32) (n : Fin 128) (g : Fin 2) (u : Fin 256) : EReal :=
  half (fun k => x ⟨b.val * 2048 + n.val * 16 + k.val / 64, by omega⟩ ⟨g.val * 64 + k.val % 64, by omega⟩) (fun k => p ⟨k.val / 64, by omega⟩ ⟨k.val % 64, by omega⟩) (fun k => w ⟨k.val, by omega⟩ u)
    + half (fun k => x ⟨b.val * 2048 + (n.val + 1) % 128 * 16 + k.val / 64, by omega⟩ ⟨g.val * 64 + k.val % 64, by omega⟩) (fun k => p ⟨16 + k.val / 64, by omega⟩ ⟨k.val % 64, by omega⟩) (fun k => w ⟨1024 + k.val, by omega⟩ u)
/-- A compressed row's entry. -/
def crow (v : Fin 256 → Fin 64 → EReal) (b : Fin 32) (g : Fin 2) (n : Fin 128) (d : Fin 64) : EReal := lay (hrow x p w b n g) fun u => v u d
end
end Cert.Rows

namespace Cert.CmpIdeal.Own
open Cert.CmpIdeal Cert.CmpIdeal.Gen Cert.Rows
open Idealize.ShloMosaic Idealize.ShloMosaic.TcCoe Idealize.ShloMosaic.Tactic Idealize.SL.Sem

/-- A block's rows, with positions, by a slab of the first layer's matrix. -/
def sb (x : Fin 128 → Fin 2048 → EReal) (p : Fin 2 → Fin 2048 → EReal) (w : Fin 2 → Fin 2048 → Fin 512 → EReal) (v : Fin 512 → Fin 128 → EReal) (i q : Fin 128) : EReal :=
  ∑ h, sil (∑ k, (x i k + p 0 k) * w 0 k h + ∑ k, (x ⟨(i.val + 128 - 127) % 128, by omega⟩ k + p 1 k) * w 1 k h) * v h q

theorem pay3_at (v0 : Vec Ideal S1x128x2048 .bf16) (v3 : Vec Ideal S1x2048 .f32) (v8 : Vec Ideal S1x2048x512 .bf16) (v11 : Vec Ideal S1x2048 .f32) (v16 : Vec Ideal S1x2048x512 .bf16) (v24 : Vec Ideal S512x128 .bf16) (i q : Fin 128) :
   (k0_pay3 v0 v3 v8 v11 v16 v24 (ix2 i q) : EReal) = ∑ h : Fin 512, sil (∑ k : Fin 2048, (v0 (ix3 0 i k) + v3 (ix2 0 k)) * v8 (ix3 0 k h) + ∑ k : Fin 2048, (v0 (ix3 0 ⟨(i.val + 128 - 127) % 128, by omega⟩ k) + v11 (ix2 0 k)) * v16 (ix3 0 k h)) * v24 (ix2 h q) := by
  pointwise [k0_pay3]; rfl
theorem pay7_at (v0 : Vec Ideal S1x128x2048 .bf16) (v3 : Vec Ideal S1x2048 .f32) (v8 : Vec Ideal S1x2048x512 .bf16) (v11 : Vec Ideal S1x2048 .f32) (v16 : Vec Ideal S1x2048x512 .bf16) (v24 : Vec Ideal S512x128 .bf16) (i q : Fin 128) :
   (k0_pay7 v0 v3 v8 v11 v16 v24 (ix2 i q) : EReal) = ∑ h : Fin 512, sil (∑ k : Fin 2048, (v0 (ix3 0 i k) + v3 (ix2 0 k)) * v8 (ix3 0 k h) + ∑ k : Fin 2048, (v0 (ix3 0 ⟨(i.val + 128 - 127) % 128, by omega⟩ k) + v11 (ix2 0 k)) * v16 (ix3 0 k h)) * v24 (ix2 h q) := by
  pointwise [k0_pay7]; rfl

theorem row_at (x : Vec Ideal S2x2048 .f32) (f : Fin 2) (off : Fin 2 → Nat) (ho : off = ![f.val, 0]) (inb) (k : Fin 2048) :
    (View.ld x (Rect.unit (s := S2x2048) off S1x2048.size inb) (ix2 0 k) : EReal) = x (ix2 f k) := by
  subst ho
  refine congrArg x ?_
  funext a; apply Fin.ext
  fin_cases a
  · show f.val + 1 * 0 = f.val; omega
  · show 0 + 1 * k.val = k.val; omega
theorem slab_at (x : Vec Ideal S2x2048x512 .bf16) (f : Fin 2) (off : Fin 3 → Nat) (ho : off = ![f.val, 0, 0]) (inb) (k : Fin 2048) (h : Fin 512) :
    (View.ld x (Rect.unit (s := S2x2048x512) off S1x2048x512.size inb) (ix3 0 k h) : EReal) = x (ix3 f k h) := by
  subst ho
  refine congrArg x ?_
  funext a; apply Fin.ext
  fin_cases a
  · show f.val + 1 * 0 = f.val; omega
  · show 0 + 1 * k.val = k.val; omega
  · show 0 + 1 * h.val = h.val; omega

theorem out8_at (x0 x1 : Vec Ideal S1x128x2048 .bf16) (x2 x3 : Vec Ideal S2x2048 .f32) (x4 x5 : Vec Ideal S2x2048x512 .bf16) (x6 x7 : Vec Ideal S512x128 .bf16) (g : Fin 2) (i : Fin 128) (d : Fin 64) :
    (out0_8 x0 x1 x2 x3 x4 x5 x6 x7 (ix4 0 g i d) : EReal) = sb (fun i k => x0 (ix3 0 i k)) (fun f k => x2 (ix2 f k)) (fun f k h => x4 (ix3 f k h)) (fun h q => x6 (ix2 h q)) i ⟨g.val * 64 + d.val, by omega⟩ := by
  unfold out0_8
  refine (Value.canon8_eq _ _ _ _ _ _ (ix4 0 g i d)).trans ?_
  have e : Value.ix8_0 (ix4 0 g i d) = ix2 i (⟨g.val * 64 + d.val, by omega⟩ : Fin 128) := by
    funext a; fin_cases a <;> rfl
  show (k0_pay3 (F := Ideal) _ _ _ _ _ _ (Value.ix8_0 (ix4 0 g i d)) : EReal) = _
  rw [e, pay3_at]
  unfold sb
  rw [View.ld_unit_lit _ x0 (by decide), View.ld_unit_lit _ x6 (by decide)]
  refine Finset.sum_congr rfl fun h _ => congrArg (fun t => sil t * x6 (ix2 h _)) (congrArg₂ (· + ·) (Finset.sum_congr rfl fun k _ => ?_) (Finset.sum_congr rfl fun k _ => ?_))
  · exact congrArg₂ (· * ·) (congrArg (x0 (ix3 0 i k) + ·) (row_at x2 0 _ rfl _ k)) (slab_at x4 0 _ rfl _ k h)
  · exact congrArg₂ (· * ·) (congrArg (x0 (ix3 0 _ k) + ·) (row_at x2 1 _ rfl _ k)) (slab_at x4 1 _ rfl _ k h)

theorem out9_at (x0 x1 : Vec Ideal S1x128x2048 .bf16) (x2 x3 : Vec Ideal S2x2048 .f32) (x4 x5 : Vec Ideal S2x2048x512 .bf16) (x6 x7 : Vec Ideal S512x128 .bf16) (g : Fin 2) (i : Fin 128) (d : Fin 64) :
    (out0_9 x0 x1 x2 x3 x4 x5 x6 x7 (ix4 0 g i d) : EReal) = sb (fun i k => x1 (ix3 0 i k)) (fun f k => x3 (ix2 f k)) (fun f k h => x5 (ix3 f k h)) (fun h q => x7 (ix2 h q)) i ⟨g.val * 64 + d.val, by omega⟩ := by
  unfold out0_9
  refine (Value.canon9_eq _ _ _ _ _ _ (ix4 0 g i d)).trans ?_
  have e : Value.ix9_0 (ix4 0 g i d) = ix2 i (⟨g.val * 64 + d.val, by omega⟩ : Fin 128) := by
    funext a; fin_cases a <;> rfl
  show (k0_pay7 (F := Ideal) _ _ _ _ _ _ (Value.ix9_0 (ix4 0 g i d)) : EReal) = _
  rw [e, pay7_at]
  unfold sb
  rw [View.ld_unit_lit _ x1 (by decide), View.ld_unit_lit _ x7 (by decide)]
  refine Finset.sum_congr rfl fun h _ => congrArg (fun t => sil t * x7 (ix2 h _)) (congrArg₂ (· + ·) (Finset.sum_congr rfl fun k _ => ?_) (Finset.sum_congr rfl fun k _ => ?_))
  · exact congrArg₂ (· * ·) (congrArg (x1 (ix3 0 i k) + ·) (row_at x3 0 _ rfl _ k)) (slab_at x5 0 _ rfl _ k h)
  · exact congrArg₂ (· * ·) (congrArg (x1 (ix3 0 _ k) + ·) (row_at x3 1 _ rfl _ k)) (slab_at x5 1 _ rfl _ k h)

/-- The unit matrix of the two head groups. -/
def eye : FVec Ideal S2x2 .f32 :=
  uitofp .f32 (cmpi .eq (addi (iotaInDim S2x2 32 0) (broadcastInDim S2x2 ![] bcast_S_S2x2 (constantI S_ 32 0#32))) (iotaInDim S2x2 32 1))
theorem eye_at (a b : Fin 2) : (eye (ix2 a b) : EReal) = if a.val = b.val then 1 else 0 := by
  pointwise [eye]
  fin_cases a <;> fin_cases b
  · show (((1#1 : BitVec 1).toNat : ℝ) : EReal) = _
    rw [if_pos rfl]; norm_num
  · show (((0#1 : BitVec 1).toNat : ℝ) : EReal) = _
    rw [if_neg (by decide)]; norm_num
  · show (((0#1 : BitVec 1).toNat : ℝ) : EReal) = _
    rw [if_neg (by decide)]; norm_num
  · show (((1#1 : BitVec 1).toNat : ℝ) : EReal) = _
    rw [if_pos rfl]; norm_num

/-- The first layer's matrix, one block per head group. -/
def wa (w : FVec Ideal S2048x256 .f32) : FVec Ideal S2x2048x512 .f32 :=
  shapeCast S2x2048x512 (mulf (broadcastInDim S2x16x2x64x2x256 ![0, 1, 2, 3, 4, 5] bcast_S2x16x1x64x1x256_S2x16x2x64x2x256_0_1_2_3_4_5 (broadcastInDim S2x16x1x64x1x256 ![0, 1, 3, 5] bcast_S2x16x64x256_S2x16x1x64x1x256_0_1_3_5 (shapeCast S2x16x64x256 w shapeCasts_S2048x256_S2x16x64x256)))
    (broadcastInDim S2x16x2x64x2x256 ![0, 1, 2, 3, 4, 5] bcast_S1x1x2x1x2x1_S2x16x2x64x2x256_0_1_2_3_4_5 (broadcastInDim S1x1x2x1x2x1 ![2, 4] bcast_S2x2_S1x1x2x1x2x1_2_4 eye))) shapeCasts_S2x16x2x64x2x256_S2x2048x512
theorem wa_at w (f : Fin 2) (k : Fin 2048) (h : Fin 512) : (wa w (ix3 f k h) : EReal) = w (ix2 ⟨f.val * 1024 + k.val / 128 * 64 + k.val % 64, by omega⟩ ⟨h.val % 256, by omega⟩) * eye (ix2 ⟨k.val / 64 % 2, by omega⟩ ⟨h.val / 256, by omega⟩) := by
  pointwise [wa]

/-- The second layer's matrix, one block per head group. -/
def wb (w : FVec Ideal S256x64 .f32) : FVec Ideal S512x128 .f32 :=
  shapeCast S512x128 (mulf (broadcastInDim S2x256x2x64 ![0, 1, 2, 3] bcast_S1x256x1x64_S2x256x2x64_0_1_2_3 (broadcastInDim S1x256x1x64 ![1, 3] bcast_S256x64_S1x256x1x64_1_3 w))
    (broadcastInDim S2x256x2x64 ![0, 1, 2, 3] bcast_S2x1x2x1_S2x256x2x64_0_1_2_3 (broadcastInDim S2x1x2x1 ![0, 2] bcast_S2x2_S2x1x2x1_0_2 eye))) shapeCasts_S2x256x2x64_S512x128
theorem wb_at w (h : Fin 512) (q : Fin 128) : (wb w (ix2 h q) : EReal) = w (ix2 ⟨h.val % 256, by omega⟩ ⟨q.val % 64, by omega⟩) * eye (ix2 ⟨h.val / 256, by omega⟩ ⟨q.val / 64, by omega⟩) := by
  pointwise [wb]

/-- The position rows, one copy per head group. -/
def ps (p : FVec Ideal S32x64 .f32) : FVec Ideal S2x2048 .f32 :=
  shapeCast S2x2048 (broadcastInDim S2x16x2x64 ![0, 1, 2, 3] bcast_S2x16x1x64_S2x16x2x64_0_1_2_3 (shapeCast S2x16x1x64 p shapeCasts_S32x64_S2x16x1x64)) shapeCasts_S2x16x2x64_S2x2048
theorem ps_at p (f : Fin 2) (k : Fin 2048) : (ps p (ix2 f k) : EReal) = p (ix2 ⟨f.val * 16 + k.val / 128, by omega⟩ ⟨k.val % 64, by omega⟩) := by
  pointwise [ps]
/-- The tokens as rows of sixteen. -/
def xs (x : FVec Ideal S65536x128 .bf16) : FVec Ideal S32x128x2048 .bf16 := shapeCast S32x128x2048 x shapeCasts_S65536x128_S32x128x2048
theorem xs_at x (b : Fin 32) (n : Fin 128) (k : Fin 2048) : (xs x (ix3 b n k) : EReal) = x (ix2 ⟨b.val * 2048 + n.val * 16 + k.val / 128, by omega⟩ ⟨k.val % 128, by omega⟩) := by
  pointwise [xs]

/-- The block product over the arranged arguments is the compressed row. -/
theorem sb_eq (x : FVec Ideal S65536x128 .bf16) (p : FVec Ideal S32x64 .f32) (w : FVec Ideal S2048x256 .f32) (v : FVec Ideal S256x64 .f32) (b : Fin 32) (n : Fin 128) (g : Fin 2) (d : Fin 64) :
    sb (fun n k => xs x (ix3 b n k)) (fun f k => ps p (ix2 f k)) (fun f k h => wa w (ix3 f k h)) (fun h q => wb v (ix2 h q)) n ⟨g.val * 64 + d.val, by omega⟩
      = crow (fun r k => x (ix2 r k)) (fun r k => p (ix2 r k)) (fun r k => w (ix2 r k)) (fun r k => v (ix2 r k)) b g n d := by
  have hz : ∀ (h : Fin 512) , h.val / 256 ≠ g.val → (wb v (ix2 h ⟨g.val * 64 + d.val, by omega⟩) : EReal) = 0 := by
    intro h hh
    rw [wb_at, eye_at, if_neg (by dsimp only; omega)]
    exact mul_zero _
  have hw : ∀ (f : Fin 2) (k : Fin 2048) (u : Fin 256), k.val / 64 % 2 ≠ g.val → (wa w (ix3 f k ⟨g.val * 256 + u.val, by omega⟩) : EReal) = 0 := by
    intro f k u hh
    rw [wa_at, eye_at, if_neg (by dsimp only; omega)]
    exact mul_zero _
  have hs : ∀ (f : Fin 2) (i j : Fin 128) (u : Fin 256), i.val = j.val → ∑ k, (xs x (ix3 b i k) + ps p (ix2 f k)) * wa w (ix3 f k ⟨g.val * 256 + u.val, by omega⟩)
      = half (fun k => x (ix2 ⟨b.val * 2048 + j.val * 16 + k.val / 64, by omega⟩ ⟨g.val * 64 + k.val % 64, by omega⟩)) (fun k => p (ix2 ⟨f.val * 16 + k.val / 64, by omega⟩ ⟨k.val % 64, by omega⟩)) (fun k => w (ix2 ⟨f.val * 1024 + k.val, by omega⟩ u)) := by
    intro f i j u hij
    rw [sum_group g _ fun k hk => by rw [hw f k u hk]; exact mul_zero _]
    unfold half
    refine Finset.sum_congr rfl fun k _ => congrArg₂ (· * ·) (congrArg₂ (· + ·) ((xs_at _ _ _ _).trans ?_) ((ps_at _ _ _).trans ?_)) ((wa_at _ _ _ _).trans ?_)
    · exact congrArg₂ (fun r c => x (ix2 r c)) (Fin.ext (by dsimp only; omega)) (Fin.ext (by dsimp only; omega))
    · exact congrArg₂ (fun r c => p (ix2 r c)) (Fin.ext (by dsimp only; omega)) (Fin.ext (by dsimp only; omega))
    · rw [eye_at, if_pos (by dsimp only; omega), mul_one]
      exact congrArg₂ (fun r c => w (ix2 r c)) (Fin.ext (by dsimp only; omega)) (Fin.ext (by dsimp only; omega))
  unfold sb crow lay
  rw [sum_group2 g _ fun h hh => (congrArg (_ * ·) (hz h hh)).trans (mul_zero _)]
  refine Finset.sum_congr rfl fun u _ => congrArg₂ (fun s t => sil s * t) ?_ ?_
  · refine (congrArg₂ (· + ·) (hs 0 n n u rfl) (hs 1 _ ⟨(n.val + 1) % 128, by omega⟩ u (by dsimp only; omega))).trans ?_
    unfold hrow
    refine congrArg₂ (· + ·) ?_ ?_
    · unfold half
      refine Finset.sum_congr rfl fun k _ => congrArg₂ (· * ·) (congrArg₂ (· + ·) rfl ?_) ?_
      · exact congrArg (fun r => p (ix2 r _)) (Fin.ext (by show 0 * 16 + k.val / 64 = k.val / 64; omega))
      · exact congrArg (fun r => w (ix2 r _)) (Fin.ext (by show 0 * 1024 + k.val = k.val; omega))
    · unfold half
      refine Finset.sum_congr rfl fun k _ => congrArg₂ (· * ·) (congrArg₂ (· + ·) rfl ?_) ?_
      · exact congrArg (fun r => p (ix2 r _)) (Fin.ext (by show 1 * 16 + k.val / 64 = 16 + k.val / 64; omega))
      · exact congrArg (fun r => w (ix2 r _)) (Fin.ext (by show 1 * 1024 + k.val = 1024 + k.val; omega))
  · refine (wb_at _ _ _).trans ?_
    rw [eye_at, if_pos (by dsimp only; omega), mul_one]
    exact congrArg₂ (fun r c => v (ix2 r c)) (Fin.ext (by dsimp only; omega)) (Fin.ext (by dsimp only; omega))

end Cert.CmpIdeal.Own
namespace Cert.CmpReferenceIdeal.Own
open Cert.CmpReferenceIdeal Cert.CmpReferenceIdeal.Gen Cert.CmpReferenceIdeal.Value Cert.Rows
open Idealize.ShloMosaic Idealize.ShloMosaic.TcCoe Idealize.ShloMosaic.Tactic

/-- The tokens by sequence, row of sixteen, place in it, head group and entry. -/
def ch (x : FVec Ideal S65536x128 .bf16) : FVec Ideal S32x128x16x2x64 .f32 := shapeCast _ (extf .f32 x bitsLt_bf16_f32) shapeCasts_S65536x128_S32x128x16x2x64
/-- The following rows. -/
def nx (c : FVec Ideal S32x128x16x2x64 .f32) : FVec Ideal S32x128x16x2x64 .f32 :=
  concatenate S32x128x16x2x64 1 [⟨S32x127x16x2x64, extractStridedSlice S32x127x16x2x64 ![0, 1, 0, 0, 0] c slices_S32x128x16x2x64_S32x127x16x2x64_0_1_0_0_0⟩, ⟨S32x1x16x2x64, extractStridedSlice S32x1x16x2x64 ![0, 0, 0, 0, 0] c slices_S32x128x16x2x64_S32x1x16x2x64_0_0_0_0_0⟩] concatenates_S32x127x16x2x64_S32x1x16x2x64_S32x128x16x2x64_d1
/-- The blocks with their positions, flattened by head group. -/
def flat (c : FVec Ideal S32x128x16x2x64 .f32) (p : FVec Ideal S32x64 .f32) : FVec Ideal S32x128x2x2048 .f32 :=
  shapeCast _ (transpose S32x128x2x32x64 [0, 1, 3, 2, 4] (addf (concatenate S32x128x32x2x64 2 [⟨S32x128x16x2x64, c⟩, ⟨S32x128x16x2x64, nx c⟩] concatenates_S32x128x16x2x64_S32x128x16x2x64_S32x128x32x2x64_d2) (broadcastInDim S32x128x32x2x64 ![0, 1, 2, 3, 4] bcast_S1x1x32x1x64_S32x128x32x2x64_0_1_2_3_4 (broadcastInDim S1x1x32x1x64 ![2, 3, 4] bcast_S32x1x64_S1x1x32x1x64_2_3_4 (broadcastInDim S32x1x64 ![0, 2] bcast_S32x64_S32x1x64_0_2 p)))) transposes_S32x128x32x2x64_S32x128x2x32x64_0_1_3_2_4) shapeCasts_S32x128x2x32x64_S32x128x2x2048
/-- The hidden layer before its unit. -/
def hd (f : FVec Ideal S32x128x2x2048 .f32) (w : FVec Ideal S2048x256 .f32) : FVec Ideal S32x128x2x256 .f32 :=
  Host.dotGeneral dot_S32x128x2x2048_S2048x256_S32x128x2x256_3_0_012_1_n_n none f w
theorem ch_at x (b : Fin 32) (n : Fin 128) (i : Fin 16) (g : Fin 2) (d : Fin 64) : (ch x (ix5 b n i g d) : EReal) = x (ix2 ⟨b.val * 2048 + n.val * 16 + i.val, by omega⟩ ⟨g.val * 64 + d.val, by omega⟩) := by
  pointwise [ch]
theorem nx_at x (b : Fin 32) (n : Fin 128) (i : Fin 16) (g : Fin 2) (d : Fin 64) : (nx x (ix5 b n i g d) : EReal) = x (ix5 b ⟨(n.val + 1) % 128, by omega⟩ i g d) := by
  pointwise [nx]
  by_cases h : n.val < 127
  · refine (dif_pos h).trans (congrArg (fun n => x (ix5 b n i g d)) (Fin.ext ?_))
    dsimp only; omega
  · refine (dif_neg h).trans (congrArg (fun n => x (ix5 b n i g d)) (Fin.ext ?_))
    dsimp only; omega
theorem flat_at x p (b : Fin 32) (n : Fin 128) (g : Fin 2) (d : Fin 2048) : (flat x p (ix4 b n g d) : EReal) = (if h : d.val < 1024 then x (ix5 b n ⟨d.val / 64, by omega⟩ g ⟨d.val % 64, by omega⟩) else nx x (ix5 b n ⟨d.val / 64 - 16, by omega⟩ g ⟨d.val % 64, by omega⟩)) + p (ix2 ⟨d.val / 64, by omega⟩ ⟨d.val % 64, by omega⟩) := by
  pointwise [flat]
  refine congrArg (· + p _) ?_
  by_cases h : d.val < 1024
  · exact (dif_pos (by omega)).trans (by rw [dif_pos h])
  · exact (dif_neg (by omega)).trans (by rw [dif_neg h])
theorem hd_at x p (b : Fin 32) (n : Fin 128) (g : Fin 2) (d : Fin 256) : (hd x p (ix4 b n g d) : EReal) = ∑ k : Fin 2048, x (ix4 b n g k) * p (ix2 k d) := by
  pointwise [hd]
theorem hd_hrow (x : FVec Ideal S65536x128 .bf16) (p : FVec Ideal S32x64 .f32) (w : FVec Ideal S2048x256 .f32) (b : Fin 32) (n : Fin 128) (g : Fin 2) (u : Fin 256) :
    (hd (flat (ch x) p) w (ix4 b n g u) : EReal) = hrow (fun r k => x (ix2 r k)) (fun r k => p (ix2 r k)) (fun r k => w (ix2 r k)) b n g u := by
  rw [hd_at, sum_half]
  unfold hrow half
  refine congrArg₂ (· + ·) (Finset.sum_congr rfl fun k _ => congrArg (· * w _) ?_) (Finset.sum_congr rfl fun k _ => congrArg (· * w _) ?_)
  · rw [flat_at, dif_pos (by dsimp only; omega), ch_at]
  · rw [flat_at, dif_neg (by dsimp only; omega), nx_at, ch_at]
    refine congrArg₂ (· + ·) ?_ ?_
    · exact congrArg₂ (fun r c => x (ix2 r c)) (Fin.ext (by dsimp only; omega)) (Fin.ext (by dsimp only; omega))
    · exact congrArg₂ (fun r c => p (ix2 r c)) (Fin.ext (by dsimp only; omega)) (Fin.ext (by dsimp only; omega))

/-- The result of a hidden layer. -/
def res (h : FVec Ideal S32x128x2x256 .f32) (v : FVec Ideal S256x64 .f32) : FVec Ideal S32x2x128x64 .bf16 :=
  truncf .bf16 (transpose S32x2x128x64 [0, 2, 1, 3] (Host.dotGeneral dot_S32x128x2x256_S256x64_S32x128x2x64_3_0_012_1_n_n none (mulf h (Host.divf (broadcastInDim S32x128x2x256 ![] bcast_S_S32x128x2x256 (constant S_ .f32 0x3F800000#32)) (addf (broadcastInDim S32x128x2x256 ![] bcast_S_S32x128x2x256 (constant S_ .f32 0x3F800000#32)) (Host.exp (Host.negf h))))) v) transposes_S32x128x2x64_S32x2x128x64_0_2_1_3) bitsLt_bf16_f32
theorem res_at h v (b : Fin 32) (g : Fin 2) (n : Fin 128) (d : Fin 64) : (res h v (ix4 b g n d) : EReal) = lay (fun u => h (ix4 b n g u)) (fun u => v (ix2 u d)) := by
  pointwise [res]
  rfl
/-- The call's reference on one of its sides. -/
def side (x : FVec Ideal S65536x128 .bf16) (p : FVec Ideal S32x64 .f32) (w : FVec Ideal S2048x256 .f32) (v : FVec Ideal S256x64 .f32) : FVec Ideal S32x2x128x64 .bf16 := res (hd (flat (ch x) p) w) v
theorem side_at x p w v (b : Fin 32) (g : Fin 2) (n : Fin 128) (d : Fin 64) :
    (side x p w v (ix4 b g n d) : EReal) = crow (fun r k => x (ix2 r k)) (fun r k => p (ix2 r k)) (fun r k => w (ix2 r k)) (fun r k => v (ix2 r k)) b g n d :=
  (res_at _ _ _ _ _ _).trans (congrArg (fun h => lay h _) (funext fun u => hd_hrow x p w b n g u))
end Cert.CmpReferenceIdeal.Own
end
-- ==== Proof.CmpEqual.lean ====
/- The compression call: its output arrays as functions of the arguments, equal to the reference's results. -/
module

public import proofs.«01_k».proof.Proof.Gen.Cmp.Frame
public import proofs.«01_k».proof.Defs
public import proofs.«01_k».proof.Proof.CmpRead
public import Idealize.ShloMosaic.Lib.Quiescent

@[expose] public section
set_option maxRecDepth 16384
noncomputable section
namespace Cert.CmpIdeal.Own
open Cert.CmpIdeal Cert.CmpIdeal.Gen Cert.Rows
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg)

/-- Output array 0 at a sequence, a head group, a compressed row and an entry. -/
def at8 (c : Dev nD) (b : Fin 32) (g : Fin 2) (n : Fin 128) (d : Fin 64) : EReal :=
  crow (fun r k => m (c.tc.loc main_arg0) (ix2 r k)) (fun r k => m (c.tc.loc main_arg2) (ix2 r k)) (fun r k => m (c.tc.loc main_arg4) (ix2 r k)) (fun r k => m (c.tc.loc main_arg5) (ix2 r k)) b g n d
/-- Output array 0. -/
def arr8 (c : Dev nD) : Vec Ideal S32x2x128x64 .bf16 := fun y => at8 m c (y 0) (y 1) (y 2) (y 3)
/-- Output array 1 at a sequence, a head group, a compressed row and an entry. -/
def at9 (c : Dev nD) (b : Fin 32) (g : Fin 2) (n : Fin 128) (d : Fin 64) : EReal :=
  crow (fun r k => m (c.tc.loc main_arg1) (ix2 r k)) (fun r k => m (c.tc.loc main_arg3) (ix2 r k)) (fun r k => m (c.tc.loc main_arg6) (ix2 r k)) (fun r k => m (c.tc.loc main_arg7) (ix2 r k)) b g n d
/-- Output array 1. -/
def arr9 (c : Dev nD) : Vec Ideal S32x2x128x64 .bf16 := fun y => at9 m c (y 0) (y 1) (y 2) (y 3)
theorem idx0 : ∀ t : Fin grid0.N, win0_0.index t = ![t.val, 0, 0] := by decide +kernel
theorem idx1 : ∀ t : Fin grid0.N, win0_1.index t = ![t.val, 0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0, 0] := by decide +kernel
theorem idx5 : ∀ t : Fin grid0.N, win0_5.index t = ![0, 0, 0] := by decide +kernel
theorem idx6 : ∀ t : Fin grid0.N, win0_6.index t = ![0, 0] := by decide +kernel
theorem idx7 : ∀ t : Fin grid0.N, win0_7.index t = ![0, 0] := by decide +kernel
theorem idx8 : ∀ t : Fin grid0.N, win0_8.index t = ![t.val, 0, 0, 0] := by decide +kernel
theorem idx9 : ∀ t : Fin grid0.N, win0_9.index t = ![t.val, 0, 0, 0] := by decide +kernel
theorem v48_eq (c : Dev nD) : V m c main_v48 = xs (m (c.tc.loc main_arg0)) := by
  show StableHlo.after hostOps0 _ _ = _
  after_results_simp <;> rfl
theorem v49_eq (c : Dev nD) : V m c main_v49 = xs (m (c.tc.loc main_arg1)) := by
  show StableHlo.after hostOps0 _ _ = _
  after_results_simp <;> rfl
theorem v23_eq (c : Dev nD) : V m c main_v23 = ps (m (c.tc.loc main_arg2)) := by
  show StableHlo.after hostOps0 _ _ = _
  after_results_simp <;> rfl
theorem v47_eq (c : Dev nD) : V m c main_v47 = ps (m (c.tc.loc main_arg3)) := by
  show StableHlo.after hostOps0 _ _ = _
  after_results_simp <;> rfl
theorem v13_eq (c : Dev nD) : V m c main_v13 = wa (m (c.tc.loc main_arg4)) := by
  show StableHlo.after hostOps0 _ _ = _
  after_results_simp <;> rfl
theorem v37_eq (c : Dev nD) : V m c main_v37 = wa (m (c.tc.loc main_arg6)) := by
  show StableHlo.after hostOps0 _ _ = _
  after_results_simp <;> rfl
theorem v20_eq (c : Dev nD) : V m c main_v20 = wb (m (c.tc.loc main_arg5)) := by
  show StableHlo.after hostOps0 _ _ = _
  after_results_simp <;> rfl
theorem v44_eq (c : Dev nD) : V m c main_v44 = wb (m (c.tc.loc main_arg7)) := by
  show StableHlo.after hostOps0 _ _ = _
  after_results_simp <;> rfl
theorem blk0 (c : Dev nD) (t : Fin cfg0.N) (i : Fin 128) (k : Fin 2048) (b : Fin 32) (hb : b.val = t.val) : (iblk m c 0 t (ix3 0 i k) : EReal) = xs (m (c.tc.loc main_arg0)) (ix3 b i k) := by
  refine (congrArg (V m c main_v48) (?_ : (win0_0.rect t).emb (ix3 0 i k) = ix3 b i k)).trans (congrFun (v48_eq m c) _)
  funext a; apply Fin.ext
  rw [win0_0.rect_emb_val t _ a, idx0]
  fin_cases a
  · show t.val * 1 + 0 = b.val; omega
  · show 0 * 128 + i.val = i.val; omega
  · show 0 * 2048 + k.val = k.val; omega
theorem blk1 (c : Dev nD) (t : Fin cfg0.N) (i : Fin 128) (k : Fin 2048) (b : Fin 32) (hb : b.val = t.val) : (iblk m c 1 t (ix3 0 i k) : EReal) = xs (m (c.tc.loc main_arg1)) (ix3 b i k) := by
  refine (congrArg (V m c main_v49) (?_ : (win0_1.rect t).emb (ix3 0 i k) = ix3 b i k)).trans (congrFun (v49_eq m c) _)
  funext a; apply Fin.ext
  rw [win0_1.rect_emb_val t _ a, idx1]
  fin_cases a
  · show t.val * 1 + 0 = b.val; omega
  · show 0 * 128 + i.val = i.val; omega
  · show 0 * 2048 + k.val = k.val; omega
theorem blk2 (c : Dev nD) (t : Fin cfg0.N) : iblk m c 2 t = ps (m (c.tc.loc main_arg2)) := by
  refine Eq.trans ?_ (v23_eq m c)
  funext y
  refine congrArg (V m c main_v23) (?_ : (win0_2.rect t).emb y = y)
  funext a; apply Fin.ext
  rw [win0_2.rect_emb_val t _ a, idx2]
  fin_cases a
  · show 0 * 2 + (y 0).val = (y 0).val; omega
  · show 0 * 2048 + (y 1).val = (y 1).val; omega
theorem blk3 (c : Dev nD) (t : Fin cfg0.N) : iblk m c 3 t = ps (m (c.tc.loc main_arg3)) := by
  refine Eq.trans ?_ (v47_eq m c)
  funext y
  refine congrArg (V m c main_v47) (?_ : (win0_3.rect t).emb y = y)
  funext a; apply Fin.ext
  rw [win0_3.rect_emb_val t _ a, idx3]
  fin_cases a
  · show 0 * 2 + (y 0).val = (y 0).val; omega
  · show 0 * 2048 + (y 1).val = (y 1).val; omega
theorem blk4 (c : Dev nD) (t : Fin cfg0.N) : iblk m c 4 t = wa (m (c.tc.loc main_arg4)) := by
  refine Eq.trans ?_ (v13_eq m c)
  funext y
  refine congrArg (V m c main_v13) (?_ : (win0_4.rect t).emb y = y)
  funext a; apply Fin.ext
  rw [win0_4.rect_emb_val t _ a, idx4]
  fin_cases a
  · show 0 * 2 + (y 0).val = (y 0).val; omega
  · show 0 * 2048 + (y 1).val = (y 1).val; omega
  · show 0 * 512 + (y 2).val = (y 2).val; omega
theorem blk5 (c : Dev nD) (t : Fin cfg0.N) : iblk m c 5 t = wa (m (c.tc.loc main_arg6)) := by
  refine Eq.trans ?_ (v37_eq m c)
  funext y
  refine congrArg (V m c main_v37) (?_ : (win0_5.rect t).emb y = y)
  funext a; apply Fin.ext
  rw [win0_5.rect_emb_val t _ a, idx5]
  fin_cases a
  · show 0 * 2 + (y 0).val = (y 0).val; omega
  · show 0 * 2048 + (y 1).val = (y 1).val; omega
  · show 0 * 512 + (y 2).val = (y 2).val; omega
theorem blk6 (c : Dev nD) (t : Fin cfg0.N) : iblk m c 6 t = wb (m (c.tc.loc main_arg5)) := by
  refine Eq.trans ?_ (v20_eq m c)
  funext y
  refine congrArg (V m c main_v20) (?_ : (win0_6.rect t).emb y = y)
  funext a; apply Fin.ext
  rw [win0_6.rect_emb_val t _ a, idx6]
  fin_cases a
  · show 0 * 512 + (y 0).val = (y 0).val; omega
  · show 0 * 128 + (y 1).val = (y 1).val; omega
theorem blk7 (c : Dev nD) (t : Fin cfg0.N) : iblk m c 7 t = wb (m (c.tc.loc main_arg7)) := by
  refine Eq.trans ?_ (v44_eq m c)
  funext y
  refine congrArg (V m c main_v44) (?_ : (win0_7.rect t).emb y = y)
  funext a; apply Fin.ext
  rw [win0_7.rect_emb_val t _ a, idx7]
  fin_cases a
  · show 0 * 512 + (y 0).val = (y 0).val; omega
  · show 0 * 128 + (y 1).val = (y 1).val; omega
/-- What tile `t` writes back to array 0 is its block of the array. -/
theorem flushed8 (c : Dev nD) (t : Fin cfg0.N) :
    (dats m 0 c).flushed 8 t = ((cfg0.win 8).blk t).view.read (Elt Ideal) (arr8 m c) := by
  show (cfg0.win 8).cut (grid0.coords t) ((dats m 0 c).after 8 t) = _
  rw [after0_8]
  funext y
  show (out0_8 (F := Ideal) _ _ _ _ _ _ _ _ y : EReal) = arr8 m c ((win0_8.rect t).emb y)
  obtain ⟨g, i, d, rfl⟩ : ∃ (g : Fin 2) (i : Fin 128) (d : Fin 64), y = ix4 0 g i d := ⟨y 1, y 2, y 3, by
    funext a; fin_cases a
    · exact Fin.ext (by have h : (y 0).val < 1 := (y 0).isLt; show (y 0).val = 0; omega)
    all_goals rfl⟩
  have ht : t.val < 32 := t.isLt
  have e : (win0_8.rect t).emb (ix4 0 g i d) = ix4 (⟨t.val, ht⟩ : Fin 32) g i d := by
    funext a; apply Fin.ext
    rw [win0_8.rect_emb_val t _ a, idx8]
    fin_cases a
    · show t.val * 1 + 0 = t.val; omega
    · show 0 * 2 + g.val = g.val; omega
    · show 0 * 128 + i.val = i.val; omega
    · show 0 * 64 + d.val = d.val; omega
  rw [e]
  refine (out8_at _ _ _ _ _ _ _ _ g i d).trans (Eq.trans ?_ (sb_eq (m (c.tc.loc main_arg0)) (m (c.tc.loc main_arg2)) (m (c.tc.loc main_arg4)) (m (c.tc.loc main_arg5)) ⟨t.val, ht⟩ i g d))
  refine congrFun (congrFun (congr (congr (congr (congrArg sb ?_) ?_) ?_) ?_) i) _
  · exact funext fun i => funext fun k => blk0 m c t i k ⟨t.val, ht⟩ rfl
  · exact funext fun f => funext fun k => congrFun (blk2 m c t) _
  · exact funext fun f => funext fun k => funext fun h => congrFun (blk4 m c t) _
  · exact funext fun h => funext fun q => congrFun (blk6 m c t) _

theorem done8 (c : Dev nD) : (dats m 0 c).arrAt 8 cfg0.N = arr8 m c := by
  refine Dat.arrAt_eq_of_cover _ 8 _ (fun t _ => flushed8 m c t) fun i => ?_
  have h0 : (i 0).val < 32 := (i 0).isLt
  obtain ⟨t, ht⟩ : ∃ t : Fin cfg0.N, t.val = (i 0).val := ⟨⟨(i 0).val, h0⟩, rfl⟩
  refine ⟨t, flush0_8 _, ?_⟩
  have e : (win0_8.rect t).emb (ix4 (n0 := 1) (n1 := 2) (n2 := 128) (n3 := 64) 0 (i 1) (i 2) (i 3)) = i := by
    funext a; apply Fin.ext
    rw [win0_8.rect_emb_val _ _ a, idx8]
    fin_cases a
    · show t.val * 1 + 0 = (i 0).val; omega
    · show 0 * 2 + (i 1).val = (i 1).val; omega
    · show 0 * 128 + (i 2).val = (i 2).val; omega
    · show 0 * 64 + (i 3).val = (i 3).val; omega
  have hm := View.emb_mem_set ((cfg0.win 8).blk t).view (ix4 (n0 := 1) (n1 := 2) (n2 := 128) (n3 := 64) 0 (i 1) (i 2) (i 3))
  rwa [show ((cfg0.win 8).blk t).view.emb (ix4 (n0 := 1) (n1 := 2) (n2 := 128) (n3 := 64) 0 (i 1) (i 2) (i 3)) = i from e] at hm

/-- What tile `t` writes back to array 1 is its block of the array. -/
theorem flushed9 (c : Dev nD) (t : Fin cfg0.N) :
    (dats m 0 c).flushed 9 t = ((cfg0.win 9).blk t).view.read (Elt Ideal) (arr9 m c) := by
  show (cfg0.win 9).cut (grid0.coords t) ((dats m 0 c).after 9 t) = _
  rw [after0_9]
  funext y
  show (out0_9 (F := Ideal) _ _ _ _ _ _ _ _ y : EReal) = arr9 m c ((win0_9.rect t).emb y)
  obtain ⟨g, i, d, rfl⟩ : ∃ (g : Fin 2) (i : Fin 128) (d : Fin 64), y = ix4 0 g i d := ⟨y 1, y 2, y 3, by
    funext a; fin_cases a
    · exact Fin.ext (by have h : (y 0).val < 1 := (y 0).isLt; show (y 0).val = 0; omega)
    all_goals rfl⟩
  have ht : t.val < 32 := t.isLt
  have e : (win0_9.rect t).emb (ix4 0 g i d) = ix4 (⟨t.val, ht⟩ : Fin 32) g i d := by
    funext a; apply Fin.ext
    rw [win0_9.rect_emb_val t _ a, idx9]
    fin_cases a
    · show t.val * 1 + 0 = t.val; omega
    · show 0 * 2 + g.val = g.val; omega
    · show 0 * 128 + i.val = i.val; omega
    · show 0 * 64 + d.val = d.val; omega
  rw [e]
  refine (out9_at _ _ _ _ _ _ _ _ g i d).trans (Eq.trans ?_ (sb_eq (m (c.tc.loc main_arg1)) (m (c.tc.loc main_arg3)) (m (c.tc.loc main_arg6)) (m (c.tc.loc main_arg7)) ⟨t.val, ht⟩ i g d))
  refine congrFun (congrFun (congr (congr (congr (congrArg sb ?_) ?_) ?_) ?_) i) _
  · exact funext fun i => funext fun k => blk1 m c t i k ⟨t.val, ht⟩ rfl
  · exact funext fun f => funext fun k => congrFun (blk3 m c t) _
  · exact funext fun f => funext fun k => funext fun h => congrFun (blk5 m c t) _
  · exact funext fun h => funext fun q => congrFun (blk7 m c t) _

theorem done9 (c : Dev nD) : (dats m 0 c).arrAt 9 cfg0.N = arr9 m c := by
  refine Dat.arrAt_eq_of_cover _ 9 _ (fun t _ => flushed9 m c t) fun i => ?_
  have h0 : (i 0).val < 32 := (i 0).isLt
  obtain ⟨t, ht⟩ : ∃ t : Fin cfg0.N, t.val = (i 0).val := ⟨⟨(i 0).val, h0⟩, rfl⟩
  refine ⟨t, flush0_9 _, ?_⟩
  have e : (win0_9.rect t).emb (ix4 (n0 := 1) (n1 := 2) (n2 := 128) (n3 := 64) 0 (i 1) (i 2) (i 3)) = i := by
    funext a; apply Fin.ext
    rw [win0_9.rect_emb_val _ _ a, idx9]
    fin_cases a
    · show t.val * 1 + 0 = (i 0).val; omega
    · show 0 * 2 + (i 1).val = (i 1).val; omega
    · show 0 * 128 + (i 2).val = (i 2).val; omega
    · show 0 * 64 + (i 3).val = (i 3).val; omega
  have hm := View.emb_mem_set ((cfg0.win 9).blk t).view (ix4 (n0 := 1) (n1 := 2) (n2 := 128) (n3 := 64) 0 (i 1) (i 2) (i 3))
  rwa [show ((cfg0.win 9).blk t).view.emb (ix4 (n0 := 1) (n1 := 2) (n2 := 128) (n3 := 64) 0 (i 1) (i 2) (i 3)) = i from e] at hm

end Cert.CmpIdeal.Own

namespace Cert.CmpProof
open Idealize.ShloMosaic Idealize.ShloMosaic.TcCoe Idealize.SL.Sem Cert.Rows
open Cert.CmpReferenceIdeal.Own (side)

theorem refFrame : Cert.quiescent_CmpReferenceIdeal := fun m ρ _ =>
  (θ_run Cert.CmpReferenceIdeal.defs _ _).mono (fun r h => ⟨fun c => (h c).2.2, Idealize.ShloMosaic.sem_eq_zero_of_no_sems (by decide) r.2⟩) (Cert.CmpReferenceIdeal.Value.run (F := Ideal) m ρ)

section
variable (m : (ℓ : Loc Cert.CmpIdeal.nD Cert.CmpIdeal.τ Cert.CmpIdeal.sig) → Buf (Elt Ideal) ℓ) (c : Dev Cert.CmpIdeal.nD)
/-- The reference's result 0, of the call's arguments. -/
def rs0 : FVec Ideal Cert.CmpReferenceIdeal.S32x2x128x64 .bf16 :=
  side (m (c.tc.loc Cert.CmpIdeal.main_arg0)) (m (c.tc.loc Cert.CmpIdeal.main_arg2)) (m (c.tc.loc Cert.CmpIdeal.main_arg4)) (m (c.tc.loc Cert.CmpIdeal.main_arg5))
theorem ref0 : (rs0 m c : Vec Ideal Cert.CmpReferenceIdeal.S32x2x128x64 .bf16) = Cert.CmpIdeal.Own.arr8 m c := by
  funext y
  obtain ⟨b, g, i, d, rfl⟩ : ∃ (b : Fin 32) (g : Fin 2) (i : Fin 128) (d : Fin 64), y = ix4 b g i d := ⟨y 0, y 1, y 2, y 3, by funext a; fin_cases a <;> rfl⟩
  exact Cert.CmpReferenceIdeal.Own.side_at _ _ _ _ b g i d
/-- The reference's result 1, of the call's arguments. -/
def rs1 : FVec Ideal Cert.CmpReferenceIdeal.S32x2x128x64 .bf16 :=
  side (m (c.tc.loc Cert.CmpIdeal.main_arg1)) (m (c.tc.loc Cert.CmpIdeal.main_arg3)) (m (c.tc.loc Cert.CmpIdeal.main_arg6)) (m (c.tc.loc Cert.CmpIdeal.main_arg7))
theorem ref1 : (rs1 m c : Vec Ideal Cert.CmpReferenceIdeal.S32x2x128x64 .bf16) = Cert.CmpIdeal.Own.arr9 m c := by
  funext y
  obtain ⟨b, g, i, d, rfl⟩ : ∃ (b : Fin 32) (g : Fin 2) (i : Fin 128) (d : Fin 64), y = ix4 b g i d := ⟨y 0, y 1, y 2, y 3, by funext a; fin_cases a <;> rfl⟩
  exact Cert.CmpReferenceIdeal.Own.side_at _ _ _ _ b g i d
end

theorem algebraic : Cert.algebraic_CmpIdeal_CmpReferenceIdeal := fun m g m' g' hpre hargs => by
  refine ⟨fun c => Cert.CmpIdeal.Own.arr8 m c, fun c => Cert.CmpIdeal.Own.arr9 m c,
    (θ_run _ _ _).mono (fun r h c => ⟨(h c).1.trans (Cert.CmpIdeal.Own.done8 m c), (h c).2.1.trans (Cert.CmpIdeal.Own.done9 m c), (h c).2.2⟩) (Cert.CmpIdeal.Value.run_blocks (F := Ideal) m g),
    (θ_run _ _ _).mono (fun r h c => ⟨(h c).1.trans ((?_ : _ = rs0 m c).trans (ref0 m c)), (h c).2.1.trans ((?_ : _ = rs1 m c).trans (ref1 m c)), (h c).2.2⟩) (Cert.CmpReferenceIdeal.Value.run (F := Ideal) m' g')⟩
  · obtain ⟨h0, h1, h2, h3, h4, h5, h6, h7⟩ := hargs c
    rw [h0, h2, h4, h5]
    rfl
  · obtain ⟨h0, h1, h2, h3, h4, h5, h6, h7⟩ := hargs c
    rw [h1, h3, h6, h7]
    rfl

end Cert.CmpProof
end
-- ==== Proof.ProjRead.lean ====
/- The projection call's output blocks at an index, and its reference's results at an index: the normed row by a column of the matrix. -/
module

public import proofs.«01_k».proof.Proof.Gen.ProjIdeal.Value
public import proofs.«01_k».proof.Proof.Gen.ProjReferenceIdeal.Run
public import proofs.«01_k».proof.Proof.Rows

@[expose] public section
set_option maxRecDepth 16384
noncomputable section
namespace Cert.Rows
open Idealize.ShloMosaic Idealize.ShloMosaic.TcCoe

/-- The normed row by a column. -/
def dotn (x g w : Fin 1024 → EReal) : EReal := ∑ k, nrm x g k * w k

/-- The scale of the first branch's queries. -/
def sq0 : EReal := Ideal.ofBits FTy.f32 0x3E38AA3B#32
/-- The scale of the memory branch's queries. -/
def sq1 : EReal := Ideal.ofBits FTy.f32 0x3DB504F3#32

/-- The column of the key or value entry `j` of the selected and windowed branches, the groups side by side. -/
def csw (j : Fin 512) : Fin 3872 := ⟨768 + j.val / 64 % 4 * 128 + j.val / 256 * 64 + j.val % 64, by omega⟩

/-- Entry `j` of the gates, decays and rates of a row, filled up with zeros. -/
def small (y : Fin 3872 → EReal) (j : Fin 128) : EReal :=
  if j.val < 24 then y ⟨1280 + j.val, by omega⟩ else if h : j.val < 32 then y ⟨2816 + j.val, by omega⟩ else 0

end Cert.Rows

namespace Cert.ProjIdeal.Own
open Cert.ProjIdeal Cert.ProjIdeal.Gen Cert.Rows
open Idealize.ShloMosaic Idealize.ShloMosaic.TcCoe Idealize.ShloMosaic.Tactic Idealize.SL.Sem

/-- The keys' and values' columns. -/
def wkv (w : FVec Ideal S1024x3872 .f32) : FVec Ideal S1024x6x2x64 .f32 :=
  shapeCast S1024x6x2x64 (extractStridedSlice S1024x768 ![0, 512] w slices_S1024x3872_S1024x768_0_512) shapeCasts_S1024x768_S1024x6x2x64
/-- The selected and windowed branches' columns, the groups side by side. -/
def wsw (w : FVec Ideal S1024x3872 .f32) : FVec Ideal S1024x512 .f32 :=
  shapeCast S1024x512 (transpose S1024x2x4x64 [0, 2, 1, 3] (extractStridedSlice S1024x4x2x64 ![0, 2, 0, 0] (wkv w) slices_S1024x6x2x64_S1024x4x2x64_0_2_0_0) transposes_S1024x4x2x64_S1024x2x4x64_0_2_1_3) shapeCasts_S1024x2x4x64_S1024x512
/-- The gates', decays' and rates' columns, filled up with zeros. -/
def wsm (w : FVec Ideal S1024x3872 .f32) : FVec Ideal S1024x128 .f32 :=
  concatenate S1024x128 1 [⟨S1024x24, extractStridedSlice S1024x24 ![0, 1280] w slices_S1024x3872_S1024x24_0_1280⟩, ⟨S1024x8, extractStridedSlice S1024x8 ![0, 2840] w slices_S1024x3872_S1024x8_0_2840⟩,
    ⟨S1024x96, broadcastInDim S1024x96 ![] bcast_S_S1024x96 (constant S_ .f32 0x00000000#32)⟩] concatenates_S1024x24_S1024x8_S1024x96_S1024x128_d1
/-- The matrix in the call's column order. -/
def war (w : FVec Ideal S1024x3872 .f32) : FVec Ideal S1024x3968 .f32 :=
  concatenate S1024x3968 1 [⟨S1024x512, extractStridedSlice S1024x512 ![0, 0] w slices_S1024x3872_S1024x512_0_0⟩,
    ⟨S1024x128, shapeCast S1024x128 (shapeCast S1024x2x64 (extractStridedSlice S1024x1x2x64 ![0, 0, 0, 0] (wkv w) slices_S1024x6x2x64_S1024x1x2x64_0_0_0_0) shapeCasts_S1024x1x2x64_S1024x2x64) shapeCasts_S1024x2x64_S1024x128⟩,
    ⟨S1024x128, shapeCast S1024x128 (shapeCast S1024x2x64 (extractStridedSlice S1024x1x2x64 ![0, 1, 0, 0] (wkv w) slices_S1024x6x2x64_S1024x1x2x64_0_1_0_0) shapeCasts_S1024x1x2x64_S1024x2x64) shapeCasts_S1024x2x64_S1024x128⟩,
    ⟨S1024x512, wsw w⟩, ⟨S1024x1536, extractStridedSlice S1024x1536 ![0, 1304] w slices_S1024x3872_S1024x1536_0_1304⟩, ⟨S1024x512, extractStridedSlice S1024x512 ![0, 2848] w slices_S1024x3872_S1024x512_0_2848⟩,
    ⟨S1024x512, extractStridedSlice S1024x512 ![0, 3360] w slices_S1024x3872_S1024x512_0_3360⟩, ⟨S1024x128, wsm w⟩]
    concatenates_S1024x512_S1024x128_S1024x128_S1024x512_S1024x1536_S1024x512_S1024x512_S1024x128_S1024x3968_d1

theorem v20_eq (m : (ℓ : Loc nD τ sig) → Buf (Elt Ideal) ℓ) (c : Dev nD) :
    V m c main_v20 = (truncf (F := Ideal) .bf16 (war (m (c.tc.loc main_arg2))) bitsLt_bf16_f32 : FVec Ideal S1024x3968 .bf16) := by
  show StableHlo.after hostOps0 _ _ = _
  after_results_simp <;> (try dsimp only [Matrix.cons_val]) <;> (try after_results_simp) <;> rfl

theorem wsw_at w (r : Fin 1024) (j : Fin 512) : (wsw w (ix2 r j) : EReal) = w (ix2 r (csw j)) := by
  pointwise [wsw, wkv]
  refine congrArg (fun c => w (ix2 r c)) (Fin.ext ?_)
  show 512 + ((2 + j.val / 64 % 4) * 128 + j.val / 256 * 64 + j.val % 64) = 768 + j.val / 64 % 4 * 128 + j.val / 256 * 64 + j.val % 64; omega
theorem wsm_at w (r : Fin 1024) (j : Fin 128) : (wsm w (ix2 r j) : EReal) = small (fun c => w (ix2 r c)) j := by
  pointwise [wsm]
  unfold small
  by_cases h : j.val < 24
  · exact (dif_pos h).trans (if_pos h).symm
  · refine (dif_neg h).trans (Eq.trans ?_ (if_neg h).symm)
    by_cases h' : j.val < 32
    · refine (dif_pos (by omega)).trans (Eq.trans ?_ (dif_pos h').symm)
      refine congrArg (fun c => w (ix2 r c)) (Fin.ext ?_)
      show 2840 + (j.val - 24) = 2816 + j.val; omega
    · exact (dif_neg (by omega)).trans (by rw [dif_neg h'])
theorem war0_at w (r : Fin 1024) (j : Fin 512) : (war w (ix2 r ⟨0 + j.val, by omega⟩) : EReal) = w (ix2 r ⟨j.val, by omega⟩) := by
  pointwise [war]
theorem war1_at w (r : Fin 1024) (j : Fin 128) : (war w (ix2 r ⟨512 + j.val, by omega⟩) : EReal) = w (ix2 r ⟨512 + j.val, by omega⟩) := by
  pointwise [war]
  pointwise [wkv]
  refine congrArg (fun c => w (ix2 r c)) (Fin.ext ?_)
  dsimp only; omega
theorem war2_at w (r : Fin 1024) (j : Fin 128) : (war w (ix2 r ⟨640 + j.val, by omega⟩) : EReal) = w (ix2 r ⟨640 + j.val, by omega⟩) := by
  pointwise [war]
  refine (dif_neg (by omega)).trans ?_
  refine (dif_neg (by omega)).trans ?_
  refine (dif_pos (by omega)).trans ?_
  pointwise [wkv]
  refine congrArg (fun c => w (ix2 r c)) (Fin.ext ?_)
  dsimp only [csw]; omega
theorem war3_at w (r : Fin 1024) (j : Fin 512) : (war w (ix2 r ⟨768 + j.val, by omega⟩) : EReal) = w (ix2 r (csw j)) := by
  pointwise [war]
  refine (dif_neg (by omega)).trans ?_
  refine (dif_neg (by omega)).trans ?_
  refine (dif_neg (by omega)).trans ?_
  refine (dif_pos (by omega)).trans ?_
  rw [wsw_at]
  refine congrArg (fun c => w (ix2 r c)) (Fin.ext ?_)
  dsimp only [csw]; omega
theorem war4_at w (r : Fin 1024) (j : Fin 1536) : (war w (ix2 r ⟨1280 + j.val, by omega⟩) : EReal) = w (ix2 r ⟨1304 + j.val, by omega⟩) := by
  pointwise [war]
  refine (dif_neg (by omega)).trans ?_
  refine (dif_neg (by omega)).trans ?_
  refine (dif_neg (by omega)).trans ?_
  refine (dif_neg (by omega)).trans ?_
  refine (dif_pos (by omega)).trans ?_
  refine congrArg (fun c => w (ix2 r c)) (Fin.ext ?_)
  dsimp only [csw]; omega
theorem war5_at w (r : Fin 1024) (j : Fin 512) : (war w (ix2 r ⟨2816 + j.val, by omega⟩) : EReal) = w (ix2 r ⟨2848 + j.val, by omega⟩) := by
  pointwise [war]
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  refine congrArg (fun c => w (ix2 r c)) (Fin.ext ?_)
  dsimp only [csw]; omega
theorem war6_at w (r : Fin 1024) (j : Fin 512) : (war w (ix2 r ⟨3328 + j.val, by omega⟩) : EReal) = w (ix2 r ⟨3360 + j.val, by omega⟩) := by
  pointwise [war]
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  refine congrArg (fun c => w (ix2 r c)) (Fin.ext ?_)
  dsimp only [csw]; omega
theorem war7_at w (r : Fin 1024) (j : Fin 128) : (war w (ix2 r ⟨3840 + j.val, by omega⟩) : EReal) = wsm w (ix2 r j) := by
  pointwise [war]
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine congrArg (fun c => wsm w (ix2 r c)) (Fin.ext ?_)
  dsimp only [csw]; omega

theorem pay3_at (v0 : Vec Ideal S1024x1024 .f32) (v1 : Vec Ideal S1x1024 .f32) (i j : Fin 1024) :
    (k0_pay3 v0 v1 (ix2 i j) : EReal) = nrm (fun k => v0 (ix2 i k)) (fun k => v1 (ix2 0 k)) j := by
  pointwise [k0_pay3]; rfl

variable (x0 : Vec Ideal S1024x1024 .f32) (x1 : Vec Ideal S1x1024 .f32) (x2 : Vec Ideal S1024x3968 .bf16) (i : Fin 1024)

/-- A block's normed row by a column of the block's matrix. -/
def bd (c : Fin 3968) : EReal := dotn (fun k => x0 (ix2 i k)) (fun k => x1 (ix2 0 k)) (fun k => x2 (ix2 k c))

theorem bd_of {b : ℕ} (q : ℕ) (hb) (j : Fin b) (c : Fin 3968) (hc : c.val = q + j.val) :
    (∑ k : Fin 1024, (k0_pay3 x0 x1 (ix2 i k) : EReal) * View.ld x2 (Rect.unit (s := S1024x3968) ![0, q] ![1024, b] hb) (ix2 k j)) = bd x0 x1 x2 i c :=
  Finset.sum_congr rfl fun k _ => congrArg₂ (· * ·) (pay3_at x0 x1 i k) (ld_at x2 _ _ _ _ _ _ _ (Nat.zero_add _).symm hc)

theorem pay4_at v0 v1 w (j : Fin 512) : (k0_pay4 (F := Ideal) v0 v1 w (ix2 i j) : EReal) = (∑ k, k0_pay3 v0 v1 (ix2 i k) * w (ix2 k j)) * sq0 := by pointwise [k0_pay4]; rfl
theorem pay5_at v0 v1 w (j : Fin 128) : (k0_pay5 (F := Ideal) v0 v1 w (ix2 i j) : EReal) = ∑ k, k0_pay3 v0 v1 (ix2 i k) * w (ix2 k j) := by pointwise [k0_pay5]
theorem pay6_at v0 v1 w (j : Fin 128) : (k0_pay6 (F := Ideal) v0 v1 w (ix2 i j) : EReal) = ∑ k, k0_pay3 v0 v1 (ix2 i k) * w (ix2 k j) := by pointwise [k0_pay6]
theorem pay7_at u w (j : Fin 512) : (k0_pay7 (F := Ideal) u w (ix2 i j) : EReal) = ∑ k, u (ix2 i k) * w (ix2 k j) := by pointwise [k0_pay7]
theorem pay8_at u w (j : Fin 512) : (k0_pay8 (F := Ideal) u w (ix2 i j) : EReal) = ∑ k, u (ix2 i k) * w (ix2 k j) := by pointwise [k0_pay8]
theorem pay9_at u w (j : Fin 512) : (k0_pay9 (F := Ideal) u w (ix2 i j) : EReal) = ∑ k, u (ix2 i k) * w (ix2 k j) := by pointwise [k0_pay9]
theorem pay10_at u w (j : Fin 512) : (k0_pay10 (F := Ideal) u w (ix2 i j) : EReal) = ∑ k, u (ix2 i k) * w (ix2 k j) := by pointwise [k0_pay10]
theorem pay11_at u w (j : Fin 512) : (k0_pay11 (F := Ideal) u w (ix2 i j) : EReal) = ∑ k, u (ix2 i k) * w (ix2 k j) := by pointwise [k0_pay11]
theorem pay1_at u w (j : Fin 512) : (k0_pay1 (F := Ideal) u (k0_pay12 w) (constant S1024x512 .f32 0x00000000#32) (ix2 i j) : EReal) = (∑ k, u (ix2 i k) * w (ix2 k j)) * sq1 := by pointwise [k0_pay1, k0_pay12]; rfl
theorem pay2_at u w (j : Fin 128) : (k0_pay2 (F := Ideal) u w (ix2 i j) : EReal) = ∑ k, u (ix2 i k) * w (ix2 k j) := by pointwise [k0_pay2]

theorem out3_at (j : Fin 512) : (out0_3 x0 x1 x2 (ix2 i j) : EReal) = bd x0 x1 x2 i ⟨0 + j.val, by omega⟩ * sq0 := by
  unfold out0_3
  rw [View.canon_cons_unit_lit _ _ _ (by decide), View.ld_unit_lit _ x0 (by decide), View.ld_unit_lit _ x1 (by decide)]
  exact (pay4_at i _ _ _ j).trans (congrArg (· * sq0) (bd_of x0 x1 x2 i 0 _ j _ rfl))
theorem out4_at (j : Fin 128) : (out0_4 x0 x1 x2 (ix2 i j) : EReal) = bd x0 x1 x2 i ⟨512 + j.val, by omega⟩ := by
  unfold out0_4
  rw [View.canon_cons_unit_lit _ _ _ (by decide), View.ld_unit_lit _ x0 (by decide), View.ld_unit_lit _ x1 (by decide)]
  exact (pay5_at i _ _ _ j).trans (bd_of x0 x1 x2 i 512 _ j _ rfl)
theorem out5_at (j : Fin 128) : (out0_5 x0 x1 x2 (ix2 i j) : EReal) = bd x0 x1 x2 i ⟨640 + j.val, by omega⟩ := by
  unfold out0_5
  rw [View.canon_cons_unit_lit _ _ _ (by decide), View.ld_unit_lit _ x0 (by decide), View.ld_unit_lit _ x1 (by decide)]
  exact (pay6_at i _ _ _ j).trans (bd_of x0 x1 x2 i 640 _ j _ rfl)
theorem out6_at (j : Fin 512) : (out0_6 x0 x1 x2 (ix2 i j) : EReal) = bd x0 x1 x2 i ⟨768 + j.val, by omega⟩ := by
  unfold out0_6 k0_pay13
  rw [View.canon_cons_unit_lit _ _ _ (by decide), View.ld_unit_lit _ x0 (by decide), View.ld_unit_lit _ x1 (by decide)]
  exact (pay7_at i _ _ j).trans (bd_of x0 x1 x2 i 768 _ j _ rfl)
theorem out8_at (j : Fin 512) : (out0_8 x0 x1 x2 (ix2 i j) : EReal) = bd x0 x1 x2 i ⟨2816 + j.val, by omega⟩ := by
  unfold out0_8 k0_pay13
  rw [View.canon_cons_unit_lit _ _ _ (by decide), View.ld_unit_lit _ x0 (by decide), View.ld_unit_lit _ x1 (by decide)]
  exact (pay11_at i _ _ j).trans (bd_of x0 x1 x2 i 2816 _ j _ rfl)
theorem out9_at (j : Fin 512) : (out0_9 x0 x1 x2 (ix2 i j) : EReal) = bd x0 x1 x2 i ⟨3328 + j.val, by omega⟩ * sq1 := by
  unfold out0_9 k0_pay13
  rw [View.canon_cons_unit_lit _ _ _ (by decide), View.ld_unit_lit _ x0 (by decide), View.ld_unit_lit _ x1 (by decide)]
  exact (pay1_at i _ _ j).trans (congrArg (· * sq1) (bd_of x0 x1 x2 i 3328 _ j _ rfl))
theorem out10_at (j : Fin 128) : (out0_10 x0 x1 x2 (ix2 i j) : EReal) = bd x0 x1 x2 i ⟨3840 + j.val, by omega⟩ := by
  unfold out0_10 k0_pay13
  rw [View.canon_cons_unit_lit _ _ _ (by decide), View.ld_unit_lit _ x0 (by decide), View.ld_unit_lit _ x1 (by decide)]
  exact (pay2_at i _ _ j).trans (bd_of x0 x1 x2 i 3840 _ j _ rfl)

/-- The seventh block, index by index. -/
def blk7 (y : S1024x1536.Idx) : EReal := bd x0 x1 x2 (y 0) ⟨1280 + (y 1).val, by have : (y 1).val < 1536 := (y 1).isLt; omega⟩

theorem out7_at (j : Fin 1536) : (out0_7 x0 x1 x2 (ix2 i j) : EReal) = bd x0 x1 x2 i ⟨1280 + j.val, by omega⟩ := by
  unfold out0_7 k0_pay13
  rw [View.ld_unit_lit _ x0 (by decide), View.ld_unit_lit _ x1 (by decide)]
  refine View.canon_apply_of_pieces (Val := Elt Ideal) (e := .bf16) (blk7 x0 x1 x2) _ ?_ (ix2 i j) ?_
  · intro p hp x
    simp only [List.mem_cons, List.not_mem_nil, or_false] at hp
    rcases hp with rfl | rfl | rfl
    · obtain ⟨a, b, rfl⟩ : ∃ (a : Fin 1024) (b : Fin 512), x = (ix2 a b : S1024x512.Idx) := ⟨x 0, x 1, by funext d; fin_cases d <;> rfl⟩
      exact (pay10_at a _ _ b).trans ((bd_of x0 x1 x2 a 2304 _ b ⟨2304 + b.val, by omega⟩ rfl).trans
        (congrArg₂ (bd x0 x1 x2) (Fin.ext (by show a.val = 0 + 1 * a.val; omega)) (Fin.ext (by show 2304 + b.val = 1280 + (1024 + 1 * b.val); omega))))
    · obtain ⟨a, b, rfl⟩ : ∃ (a : Fin 1024) (b : Fin 512), x = (ix2 a b : S1024x512.Idx) := ⟨x 0, x 1, by funext d; fin_cases d <;> rfl⟩
      exact (pay9_at a _ _ b).trans ((bd_of x0 x1 x2 a 1792 _ b ⟨1792 + b.val, by omega⟩ rfl).trans
        (congrArg₂ (bd x0 x1 x2) (Fin.ext (by show a.val = 0 + 1 * a.val; omega)) (Fin.ext (by show 1792 + b.val = 1280 + (512 + 1 * b.val); omega))))
    · obtain ⟨a, b, rfl⟩ : ∃ (a : Fin 1024) (b : Fin 512), x = (ix2 a b : S1024x512.Idx) := ⟨x 0, x 1, by funext d; fin_cases d <;> rfl⟩
      exact (pay8_at a _ _ b).trans ((bd_of x0 x1 x2 a 1280 _ b ⟨1280 + b.val, by omega⟩ rfl).trans
        (congrArg₂ (bd x0 x1 x2) (Fin.ext (by show a.val = 0 + 1 * a.val; omega)) (Fin.ext (by show 1280 + b.val = 1280 + (0 + 1 * b.val); omega))))
  · exact cover0_7 _ _ _ _

end Cert.ProjIdeal.Own

namespace Cert.ProjReferenceIdeal.Own
open Cert.ProjReferenceIdeal Cert.ProjReferenceIdeal.Gen Cert.ProjReferenceIdeal.Value Cert.Rows
open Idealize.ShloMosaic Idealize.ShloMosaic.TcCoe Idealize.ShloMosaic.Tactic

/-- The root-mean-square norm of every row, times the gain, by the matrix. -/
def prd (x : FVec Ideal S65536x1024 .f32) (g : FVec Ideal S1024 .f32) (w : FVec Ideal S1024x3872 .f32) : FVec Ideal S65536x3872 .f32 :=
  Host.dotGeneral dot_S65536x1024_S1024x3872_S65536x3872_1_0_0_1_n_n none (mulf (mulf x (broadcastInDim S65536x1024 ![0, 1] bcast_S65536x1_S65536x1024_0_1 (Host.rsqrt (addf (Host.divf (broadcastInDim S65536x1 ![0] bcast_S65536_S65536x1_0 (Host.reduceAdd (mulf x x) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 g))) w

theorem prd_at x g w (i : Fin 65536) (j : Fin 3872) : (prd x g w (ix2 i j) : EReal) = dotn (fun k => x (ix2 i k)) (fun k => g (ix1 k)) (fun k => w (ix2 k j)) := by
  pointwise [prd]; rfl

variable (y : FVec Ideal S65536x3872 .f32)
/-- The keys and values, by branch, kind and head group. -/
def kv : FVec Ideal S65536x6x2x64 .f32 := shapeCast _ (extractStridedSlice S65536x768 ![0, 512] y slices_S65536x3872_S65536x768_0_512) shapeCasts_S65536x768_S65536x6x2x64
/-- The first branch's queries, scaled. -/
def r0 : FVec Ideal S65536x512 .bf16 := truncf .bf16 (mulf (extractStridedSlice S65536x512 ![0, 0] y slices_S65536x3872_S65536x512_0_0) (broadcastInDim S65536x512 ![] bcast_S_S65536x512 (constant S_ .f32 0x3E38AA3B#32))) bitsLt_bf16_f32
/-- The compressed branch's keys before compression. -/
def r1 : FVec Ideal S65536x128 .bf16 := truncf .bf16 (shapeCast _ (shapeCast _ (extractStridedSlice S65536x1x2x64 ![0, 0, 0, 0] (kv y) slices_S65536x6x2x64_S65536x1x2x64_0_0_0_0) shapeCasts_S65536x1x2x64_S65536x2x64) shapeCasts_S65536x2x64_S65536x128) bitsLt_bf16_f32
/-- The compressed branch's values before compression. -/
def r2 : FVec Ideal S65536x128 .bf16 := truncf .bf16 (shapeCast _ (shapeCast _ (extractStridedSlice S65536x1x2x64 ![0, 1, 0, 0] (kv y) slices_S65536x6x2x64_S65536x1x2x64_0_1_0_0) shapeCasts_S65536x1x2x64_S65536x2x64) shapeCasts_S65536x2x64_S65536x128) bitsLt_bf16_f32
/-- The other two branches' keys and values, the head groups side by side. -/
def r3 : FVec Ideal S65536x512 .bf16 := truncf .bf16 (shapeCast _ (transpose S65536x2x4x64 [0, 2, 1, 3] (extractStridedSlice S65536x4x2x64 ![0, 2, 0, 0] (kv y) slices_S65536x6x2x64_S65536x4x2x64_0_2_0_0) transposes_S65536x4x2x64_S65536x2x4x64_0_2_1_3) shapeCasts_S65536x2x4x64_S65536x512) bitsLt_bf16_f32
/-- The delta rule's queries, keys and values. -/
def r4 : FVec Ideal S65536x1536 .bf16 := truncf .bf16 (extractStridedSlice S65536x1536 ![0, 1304] y slices_S65536x3872_S65536x1536_0_1304) bitsLt_bf16_f32
/-- The delta rule's output gate. -/
def r5 : FVec Ideal S65536x512 .bf16 := truncf .bf16 (extractStridedSlice S65536x512 ![0, 2848] y slices_S65536x3872_S65536x512_0_2848) bitsLt_bf16_f32
/-- The memory branch's queries, scaled. -/
def r6 : FVec Ideal S65536x512 .bf16 := truncf .bf16 (mulf (extractStridedSlice S65536x512 ![0, 3360] y slices_S65536x3872_S65536x512_0_3360) (broadcastInDim S65536x512 ![] bcast_S_S65536x512 (constant S_ .f32 0x3DB504F3#32))) bitsLt_bf16_f32
/-- The gates, decays and rates, filled up with zeros. -/
def r7 : FVec Ideal S65536x128 .f32 := concatenate S65536x128 1 [⟨S65536x24, extractStridedSlice S65536x24 ![0, 1280] y slices_S65536x3872_S65536x24_0_1280⟩, ⟨S65536x4, extractStridedSlice S65536x4 ![0, 2840] y slices_S65536x3872_S65536x4_0_2840⟩,
  ⟨S65536x4, extractStridedSlice S65536x4 ![0, 2844] y slices_S65536x3872_S65536x4_0_2844⟩, ⟨S65536x96, broadcastInDim S65536x96 ![] bcast_S_S65536x96 (constant S_ .f32 0x00000000#32)⟩] concatenates_S65536x24_S65536x4_S65536x4_S65536x96_S65536x128_d1

theorem kv_at (i : Fin 65536) (a : Fin 6) (b : Fin 2) (d : Fin 64) : (kv y (ix4 i a b d) : EReal) = y (ix2 i ⟨512 + (a.val * 128 + b.val * 64 + d.val), by omega⟩) := by
  pointwise [kv]
theorem r0_at (i : Fin 65536) (j : Fin 512) : (r0 y (ix2 i j) : EReal) = y (ix2 i ⟨j.val, by omega⟩) * sq0 := by
  pointwise [r0]; rfl
theorem r1_at (i : Fin 65536) (j : Fin 128) : (r1 y (ix2 i j) : EReal) = y (ix2 i ⟨512 + j.val, by omega⟩) := by
  pointwise [r1, kv]
  refine congrArg (fun c => y (ix2 i c)) (Fin.ext ?_)
  show 512 + (j.val / 64 * 64 + j.val % 64) = 512 + j.val; omega
theorem r2_at (i : Fin 65536) (j : Fin 128) : (r2 y (ix2 i j) : EReal) = y (ix2 i ⟨640 + j.val, by omega⟩) := by
  pointwise [r2, kv]
  refine congrArg (fun c => y (ix2 i c)) (Fin.ext ?_)
  show 512 + (1 * 128 + j.val / 64 * 64 + j.val % 64) = 640 + j.val; omega
theorem r3_at (i : Fin 65536) (j : Fin 512) : (r3 y (ix2 i j) : EReal) = y (ix2 i (csw j)) := by
  pointwise [r3, kv]
  refine congrArg (fun c => y (ix2 i c)) (Fin.ext ?_)
  show 512 + ((2 + j.val / 64 % 4) * 128 + j.val / 256 * 64 + j.val % 64) = 768 + j.val / 64 % 4 * 128 + j.val / 256 * 64 + j.val % 64; omega
theorem r4_at (i : Fin 65536) (j : Fin 1536) : (r4 y (ix2 i j) : EReal) = y (ix2 i ⟨1304 + j.val, by omega⟩) := by
  pointwise [r4]
theorem r5_at (i : Fin 65536) (j : Fin 512) : (r5 y (ix2 i j) : EReal) = y (ix2 i ⟨2848 + j.val, by omega⟩) := by
  pointwise [r5]
theorem r6_at (i : Fin 65536) (j : Fin 512) : (r6 y (ix2 i j) : EReal) = y (ix2 i ⟨3360 + j.val, by omega⟩) * sq1 := by
  pointwise [r6]; rfl
theorem r7_at (i : Fin 65536) (j : Fin 128) : (r7 y (ix2 i j) : EReal) = small (fun c => y (ix2 i c)) j := by
  pointwise [r7]
  unfold small
  by_cases h : j.val < 24
  · exact (dif_pos h).trans (if_pos h).symm
  · refine (dif_neg h).trans (Eq.trans ?_ (if_neg h).symm)
    by_cases h' : j.val < 32
    · refine Eq.trans ?_ (dif_pos h').symm
      by_cases h4 : j.val < 28
      · refine (dif_pos (by omega)).trans ?_
        refine congrArg (fun c => y (ix2 i c)) (Fin.ext ?_)
        show 2840 + (j.val - 24) = 2816 + j.val; omega
      · refine (dif_neg (by omega)).trans ((dif_pos (by omega)).trans ?_)
        refine congrArg (fun c => y (ix2 i c)) (Fin.ext ?_)
        show 2844 + (j.val - 24 - 4) = 2816 + j.val; omega
    · exact (dif_neg (by omega)).trans ((dif_neg (by omega)).trans (by rw [dif_neg h']))

end Cert.ProjReferenceIdeal.Own
end
-- ==== Proof.ProjEqual.lean ====
/- The projection call: its output arrays as functions of the arguments, equal to the reference's results. -/
module

public import proofs.«01_k».proof.Proof.Gen.Proj.Frame
public import proofs.«01_k».proof.Defs
public import proofs.«01_k».proof.Proof.ProjRead
public import Idealize.ShloMosaic.Lib.Quiescent

@[expose] public section
set_option maxRecDepth 16384
noncomputable section
namespace Cert.ProjIdeal.Own
open Cert.ProjIdeal Cert.ProjIdeal.Gen Cert.Rows
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg)

/-- The normed row `i` by a column. -/
def px (c : Dev nD) (i : Fin 65536) (w : Fin 1024 → EReal) : EReal :=
  dotn (fun k => m (c.tc.loc main_arg0) (ix2 i k)) (fun k => m (c.tc.loc main_arg1) (ix1 k)) w
/-- The normed row `i` by column `q` of the matrix. -/
def pd (c : Dev nD) (i : Fin 65536) (q : Fin 3872) : EReal := px m c i fun k => m (c.tc.loc main_arg2) (ix2 k q)

theorem px_zero (c : Dev nD) (i : Fin 65536) : px m c i (fun _ => 0) = 0 := by
  unfold px dotn
  exact Finset.sum_eq_zero fun k _ => mul_zero _

theorem px_small (c : Dev nD) (i : Fin 65536) (j : Fin 128) : px m c i (fun k => small (fun q => m (c.tc.loc main_arg2) (ix2 k q)) j) = small (pd m c i) j := by
  unfold small
  by_cases h : j.val < 24
  · simp only [if_pos h]; rfl
  · simp only [if_neg h]
    by_cases h' : j.val < 32
    · simp only [dif_pos h']; rfl
    · simp only [dif_neg h']; exact px_zero m c i

/-- Output array 0 at a row and a column. -/
def at3 (c : Dev nD) (i : Fin 65536) (j : Fin 512) : EReal := pd m c i ⟨j.val, by omega⟩ * sq0
/-- Output array 0. -/
def arr3 (c : Dev nD) : Vec Ideal S65536x512 .bf16 := fun y => at3 m c (y 0) (y 1)
/-- Output array 1 at a row and a column. -/
def at4 (c : Dev nD) (i : Fin 65536) (j : Fin 128) : EReal := pd m c i ⟨512 + j.val, by omega⟩
/-- Output array 1. -/
def arr4 (c : Dev nD) : Vec Ideal S65536x128 .bf16 := fun y => at4 m c (y 0) (y 1)
/-- Output array 2 at a row and a column. -/
def at5 (c : Dev nD) (i : Fin 65536) (j : Fin 128) : EReal := pd m c i ⟨640 + j.val, by omega⟩
/-- Output array 2. -/
def arr5 (c : Dev nD) : Vec Ideal S65536x128 .bf16 := fun y => at5 m c (y 0) (y 1)
/-- Output array 3 at a row and a column. -/
def at6 (c : Dev nD) (i : Fin 65536) (j : Fin 512) : EReal := pd m c i (csw j)
/-- Output array 3. -/
def arr6 (c : Dev nD) : Vec Ideal S65536x512 .bf16 := fun y => at6 m c (y 0) (y 1)
/-- Output array 4 at a row and a column. -/
def at7 (c : Dev nD) (i : Fin 65536) (j : Fin 1536) : EReal := pd m c i ⟨1304 + j.val, by omega⟩
/-- Output array 4. -/
def arr7 (c : Dev nD) : Vec Ideal S65536x1536 .bf16 := fun y => at7 m c (y 0) (y 1)
/-- Output array 5 at a row and a column. -/
def at8 (c : Dev nD) (i : Fin 65536) (j : Fin 512) : EReal := pd m c i ⟨2848 + j.val, by omega⟩
/-- Output array 5. -/
def arr8 (c : Dev nD) : Vec Ideal S65536x512 .bf16 := fun y => at8 m c (y 0) (y 1)
/-- Output array 6 at a row and a column. -/
def at9 (c : Dev nD) (i : Fin 65536) (j : Fin 512) : EReal := pd m c i ⟨3360 + j.val, by omega⟩ * sq1
/-- Output array 6. -/
def arr9 (c : Dev nD) : Vec Ideal S65536x512 .bf16 := fun y => at9 m c (y 0) (y 1)
/-- Output array 7 at a row and a column. -/
def at10 (c : Dev nD) (i : Fin 65536) (j : Fin 128) : EReal := small (pd m c i) j
/-- Output array 7. -/
def arr10 (c : Dev nD) : Vec Ideal S65536x128 .f32 := fun y => at10 m c (y 0) (y 1)
theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![t.val, 0] := by decide +kernel
theorem idx4 : ∀ t : Fin grid0.N, win0_4.index t = ![t.val, 0] := by decide +kernel
theorem idx5 : ∀ t : Fin grid0.N, win0_5.index t = ![t.val, 0] := by decide +kernel
theorem idx6 : ∀ t : Fin grid0.N, win0_6.index t = ![t.val, 0] := by decide +kernel
theorem idx7 : ∀ t : Fin grid0.N, win0_7.index t = ![t.val, 0] := by decide +kernel
theorem idx8 : ∀ t : Fin grid0.N, win0_8.index t = ![t.val, 0] := by decide +kernel
theorem idx9 : ∀ t : Fin grid0.N, win0_9.index t = ![t.val, 0] := by decide +kernel
theorem idx10 : ∀ t : Fin grid0.N, win0_10.index t = ![t.val, 0] := by decide +kernel

theorem v21_at (c : Dev nD) (k : Fin 1024) : (V m c main_v21 (ix2 0 k) : EReal) = m (c.tc.loc main_arg1) (ix1 k) := by
  have h : V m c main_v21 = shapeCast S1x1024 (m (c.tc.loc main_arg1)) shapeCasts_S1024_S1x1024 := by
    show StableHlo.after hostOps0 _ _ = _
    after_results_simp <;> (try dsimp only [Matrix.cons_val]) <;> (try after_results_simp) <;> rfl
  rw [h]; pointwise []

theorem blk0 (c : Dev nD) (t : Fin cfg0.N) (i : Fin 1024) (k : Fin 1024) (r : Fin 65536) (hr : r.val = t.val * 1024 + i.val) : (iblk m c 0 t (ix2 i k) : EReal) = m (c.tc.loc main_arg0) (ix2 r k) := by
  refine (congrArg (V m c main_arg0) (?_ : (win0_0.rect t).emb (ix2 i k) = ix2 r k)).trans (congrFun (V_main_arg0 m c) _)
  funext a; apply Fin.ext
  rw [win0_0.rect_emb_val t _ a, idx0]
  fin_cases a
  · exact hr.symm
  · show 0 * 1024 + k.val = k.val; omega
theorem blk1 (c : Dev nD) (t : Fin cfg0.N) : iblk m c 1 t = V m c main_v21 := by
  funext y
  refine congrArg (V m c main_v21) (?_ : (win0_1.rect t).emb y = y)
  funext a; apply Fin.ext
  rw [win0_1.rect_emb_val t _ a, idx1]
  fin_cases a
  · show 0 * 1 + (y 0).val = (y 0).val; omega
  · show 0 * 1024 + (y 1).val = (y 1).val; omega
theorem blk2 (c : Dev nD) (t : Fin cfg0.N) : iblk m c 2 t = V m c main_v20 := by
  funext y
  refine congrArg (V m c main_v20) (?_ : (win0_2.rect t).emb y = y)
  funext a; apply Fin.ext
  rw [win0_2.rect_emb_val t _ a, idx2]
  fin_cases a
  · show 0 * 1024 + (y 0).val = (y 0).val; omega
  · show 0 * 3968 + (y 1).val = (y 1).val; omega

/-- A block's normed row by a column of the matrix in the call's order. -/
theorem bd_blk (c : Dev nD) (t : Fin cfg0.N) (i : Fin 1024) (r : Fin 65536) (hr : r.val = t.val * 1024 + i.val) (q : Fin 3968) (w : Fin 1024 → EReal)
    (hw : ∀ k, (war (m (c.tc.loc main_arg2)) (ix2 k q) : EReal) = w k) :
    bd (iblk m c 0 t) (iblk m c 1 t) (iblk m c 2 t) i q = px m c r w :=
  congr (congr (congrArg dotn (funext fun k => blk0 m c t i k r hr)) (funext fun k => (congrFun (blk1 m c t) _).trans (v21_at m c k)))
    (funext fun k => ((congrFun (blk2 m c t) _).trans (congrFun (v20_eq m c) _)).trans (hw k))

/-- What tile `t` writes back to array 0 is its block of the array. -/
theorem flushed3 (c : Dev nD) (t : Fin cfg0.N) :
    (dats m 0 c).flushed 3 t = ((cfg0.win 3).blk t).view.read (Elt Ideal) (arr3 m c) := by
  show (cfg0.win 3).cut (grid0.coords t) ((dats m 0 c).after 3 t) = _
  rw [after0_3]
  funext y
  show (out0_3 (F := Ideal) _ _ _ y : EReal) = arr3 m c ((win0_3.rect t).emb y)
  obtain ⟨i, j, rfl⟩ : ∃ (i : Fin 1024) (j : Fin 512), y = ix2 i j := ⟨y 0, y 1, by funext a; fin_cases a <;> rfl⟩
  have ht : t.val < 64 := t.isLt
  have e : (win0_3.rect t).emb (ix2 i j) = ix2 (⟨t.val * 1024 + i.val, by omega⟩ : Fin 65536) j := by
    funext a; apply Fin.ext
    rw [win0_3.rect_emb_val t _ a, idx3]
    fin_cases a
    · rfl
    · show 0 * 512 + j.val = j.val; omega
  rw [e]
  exact (out3_at _ _ _ i j).trans (congrArg (· * sq0) (bd_blk m c t i ⟨t.val * 1024 + i.val, by omega⟩ rfl _ _ (fun k => war0_at _ k j)))

theorem done3 (c : Dev nD) : (dats m 0 c).arrAt 3 cfg0.N = arr3 m c := by
  refine Dat.arrAt_eq_of_cover _ 3 _ (fun t _ => flushed3 m c t) fun i => ?_
  have h0 : (i 0).val < 65536 := (i 0).isLt
  obtain ⟨t, ht⟩ : ∃ t : Fin cfg0.N, t.val = (i 0).val / 1024 := ⟨⟨(i 0).val / 1024, by show _ < 64; omega⟩, rfl⟩
  refine ⟨t, flush0_3 _, ?_⟩
  have e : (win0_3.rect t).emb (ix2 (n0 := 1024) (n1 := 512) ⟨(i 0).val % 1024, by omega⟩ (i 1)) = i := by
    funext a; apply Fin.ext
    rw [win0_3.rect_emb_val _ _ a, idx3]
    fin_cases a
    · show t.val * 1024 + (i 0).val % 1024 = (i 0).val; omega
    · show 0 * 512 + (i 1).val = (i 1).val; omega
  have hm := View.emb_mem_set ((cfg0.win 3).blk t).view (ix2 (n0 := 1024) (n1 := 512) ⟨(i 0).val % 1024, by omega⟩ (i 1))
  rwa [show ((cfg0.win 3).blk t).view.emb (ix2 (n0 := 1024) (n1 := 512) ⟨(i 0).val % 1024, by omega⟩ (i 1)) = i from e] at hm

/-- What tile `t` writes back to array 1 is its block of the array. -/
theorem flushed4 (c : Dev nD) (t : Fin cfg0.N) :
    (dats m 0 c).flushed 4 t = ((cfg0.win 4).blk t).view.read (Elt Ideal) (arr4 m c) := by
  show (cfg0.win 4).cut (grid0.coords t) ((dats m 0 c).after 4 t) = _
  rw [after0_4]
  funext y
  show (out0_4 (F := Ideal) _ _ _ y : EReal) = arr4 m c ((win0_4.rect t).emb y)
  obtain ⟨i, j, rfl⟩ : ∃ (i : Fin 1024) (j : Fin 128), y = ix2 i j := ⟨y 0, y 1, by funext a; fin_cases a <;> rfl⟩
  have ht : t.val < 64 := t.isLt
  have e : (win0_4.rect t).emb (ix2 i j) = ix2 (⟨t.val * 1024 + i.val, by omega⟩ : Fin 65536) j := by
    funext a; apply Fin.ext
    rw [win0_4.rect_emb_val t _ a, idx4]
    fin_cases a
    · rfl
    · show 0 * 128 + j.val = j.val; omega
  rw [e]
  exact (out4_at _ _ _ i j).trans (bd_blk m c t i ⟨t.val * 1024 + i.val, by omega⟩ rfl _ _ (fun k => war1_at _ k j))

theorem done4 (c : Dev nD) : (dats m 0 c).arrAt 4 cfg0.N = arr4 m c := by
  refine Dat.arrAt_eq_of_cover _ 4 _ (fun t _ => flushed4 m c t) fun i => ?_
  have h0 : (i 0).val < 65536 := (i 0).isLt
  obtain ⟨t, ht⟩ : ∃ t : Fin cfg0.N, t.val = (i 0).val / 1024 := ⟨⟨(i 0).val / 1024, by show _ < 64; omega⟩, rfl⟩
  refine ⟨t, flush0_4 _, ?_⟩
  have e : (win0_4.rect t).emb (ix2 (n0 := 1024) (n1 := 128) ⟨(i 0).val % 1024, by omega⟩ (i 1)) = i := by
    funext a; apply Fin.ext
    rw [win0_4.rect_emb_val _ _ a, idx4]
    fin_cases a
    · show t.val * 1024 + (i 0).val % 1024 = (i 0).val; omega
    · show 0 * 128 + (i 1).val = (i 1).val; omega
  have hm := View.emb_mem_set ((cfg0.win 4).blk t).view (ix2 (n0 := 1024) (n1 := 128) ⟨(i 0).val % 1024, by omega⟩ (i 1))
  rwa [show ((cfg0.win 4).blk t).view.emb (ix2 (n0 := 1024) (n1 := 128) ⟨(i 0).val % 1024, by omega⟩ (i 1)) = i from e] at hm

/-- What tile `t` writes back to array 2 is its block of the array. -/
theorem flushed5 (c : Dev nD) (t : Fin cfg0.N) :
    (dats m 0 c).flushed 5 t = ((cfg0.win 5).blk t).view.read (Elt Ideal) (arr5 m c) := by
  show (cfg0.win 5).cut (grid0.coords t) ((dats m 0 c).after 5 t) = _
  rw [after0_5]
  funext y
  show (out0_5 (F := Ideal) _ _ _ y : EReal) = arr5 m c ((win0_5.rect t).emb y)
  obtain ⟨i, j, rfl⟩ : ∃ (i : Fin 1024) (j : Fin 128), y = ix2 i j := ⟨y 0, y 1, by funext a; fin_cases a <;> rfl⟩
  have ht : t.val < 64 := t.isLt
  have e : (win0_5.rect t).emb (ix2 i j) = ix2 (⟨t.val * 1024 + i.val, by omega⟩ : Fin 65536) j := by
    funext a; apply Fin.ext
    rw [win0_5.rect_emb_val t _ a, idx5]
    fin_cases a
    · rfl
    · show 0 * 128 + j.val = j.val; omega
  rw [e]
  exact (out5_at _ _ _ i j).trans (bd_blk m c t i ⟨t.val * 1024 + i.val, by omega⟩ rfl _ _ (fun k => war2_at _ k j))

theorem done5 (c : Dev nD) : (dats m 0 c).arrAt 5 cfg0.N = arr5 m c := by
  refine Dat.arrAt_eq_of_cover _ 5 _ (fun t _ => flushed5 m c t) fun i => ?_
  have h0 : (i 0).val < 65536 := (i 0).isLt
  obtain ⟨t, ht⟩ : ∃ t : Fin cfg0.N, t.val = (i 0).val / 1024 := ⟨⟨(i 0).val / 1024, by show _ < 64; omega⟩, rfl⟩
  refine ⟨t, flush0_5 _, ?_⟩
  have e : (win0_5.rect t).emb (ix2 (n0 := 1024) (n1 := 128) ⟨(i 0).val % 1024, by omega⟩ (i 1)) = i := by
    funext a; apply Fin.ext
    rw [win0_5.rect_emb_val _ _ a, idx5]
    fin_cases a
    · show t.val * 1024 + (i 0).val % 1024 = (i 0).val; omega
    · show 0 * 128 + (i 1).val = (i 1).val; omega
  have hm := View.emb_mem_set ((cfg0.win 5).blk t).view (ix2 (n0 := 1024) (n1 := 128) ⟨(i 0).val % 1024, by omega⟩ (i 1))
  rwa [show ((cfg0.win 5).blk t).view.emb (ix2 (n0 := 1024) (n1 := 128) ⟨(i 0).val % 1024, by omega⟩ (i 1)) = i from e] at hm

/-- What tile `t` writes back to array 3 is its block of the array. -/
theorem flushed6 (c : Dev nD) (t : Fin cfg0.N) :
    (dats m 0 c).flushed 6 t = ((cfg0.win 6).blk t).view.read (Elt Ideal) (arr6 m c) := by
  show (cfg0.win 6).cut (grid0.coords t) ((dats m 0 c).after 6 t) = _
  rw [after0_6]
  funext y
  show (out0_6 (F := Ideal) _ _ _ y : EReal) = arr6 m c ((win0_6.rect t).emb y)
  obtain ⟨i, j, rfl⟩ : ∃ (i : Fin 1024) (j : Fin 512), y = ix2 i j := ⟨y 0, y 1, by funext a; fin_cases a <;> rfl⟩
  have ht : t.val < 64 := t.isLt
  have e : (win0_6.rect t).emb (ix2 i j) = ix2 (⟨t.val * 1024 + i.val, by omega⟩ : Fin 65536) j := by
    funext a; apply Fin.ext
    rw [win0_6.rect_emb_val t _ a, idx6]
    fin_cases a
    · rfl
    · show 0 * 512 + j.val = j.val; omega
  rw [e]
  exact (out6_at _ _ _ i j).trans (bd_blk m c t i ⟨t.val * 1024 + i.val, by omega⟩ rfl _ _ (fun k => war3_at _ k j))

theorem done6 (c : Dev nD) : (dats m 0 c).arrAt 6 cfg0.N = arr6 m c := by
  refine Dat.arrAt_eq_of_cover _ 6 _ (fun t _ => flushed6 m c t) fun i => ?_
  have h0 : (i 0).val < 65536 := (i 0).isLt
  obtain ⟨t, ht⟩ : ∃ t : Fin cfg0.N, t.val = (i 0).val / 1024 := ⟨⟨(i 0).val / 1024, by show _ < 64; omega⟩, rfl⟩
  refine ⟨t, flush0_6 _, ?_⟩
  have e : (win0_6.rect t).emb (ix2 (n0 := 1024) (n1 := 512) ⟨(i 0).val % 1024, by omega⟩ (i 1)) = i := by
    funext a; apply Fin.ext
    rw [win0_6.rect_emb_val _ _ a, idx6]
    fin_cases a
    · show t.val * 1024 + (i 0).val % 1024 = (i 0).val; omega
    · show 0 * 512 + (i 1).val = (i 1).val; omega
  have hm := View.emb_mem_set ((cfg0.win 6).blk t).view (ix2 (n0 := 1024) (n1 := 512) ⟨(i 0).val % 1024, by omega⟩ (i 1))
  rwa [show ((cfg0.win 6).blk t).view.emb (ix2 (n0 := 1024) (n1 := 512) ⟨(i 0).val % 1024, by omega⟩ (i 1)) = i from e] at hm

/-- What tile `t` writes back to array 4 is its block of the array. -/
theorem flushed7 (c : Dev nD) (t : Fin cfg0.N) :
    (dats m 0 c).flushed 7 t = ((cfg0.win 7).blk t).view.read (Elt Ideal) (arr7 m c) := by
  show (cfg0.win 7).cut (grid0.coords t) ((dats m 0 c).after 7 t) = _
  rw [after0_7]
  funext y
  show (out0_7 (F := Ideal) _ _ _ y : EReal) = arr7 m c ((win0_7.rect t).emb y)
  obtain ⟨i, j, rfl⟩ : ∃ (i : Fin 1024) (j : Fin 1536), y = ix2 i j := ⟨y 0, y 1, by funext a; fin_cases a <;> rfl⟩
  have ht : t.val < 64 := t.isLt
  have e : (win0_7.rect t).emb (ix2 i j) = ix2 (⟨t.val * 1024 + i.val, by omega⟩ : Fin 65536) j := by
    funext a; apply Fin.ext
    rw [win0_7.rect_emb_val t _ a, idx7]
    fin_cases a
    · rfl
    · show 0 * 1536 + j.val = j.val; omega
  rw [e]
  exact (out7_at _ _ _ i j).trans (bd_blk m c t i ⟨t.val * 1024 + i.val, by omega⟩ rfl _ _ (fun k => war4_at _ k j))

theorem done7 (c : Dev nD) : (dats m 0 c).arrAt 7 cfg0.N = arr7 m c := by
  refine Dat.arrAt_eq_of_cover _ 7 _ (fun t _ => flushed7 m c t) fun i => ?_
  have h0 : (i 0).val < 65536 := (i 0).isLt
  obtain ⟨t, ht⟩ : ∃ t : Fin cfg0.N, t.val = (i 0).val / 1024 := ⟨⟨(i 0).val / 1024, by show _ < 64; omega⟩, rfl⟩
  refine ⟨t, flush0_7 _, ?_⟩
  have e : (win0_7.rect t).emb (ix2 (n0 := 1024) (n1 := 1536) ⟨(i 0).val % 1024, by omega⟩ (i 1)) = i := by
    funext a; apply Fin.ext
    rw [win0_7.rect_emb_val _ _ a, idx7]
    fin_cases a
    · show t.val * 1024 + (i 0).val % 1024 = (i 0).val; omega
    · show 0 * 1536 + (i 1).val = (i 1).val; omega
  have hm := View.emb_mem_set ((cfg0.win 7).blk t).view (ix2 (n0 := 1024) (n1 := 1536) ⟨(i 0).val % 1024, by omega⟩ (i 1))
  rwa [show ((cfg0.win 7).blk t).view.emb (ix2 (n0 := 1024) (n1 := 1536) ⟨(i 0).val % 1024, by omega⟩ (i 1)) = i from e] at hm

/-- What tile `t` writes back to array 5 is its block of the array. -/
theorem flushed8 (c : Dev nD) (t : Fin cfg0.N) :
    (dats m 0 c).flushed 8 t = ((cfg0.win 8).blk t).view.read (Elt Ideal) (arr8 m c) := by
  show (cfg0.win 8).cut (grid0.coords t) ((dats m 0 c).after 8 t) = _
  rw [after0_8]
  funext y
  show (out0_8 (F := Ideal) _ _ _ y : EReal) = arr8 m c ((win0_8.rect t).emb y)
  obtain ⟨i, j, rfl⟩ : ∃ (i : Fin 1024) (j : Fin 512), y = ix2 i j := ⟨y 0, y 1, by funext a; fin_cases a <;> rfl⟩
  have ht : t.val < 64 := t.isLt
  have e : (win0_8.rect t).emb (ix2 i j) = ix2 (⟨t.val * 1024 + i.val, by omega⟩ : Fin 65536) j := by
    funext a; apply Fin.ext
    rw [win0_8.rect_emb_val t _ a, idx8]
    fin_cases a
    · rfl
    · show 0 * 512 + j.val = j.val; omega
  rw [e]
  exact (out8_at _ _ _ i j).trans (bd_blk m c t i ⟨t.val * 1024 + i.val, by omega⟩ rfl _ _ (fun k => war5_at _ k j))

theorem done8 (c : Dev nD) : (dats m 0 c).arrAt 8 cfg0.N = arr8 m c := by
  refine Dat.arrAt_eq_of_cover _ 8 _ (fun t _ => flushed8 m c t) fun i => ?_
  have h0 : (i 0).val < 65536 := (i 0).isLt
  obtain ⟨t, ht⟩ : ∃ t : Fin cfg0.N, t.val = (i 0).val / 1024 := ⟨⟨(i 0).val / 1024, by show _ < 64; omega⟩, rfl⟩
  refine ⟨t, flush0_8 _, ?_⟩
  have e : (win0_8.rect t).emb (ix2 (n0 := 1024) (n1 := 512) ⟨(i 0).val % 1024, by omega⟩ (i 1)) = i := by
    funext a; apply Fin.ext
    rw [win0_8.rect_emb_val _ _ a, idx8]
    fin_cases a
    · show t.val * 1024 + (i 0).val % 1024 = (i 0).val; omega
    · show 0 * 512 + (i 1).val = (i 1).val; omega
  have hm := View.emb_mem_set ((cfg0.win 8).blk t).view (ix2 (n0 := 1024) (n1 := 512) ⟨(i 0).val % 1024, by omega⟩ (i 1))
  rwa [show ((cfg0.win 8).blk t).view.emb (ix2 (n0 := 1024) (n1 := 512) ⟨(i 0).val % 1024, by omega⟩ (i 1)) = i from e] at hm

/-- What tile `t` writes back to array 6 is its block of the array. -/
theorem flushed9 (c : Dev nD) (t : Fin cfg0.N) :
    (dats m 0 c).flushed 9 t = ((cfg0.win 9).blk t).view.read (Elt Ideal) (arr9 m c) := by
  show (cfg0.win 9).cut (grid0.coords t) ((dats m 0 c).after 9 t) = _
  rw [after0_9]
  funext y
  show (out0_9 (F := Ideal) _ _ _ y : EReal) = arr9 m c ((win0_9.rect t).emb y)
  obtain ⟨i, j, rfl⟩ : ∃ (i : Fin 1024) (j : Fin 512), y = ix2 i j := ⟨y 0, y 1, by funext a; fin_cases a <;> rfl⟩
  have ht : t.val < 64 := t.isLt
  have e : (win0_9.rect t).emb (ix2 i j) = ix2 (⟨t.val * 1024 + i.val, by omega⟩ : Fin 65536) j := by
    funext a; apply Fin.ext
    rw [win0_9.rect_emb_val t _ a, idx9]
    fin_cases a
    · rfl
    · show 0 * 512 + j.val = j.val; omega
  rw [e]
  exact (out9_at _ _ _ i j).trans (congrArg (· * sq1) (bd_blk m c t i ⟨t.val * 1024 + i.val, by omega⟩ rfl _ _ (fun k => war6_at _ k j)))

theorem done9 (c : Dev nD) : (dats m 0 c).arrAt 9 cfg0.N = arr9 m c := by
  refine Dat.arrAt_eq_of_cover _ 9 _ (fun t _ => flushed9 m c t) fun i => ?_
  have h0 : (i 0).val < 65536 := (i 0).isLt
  obtain ⟨t, ht⟩ : ∃ t : Fin cfg0.N, t.val = (i 0).val / 1024 := ⟨⟨(i 0).val / 1024, by show _ < 64; omega⟩, rfl⟩
  refine ⟨t, flush0_9 _, ?_⟩
  have e : (win0_9.rect t).emb (ix2 (n0 := 1024) (n1 := 512) ⟨(i 0).val % 1024, by omega⟩ (i 1)) = i := by
    funext a; apply Fin.ext
    rw [win0_9.rect_emb_val _ _ a, idx9]
    fin_cases a
    · show t.val * 1024 + (i 0).val % 1024 = (i 0).val; omega
    · show 0 * 512 + (i 1).val = (i 1).val; omega
  have hm := View.emb_mem_set ((cfg0.win 9).blk t).view (ix2 (n0 := 1024) (n1 := 512) ⟨(i 0).val % 1024, by omega⟩ (i 1))
  rwa [show ((cfg0.win 9).blk t).view.emb (ix2 (n0 := 1024) (n1 := 512) ⟨(i 0).val % 1024, by omega⟩ (i 1)) = i from e] at hm

/-- What tile `t` writes back to array 7 is its block of the array. -/
theorem flushed10 (c : Dev nD) (t : Fin cfg0.N) :
    (dats m 0 c).flushed 10 t = ((cfg0.win 10).blk t).view.read (Elt Ideal) (arr10 m c) := by
  show (cfg0.win 10).cut (grid0.coords t) ((dats m 0 c).after 10 t) = _
  rw [after0_10]
  funext y
  show (out0_10 (F := Ideal) _ _ _ y : EReal) = arr10 m c ((win0_10.rect t).emb y)
  obtain ⟨i, j, rfl⟩ : ∃ (i : Fin 1024) (j : Fin 128), y = ix2 i j := ⟨y 0, y 1, by funext a; fin_cases a <;> rfl⟩
  have ht : t.val < 64 := t.isLt
  have e : (win0_10.rect t).emb (ix2 i j) = ix2 (⟨t.val * 1024 + i.val, by omega⟩ : Fin 65536) j := by
    funext a; apply Fin.ext
    rw [win0_10.rect_emb_val t _ a, idx10]
    fin_cases a
    · rfl
    · show 0 * 128 + j.val = j.val; omega
  rw [e]
  exact (out10_at _ _ _ i j).trans ((bd_blk m c t i ⟨t.val * 1024 + i.val, by omega⟩ rfl _ _ (fun k => (war7_at _ k j).trans (wsm_at _ k j))).trans (px_small m c _ j))

theorem done10 (c : Dev nD) : (dats m 0 c).arrAt 10 cfg0.N = arr10 m c := by
  refine Dat.arrAt_eq_of_cover _ 10 _ (fun t _ => flushed10 m c t) fun i => ?_
  have h0 : (i 0).val < 65536 := (i 0).isLt
  obtain ⟨t, ht⟩ : ∃ t : Fin cfg0.N, t.val = (i 0).val / 1024 := ⟨⟨(i 0).val / 1024, by show _ < 64; omega⟩, rfl⟩
  refine ⟨t, flush0_10 _, ?_⟩
  have e : (win0_10.rect t).emb (ix2 (n0 := 1024) (n1 := 128) ⟨(i 0).val % 1024, by omega⟩ (i 1)) = i := by
    funext a; apply Fin.ext
    rw [win0_10.rect_emb_val _ _ a, idx10]
    fin_cases a
    · show t.val * 1024 + (i 0).val % 1024 = (i 0).val; omega
    · show 0 * 128 + (i 1).val = (i 1).val; omega
  have hm := View.emb_mem_set ((cfg0.win 10).blk t).view (ix2 (n0 := 1024) (n1 := 128) ⟨(i 0).val % 1024, by omega⟩ (i 1))
  rwa [show ((cfg0.win 10).blk t).view.emb (ix2 (n0 := 1024) (n1 := 128) ⟨(i 0).val % 1024, by omega⟩ (i 1)) = i from e] at hm

end Cert.ProjIdeal.Own

namespace Cert.ProjProof
open Idealize.ShloMosaic Idealize.ShloMosaic.TcCoe Idealize.SL.Sem Cert.Rows
open Cert.ProjReferenceIdeal.Own (prd)

theorem refFrame : Cert.quiescent_ProjReferenceIdeal := fun m ρ _ =>
  (θ_run Cert.ProjReferenceIdeal.defs _ _).mono (fun r h => ⟨fun c => (h c).2.2.2.2.2.2.2.2, Idealize.ShloMosaic.sem_eq_zero_of_no_sems (by decide) r.2⟩) (Cert.ProjReferenceIdeal.Value.run (F := Ideal) m ρ)

section
variable (m : (ℓ : Loc Cert.ProjIdeal.nD Cert.ProjIdeal.τ Cert.ProjIdeal.sig) → Buf (Elt Ideal) ℓ) (c : Dev Cert.ProjIdeal.nD)
/-- The reference's product of the normed rows and the matrix, of the call's arguments. -/
def yy : FVec Ideal Cert.ProjReferenceIdeal.S65536x3872 .f32 :=
  prd (m (c.tc.loc Cert.ProjIdeal.main_arg0)) (m (c.tc.loc Cert.ProjIdeal.main_arg1)) (m (c.tc.loc Cert.ProjIdeal.main_arg2))
theorem yy_at (i : Fin 65536) (q : Fin 3872) : (yy m c (ix2 i q) : EReal) = Cert.ProjIdeal.Own.pd m c i q := Cert.ProjReferenceIdeal.Own.prd_at _ _ _ i q
theorem ref0 : (Cert.ProjReferenceIdeal.Own.r0 (yy m c) : Vec Ideal Cert.ProjReferenceIdeal.S65536x512 .bf16) = Cert.ProjIdeal.Own.arr3 m c := by
  funext y
  obtain ⟨i, j, rfl⟩ : ∃ (i : Fin 65536) (j : Fin 512), y = ix2 i j := ⟨y 0, y 1, by funext a; fin_cases a <;> rfl⟩
  exact (Cert.ProjReferenceIdeal.Own.r0_at _ i j).trans (congrArg (· * sq0) (yy_at m c i _))
theorem ref1 : (Cert.ProjReferenceIdeal.Own.r1 (yy m c) : Vec Ideal Cert.ProjReferenceIdeal.S65536x128 .bf16) = Cert.ProjIdeal.Own.arr4 m c := by
  funext y
  obtain ⟨i, j, rfl⟩ : ∃ (i : Fin 65536) (j : Fin 128), y = ix2 i j := ⟨y 0, y 1, by funext a; fin_cases a <;> rfl⟩
  exact (Cert.ProjReferenceIdeal.Own.r1_at _ i j).trans (yy_at m c i _)
theorem ref2 : (Cert.ProjReferenceIdeal.Own.r2 (yy m c) : Vec Ideal Cert.ProjReferenceIdeal.S65536x128 .bf16) = Cert.ProjIdeal.Own.arr5 m c := by
  funext y
  obtain ⟨i, j, rfl⟩ : ∃ (i : Fin 65536) (j : Fin 128), y = ix2 i j := ⟨y 0, y 1, by funext a; fin_cases a <;> rfl⟩
  exact (Cert.ProjReferenceIdeal.Own.r2_at _ i j).trans (yy_at m c i _)
theorem ref3 : (Cert.ProjReferenceIdeal.Own.r3 (yy m c) : Vec Ideal Cert.ProjReferenceIdeal.S65536x512 .bf16) = Cert.ProjIdeal.Own.arr6 m c := by
  funext y
  obtain ⟨i, j, rfl⟩ : ∃ (i : Fin 65536) (j : Fin 512), y = ix2 i j := ⟨y 0, y 1, by funext a; fin_cases a <;> rfl⟩
  exact (Cert.ProjReferenceIdeal.Own.r3_at _ i j).trans (yy_at m c i _)
theorem ref4 : (Cert.ProjReferenceIdeal.Own.r4 (yy m c) : Vec Ideal Cert.ProjReferenceIdeal.S65536x1536 .bf16) = Cert.ProjIdeal.Own.arr7 m c := by
  funext y
  obtain ⟨i, j, rfl⟩ : ∃ (i : Fin 65536) (j : Fin 1536), y = ix2 i j := ⟨y 0, y 1, by funext a; fin_cases a <;> rfl⟩
  exact (Cert.ProjReferenceIdeal.Own.r4_at _ i j).trans (yy_at m c i _)
theorem ref5 : (Cert.ProjReferenceIdeal.Own.r5 (yy m c) : Vec Ideal Cert.ProjReferenceIdeal.S65536x512 .bf16) = Cert.ProjIdeal.Own.arr8 m c := by
  funext y
  obtain ⟨i, j, rfl⟩ : ∃ (i : Fin 65536) (j : Fin 512), y = ix2 i j := ⟨y 0, y 1, by funext a; fin_cases a <;> rfl⟩
  exact (Cert.ProjReferenceIdeal.Own.r5_at _ i j).trans (yy_at m c i _)
theorem ref6 : (Cert.ProjReferenceIdeal.Own.r6 (yy m c) : Vec Ideal Cert.ProjReferenceIdeal.S65536x512 .bf16) = Cert.ProjIdeal.Own.arr9 m c := by
  funext y
  obtain ⟨i, j, rfl⟩ : ∃ (i : Fin 65536) (j : Fin 512), y = ix2 i j := ⟨y 0, y 1, by funext a; fin_cases a <;> rfl⟩
  exact (Cert.ProjReferenceIdeal.Own.r6_at _ i j).trans (congrArg (· * sq1) (yy_at m c i _))
theorem ref7 : (Cert.ProjReferenceIdeal.Own.r7 (yy m c) : Vec Ideal Cert.ProjReferenceIdeal.S65536x128 .f32) = Cert.ProjIdeal.Own.arr10 m c := by
  funext y
  obtain ⟨i, j, rfl⟩ : ∃ (i : Fin 65536) (j : Fin 128), y = ix2 i j := ⟨y 0, y 1, by funext a; fin_cases a <;> rfl⟩
  exact (Cert.ProjReferenceIdeal.Own.r7_at _ i j).trans (congrArg (fun f => small f j) (funext fun q => yy_at m c i q))
end

theorem algebraic : Cert.algebraic_ProjIdeal_ProjReferenceIdeal := fun m g m' g' hpre hargs => by
  refine ⟨fun c => Cert.ProjIdeal.Own.arr3 m c, fun c => Cert.ProjIdeal.Own.arr4 m c, fun c => Cert.ProjIdeal.Own.arr5 m c, fun c => Cert.ProjIdeal.Own.arr6 m c, fun c => Cert.ProjIdeal.Own.arr7 m c, fun c => Cert.ProjIdeal.Own.arr8 m c, fun c => Cert.ProjIdeal.Own.arr9 m c, fun c => Cert.ProjIdeal.Own.arr10 m c,
    (θ_run _ _ _).mono (fun r h c => ⟨(h c).1.trans (Cert.ProjIdeal.Own.done3 m c),
      (h c).2.1.trans (Cert.ProjIdeal.Own.done4 m c),
      (h c).2.2.1.trans (Cert.ProjIdeal.Own.done5 m c),
      (h c).2.2.2.1.trans (Cert.ProjIdeal.Own.done6 m c),
      (h c).2.2.2.2.1.trans (Cert.ProjIdeal.Own.done7 m c),
      (h c).2.2.2.2.2.1.trans (Cert.ProjIdeal.Own.done8 m c),
      (h c).2.2.2.2.2.2.1.trans (Cert.ProjIdeal.Own.done9 m c),
      (h c).2.2.2.2.2.2.2.1.trans (Cert.ProjIdeal.Own.done10 m c),
      (h c).2.2.2.2.2.2.2.2⟩) (Cert.ProjIdeal.Value.run_blocks (F := Ideal) m g),
    (θ_run _ _ _).mono (fun r h c => ⟨(h c).1.trans ((?_ : _ = Cert.ProjReferenceIdeal.Own.r0 (yy m c)).trans (ref0 m c)),
      (h c).2.1.trans ((?_ : _ = Cert.ProjReferenceIdeal.Own.r1 (yy m c)).trans (ref1 m c)),
      (h c).2.2.1.trans ((?_ : _ = Cert.ProjReferenceIdeal.Own.r2 (yy m c)).trans (ref2 m c)),
      (h c).2.2.2.1.trans ((?_ : _ = Cert.ProjReferenceIdeal.Own.r3 (yy m c)).trans (ref3 m c)),
      (h c).2.2.2.2.1.trans ((?_ : _ = Cert.ProjReferenceIdeal.Own.r4 (yy m c)).trans (ref4 m c)),
      (h c).2.2.2.2.2.1.trans ((?_ : _ = Cert.ProjReferenceIdeal.Own.r5 (yy m c)).trans (ref5 m c)),
      (h c).2.2.2.2.2.2.1.trans ((?_ : _ = Cert.ProjReferenceIdeal.Own.r6 (yy m c)).trans (ref6 m c)),
      (h c).2.2.2.2.2.2.2.1.trans ((?_ : _ = Cert.ProjReferenceIdeal.Own.r7 (yy m c)).trans (ref7 m c)),
      (h c).2.2.2.2.2.2.2.2⟩) (Cert.ProjReferenceIdeal.Value.run (F := Ideal) m' g')⟩
  all_goals
    obtain ⟨h0, h1, h2⟩ := hargs c
    rw [h0, h1, h2]
    rfl

end Cert.ProjProof
end
-- ==== Proof.MergeRead.lean ====
/- The merge call's output block at an index, and its reference's result at an index: the same function of a row and of the row's memory. -/
module

public import proofs.«01_k».proof.Proof.Gen.MergeIdeal.Value
public import proofs.«01_k».proof.Proof.Gen.MergeReferenceIdeal.Run
public import proofs.«01_k».proof.Proof.Rows

@[expose] public section
set_option maxRecDepth 16384
noncomputable section
namespace Cert.Rows
open Idealize.ShloMosaic Idealize.ShloMosaic.TcCoe

/-- One head's inner product of a query row and a memory row. -/
def lg (q k : Fin 512 → EReal) (h : Fin 4) : EReal := ∑ d : Fin 128, q ⟨h.val * 128 + d.val, by omega⟩ * k ⟨h.val * 128 + d.val, by omega⟩

/-- The largest of 256 entries. -/
def mx (f : Fin 256 → EReal) : EReal := Finset.fold max (Ideal.ofBits FTy.f32 0xFF800000#32) f Finset.univ

/-- The softmax of 256 entries, at one of them. -/
def sm (f : Fin 256 → EReal) (x : Fin 256) : EReal := Ideal.div (Ideal.exp (f x - mx f)) (∑ y, Ideal.exp (f y - mx f))

/-- A query row's attention over the memory, the heads side by side. -/
def att (q : Fin 512 → EReal) (k v : Fin 256 → Fin 512 → EReal) (j : Fin 512) : EReal :=
  ∑ x, sm (fun y => lg q (k y) ⟨j.val / 128, by omega⟩) x * v x j

/-- One branch's gated projection: gate `z` of the normed row, times the branch's row by its matrix. -/
def gated (u : Fin 1024 → EReal) (wg : Fin 1024 → Fin 3072 → EReal) (z : Fin 3) (o : Fin 512 → EReal) (w : Fin 512 → Fin 1024 → EReal) (j : Fin 1024) : EReal :=
  Ideal.logistic (∑ k, u k * wg k ⟨z.val * 1024 + j.val, by omega⟩) * ∑ k, o k * w k j

/-- The merge of a row. -/
def merge (x : Fin 1024 → EReal) (a b q : Fin 512 → EReal) (mk mv : Fin 256 → Fin 512 → EReal) (pre : Fin 1024 → EReal) (wg : Fin 1024 → Fin 3072 → EReal)
    (wa wb wm : Fin 512 → Fin 1024 → EReal) (wo : Fin 1024 → Fin 1024 → EReal) (post : Fin 1024 → EReal) (j : Fin 1024) : EReal :=
  x j + nrm (fun j => ∑ k, (gated (nrm x pre) wg 0 a wa k + gated (nrm x pre) wg 1 b wb k + gated (nrm x pre) wg 2 (att q mk mv) wm k) * wo k j) post j

/-- A load of a run of columns of the only matrix of a stack, at an index. -/
theorem ld3_at {n1 n2 b : ℕ} {e : EltTy} (x : Vec Ideal ⟨3, ![1, n1, n2]⟩ e) (q : ℕ) (hb) (i : Fin n1) (j : Fin b) (j' : Fin n2) (hj : j'.val = q + j.val) :
    View.ld x (Rect.unit (s := ⟨3, ![1, n1, n2]⟩) ![0, 0, q] ![1, n1, b] hb) (ix3 0 i j) = x (ix3 0 i j') := by
  show x _ = x _
  congr 1
  funext r; apply Fin.ext
  fin_cases r
  · rfl
  · show 0 + 1 * i.val = i.val; omega
  · show q + 1 * j.val = j'.val; omega

end Cert.Rows

namespace Cert.MergeIdeal.Own
open Cert.MergeIdeal Cert.MergeIdeal.Gen Cert.Rows
open Idealize.ShloMosaic Idealize.ShloMosaic.TcCoe Idealize.ShloMosaic.Tactic

/-- A head's weights from its columns of the queries and of the memory keys. -/
def hw (q : Vec Ideal S1024x128 .bf16) (k : Vec Ideal S1x256x128 .bf16) (i : Fin 1024) (x : Fin 256) : EReal :=
  sm (fun y => ∑ d, q (ix2 i d) * k (ix3 0 y d)) x

theorem pay2_at (v0 : Vec Ideal S1024x1024 .f32) (v1 : Vec Ideal S1x1024 .f32) (i j : Fin 1024) :
    (k0_pay2 v0 v1 (ix2 i j) : EReal) = nrm (fun k => v0 (ix2 i k)) (fun k => v1 (ix2 0 k)) j := by
  pointwise [k0_pay2]; rfl
theorem pay6_at q k (i : Fin 1024) (x : Fin 256) : (k0_pay6 (F := Ideal) (k0_pay3 q k) (ix2 i x) : EReal) = hw q k i x := by
  pointwise [k0_pay6, k0_pay3]; rfl
theorem pay7_at q k (i : Fin 1024) (x : Fin 256) : (k0_pay7 (F := Ideal) (k0_pay4 q k) (ix2 i x) : EReal) = hw q k i x := by
  pointwise [k0_pay7, k0_pay4]; rfl
theorem pay8_at q k (i : Fin 1024) (x : Fin 256) : (k0_pay8 (F := Ideal) (k0_pay5 q k) (ix2 i x) : EReal) = hw q k i x := by
  pointwise [k0_pay8, k0_pay5]; rfl
theorem pay9_at q k (i : Fin 1024) (x : Fin 256) : (k0_pay9 (F := Ideal) q k (ix2 i x) : EReal) = hw q k i x := by
  pointwise [k0_pay9]; rfl

theorem head_at (x3 : Vec Ideal S1024x512 .bf16) (x4 x5 : Vec Ideal S1x256x512 .bf16) (h : Fin 4) (p : FVec Ideal S1024x256 .bf16) (h3 h4) (i : Fin 1024) (j : Fin 512) (d : Fin 128)
    (hp : ∀ x, (p (ix2 i x) : EReal) = hw (View.ld x3 (Rect.unit (s := S1024x512) ![0, 128 * h.val] S1024x128.size h3)) (View.ld x4 (Rect.unit (s := S1x256x512) ![0, 0, 128 * h.val] S1x256x128.size h4)) i x)
    (hj : j.val = 128 * h.val + d.val) :
    (∑ x : Fin 256, (p (ix2 i x) : EReal) * View.ld x5 (Rect.unit (s := S1x256x512) ![0, 0, 128 * h.val] S1x256x128.size h4) (ix3 0 x d))
      = att (fun k => x3 (ix2 i k)) (fun y k => x4 (ix3 0 y k)) (fun y k => x5 (ix3 0 y k)) j := by
  have e : (⟨j.val / 128, by omega⟩ : Fin 4) = h := Fin.ext (by show j.val / 128 = h.val; omega)
  unfold att
  rw [e]
  refine Finset.sum_congr rfl fun x _ => congrArg₂ (· * ·) ((hp x).trans ?_) (ld3_at x5 _ _ _ _ _ hj)
  refine congrArg (fun f => sm f x) (funext fun y => Finset.sum_congr rfl fun d _ => congrArg₂ (· * ·) (ld_at x3 _ _ _ _ _ _ _ (Nat.zero_add _).symm ?_) (ld3_at x4 _ _ _ _ _ ?_))
  · show h.val * 128 + d.val = 128 * h.val + d.val; omega
  · show h.val * 128 + d.val = 128 * h.val + d.val; omega

theorem pay10_cases a b c d e f g h (i : Fin 1024) (j : Fin 512) (z : EReal)
    (h0 : ∀ d' : Fin 128, j.val = 0 + d'.val → (∑ x : Fin 256, (a (ix2 i x) : EReal) * e (ix3 0 x d')) = z)
    (h1 : ∀ d' : Fin 128, j.val = 128 + d'.val → (∑ x : Fin 256, (b (ix2 i x) : EReal) * f (ix3 0 x d')) = z)
    (h2 : ∀ d' : Fin 128, j.val = 256 + d'.val → (∑ x : Fin 256, (c (ix2 i x) : EReal) * g (ix3 0 x d')) = z)
    (h3 : ∀ d' : Fin 128, j.val = 384 + d'.val → (∑ x : Fin 256, (d (ix2 i x) : EReal) * h (ix3 0 x d')) = z) :
    (k0_pay10 (F := Ideal) a b c d e f g h (ix2 i j) : EReal) = z := by
  pointwise [k0_pay10]
  by_cases g0 : j.val < 128
  · exact (dif_pos g0).trans (h0 ⟨j.val, by omega⟩ (Nat.zero_add _).symm)
  refine (dif_neg g0).trans ?_
  by_cases g1 : j.val - 128 < 128
  · exact (dif_pos g1).trans (h1 ⟨j.val - 128, by omega⟩ (by show j.val = 128 + (j.val - 128); omega))
  refine (dif_neg g1).trans ?_
  by_cases g2 : j.val - 128 - 128 < 128
  · exact (dif_pos g2).trans (h2 ⟨j.val - 128 - 128, by omega⟩ (by show j.val = 256 + (j.val - 128 - 128); omega))
  exact (dif_neg g2).trans (h3 ⟨j.val - 128 - 128 - 128, by omega⟩ (by show j.val = 384 + (j.val - 128 - 128 - 128); omega))

theorem pay10_at (x3 : Vec Ideal S1024x512 .bf16) (x4 x5 : Vec Ideal S1x256x512 .bf16) (i : Fin 1024) (p0 p1 p2 p3 : FVec Ideal S1024x256 .bf16)
    (h0 : ∀ x, (p0 (ix2 i x) : EReal) = hw (View.ld x3 r0_3) (View.ld x4 r0_4) i x) (h1 : ∀ x, (p1 (ix2 i x) : EReal) = hw (View.ld x3 r0_5) (View.ld x4 r0_6) i x)
    (h2 : ∀ x, (p2 (ix2 i x) : EReal) = hw (View.ld x3 r0_7) (View.ld x4 r0_8) i x) (h3 : ∀ x, (p3 (ix2 i x) : EReal) = hw (View.ld x3 r0_9) (View.ld x4 r0_10) i x) (j : Fin 512) :
    (k0_pay10 p0 p1 p2 p3 (View.ld x5 r0_4) (View.ld x5 r0_6) (View.ld x5 r0_8) (View.ld x5 r0_10) (ix2 i j) : EReal)
      = att (fun k => x3 (ix2 i k)) (fun y k => x4 (ix3 0 y k)) (fun y k => x5 (ix3 0 y k)) j := by
  exact pay10_cases p0 p1 p2 p3 _ _ _ _ i j _
    (fun d hj => head_at x3 x4 x5 0 p0 inb_S1024x512_S1024x128_0_0 inb_S1x256x512_S1x256x128_0_0_0 i j d h0 hj)
    (fun d hj => head_at x3 x4 x5 1 p1 inb_S1024x512_S1024x128_0_128 inb_S1x256x512_S1x256x128_0_0_128 i j d h1 hj)
    (fun d hj => head_at x3 x4 x5 2 p2 inb_S1024x512_S1024x128_0_256 inb_S1x256x512_S1x256x128_0_0_256 i j d h2 hj)
    (fun d hj => head_at x3 x4 x5 3 p3 inb_S1024x512_S1024x128_0_384 inb_S1x256x512_S1x256x128_0_0_384 i j d h3 hj)

theorem pay11_at v15 v16 v92 v96 (i j : Fin 1024) : (k0_pay11 (F := Ideal) v15 v16 v92 v96 (ix2 i j) : EReal) = Ideal.logistic (∑ k, v15 (ix2 i k) * v92 (ix2 k j)) * ∑ k, v16 (ix2 i k) * v96 (ix2 k j) := by
  pointwise [k0_pay11]
theorem pay1_at v0 v15 v17 v90 v100 v101 v105 v110 v114 v120 v123 (i j : Fin 1024) :
    (k0_pay1 (F := Ideal) v0 v15 v17 v90 v100 (k0_pay12 v15 v101) (k0_pay13 v105) (constant S1024x1024 .f32 0x00000000#32) v110 v114 v120 v123 (ix2 i j) : EReal)
      = v0 (ix2 i j) + nrm (fun j => ∑ k, (v100 (ix2 i k) + Ideal.logistic (∑ r, v15 (ix2 i r) * v101 (ix2 r k)) * (∑ r, v17 (ix2 i r) * v105 (ix2 r k))
          + Ideal.logistic (∑ r, v15 (ix2 i r) * v110 (ix2 r k)) * (∑ r, v90 (ix2 i r) * v114 (ix2 r k))) * v120 (ix2 k j)) (fun k => v123 (ix2 0 k)) j := by
  pointwise [k0_pay1, k0_pay12, k0_pay13]; rfl

theorem out_at (x0 : Vec Ideal S1024x1024 .f32) (x1 x2 x3 : Vec Ideal S1024x512 .bf16) (x4 x5 : Vec Ideal S1x256x512 .bf16) (x6 : Vec Ideal S1x1024 .f32) (x7 : Vec Ideal S1024x3072 .bf16)
    (x8 x9 x10 : Vec Ideal S512x1024 .bf16) (x11 : Vec Ideal S1024x1024 .bf16) (x12 : Vec Ideal S1x1024 .f32) (i j : Fin 1024) :
    (out0_13 x0 x1 x2 x3 x4 x5 x6 x7 x8 x9 x10 x11 x12 (ix2 i j) : EReal)
      = merge (fun k => x0 (ix2 i k)) (fun k => x1 (ix2 i k)) (fun k => x2 (ix2 i k)) (fun k => x3 (ix2 i k)) (fun y k => x4 (ix3 0 y k)) (fun y k => x5 (ix3 0 y k)) (fun k => x6 (ix2 0 k)) (fun r k => x7 (ix2 r k))
          (fun r k => x8 (ix2 r k)) (fun r k => x9 (ix2 r k)) (fun r k => x10 (ix2 r k)) (fun r k => x11 (ix2 r k)) (fun k => x12 (ix2 0 k)) j := by
  unfold out0_13 k0_pay14
  rw [View.canon_cons_unit_lit _ _ _ (by decide), View.ld_unit_lit _ x0 (by decide), View.ld_unit_lit _ x1 (by decide), View.ld_unit_lit _ x2 (by decide), View.ld_unit_lit _ x6 (by decide),
    View.ld_unit_lit _ x8 (by decide), View.ld_unit_lit _ x9 (by decide), View.ld_unit_lit _ x10 (by decide), View.ld_unit_lit _ x11 (by decide), View.ld_unit_lit _ x12 (by decide)]
  refine (pay1_at _ _ _ _ _ _ _ _ _ _ _ i j).trans ?_
  refine congrArg (x0 (ix2 i j) + ·) (congrArg (fun f => nrm f _ j) (funext fun j => Finset.sum_congr rfl fun k _ => congrArg (· * x11 (ix2 k j)) ?_))
  have hg : ∀ (z : Fin 3) (h7), (∑ r, (k0_pay2 x0 x6 (ix2 i r) : EReal) * View.ld x7 (Rect.unit (s := S1024x3072) ![0, 1024 * z.val] S1024x1024.size h7) (ix2 r k))
      = ∑ r, nrm (fun k => x0 (ix2 i k)) (fun k => x6 (ix2 0 k)) r * x7 (ix2 r ⟨z.val * 1024 + k.val, by omega⟩) := fun z h7 =>
    Finset.sum_congr rfl fun r _ => congrArg₂ (· * ·) (pay2_at x0 x6 i r) (ld_at x7 _ _ _ _ _ _ _ (Nat.zero_add _).symm (by show z.val * 1024 + k.val = 1024 * z.val + k.val; omega))
  refine congrArg₂ (· + ·) (congrArg₂ (· + ·) ((pay11_at _ _ _ _ i k).trans ?_) ?_) ?_
  · exact congrArg₂ (· * ·) (congrArg Ideal.logistic (hg 0 inb_S1024x3072_S1024x1024_0_0)) rfl
  · exact congrArg₂ (· * ·) (congrArg Ideal.logistic (hg 1 inb_S1024x3072_S1024x1024_0_1024)) rfl
  · exact congrArg₂ (· * ·) (congrArg Ideal.logistic (hg 2 inb_S1024x3072_S1024x1024_0_2048)) (Finset.sum_congr rfl fun r _ => congrArg (· * x10 (ix2 r k)) (pay10_at x3 x4 x5 i _ _ _ _ (fun x => pay6_at _ _ i x) (fun x => pay7_at _ _ i x) (fun x => pay8_at _ _ i x) (fun x => pay9_at _ _ i x) r))

end Cert.MergeIdeal.Own

namespace Cert.MergeReferenceIdeal.Own
open Cert.MergeReferenceIdeal Cert.MergeReferenceIdeal.Gen Cert.MergeReferenceIdeal.Value Cert.Rows
open Idealize.ShloMosaic Idealize.ShloMosaic.TcCoe Idealize.ShloMosaic.Tactic

/-- The products of the query rows and the memory rows, head by head. -/
def lgs (q : FVec Ideal S65536x512 .bf16) (k : FVec Ideal S32x256x512 .bf16) : FVec Ideal S32x4x2048x256 .f32 :=
  Host.dotGeneral dot_S32x2048x4x128_S32x256x4x128_S32x4x2048x256_3_3_1_1_02_02 none (shapeCast _ (extf .f32 q bitsLt_bf16_f32) shapeCasts_S65536x512_S32x2048x4x128) (shapeCast _ (extf .f32 k bitsLt_bf16_f32) shapeCasts_S32x256x512_S32x256x4x128)

/-- Their exponentials, the row maximum taken off first. -/
def exs (l : FVec Ideal S32x4x2048x256 .f32) : FVec Ideal S32x4x2048x256 .f32 :=
  Host.exp (subf l (broadcastInDim S32x4x2048x256 ![0, 1, 2, 3] bcast_S32x4x2048x1_S32x4x2048x256_0_1_2_3 (broadcastInDim S32x4x2048x1 ![0, 1, 2] bcast_S32x4x2048_S32x4x2048x1_0_1_2 (Host.reduce FloatOps.maximumf l (constant S_ .f32 0xFF800000#32) reducesTo_S32x4x2048x256_S32x4x2048_d3 h_S_))))

/-- The weights: the exponentials over their row sums. -/
def wts (e : FVec Ideal S32x4x2048x256 .f32) : FVec Ideal S32x4x2048x256 .f32 :=
  Host.divf e (broadcastInDim S32x4x2048x256 ![0, 1, 2, 3] bcast_S32x4x2048x1_S32x4x2048x256_0_1_2_3 (broadcastInDim S32x4x2048x1 ![0, 1, 2] bcast_S32x4x2048_S32x4x2048x1_0_1_2 (Host.reduceAdd e (constant S_ .f32 0x00000000#32) reducesTo_S32x4x2048x256_S32x4x2048_d3 h_S_)))

/-- The memory branch's rows: the value rows by the weights, the heads side by side. -/
def mem (p : FVec Ideal S32x4x2048x256 .f32) (v : FVec Ideal S32x256x512 .bf16) : FVec Ideal S65536x512 .f32 :=
  shapeCast _ (transpose S32x2048x4x128 [0, 3, 1, 2] (Host.dotGeneral dot_S32x256x4x128_S32x4x2048x256_S32x4x128x2048_1_3_3_2_02_01 none (shapeCast _ (extf .f32 v bitsLt_bf16_f32) shapeCasts_S32x256x512_S32x256x4x128) p) transposes_S32x4x128x2048_S32x2048x4x128_0_3_1_2) shapeCasts_S32x2048x4x128_S65536x512

/-- The root-mean-square norm of every row, times the gain. -/
def nms (x : FVec Ideal S65536x1024 .f32) (g : FVec Ideal S1024 .f32) : FVec Ideal S65536x1024 .f32 :=
  mulf (mulf x (broadcastInDim S65536x1024 ![0, 1] bcast_S65536x1_S65536x1024_0_1 (Host.rsqrt (addf (Host.divf (broadcastInDim S65536x1 ![0] bcast_S65536_S65536x1_0 (Host.reduceAdd (mulf x x) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 g))

/-- The gates. -/
def gts (u : FVec Ideal S65536x1024 .f32) (w : FVec Ideal S1024x3072 .f32) : FVec Ideal S65536x3x1024 .f32 :=
  shapeCast _ (Host.divf (broadcastInDim S65536x3072 ![] bcast_S_S65536x3072 (constant S_ .f32 0x3F800000#32)) (addf (broadcastInDim S65536x3072 ![] bcast_S_S65536x3072 (constant S_ .f32 0x3F800000#32)) (Host.exp (Host.negf (Host.dotGeneral dot_S65536x1024_S1024x3072_S65536x3072_1_0_0_1_n_n none u w))))) shapeCasts_S65536x3072_S65536x3x1024

/-- The gated sum of the three branches' projections. -/
def mrg (g : FVec Ideal S65536x3x1024 .f32) (a b : FVec Ideal S65536x512 .bf16) (o : FVec Ideal S65536x512 .f32) (wa wb wo : FVec Ideal S512x1024 .f32) : FVec Ideal S65536x1024 .f32 :=
  addf (addf (mulf (shapeCast _ (extractStridedSlice S65536x1x1024 ![0, 0, 0] g slices_S65536x3x1024_S65536x1x1024_0_0_0) shapeCasts_S65536x1x1024_S65536x1024) (Host.dotGeneral dot_S65536x512_S512x1024_S65536x1024_1_0_0_1_n_n none (extf .f32 a bitsLt_bf16_f32) wa))
    (mulf (shapeCast _ (extractStridedSlice S65536x1x1024 ![0, 1, 0] g slices_S65536x3x1024_S65536x1x1024_0_1_0) shapeCasts_S65536x1x1024_S65536x1024) (Host.dotGeneral dot_S65536x512_S512x1024_S65536x1024_1_0_0_1_n_n none (extf .f32 b bitsLt_bf16_f32) wb)))
    (mulf (shapeCast _ (extractStridedSlice S65536x1x1024 ![0, 2, 0] g slices_S65536x3x1024_S65536x1x1024_0_2_0) shapeCasts_S65536x1x1024_S65536x1024) (Host.dotGeneral dot_S65536x512_S512x1024_S65536x1024_1_0_0_1_n_n none o wo))

theorem res_eq (m : (ℓ : Loc nD τ sig) → Buf (Elt Ideal) ℓ) (c : Dev nD) :
    res_main_v70 m c = addf (m (c.tc.loc main_arg0)) (nms (Host.dotGeneral (F := Ideal) (φ₁ := .f32) (φ₂ := .f32) dot_S65536x1024_S1024x1024_S65536x1024_1_0_0_1_n_n none
      (mrg (gts (nms (m (c.tc.loc main_arg0)) (m (c.tc.loc main_arg6))) (m (c.tc.loc main_arg7))) (m (c.tc.loc main_arg1)) (m (c.tc.loc main_arg2))
        (mem (wts (exs (lgs (m (c.tc.loc main_arg3)) (m (c.tc.loc main_arg4))))) (m (c.tc.loc main_arg5)))
        (m (c.tc.loc main_arg8)) (m (c.tc.loc main_arg9)) (m (c.tc.loc main_arg10))) (m (c.tc.loc main_arg11))) (m (c.tc.loc main_arg12))) := by
  unfold res_main_v70; rfl

theorem lgs_at q k (b : Fin 32) (h : Fin 4) (s : Fin 2048) (x : Fin 256) :
    (lgs q k (ix4 b h s x) : EReal) = lg (fun d => q (ix2 ⟨b.val * 2048 + s.val, by omega⟩ d)) (fun d => k (ix3 b x d)) h := by
  pointwise [lgs]; rfl
theorem wts_at l (b : Fin 32) (h : Fin 4) (s : Fin 2048) (x : Fin 256) : (wts (exs l) (ix4 b h s x) : EReal) = sm (fun y => l (ix4 b h s y)) x := by
  pointwise [wts, exs]; rfl
theorem mem_at p v (r : Fin 65536) (j : Fin 512) : (mem p v (ix2 r j) : EReal)
    = ∑ x, p (ix4 ⟨r.val / 2048, by omega⟩ ⟨j.val / 128, by omega⟩ ⟨r.val % 2048, by omega⟩ x) * v (ix3 ⟨r.val / 2048, by omega⟩ x j) := by
  pointwise [mem]
  exact Finset.sum_congr rfl fun x _ => mul_comm _ _
theorem nms_at x g (r : Fin 65536) (j : Fin 1024) : (nms x g (ix2 r j) : EReal) = nrm (fun k => x (ix2 r k)) (fun k => g (ix1 k)) j := by
  pointwise [nms]; rfl
theorem gts_at u w (r : Fin 65536) (z : Fin 3) (j : Fin 1024) : (gts u w (ix3 r z j) : EReal) = Ideal.logistic (∑ k, u (ix2 r k) * w (ix2 k ⟨z.val * 1024 + j.val, by omega⟩)) := by
  pointwise [gts]; rfl
theorem mrg_at g a b o wa wb wo (r : Fin 65536) (j : Fin 1024) : (mrg g a b o wa wb wo (ix2 r j) : EReal)
    = g (ix3 r 0 j) * (∑ x, a (ix2 r x) * wa (ix2 x j)) + g (ix3 r 1 j) * (∑ x, b (ix2 r x) * wb (ix2 x j)) + g (ix3 r 2 j) * ∑ x, o (ix2 r x) * wo (ix2 x j) := by
  pointwise [mrg]
theorem att_at q k v (r : Fin 65536) (b : Fin 32) (hb : r.val / 2048 = b.val) (j : Fin 512) : (mem (wts (exs (lgs q k))) v (ix2 r j) : EReal)
    = att (fun d => q (ix2 r d)) (fun y d => k (ix3 b y d)) (fun y d => v (ix3 b y d)) j := by
  have e : (⟨r.val / 2048, by omega⟩ : Fin 32) = b := Fin.ext hb
  rw [mem_at, e]
  refine Finset.sum_congr rfl fun x _ => congrArg (· * _) ((wts_at _ _ _ _ x).trans (congrArg (fun f => sm f x) (funext fun y => (lgs_at _ _ _ _ _ y).trans ?_)))
  refine congrArg (fun f => lg f _ _) (funext fun d => congrArg (fun i => q (ix2 i d)) (Fin.ext ?_))
  show b.val * 2048 + r.val % 2048 = r.val; omega

theorem out_at (m : (ℓ : Loc nD τ sig) → Buf (Elt Ideal) ℓ) (c : Dev nD) (i : Fin 65536) (b : Fin 32) (hb : i.val / 2048 = b.val) (j : Fin 1024) :
    (res_main_v70 m c (ix2 i j) : EReal) = merge (fun k => m (c.tc.loc main_arg0) (ix2 i k)) (fun k => m (c.tc.loc main_arg1) (ix2 i k)) (fun k => m (c.tc.loc main_arg2) (ix2 i k)) (fun k => m (c.tc.loc main_arg3) (ix2 i k))
      (fun y k => m (c.tc.loc main_arg4) (ix3 b y k)) (fun y k => m (c.tc.loc main_arg5) (ix3 b y k)) (fun k => m (c.tc.loc main_arg6) (ix1 k)) (fun r k => m (c.tc.loc main_arg7) (ix2 r k))
      (fun r k => m (c.tc.loc main_arg8) (ix2 r k)) (fun r k => m (c.tc.loc main_arg9) (ix2 r k)) (fun r k => m (c.tc.loc main_arg10) (ix2 r k)) (fun r k => m (c.tc.loc main_arg11) (ix2 r k)) (fun k => m (c.tc.loc main_arg12) (ix1 k)) j := by
  rw [res_eq]
  pointwise []
  rw [nms_at]
  refine congrArg₂ (· + ·) rfl (congrArg (fun f => nrm f _ j) (funext fun j => ?_))
  pointwise []
  refine Finset.sum_congr rfl fun k _ => congrArg₂ (· * ·) ?_ rfl
  have hg : ∀ z : Fin 3, (gts (nms (m (c.tc.loc main_arg0)) (m (c.tc.loc main_arg6))) (m (c.tc.loc main_arg7)) (ix3 i z k) : EReal)
      = Ideal.logistic (∑ r, nrm (fun k => m (c.tc.loc main_arg0) (ix2 i k)) (fun k => m (c.tc.loc main_arg6) (ix1 k)) r * m (c.tc.loc main_arg7) (ix2 r ⟨z.val * 1024 + k.val, by omega⟩)) := fun z =>
    (gts_at _ _ i z k).trans (congrArg Ideal.logistic (Finset.sum_congr rfl fun r _ => congrArg₂ (· * ·) (nms_at _ _ i r) rfl))
  rw [mrg_at, hg, hg, hg]
  exact congrArg₂ (· + ·) rfl (congrArg₂ (· * ·) rfl (Finset.sum_congr rfl fun r _ => congrArg₂ (· * ·) (att_at _ _ _ i b hb r) rfl))

end Cert.MergeReferenceIdeal.Own
end
-- ==== Proof.MergeEqual.lean ====
/- The merge call: the output array as one function of the arguments, equal to the reference's result. -/
module

public import proofs.«01_k».proof.Proof.Gen.Merge.Frame
public import proofs.«01_k».proof.Defs
public import proofs.«01_k».proof.Proof.MergeRead
public import Idealize.ShloMosaic.Lib.Quiescent

@[expose] public section
set_option maxRecDepth 16384
noncomputable section
namespace Cert.MergeIdeal.Own
open Cert.MergeIdeal Cert.MergeIdeal.Gen Cert.Rows
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg)

/-- The sequence a row belongs to. -/
def sq (r : Fin 65536) : Fin 32 := ⟨r.val / 2048, by omega⟩

/-- The output array. -/
def outArr (c : Dev nD) : Vec Ideal S65536x1024 .f32 := fun y =>
  merge (fun k => m (c.tc.loc main_arg0) (ix2 (y 0) k)) (fun k => m (c.tc.loc main_arg1) (ix2 (y 0) k)) (fun k => m (c.tc.loc main_arg2) (ix2 (y 0) k)) (fun k => m (c.tc.loc main_arg3) (ix2 (y 0) k))
    (fun r k => m (c.tc.loc main_arg4) (ix3 (sq (y 0)) r k)) (fun r k => m (c.tc.loc main_arg5) (ix3 (sq (y 0)) r k)) (fun k => m (c.tc.loc main_arg6) (ix1 k)) (fun r k => m (c.tc.loc main_arg7) (ix2 r k))
    (fun r k => m (c.tc.loc main_arg8) (ix2 r k)) (fun r k => m (c.tc.loc main_arg9) (ix2 r k)) (fun r k => m (c.tc.loc main_arg10) (ix2 r k)) (fun r k => m (c.tc.loc main_arg11) (ix2 r k)) (fun k => m (c.tc.loc main_arg12) (ix1 k)) (y 1)

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![t.val / 2, 0, 0] := by decide +kernel
theorem idx5 : ∀ t : Fin grid0.N, win0_5.index t = ![t.val / 2, 0, 0] := by decide +kernel
theorem idx6 : ∀ t : Fin grid0.N, win0_6.index t = ![0, 0] := by decide +kernel
theorem idx7 : ∀ t : Fin grid0.N, win0_7.index t = ![0, 0] := by decide +kernel
theorem idx8 : ∀ t : Fin grid0.N, win0_8.index t = ![0, 0] := by decide +kernel
theorem idx9 : ∀ t : Fin grid0.N, win0_9.index t = ![0, 0] := by decide +kernel
theorem idx10 : ∀ t : Fin grid0.N, win0_10.index t = ![0, 0] := by decide +kernel
theorem idx11 : ∀ t : Fin grid0.N, win0_11.index t = ![0, 0] := by decide +kernel
theorem idx12 : ∀ t : Fin grid0.N, win0_12.index t = ![0, 0] := by decide +kernel
theorem idx13 : ∀ t : Fin grid0.N, win0_13.index t = ![t.val, 0] := by decide +kernel

theorem v0_at (c : Dev nD) (k : Fin 1024) : (V m c main_v0 (ix2 0 k) : EReal) = m (c.tc.loc main_arg6) (ix1 k) := by
  have h : V m c main_v0 = shapeCast S1x1024 (m (c.tc.loc main_arg6)) shapeCasts_S1024_S1x1024 := by
    show StableHlo.after hostOps0 _ _ = _
    after_results_simp; rfl
  rw [h]; pointwise []
theorem v1_at (c : Dev nD) (r : Fin 1024) (k : Fin 3072) : (V m c main_v1 (ix2 r k) : EReal) = m (c.tc.loc main_arg7) (ix2 r k) := by
  have h : V m c main_v1 = (truncf (F := Ideal) .bf16 (m (c.tc.loc main_arg7) : FVec Ideal S1024x3072 .f32) bitsLt_bf16_f32 : FVec Ideal S1024x3072 .bf16) := by
    show StableHlo.after hostOps0 _ _ = _
    after_results_simp
  rw [h]; rfl
theorem v2_at (c : Dev nD) (r : Fin 512) (k : Fin 1024) : (V m c main_v2 (ix2 r k) : EReal) = m (c.tc.loc main_arg8) (ix2 r k) := by
  have h : V m c main_v2 = (truncf (F := Ideal) .bf16 (m (c.tc.loc main_arg8) : FVec Ideal S512x1024 .f32) bitsLt_bf16_f32 : FVec Ideal S512x1024 .bf16) := by
    show StableHlo.after hostOps0 _ _ = _
    after_results_simp
  rw [h]; rfl
theorem v3_at (c : Dev nD) (r : Fin 512) (k : Fin 1024) : (V m c main_v3 (ix2 r k) : EReal) = m (c.tc.loc main_arg9) (ix2 r k) := by
  have h : V m c main_v3 = (truncf (F := Ideal) .bf16 (m (c.tc.loc main_arg9) : FVec Ideal S512x1024 .f32) bitsLt_bf16_f32 : FVec Ideal S512x1024 .bf16) := by
    show StableHlo.after hostOps0 _ _ = _
    after_results_simp
  rw [h]; rfl
theorem v4_at (c : Dev nD) (r : Fin 512) (k : Fin 1024) : (V m c main_v4 (ix2 r k) : EReal) = m (c.tc.loc main_arg10) (ix2 r k) := by
  have h : V m c main_v4 = (truncf (F := Ideal) .bf16 (m (c.tc.loc main_arg10) : FVec Ideal S512x1024 .f32) bitsLt_bf16_f32 : FVec Ideal S512x1024 .bf16) := by
    show StableHlo.after hostOps0 _ _ = _
    after_results_simp
  rw [h]; rfl
theorem v5_at (c : Dev nD) (r : Fin 1024) (k : Fin 1024) : (V m c main_v5 (ix2 r k) : EReal) = m (c.tc.loc main_arg11) (ix2 r k) := by
  have h : V m c main_v5 = (truncf (F := Ideal) .bf16 (m (c.tc.loc main_arg11) : FVec Ideal S1024x1024 .f32) bitsLt_bf16_f32 : FVec Ideal S1024x1024 .bf16) := by
    show StableHlo.after hostOps0 _ _ = _
    after_results_simp
  rw [h]; rfl
theorem v6_at (c : Dev nD) (k : Fin 1024) : (V m c main_v6 (ix2 0 k) : EReal) = m (c.tc.loc main_arg12) (ix1 k) := by
  have h : V m c main_v6 = shapeCast S1x1024 (m (c.tc.loc main_arg12)) shapeCasts_S1024_S1x1024 := by
    show StableHlo.after hostOps0 _ _ = _
    after_results_simp; rfl
  rw [h]; pointwise []

theorem blk0 (c : Dev nD) (t : Fin cfg0.N) (i : Fin 1024) (k : Fin 1024) (r : Fin 65536) (hr : r.val = t.val * 1024 + i.val) : (iblk m c 0 t (ix2 i k) : EReal) = m (c.tc.loc main_arg0) (ix2 r k) := by
  refine (congrArg (V m c main_arg0) (?_ : (win0_0.rect t).emb (ix2 i k) = ix2 r k)).trans (congrFun (V_main_arg0 m c) _)
  funext a; apply Fin.ext
  rw [win0_0.rect_emb_val t _ a, idx0]
  fin_cases a
  · exact hr.symm
  · show 0 * 1024 + k.val = k.val; omega
theorem blk1 (c : Dev nD) (t : Fin cfg0.N) (i : Fin 1024) (k : Fin 512) (r : Fin 65536) (hr : r.val = t.val * 1024 + i.val) : (iblk m c 1 t (ix2 i k) : EReal) = m (c.tc.loc main_arg1) (ix2 r k) := by
  refine (congrArg (V m c main_arg1) (?_ : (win0_1.rect t).emb (ix2 i k) = ix2 r k)).trans (congrFun (V_main_arg1 m c) _)
  funext a; apply Fin.ext
  rw [win0_1.rect_emb_val t _ a, idx1]
  fin_cases a
  · exact hr.symm
  · show 0 * 512 + k.val = k.val; omega
theorem blk2 (c : Dev nD) (t : Fin cfg0.N) (i : Fin 1024) (k : Fin 512) (r : Fin 65536) (hr : r.val = t.val * 1024 + i.val) : (iblk m c 2 t (ix2 i k) : EReal) = m (c.tc.loc main_arg2) (ix2 r k) := by
  refine (congrArg (V m c main_arg2) (?_ : (win0_2.rect t).emb (ix2 i k) = ix2 r k)).trans (congrFun (V_main_arg2 m c) _)
  funext a; apply Fin.ext
  rw [win0_2.rect_emb_val t _ a, idx2]
  fin_cases a
  · exact hr.symm
  · show 0 * 512 + k.val = k.val; omega
theorem blk3 (c : Dev nD) (t : Fin cfg0.N) (i : Fin 1024) (k : Fin 512) (r : Fin 65536) (hr : r.val = t.val * 1024 + i.val) : (iblk m c 3 t (ix2 i k) : EReal) = m (c.tc.loc main_arg3) (ix2 r k) := by
  refine (congrArg (V m c main_arg3) (?_ : (win0_3.rect t).emb (ix2 i k) = ix2 r k)).trans (congrFun (V_main_arg3 m c) _)
  funext a; apply Fin.ext
  rw [win0_3.rect_emb_val t _ a, idx3]
  fin_cases a
  · exact hr.symm
  · show 0 * 512 + k.val = k.val; omega
theorem blk4 (c : Dev nD) (t : Fin cfg0.N) (i : Fin 256) (k : Fin 512) (b : Fin 32) (hb : b.val = t.val / 2) : (iblk m c 4 t (ix3 0 i k) : EReal) = m (c.tc.loc main_arg4) (ix3 b i k) := by
  refine (congrArg (V m c main_arg4) (?_ : (win0_4.rect t).emb (ix3 0 i k) = ix3 b i k)).trans (congrFun (V_main_arg4 m c) _)
  funext a; apply Fin.ext
  rw [win0_4.rect_emb_val t _ a, idx4]
  fin_cases a
  · show t.val / 2 * 1 + 0 = b.val; omega
  · show 0 * 256 + i.val = i.val; omega
  · show 0 * 512 + k.val = k.val; omega
theorem blk5 (c : Dev nD) (t : Fin cfg0.N) (i : Fin 256) (k : Fin 512) (b : Fin 32) (hb : b.val = t.val / 2) : (iblk m c 5 t (ix3 0 i k) : EReal) = m (c.tc.loc main_arg5) (ix3 b i k) := by
  refine (congrArg (V m c main_arg5) (?_ : (win0_5.rect t).emb (ix3 0 i k) = ix3 b i k)).trans (congrFun (V_main_arg5 m c) _)
  funext a; apply Fin.ext
  rw [win0_5.rect_emb_val t _ a, idx5]
  fin_cases a
  · show t.val / 2 * 1 + 0 = b.val; omega
  · show 0 * 256 + i.val = i.val; omega
  · show 0 * 512 + k.val = k.val; omega
theorem blk6 (c : Dev nD) (t : Fin cfg0.N) : iblk m c 6 t = V m c main_v0 := by
  funext y
  refine congrArg (V m c main_v0) (?_ : (win0_6.rect t).emb y = y)
  funext a; apply Fin.ext
  rw [win0_6.rect_emb_val t _ a, idx6]
  fin_cases a
  · show 0 * 1 + (y 0).val = (y 0).val; omega
  · show 0 * 1024 + (y 1).val = (y 1).val; omega
theorem blk7 (c : Dev nD) (t : Fin cfg0.N) : iblk m c 7 t = V m c main_v1 := by
  funext y
  refine congrArg (V m c main_v1) (?_ : (win0_7.rect t).emb y = y)
  funext a; apply Fin.ext
  rw [win0_7.rect_emb_val t _ a, idx7]
  fin_cases a
  · show 0 * 1024 + (y 0).val = (y 0).val; omega
  · show 0 * 3072 + (y 1).val = (y 1).val; omega
theorem blk8 (c : Dev nD) (t : Fin cfg0.N) : iblk m c 8 t = V m c main_v2 := by
  funext y
  refine congrArg (V m c main_v2) (?_ : (win0_8.rect t).emb y = y)
  funext a; apply Fin.ext
  rw [win0_8.rect_emb_val t _ a, idx8]
  fin_cases a
  · show 0 * 512 + (y 0).val = (y 0).val; omega
  · show 0 * 1024 + (y 1).val = (y 1).val; omega
theorem blk9 (c : Dev nD) (t : Fin cfg0.N) : iblk m c 9 t = V m c main_v3 := by
  funext y
  refine congrArg (V m c main_v3) (?_ : (win0_9.rect t).emb y = y)
  funext a; apply Fin.ext
  rw [win0_9.rect_emb_val t _ a, idx9]
  fin_cases a
  · show 0 * 512 + (y 0).val = (y 0).val; omega
  · show 0 * 1024 + (y 1).val = (y 1).val; omega
theorem blk10 (c : Dev nD) (t : Fin cfg0.N) : iblk m c 10 t = V m c main_v4 := by
  funext y
  refine congrArg (V m c main_v4) (?_ : (win0_10.rect t).emb y = y)
  funext a; apply Fin.ext
  rw [win0_10.rect_emb_val t _ a, idx10]
  fin_cases a
  · show 0 * 512 + (y 0).val = (y 0).val; omega
  · show 0 * 1024 + (y 1).val = (y 1).val; omega
theorem blk11 (c : Dev nD) (t : Fin cfg0.N) : iblk m c 11 t = V m c main_v5 := by
  funext y
  refine congrArg (V m c main_v5) (?_ : (win0_11.rect t).emb y = y)
  funext a; apply Fin.ext
  rw [win0_11.rect_emb_val t _ a, idx11]
  fin_cases a
  · show 0 * 1024 + (y 0).val = (y 0).val; omega
  · show 0 * 1024 + (y 1).val = (y 1).val; omega
theorem blk12 (c : Dev nD) (t : Fin cfg0.N) : iblk m c 12 t = V m c main_v6 := by
  funext y
  refine congrArg (V m c main_v6) (?_ : (win0_12.rect t).emb y = y)
  funext a; apply Fin.ext
  rw [win0_12.rect_emb_val t _ a, idx12]
  fin_cases a
  · show 0 * 1 + (y 0).val = (y 0).val; omega
  · show 0 * 1024 + (y 1).val = (y 1).val; omega

/-- What tile `t` writes back is its block of the array. -/
theorem flushed (c : Dev nD) (t : Fin cfg0.N) :
    (dats m 0 c).flushed 13 t = ((cfg0.win 13).blk t).view.read (Elt Ideal) (outArr m c) := by
  show (cfg0.win 13).cut (grid0.coords t) ((dats m 0 c).after 13 t) = _
  rw [after0_13]
  funext y
  show (out0_13 (F := Ideal) _ _ _ _ _ _ _ _ _ _ _ _ _ y : EReal) = outArr m c ((win0_13.rect t).emb y)
  obtain ⟨i, j, rfl⟩ : ∃ i j : Fin 1024, y = ix2 i j := ⟨y 0, y 1, by funext a; fin_cases a <;> rfl⟩
  have ht : t.val < 64 := t.isLt
  have e : (win0_13.rect t).emb (ix2 i j) = ix2 (⟨t.val * 1024 + i.val, by omega⟩ : Fin 65536) j := by
    funext a; apply Fin.ext
    rw [win0_13.rect_emb_val t _ a, idx13]
    fin_cases a
    · rfl
    · show 0 * 1024 + j.val = j.val; omega
  rw [e]
  exact (out_at _ _ _ _ _ _ _ _ _ _ _ _ _ i j).trans (congr (congr (congr (congr (congr (congr (congr (congr (congr (congr (congr (congr (congr (congrArg merge (funext fun k => blk0 m c t i k ⟨t.val * 1024 + i.val, by omega⟩ rfl))
    (funext fun k => blk1 m c t i k ⟨t.val * 1024 + i.val, by omega⟩ rfl))
    (funext fun k => blk2 m c t i k ⟨t.val * 1024 + i.val, by omega⟩ rfl))
    (funext fun k => blk3 m c t i k ⟨t.val * 1024 + i.val, by omega⟩ rfl))
    (funext fun r => funext fun k => blk4 m c t r k (sq ⟨t.val * 1024 + i.val, by omega⟩) (by show (t.val * 1024 + i.val) / 2048 = t.val / 2; omega)))
    (funext fun r => funext fun k => blk5 m c t r k (sq ⟨t.val * 1024 + i.val, by omega⟩) (by show (t.val * 1024 + i.val) / 2048 = t.val / 2; omega)))
    (funext fun k => (congrFun (blk6 m c t) _).trans (v0_at m c k)))
    (funext fun r => funext fun k => (congrFun (blk7 m c t) _).trans (v1_at m c r k)))
    (funext fun r => funext fun k => (congrFun (blk8 m c t) _).trans (v2_at m c r k)))
    (funext fun r => funext fun k => (congrFun (blk9 m c t) _).trans (v3_at m c r k)))
    (funext fun r => funext fun k => (congrFun (blk10 m c t) _).trans (v4_at m c r k)))
    (funext fun r => funext fun k => (congrFun (blk11 m c t) _).trans (v5_at m c r k)))
    (funext fun k => (congrFun (blk12 m c t) _).trans (v6_at m c k)))
    (rfl : j = j))

theorem arr (c : Dev nD) : (dats m 0 c).arrAt 13 cfg0.N = outArr m c := by
  refine Dat.arrAt_eq_of_cover _ 13 _ (fun t _ => flushed m c t) fun i => ?_
  have h0 : (i 0).val < 65536 := (i 0).isLt
  obtain ⟨t, ht⟩ : ∃ t : Fin cfg0.N, t.val = (i 0).val / 1024 := ⟨⟨(i 0).val / 1024, by show _ < 64; omega⟩, rfl⟩
  refine ⟨t, flush0_13 _, ?_⟩
  have e : (win0_13.rect t).emb (ix2 (n0 := 1024) (n1 := 1024) ⟨(i 0).val % 1024, by omega⟩ (i 1)) = i := by
    funext a; apply Fin.ext
    rw [win0_13.rect_emb_val _ _ a, idx13]
    fin_cases a
    · show t.val * 1024 + (i 0).val % 1024 = (i 0).val; omega
    · show 0 * 1024 + (i 1).val = (i 1).val; omega
  have hm := View.emb_mem_set ((cfg0.win 13).blk t).view (ix2 (n0 := 1024) (n1 := 1024) ⟨(i 0).val % 1024, by omega⟩ (i 1))
  rwa [show ((cfg0.win 13).blk t).view.emb (ix2 (n0 := 1024) (n1 := 1024) ⟨(i 0).val % 1024, by omega⟩ (i 1)) = i from e] at hm

end Cert.MergeIdeal.Own

namespace Cert.MergeProof
open Idealize.ShloMosaic Idealize.ShloMosaic.TcCoe Idealize.SL.Sem

theorem refFrame : Cert.quiescent_MergeReferenceIdeal := fun m ρ _ =>
  (θ_run Cert.MergeReferenceIdeal.defs _ _).mono (fun r h => ⟨fun c => (h c).2, Idealize.ShloMosaic.sem_eq_zero_of_no_sems (by decide) r.2⟩) (Cert.MergeReferenceIdeal.Value.run (F := Ideal) m ρ)

theorem algebraic : Cert.algebraic_MergeIdeal_MergeReferenceIdeal := fun m g m' g' hpre hargs => by
  refine ⟨fun c => Cert.MergeIdeal.Own.outArr m c, (θ_run _ _ _).mono (fun r h c => ⟨(h c).1.trans (Cert.MergeIdeal.Own.arr m c), (h c).2⟩) (Cert.MergeIdeal.Value.run_blocks (F := Ideal) m g),
    (θ_run _ _ _).mono (fun r h c => ⟨(h c).1.trans ?_, (h c).2⟩) (Cert.MergeReferenceIdeal.Value.run (F := Ideal) m' g')⟩
  obtain ⟨h0, h1, h2, h3, h4, h5, h6, h7, h8, h9, h10, h11, h12⟩ := hargs c
  funext y
  obtain ⟨i, j, rfl⟩ : ∃ (i : Fin 65536) (j : Fin 1024), y = ix2 i j := ⟨y 0, y 1, by funext a; fin_cases a <;> rfl⟩
  refine (Cert.MergeReferenceIdeal.Own.out_at m' c i (Cert.MergeIdeal.Own.sq i) rfl j).trans ?_
  rw [h0, h1, h2, h3, h4, h5, h6, h7, h8, h9, h10, h11, h12]
  rfl

end Cert.MergeProof
end
-- ==== Proof.lean ====
module

public import proofs.«01_k».proof.Defs
public import proofs.«01_k».proof.Proof.BitsFrame
public import proofs.«01_k».proof.Proof.KernelFrame
public import proofs.«01_k».proof.Proof.KernelValue
public import proofs.«01_k».proof.Proof.RefRun
public import proofs.«01_k».proof.Proof.Equal
public import proofs.«01_k».proof.Proof.FfnEqual
public import proofs.«01_k».proof.Proof.MemkvEqual
public import proofs.«01_k».proof.Proof.CmpEqual
public import proofs.«01_k».proof.Proof.ProjEqual
public import proofs.«01_k».proof.Proof.MergeEqual
public import Idealize.ShloMosaic.Lib.Quiescent

@[expose] public section

noncomputable section

namespace Cert.Proof

open Idealize.ShloMosaic Idealize.ShloMosaic.TcCoe Idealize.SL.Sem

theorem preserves : Cert.preserves_Kernel_KernelIdeal :=
  IdealRules.named_const.statement Cert.KernelIdeal.κ "mask" .f32 0xF149F2CA#32 ⊥ rfl

section Reference
open Cert.ReferenceIdeal
variable (m : (ℓ : Loc nD τ sig) → Buf (Elt Ideal) ℓ) (ρ : Dev nD → PrngReg)

/-- The reference's result: the recurrence's last state, normalised and gated. -/
def refOut (c : Dev nD) : FVec Ideal S65536x512 .bf16 :=
  Cert.ReferenceIdeal.Step.R_main_v128 (F := Ideal)
    (Cert.ReferenceIdeal.Own.iter (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) 2048)
    (m ((c.tc : Thread nD τ).loc main_arg1)) (m ((c.tc : Thread nD τ).loc main_arg6))

theorem refRun : θ_run (defs (F := Ideal)) (onTc (τ := τ) (main (F := Ideal))) ⟨m, fun _ => 0, ρ⟩ fun r => ∀ c : Dev nD,
      r.2.mem ((c.tc : Thread nD τ).loc main_v128) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Cert.ReferenceIdeal.StepRun.run_iter (F := Ideal) m ρ
    (fun c => Cert.ReferenceIdeal.Own.iter (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)))
    (fun _ => rfl) (fun _ _ => rfl)

theorem refFrame : Cert.quiescent_ReferenceIdeal := fun m ρ _ =>
  (θ_run Cert.ReferenceIdeal.defs _ _).mono (fun r h => ⟨fun c => (h c).2, Idealize.ShloMosaic.sem_eq_zero_of_no_sems (by decide) r.2⟩) (refRun m ρ)
end Reference

theorem algebraic : Cert.algebraic_KernelIdeal_ReferenceIdeal_pre_finite_inputs := fun m g m' g' hpre hargs => by
  refine ⟨fun c => refOut m' c, (θ_run _ _ _).mono (fun r h c => ⟨(h c).1.trans ?_, (h c).2⟩) (Cert.KernelIdeal.Own.run_value (F := Ideal) m g), refRun m' g'⟩
  obtain ⟨h0, h1, h2, h3, h4, h5, h6⟩ := hargs c
  unfold refOut
  beta_reduce
  rw [h0, h1, h2, h3, h4, h5, h6]
  exact Cert.Equal.equal _ _ _ _ _ _ _ (Cert.Pre_finite_inputs.reals _ _ _ _ _ _ _ (hpre c))

theorem claim : Cert.Claim := ⟨Cert.Kernel.Gen.facts, Cert.KernelIdeal.Gen.facts, Cert.ReferenceIdeal.Gen.facts,
  Cert.Ffn.Gen.facts, Cert.FfnIdeal.Gen.facts, Cert.FfnReferenceIdeal.Gen.facts,
  Cert.Merge.Gen.facts, Cert.MergeIdeal.Gen.facts, Cert.MergeReferenceIdeal.Gen.facts,
  Cert.Proj.Gen.facts, Cert.ProjIdeal.Gen.facts, Cert.ProjReferenceIdeal.Gen.facts,
  Cert.Memkv.Gen.facts, Cert.MemkvIdeal.Gen.facts, Cert.MemkvReferenceIdeal.Gen.facts,
  Cert.Cmp.Gen.facts, Cert.CmpIdeal.Gen.facts, Cert.CmpReferenceIdeal.Gen.facts,
  Cert.Pre_finite_inputs.facts,
  fun m ρ _ => Cert.Kernel.Own.frame m ρ, fun m ρ _ => Cert.KernelIdeal.Own.frame m ρ, fun m ρ _ => Cert.KernelIdeal.Own.frame m ρ,
  refFrame, fun m ρ _ => refFrame m ρ trivial,
  fun m ρ _ => Cert.Ffn.Gen.frame m ρ, fun m ρ _ => Cert.FfnIdeal.Gen.frame m ρ, Cert.FfnProof.refFrame,
  fun m ρ _ => Cert.Merge.Gen.frame m ρ, fun m ρ _ => Cert.MergeIdeal.Gen.frame m ρ, Cert.MergeProof.refFrame,
  fun m ρ _ => Cert.Proj.Gen.frame m ρ, fun m ρ _ => Cert.ProjIdeal.Gen.frame m ρ, Cert.ProjProof.refFrame,
  fun m ρ _ => Cert.Memkv.Gen.frame m ρ, fun m ρ _ => Cert.MemkvIdeal.Gen.frame m ρ, Cert.MemkvProof.refFrame,
  fun m ρ _ => Cert.Cmp.Gen.frame m ρ, fun m ρ _ => Cert.CmpIdeal.Gen.frame m ρ, Cert.CmpProof.refFrame,
  preserves, algebraic, trivial, Cert.FfnProof.algebraic, trivial, Cert.MergeProof.algebraic, trivial, Cert.ProjProof.algebraic, trivial, Cert.MemkvProof.algebraic, trivial, Cert.CmpProof.algebraic⟩

end Cert.Proof

end
